-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutGdn (m : (ℓ : Loc Cert.OutGdn.nD Cert.OutGdn.τ Cert.OutGdn.sig) → Buf (Elt Bits) ℓ) : Prop :=
  True

def Pre_OutGdnIdeal (m : (ℓ : Loc Cert.OutGdnIdeal.nD Cert.OutGdnIdeal.τ Cert.OutGdnIdeal.sig) → Buf (Elt Ideal) ℓ) : Prop :=
  True

def Pre_OutGdnRefIdeal (m : (ℓ : Loc Cert.OutGdnRefIdeal.nD Cert.OutGdnRefIdeal.τ Cert.OutGdnRefIdeal.sig) → Buf (Elt Ideal) ℓ) : Prop :=
  True

def Pre_InEven0 (m : (ℓ : Loc Cert.InEven0.nD Cert.InEven0.τ Cert.InEven0.sig) → Buf (Elt Bits) ℓ) : Prop :=
  True

def Pre_InEven0Ideal (m : (ℓ : Loc Cert.InEven0Ideal.nD Cert.InEven0Ideal.τ Cert.InEven0Ideal.sig) → Buf (Elt Ideal) ℓ) : Prop :=
  True

def Pre_InEven0RefIdeal (m : (ℓ : Loc Cert.InEven0RefIdeal.nD Cert.InEven0RefIdeal.τ Cert.InEven0RefIdeal.sig) → Buf (Elt Ideal) ℓ) : Prop :=
  True

def Pre_InEven2 (m : (ℓ : Loc Cert.InEven2.nD Cert.InEven2.τ Cert.InEven2.sig) → Buf (Elt Bits) ℓ) : Prop :=
  True

def Pre_InEven2Ideal (m : (ℓ : Loc Cert.InEven2Ideal.nD Cert.InEven2Ideal.τ Cert.InEven2Ideal.sig) → Buf (Elt Ideal) ℓ) : Prop :=
  True

def Pre_InEven2RefIdeal (m : (ℓ : Loc Cert.InEven2RefIdeal.nD Cert.InEven2RefIdeal.τ Cert.InEven2RefIdeal.sig) → Buf (Elt Ideal) ℓ) : Prop :=
  True

def Pre_InSample0 (m : (ℓ : Loc Cert.InSample0.nD Cert.InSample0.τ Cert.InSample0.sig) → Buf (Elt Bits) ℓ) : Prop :=
  True

def Pre_InSample0Ideal (m : (ℓ : Loc Cert.InSample0Ideal.nD Cert.InSample0Ideal.τ Cert.InSample0Ideal.sig) → Buf (Elt Ideal) ℓ) : Prop :=
  True

def Pre_InSample0RefIdeal (m : (ℓ : Loc Cert.InSample0RefIdeal.nD Cert.InSample0RefIdeal.τ Cert.InSample0RefIdeal.sig) → Buf (Elt Ideal) ℓ) : Prop :=
  True

def Pre_InSample1 (m : (ℓ : Loc Cert.InSample1.nD Cert.InSample1.τ Cert.InSample1.sig) → Buf (Elt Bits) ℓ) : Prop :=
  True

def Pre_InSample1Ideal (m : (ℓ : Loc Cert.InSample1Ideal.nD Cert.InSample1Ideal.τ Cert.InSample1Ideal.sig) → Buf (Elt Ideal) ℓ) : Prop :=
  True

def Pre_InSample1RefIdeal (m : (ℓ : Loc Cert.InSample1RefIdeal.nD Cert.InSample1RefIdeal.τ Cert.InSample1RefIdeal.sig) → Buf (Elt Ideal) ℓ) : Prop :=
  True

def Pre_InSample2 (m : (ℓ : Loc Cert.InSample2.nD Cert.InSample2.τ Cert.InSample2.sig) → Buf (Elt Bits) ℓ) : Prop :=
  True

def Pre_InSample2Ideal (m : (ℓ : Loc Cert.InSample2Ideal.nD Cert.InSample2Ideal.τ Cert.InSample2Ideal.sig) → Buf (Elt Ideal) ℓ) : Prop :=
  True

def Pre_InSample2RefIdeal (m : (ℓ : Loc Cert.InSample2RefIdeal.nD Cert.InSample2RefIdeal.τ Cert.InSample2RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutGdn [hOutGdn : Cert.OutGdn.Facts] : Prop :=
  ∀ (m : (ℓ : Loc Cert.OutGdn.nD Cert.OutGdn.τ Cert.OutGdn.sig) → Buf (Elt Bits) ℓ) (g : Dev Cert.OutGdn.nD → PrngReg), Pre_OutGdn m →
    θ_run (Cert.OutGdn.defs (F := Bits)) (onTc (τ := Cert.OutGdn.τ) (Cert.OutGdn.main (F := Bits))) ⟨m, fun _ => 0, g⟩ (fun r => (∀ c : Dev Cert.OutGdn.nD,
      r.2.mem ((c.tc : Thread Cert.OutGdn.nD Cert.OutGdn.τ).loc Cert.OutGdn.main_arg0) = m ((c.tc : Thread Cert.OutGdn.nD Cert.OutGdn.τ).loc Cert.OutGdn.main_arg0)
      ∧ r.2.mem ((c.tc : Thread Cert.OutGdn.nD Cert.OutGdn.τ).loc Cert.OutGdn.main_arg1) = m ((c.tc : Thread Cert.OutGdn.nD Cert.OutGdn.τ).loc Cert.OutGdn.main_arg1)
      ∧ r.2.mem ((c.tc : Thread Cert.OutGdn.nD Cert.OutGdn.τ).loc Cert.OutGdn.main_arg2) = m ((c.tc : Thread Cert.OutGdn.nD Cert.OutGdn.τ).loc Cert.OutGdn.main_arg2))
      ∧ r.2.sem = fun _ => 0)

def quiescent_OutGdnIdeal [hOutGdnIdeal : Cert.OutGdnIdeal.Facts] : Prop :=
  ∀ (m : (ℓ : Loc Cert.OutGdnIdeal.nD Cert.OutGdnIdeal.τ Cert.OutGdnIdeal.sig) → Buf (Elt Ideal) ℓ) (g : Dev Cert.OutGdnIdeal.nD → PrngReg), Pre_OutGdnIdeal m →
    θ_run (Cert.OutGdnIdeal.defs (F := Ideal)) (onTc (τ := Cert.OutGdnIdeal.τ) (Cert.OutGdnIdeal.main (F := Ideal))) ⟨m, fun _ => 0, g⟩ (fun r => (∀ c : Dev Cert.OutGdnIdeal.nD,
      r.2.mem ((c.tc : Thread Cert.OutGdnIdeal.nD Cert.OutGdnIdeal.τ).loc Cert.OutGdnIdeal.main_arg0) = m ((c.tc : Thread Cert.OutGdnIdeal.nD Cert.OutGdnIdeal.τ).loc Cert.OutGdnIdeal.main_arg0)
      ∧ r.2.mem ((c.tc : Thread Cert.OutGdnIdeal.nD Cert.OutGdnIdeal.τ).loc Cert.OutGdnIdeal.main_arg1) = m ((c.tc : Thread Cert.OutGdnIdeal.nD Cert.OutGdnIdeal.τ).loc Cert.OutGdnIdeal.main_arg1)
      ∧ r.2.mem ((c.tc : Thread Cert.OutGdnIdeal.nD Cert.OutGdnIdeal.τ).loc Cert.OutGdnIdeal.main_arg2) = m ((c.tc : Thread Cert.OutGdnIdeal.nD Cert.OutGdnIdeal.τ).loc Cert.OutGdnIdeal.main_arg2))
      ∧ r.2.sem = fun _ => 0)

def quiescent_OutGdnRefIdeal [hOutGdnRefIdeal : Cert.OutGdnRefIdeal.Facts] : Prop :=
  ∀ (m : (ℓ : Loc Cert.OutGdnRefIdeal.nD Cert.OutGdnRefIdeal.τ Cert.OutGdnRefIdeal.sig) → Buf (Elt Ideal) ℓ) (g : Dev Cert.OutGdnRefIdeal.nD → PrngReg), Pre_OutGdnRefIdeal m →
    θ_run (Cert.OutGdnRefIdeal.defs (F := Ideal)) (onTc (τ := Cert.OutGdnRefIdeal.τ) (Cert.OutGdnRefIdeal.main (F := Ideal))) ⟨m, fun _ => 0, g⟩ (fun r => (∀ c : Dev Cert.OutGdnRefIdeal.nD,
      r.2.mem ((c.tc : Thread Cert.OutGdnRefIdeal.nD Cert.OutGdnRefIdeal.τ).loc Cert.OutGdnRefIdeal.main_arg0) = m ((c.tc : Thread Cert.OutGdnRefIdeal.nD Cert.OutGdnRefIdeal.τ).loc Cert.OutGdnRefIdeal.main_arg0)
      ∧ r.2.mem ((c.tc : Thread Cert.OutGdnRefIdeal.nD Cert.OutGdnRefIdeal.τ).loc Cert.OutGdnRefIdeal.main_arg1) = m ((c.tc : Thread Cert.OutGdnRefIdeal.nD Cert.OutGdnRefIdeal.τ).loc Cert.OutGdnRefIdeal.main_arg1)
      ∧ r.2.mem ((c.tc : Thread Cert.OutGdnRefIdeal.nD Cert.OutGdnRefIdeal.τ).loc Cert.OutGdnRefIdeal.main_arg2) = m ((c.tc : Thread Cert.OutGdnRefIdeal.nD Cert.OutGdnRefIdeal.τ).loc Cert.OutGdnRefIdeal.main_arg2))
      ∧ r.2.sem = fun _ => 0)

def quiescent_InEven0 [hInEven0 : Cert.InEven0.Facts] : Prop :=
  ∀ (m : (ℓ : Loc Cert.InEven0.nD Cert.InEven0.τ Cert.InEven0.sig) → Buf (Elt Bits) ℓ) (g : Dev Cert.InEven0.nD → PrngReg), Pre_InEven0 m →
    θ_run (Cert.InEven0.defs (F := Bits)) (onTc (τ := Cert.InEven0.τ) (Cert.InEven0.main (F := Bits))) ⟨m, fun _ => 0, g⟩ (fun r => (∀ c : Dev Cert.InEven0.nD,
      r.2.mem ((c.tc : Thread Cert.InEven0.nD Cert.InEven0.τ).loc Cert.InEven0.main_arg0) = m ((c.tc : Thread Cert.InEven0.nD Cert.InEven0.τ).loc Cert.InEven0.main_arg0)
      ∧ r.2.mem ((c.tc : Thread Cert.InEven0.nD Cert.InEven0.τ).loc Cert.InEven0.main_arg1) = m ((c.tc : Thread Cert.InEven0.nD Cert.InEven0.τ).loc Cert.InEven0.main_arg1)
      ∧ r.2.mem ((c.tc : Thread Cert.InEven0.nD Cert.InEven0.τ).loc Cert.InEven0.main_arg2) = m ((c.tc : Thread Cert.InEven0.nD Cert.InEven0.τ).loc Cert.InEven0.main_arg2))
      ∧ r.2.sem = fun _ => 0)

def quiescent_InEven0Ideal [hInEven0Ideal : Cert.InEven0Ideal.Facts] : Prop :=
  ∀ (m : (ℓ : Loc Cert.InEven0Ideal.nD Cert.InEven0Ideal.τ Cert.InEven0Ideal.sig) → Buf (Elt Ideal) ℓ) (g : Dev Cert.InEven0Ideal.nD → PrngReg), Pre_InEven0Ideal m →
    θ_run (Cert.InEven0Ideal.defs (F := Ideal)) (onTc (τ := Cert.InEven0Ideal.τ) (Cert.InEven0Ideal.main (F := Ideal))) ⟨m, fun _ => 0, g⟩ (fun r => (∀ c : Dev Cert.InEven0Ideal.nD,
      r.2.mem ((c.tc : Thread Cert.InEven0Ideal.nD Cert.InEven0Ideal.τ).loc Cert.InEven0Ideal.main_arg0) = m ((c.tc : Thread Cert.InEven0Ideal.nD Cert.InEven0Ideal.τ).loc Cert.InEven0Ideal.main_arg0)
      ∧ r.2.mem ((c.tc : Thread Cert.InEven0Ideal.nD Cert.InEven0Ideal.τ).loc Cert.InEven0Ideal.main_arg1) = m ((c.tc : Thread Cert.InEven0Ideal.nD Cert.InEven0Ideal.τ).loc Cert.InEven0Ideal.main_arg1)
      ∧ r.2.mem ((c.tc : Thread Cert.InEven0Ideal.nD Cert.InEven0Ideal.τ).loc Cert.InEven0Ideal.main_arg2) = m ((c.tc : Thread Cert.InEven0Ideal.nD Cert.InEven0Ideal.τ).loc Cert.InEven0Ideal.main_arg2))
      ∧ r.2.sem = fun _ => 0)

def quiescent_InEven0RefIdeal [hInEven0RefIdeal : Cert.InEven0RefIdeal.Facts] : Prop :=
  ∀ (m : (ℓ : Loc Cert.InEven0RefIdeal.nD Cert.InEven0RefIdeal.τ Cert.InEven0RefIdeal.sig) → Buf (Elt Ideal) ℓ) (g : Dev Cert.InEven0RefIdeal.nD → PrngReg), Pre_InEven0RefIdeal m →
    θ_run (Cert.InEven0RefIdeal.defs (F := Ideal)) (onTc (τ := Cert.InEven0RefIdeal.τ) (Cert.InEven0RefIdeal.main (F := Ideal))) ⟨m, fun _ => 0, g⟩ (fun r => (∀ c : Dev Cert.InEven0RefIdeal.nD,
      r.2.mem ((c.tc : Thread Cert.InEven0RefIdeal.nD Cert.InEven0RefIdeal.τ).loc Cert.InEven0RefIdeal.main_arg0) = m ((c.tc : Thread Cert.InEven0RefIdeal.nD Cert.InEven0RefIdeal.τ).loc Cert.InEven0RefIdeal.main_arg0)
      ∧ r.2.mem ((c.tc : Thread Cert.InEven0RefIdeal.nD Cert.InEven0RefIdeal.τ).loc Cert.InEven0RefIdeal.main_arg1) = m ((c.tc : Thread Cert.InEven0RefIdeal.nD Cert.InEven0RefIdeal.τ).loc Cert.InEven0RefIdeal.main_arg1)
      ∧ r.2.mem ((c.tc : Thread Cert.InEven0RefIdeal.nD Cert.InEven0RefIdeal.τ).loc Cert.InEven0RefIdeal.main_arg2) = m ((c.tc : Thread Cert.InEven0RefIdeal.nD Cert.InEven0RefIdeal.τ).loc Cert.InEven0RefIdeal.main_arg2))
      ∧ r.2.sem = fun _ => 0)

def quiescent_InEven2 [hInEven2 : Cert.InEven2.Facts] : Prop :=
  ∀ (m : (ℓ : Loc Cert.InEven2.nD Cert.InEven2.τ Cert.InEven2.sig) → Buf (Elt Bits) ℓ) (g : Dev Cert.InEven2.nD → PrngReg), Pre_InEven2 m →
    θ_run (Cert.InEven2.defs (F := Bits)) (onTc (τ := Cert.InEven2.τ) (Cert.InEven2.main (F := Bits))) ⟨m, fun _ => 0, g⟩ (fun r => (∀ c : Dev Cert.InEven2.nD,
      r.2.mem ((c.tc : Thread Cert.InEven2.nD Cert.InEven2.τ).loc Cert.InEven2.main_arg0) = m ((c.tc : Thread Cert.InEven2.nD Cert.InEven2.τ).loc Cert.InEven2.main_arg0)
      ∧ r.2.mem ((c.tc : Thread Cert.InEven2.nD Cert.InEven2.τ).loc Cert.InEven2.main_arg1) = m ((c.tc : Thread Cert.InEven2.nD Cert.InEven2.τ).loc Cert.InEven2.main_arg1)
      ∧ r.2.mem ((c.tc : Thread Cert.InEven2.nD Cert.InEven2.τ).loc Cert.InEven2.main_arg2) = m ((c.tc : Thread Cert.InEven2.nD Cert.InEven2.τ).loc Cert.InEven2.main_arg2))
      ∧ r.2.sem = fun _ => 0)

def quiescent_InEven2Ideal [hInEven2Ideal : Cert.InEven2Ideal.Facts] : Prop :=
  ∀ (m : (ℓ : Loc Cert.InEven2Ideal.nD Cert.InEven2Ideal.τ Cert.InEven2Ideal.sig) → Buf (Elt Ideal) ℓ) (g : Dev Cert.InEven2Ideal.nD → PrngReg), Pre_InEven2Ideal m →
    θ_run (Cert.InEven2Ideal.defs (F := Ideal)) (onTc (τ := Cert.InEven2Ideal.τ) (Cert.InEven2Ideal.main (F := Ideal))) ⟨m, fun _ => 0, g⟩ (fun r => (∀ c : Dev Cert.InEven2Ideal.nD,
      r.2.mem ((c.tc : Thread Cert.InEven2Ideal.nD Cert.InEven2Ideal.τ).loc Cert.InEven2Ideal.main_arg0) = m ((c.tc : Thread Cert.InEven2Ideal.nD Cert.InEven2Ideal.τ).loc Cert.InEven2Ideal.main_arg0)
      ∧ r.2.mem ((c.tc : Thread Cert.InEven2Ideal.nD Cert.InEven2Ideal.τ).loc Cert.InEven2Ideal.main_arg1) = m ((c.tc : Thread Cert.InEven2Ideal.nD Cert.InEven2Ideal.τ).loc Cert.InEven2Ideal.main_arg1)
      ∧ r.2.mem ((c.tc : Thread Cert.InEven2Ideal.nD Cert.InEven2Ideal.τ).loc Cert.InEven2Ideal.main_arg2) = m ((c.tc : Thread Cert.InEven2Ideal.nD Cert.InEven2Ideal.τ).loc Cert.InEven2Ideal.main_arg2))
      ∧ r.2.sem = fun _ => 0)

def quiescent_InEven2RefIdeal [hInEven2RefIdeal : Cert.InEven2RefIdeal.Facts] : Prop :=
  ∀ (m : (ℓ : Loc Cert.InEven2RefIdeal.nD Cert.InEven2RefIdeal.τ Cert.InEven2RefIdeal.sig) → Buf (Elt Ideal) ℓ) (g : Dev Cert.InEven2RefIdeal.nD → PrngReg), Pre_InEven2RefIdeal m →
    θ_run (Cert.InEven2RefIdeal.defs (F := Ideal)) (onTc (τ := Cert.InEven2RefIdeal.τ) (Cert.InEven2RefIdeal.main (F := Ideal))) ⟨m, fun _ => 0, g⟩ (fun r => (∀ c : Dev Cert.InEven2RefIdeal.nD,
      r.2.mem ((c.tc : Thread Cert.InEven2RefIdeal.nD Cert.InEven2RefIdeal.τ).loc Cert.InEven2RefIdeal.main_arg0) = m ((c.tc : Thread Cert.InEven2RefIdeal.nD Cert.InEven2RefIdeal.τ).loc Cert.InEven2RefIdeal.main_arg0)
      ∧ r.2.mem ((c.tc : Thread Cert.InEven2RefIdeal.nD Cert.InEven2RefIdeal.τ).loc Cert.InEven2RefIdeal.main_arg1) = m ((c.tc : Thread Cert.InEven2RefIdeal.nD Cert.InEven2RefIdeal.τ).loc Cert.InEven2RefIdeal.main_arg1)
      ∧ r.2.mem ((c.tc : Thread Cert.InEven2RefIdeal.nD Cert.InEven2RefIdeal.τ).loc Cert.InEven2RefIdeal.main_arg2) = m ((c.tc : Thread Cert.InEven2RefIdeal.nD Cert.InEven2RefIdeal.τ).loc Cert.InEven2RefIdeal.main_arg2))
      ∧ r.2.sem = fun _ => 0)

def quiescent_InSample0 [hInSample0 : Cert.InSample0.Facts] : Prop :=
  ∀ (m : (ℓ : Loc Cert.InSample0.nD Cert.InSample0.τ Cert.InSample0.sig) → Buf (Elt Bits) ℓ) (g : Dev Cert.InSample0.nD → PrngReg), Pre_InSample0 m →
    θ_run (Cert.InSample0.defs (F := Bits)) (onTc (τ := Cert.InSample0.τ) (Cert.InSample0.main (F := Bits))) ⟨m, fun _ => 0, g⟩ (fun r => (∀ c : Dev Cert.InSample0.nD,
      r.2.mem ((c.tc : Thread Cert.InSample0.nD Cert.InSample0.τ).loc Cert.InSample0.main_arg0) = m ((c.tc : Thread Cert.InSample0.nD Cert.InSample0.τ).loc Cert.InSample0.main_arg0)
      ∧ r.2.mem ((c.tc : Thread Cert.InSample0.nD Cert.InSample0.τ).loc Cert.InSample0.main_arg1) = m ((c.tc : Thread Cert.InSample0.nD Cert.InSample0.τ).loc Cert.InSample0.main_arg1)
      ∧ r.2.mem ((c.tc : Thread Cert.InSample0.nD Cert.InSample0.τ).loc Cert.InSample0.main_arg2) = m ((c.tc : Thread Cert.InSample0.nD Cert.InSample0.τ).loc Cert.InSample0.main_arg2))
      ∧ r.2.sem = fun _ => 0)

def quiescent_InSample0Ideal [hInSample0Ideal : Cert.InSample0Ideal.Facts] : Prop :=
  ∀ (m : (ℓ : Loc Cert.InSample0Ideal.nD Cert.InSample0Ideal.τ Cert.InSample0Ideal.sig) → Buf (Elt Ideal) ℓ) (g : Dev Cert.InSample0Ideal.nD → PrngReg), Pre_InSample0Ideal m →
    θ_run (Cert.InSample0Ideal.defs (F := Ideal)) (onTc (τ := Cert.InSample0Ideal.τ) (Cert.InSample0Ideal.main (F := Ideal))) ⟨m, fun _ => 0, g⟩ (fun r => (∀ c : Dev Cert.InSample0Ideal.nD,
      r.2.mem ((c.tc : Thread Cert.InSample0Ideal.nD Cert.InSample0Ideal.τ).loc Cert.InSample0Ideal.main_arg0) = m ((c.tc : Thread Cert.InSample0Ideal.nD Cert.InSample0Ideal.τ).loc Cert.InSample0Ideal.main_arg0)
      ∧ r.2.mem ((c.tc : Thread Cert.InSample0Ideal.nD Cert.InSample0Ideal.τ).loc Cert.InSample0Ideal.main_arg1) = m ((c.tc : Thread Cert.InSample0Ideal.nD Cert.InSample0Ideal.τ).loc Cert.InSample0Ideal.main_arg1)
      ∧ r.2.mem ((c.tc : Thread Cert.InSample0Ideal.nD Cert.InSample0Ideal.τ).loc Cert.InSample0Ideal.main_arg2) = m ((c.tc : Thread Cert.InSample0Ideal.nD Cert.InSample0Ideal.τ).loc Cert.InSample0Ideal.main_arg2))
      ∧ r.2.sem = fun _ => 0)

def quiescent_InSample0RefIdeal [hInSample0RefIdeal : Cert.InSample0RefIdeal.Facts] : Prop :=
  ∀ (m : (ℓ : Loc Cert.InSample0RefIdeal.nD Cert.InSample0RefIdeal.τ Cert.InSample0RefIdeal.sig) → Buf (Elt Ideal) ℓ) (g : Dev Cert.InSample0RefIdeal.nD → PrngReg), Pre_InSample0RefIdeal m →
    θ_run (Cert.InSample0RefIdeal.defs (F := Ideal)) (onTc (τ := Cert.InSample0RefIdeal.τ) (Cert.InSample0RefIdeal.main (F := Ideal))) ⟨m, fun _ => 0, g⟩ (fun r => (∀ c : Dev Cert.InSample0RefIdeal.nD,
      r.2.mem ((c.tc : Thread Cert.InSample0RefIdeal.nD Cert.InSample0RefIdeal.τ).loc Cert.InSample0RefIdeal.main_arg0) = m ((c.tc : Thread Cert.InSample0RefIdeal.nD Cert.InSample0RefIdeal.τ).loc Cert.InSample0RefIdeal.main_arg0)
      ∧ r.2.mem ((c.tc : Thread Cert.InSample0RefIdeal.nD Cert.InSample0RefIdeal.τ).loc Cert.InSample0RefIdeal.main_arg1) = m ((c.tc : Thread Cert.InSample0RefIdeal.nD Cert.InSample0RefIdeal.τ).loc Cert.InSample0RefIdeal.main_arg1)
      ∧ r.2.mem ((c.tc : Thread Cert.InSample0RefIdeal.nD Cert.InSample0RefIdeal.τ).loc Cert.InSample0RefIdeal.main_arg2) = m ((c.tc : Thread Cert.InSample0RefIdeal.nD Cert.InSample0RefIdeal.τ).loc Cert.InSample0RefIdeal.main_arg2))
      ∧ r.2.sem = fun _ => 0)

def quiescent_InSample1 [hInSample1 : Cert.InSample1.Facts] : Prop :=
  ∀ (m : (ℓ : Loc Cert.InSample1.nD Cert.InSample1.τ Cert.InSample1.sig) → Buf (Elt Bits) ℓ) (g : Dev Cert.InSample1.nD → PrngReg), Pre_InSample1 m →
    θ_run (Cert.InSample1.defs (F := Bits)) (onTc (τ := Cert.InSample1.τ) (Cert.InSample1.main (F := Bits))) ⟨m, fun _ => 0, g⟩ (fun r => (∀ c : Dev Cert.InSample1.nD,
      r.2.mem ((c.tc : Thread Cert.InSample1.nD Cert.InSample1.τ).loc Cert.InSample1.main_arg0) = m ((c.tc : Thread Cert.InSample1.nD Cert.InSample1.τ).loc Cert.InSample1.main_arg0)
      ∧ r.2.mem ((c.tc : Thread Cert.InSample1.nD Cert.InSample1.τ).loc Cert.InSample1.main_arg1) = m ((c.tc : Thread Cert.InSample1.nD Cert.InSample1.τ).loc Cert.InSample1.main_arg1)
      ∧ r.2.mem ((c.tc : Thread Cert.InSample1.nD Cert.InSample1.τ).loc Cert.InSample1.main_arg2) = m ((c.tc : Thread Cert.InSample1.nD Cert.InSample1.τ).loc Cert.InSample1.main_arg2)
      ∧ r.2.mem ((c.tc : Thread Cert.InSample1.nD Cert.InSample1.τ).loc Cert.InSample1.main_arg3) = m ((c.tc : Thread Cert.InSample1.nD Cert.InSample1.τ).loc Cert.InSample1.main_arg3))
      ∧ r.2.sem = fun _ => 0)

def quiescent_InSample1Ideal [hInSample1Ideal : Cert.InSample1Ideal.Facts] : Prop :=
  ∀ (m : (ℓ : Loc Cert.InSample1Ideal.nD Cert.InSample1Ideal.τ Cert.InSample1Ideal.sig) → Buf (Elt Ideal) ℓ) (g : Dev Cert.InSample1Ideal.nD → PrngReg), Pre_InSample1Ideal m →
    θ_run (Cert.InSample1Ideal.defs (F := Ideal)) (onTc (τ := Cert.InSample1Ideal.τ) (Cert.InSample1Ideal.main (F := Ideal))) ⟨m, fun _ => 0, g⟩ (fun r => (∀ c : Dev Cert.InSample1Ideal.nD,
      r.2.mem ((c.tc : Thread Cert.InSample1Ideal.nD Cert.InSample1Ideal.τ).loc Cert.InSample1Ideal.main_arg0) = m ((c.tc : Thread Cert.InSample1Ideal.nD Cert.InSample1Ideal.τ).loc Cert.InSample1Ideal.main_arg0)
      ∧ r.2.mem ((c.tc : Thread Cert.InSample1Ideal.nD Cert.InSample1Ideal.τ).loc Cert.InSample1Ideal.main_arg1) = m ((c.tc : Thread Cert.InSample1Ideal.nD Cert.InSample1Ideal.τ).loc Cert.InSample1Ideal.main_arg1)
      ∧ r.2.mem ((c.tc : Thread Cert.InSample1Ideal.nD Cert.InSample1Ideal.τ).loc Cert.InSample1Ideal.main_arg2) = m ((c.tc : Thread Cert.InSample1Ideal.nD Cert.InSample1Ideal.τ).loc Cert.InSample1Ideal.main_arg2)
      ∧ r.2.mem ((c.tc : Thread Cert.InSample1Ideal.nD Cert.InSample1Ideal.τ).loc Cert.InSample1Ideal.main_arg3) = m ((c.tc : Thread Cert.InSample1Ideal.nD Cert.InSample1Ideal.τ).loc Cert.InSample1Ideal.main_arg3))
      ∧ r.2.sem = fun _ => 0)

def quiescent_InSample1RefIdeal [hInSample1RefIdeal : Cert.InSample1RefIdeal.Facts] : Prop :=
  ∀ (m : (ℓ : Loc Cert.InSample1RefIdeal.nD Cert.InSample1RefIdeal.τ Cert.InSample1RefIdeal.sig) → Buf (Elt Ideal) ℓ) (g : Dev Cert.InSample1RefIdeal.nD → PrngReg), Pre_InSample1RefIdeal m →
    θ_run (Cert.InSample1RefIdeal.defs (F := Ideal)) (onTc (τ := Cert.InSample1RefIdeal.τ) (Cert.InSample1RefIdeal.main (F := Ideal))) ⟨m, fun _ => 0, g⟩ (fun r => (∀ c : Dev Cert.InSample1RefIdeal.nD,
      r.2.mem ((c.tc : Thread Cert.InSample1RefIdeal.nD Cert.InSample1RefIdeal.τ).loc Cert.InSample1RefIdeal.main_arg0) = m ((c.tc : Thread Cert.InSample1RefIdeal.nD Cert.InSample1RefIdeal.τ).loc Cert.InSample1RefIdeal.main_arg0)
      ∧ r.2.mem ((c.tc : Thread Cert.InSample1RefIdeal.nD Cert.InSample1RefIdeal.τ).loc Cert.InSample1RefIdeal.main_arg1) = m ((c.tc : Thread Cert.InSample1RefIdeal.nD Cert.InSample1RefIdeal.τ).loc Cert.InSample1RefIdeal.main_arg1)
      ∧ r.2.mem ((c.tc : Thread Cert.InSample1RefIdeal.nD Cert.InSample1RefIdeal.τ).loc Cert.InSample1RefIdeal.main_arg2) = m ((c.tc : Thread Cert.InSample1RefIdeal.nD Cert.InSample1RefIdeal.τ).loc Cert.InSample1RefIdeal.main_arg2)
      ∧ r.2.mem ((c.tc : Thread Cert.InSample1RefIdeal.nD Cert.InSample1RefIdeal.τ).loc Cert.InSample1RefIdeal.main_arg3) = m ((c.tc : Thread Cert.InSample1RefIdeal.nD Cert.InSample1RefIdeal.τ).loc Cert.InSample1RefIdeal.main_arg3))
      ∧ r.2.sem = fun _ => 0)

def quiescent_InSample2 [hInSample2 : Cert.InSample2.Facts] : Prop :=
  ∀ (m : (ℓ : Loc Cert.InSample2.nD Cert.InSample2.τ Cert.InSample2.sig) → Buf (Elt Bits) ℓ) (g : Dev Cert.InSample2.nD → PrngReg), Pre_InSample2 m →
    θ_run (Cert.InSample2.defs (F := Bits)) (onTc (τ := Cert.InSample2.τ) (Cert.InSample2.main (F := Bits))) ⟨m, fun _ => 0, g⟩ (fun r => (∀ c : Dev Cert.InSample2.nD,
      r.2.mem ((c.tc : Thread Cert.InSample2.nD Cert.InSample2.τ).loc Cert.InSample2.main_arg0) = m ((c.tc : Thread Cert.InSample2.nD Cert.InSample2.τ).loc Cert.InSample2.main_arg0)
      ∧ r.2.mem ((c.tc : Thread Cert.InSample2.nD Cert.InSample2.τ).loc Cert.InSample2.main_arg1) = m ((c.tc : Thread Cert.InSample2.nD Cert.InSample2.τ).loc Cert.InSample2.main_arg1)
      ∧ r.2.mem ((c.tc : Thread Cert.InSample2.nD Cert.InSample2.τ).loc Cert.InSample2.main_arg2) = m ((c.tc : Thread Cert.InSample2.nD Cert.InSample2.τ).loc Cert.InSample2.main_arg2))
      ∧ r.2.sem = fun _ => 0)

def quiescent_InSample2Ideal [hInSample2Ideal : Cert.InSample2Ideal.Facts] : Prop :=
  ∀ (m : (ℓ : Loc Cert.InSample2Ideal.nD Cert.InSample2Ideal.τ Cert.InSample2Ideal.sig) → Buf (Elt Ideal) ℓ) (g : Dev Cert.InSample2Ideal.nD → PrngReg), Pre_InSample2Ideal m →
    θ_run (Cert.InSample2Ideal.defs (F := Ideal)) (onTc (τ := Cert.InSample2Ideal.τ) (Cert.InSample2Ideal.main (F := Ideal))) ⟨m, fun _ => 0, g⟩ (fun r => (∀ c : Dev Cert.InSample2Ideal.nD,
      r.2.mem ((c.tc : Thread Cert.InSample2Ideal.nD Cert.InSample2Ideal.τ).loc Cert.InSample2Ideal.main_arg0) = m ((c.tc : Thread Cert.InSample2Ideal.nD Cert.InSample2Ideal.τ).loc Cert.InSample2Ideal.main_arg0)
      ∧ r.2.mem ((c.tc : Thread Cert.InSample2Ideal.nD Cert.InSample2Ideal.τ).loc Cert.InSample2Ideal.main_arg1) = m ((c.tc : Thread Cert.InSample2Ideal.nD Cert.InSample2Ideal.τ).loc Cert.InSample2Ideal.main_arg1)
      ∧ r.2.mem ((c.tc : Thread Cert.InSample2Ideal.nD Cert.InSample2Ideal.τ).loc Cert.InSample2Ideal.main_arg2) = m ((c.tc : Thread Cert.InSample2Ideal.nD Cert.InSample2Ideal.τ).loc Cert.InSample2Ideal.main_arg2))
      ∧ r.2.sem = fun _ => 0)

def quiescent_InSample2RefIdeal [hInSample2RefIdeal : Cert.InSample2RefIdeal.Facts] : Prop :=
  ∀ (m : (ℓ : Loc Cert.InSample2RefIdeal.nD Cert.InSample2RefIdeal.τ Cert.InSample2RefIdeal.sig) → Buf (Elt Ideal) ℓ) (g : Dev Cert.InSample2RefIdeal.nD → PrngReg), Pre_InSample2RefIdeal m →
    θ_run (Cert.InSample2RefIdeal.defs (F := Ideal)) (onTc (τ := Cert.InSample2RefIdeal.τ) (Cert.InSample2RefIdeal.main (F := Ideal))) ⟨m, fun _ => 0, g⟩ (fun r => (∀ c : Dev Cert.InSample2RefIdeal.nD,
      r.2.mem ((c.tc : Thread Cert.InSample2RefIdeal.nD Cert.InSample2RefIdeal.τ).loc Cert.InSample2RefIdeal.main_arg0) = m ((c.tc : Thread Cert.InSample2RefIdeal.nD Cert.InSample2RefIdeal.τ).loc Cert.InSample2RefIdeal.main_arg0)
      ∧ r.2.mem ((c.tc : Thread Cert.InSample2RefIdeal.nD Cert.InSample2RefIdeal.τ).loc Cert.InSample2RefIdeal.main_arg1) = m ((c.tc : Thread Cert.InSample2RefIdeal.nD Cert.InSample2RefIdeal.τ).loc Cert.InSample2RefIdeal.main_arg1)
      ∧ r.2.mem ((c.tc : Thread Cert.InSample2RefIdeal.nD Cert.InSample2RefIdeal.τ).loc Cert.InSample2RefIdeal.main_arg2) = m ((c.tc : Thread Cert.InSample2RefIdeal.nD Cert.InSample2RefIdeal.τ).loc Cert.InSample2RefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v7_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)) (v1 : (c : Dev Cert.InProjIdeal.nD) → Buf (Elt Ideal) ((c.tc : Thread Cert.InProjIdeal.nD Cert.InProjIdeal.τ).loc Cert.InProjIdeal.main_v7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_v7) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v17) = v0 c
          ∧ r.2.mem ((c.tc : Thread Cert.InProjRefIdeal.nD Cert.InProjRefIdeal.τ).loc Cert.InProjRefIdeal.main_v18) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutGdn_OutGdnIdeal : Prop :=
  True

def algebraic_OutGdnIdeal_OutGdnRefIdeal [hOutGdnIdeal : Cert.OutGdnIdeal.Facts] [hOutGdnRefIdeal : Cert.OutGdnRefIdeal.Facts] : Prop :=
  ∀ (m : (ℓ : Loc Cert.OutGdnIdeal.nD Cert.OutGdnIdeal.τ Cert.OutGdnIdeal.sig) → Buf (Elt Ideal) ℓ) (g : Dev Cert.OutGdnIdeal.nD → PrngReg)
    (m' : (ℓ : Loc Cert.OutGdnRefIdeal.nD Cert.OutGdnRefIdeal.τ Cert.OutGdnRefIdeal.sig) → Buf (Elt Ideal) ℓ) (g' : Dev Cert.OutGdnRefIdeal.nD → PrngReg), Pre_OutGdnIdeal m →
    (∀ c : Dev Cert.OutGdnIdeal.nD,
      m' ((c.tc : Thread Cert.OutGdnRefIdeal.nD Cert.OutGdnRefIdeal.τ).loc Cert.OutGdnRefIdeal.main_arg0) = m ((c.tc : Thread Cert.OutGdnIdeal.nD Cert.OutGdnIdeal.τ).loc Cert.OutGdnIdeal.main_arg0)
      ∧ m' ((c.tc : Thread Cert.OutGdnRefIdeal.nD Cert.OutGdnRefIdeal.τ).loc Cert.OutGdnRefIdeal.main_arg1) = m ((c.tc : Thread Cert.OutGdnIdeal.nD Cert.OutGdnIdeal.τ).loc Cert.OutGdnIdeal.main_arg1)
      ∧ m' ((c.tc : Thread Cert.OutGdnRefIdeal.nD Cert.OutGdnRefIdeal.τ).loc Cert.OutGdnRefIdeal.main_arg2) = m ((c.tc : Thread Cert.OutGdnIdeal.nD Cert.OutGdnIdeal.τ).loc Cert.OutGdnIdeal.main_arg2)) →
    ∃ (v0 : (c : Dev Cert.OutGdnIdeal.nD) → Buf (Elt Ideal) ((c.tc : Thread Cert.OutGdnIdeal.nD Cert.OutGdnIdeal.τ).loc Cert.OutGdnIdeal.main_v3)),
      θ_run (Cert.OutGdnIdeal.defs (F := Ideal)) (onTc (τ := Cert.OutGdnIdeal.τ) (Cert.OutGdnIdeal.main (F := Ideal))) ⟨m, fun _ => 0, g⟩ (fun r => ∀ c : Dev Cert.OutGdnIdeal.nD,
          r.2.mem ((c.tc : Thread Cert.OutGdnIdeal.nD Cert.OutGdnIdeal.τ).loc Cert.OutGdnIdeal.main_v3) = v0 c
          ∧ r.2.mem ((c.tc : Thread Cert.OutGdnIdeal.nD Cert.OutGdnIdeal.τ).loc Cert.OutGdnIdeal.main_arg0) = m ((c.tc : Thread Cert.OutGdnIdeal.nD Cert.OutGdnIdeal.τ).loc Cert.OutGdnIdeal.main_arg0)
          ∧ r.2.mem ((c.tc : Thread Cert.OutGdnIdeal.nD Cert.OutGdnIdeal.τ).loc Cert.OutGdnIdeal.main_arg1) = m ((c.tc : Thread Cert.OutGdnIdeal.nD Cert.OutGdnIdeal.τ).loc Cert.OutGdnIdeal.main_arg1)
          ∧ r.2.mem ((c.tc : Thread Cert.OutGdnIdeal.nD Cert.OutGdnIdeal.τ).loc Cert.OutGdnIdeal.main_arg2) = m ((c.tc : Thread Cert.OutGdnIdeal.nD Cert.OutGdnIdeal.τ).loc Cert.OutGdnIdeal.main_arg2))
      ∧ θ_run (Cert.OutGdnRefIdeal.defs (F := Ideal)) (onTc (τ := Cert.OutGdnRefIdeal.τ) (Cert.OutGdnRefIdeal.main (F := Ideal))) ⟨m', fun _ => 0, g'⟩ (fun r => ∀ c : Dev Cert.OutGdnRefIdeal.nD,
          r.2.mem ((c.tc : Thread Cert.OutGdnRefIdeal.nD Cert.OutGdnRefIdeal.τ).loc Cert.OutGdnRefIdeal.main_v2) = v0 c
          ∧ r.2.mem ((c.tc : Thread Cert.OutGdnRefIdeal.nD Cert.OutGdnRefIdeal.τ).loc Cert.OutGdnRefIdeal.main_arg0) = m' ((c.tc : Thread Cert.OutGdnRefIdeal.nD Cert.OutGdnRefIdeal.τ).loc Cert.OutGdnRefIdeal.main_arg0)
          ∧ r.2.mem ((c.tc : Thread Cert.OutGdnRefIdeal.nD Cert.OutGdnRefIdeal.τ).loc Cert.OutGdnRefIdeal.main_arg1) = m' ((c.tc : Thread Cert.OutGdnRefIdeal.nD Cert.OutGdnRefIdeal.τ).loc Cert.OutGdnRefIdeal.main_arg1)
          ∧ r.2.mem ((c.tc : Thread Cert.OutGdnRefIdeal.nD Cert.OutGdnRefIdeal.τ).loc Cert.OutGdnRefIdeal.main_arg2) = m' ((c.tc : Thread Cert.OutGdnRefIdeal.nD Cert.OutGdnRefIdeal.τ).loc Cert.OutGdnRefIdeal.main_arg2))

def preserves_InEven0_InEven0Ideal : Prop :=
  True

def algebraic_InEven0Ideal_InEven0RefIdeal [hInEven0Ideal : Cert.InEven0Ideal.Facts] [hInEven0RefIdeal : Cert.InEven0RefIdeal.Facts] : Prop :=
  ∀ (m : (ℓ : Loc Cert.InEven0Ideal.nD Cert.InEven0Ideal.τ Cert.InEven0Ideal.sig) → Buf (Elt Ideal) ℓ) (g : Dev Cert.InEven0Ideal.nD → PrngReg)
    (m' : (ℓ : Loc Cert.InEven0RefIdeal.nD Cert.InEven0RefIdeal.τ Cert.InEven0RefIdeal.sig) → Buf (Elt Ideal) ℓ) (g' : Dev Cert.InEven0RefIdeal.nD → PrngReg), Pre_InEven0Ideal m →
    (∀ c : Dev Cert.InEven0Ideal.nD,
      m' ((c.tc : Thread Cert.InEven0RefIdeal.nD Cert.InEven0RefIdeal.τ).loc Cert.InEven0RefIdeal.main_arg0) = m ((c.tc : Thread Cert.InEven0Ideal.nD Cert.InEven0Ideal.τ).loc Cert.InEven0Ideal.main_arg0)
      ∧ m' ((c.tc : Thread Cert.InEven0RefIdeal.nD Cert.InEven0RefIdeal.τ).loc Cert.InEven0RefIdeal.main_arg1) = m ((c.tc : Thread Cert.InEven0Ideal.nD Cert.InEven0Ideal.τ).loc Cert.InEven0Ideal.main_arg1)
      ∧ m' ((c.tc : Thread Cert.InEven0RefIdeal.nD Cert.InEven0RefIdeal.τ).loc Cert.InEven0RefIdeal.main_arg2) = m ((c.tc : Thread Cert.InEven0Ideal.nD Cert.InEven0Ideal.τ).loc Cert.InEven0Ideal.main_arg2)) →
    ∃ (v0 : (c : Dev Cert.InEven0Ideal.nD) → Buf (Elt Ideal) ((c.tc : Thread Cert.InEven0Ideal.nD Cert.InEven0Ideal.τ).loc Cert.InEven0Ideal.main_v2)) (v1 : (c : Dev Cert.InEven0Ideal.nD) → Buf (Elt Ideal) ((c.tc : Thread Cert.InEven0Ideal.nD Cert.InEven0Ideal.τ).loc Cert.InEven0Ideal.main_v4)) (v2 : (c : Dev Cert.InEven0Ideal.nD) → Buf (Elt Ideal) ((c.tc : Thread Cert.InEven0Ideal.nD Cert.InEven0Ideal.τ).loc Cert.InEven0Ideal.main_v6)) (v3 : (c : Dev Cert.InEven0Ideal.nD) → Buf (Elt Ideal) ((c.tc : Thread Cert.InEven0Ideal.nD Cert.InEven0Ideal.τ).loc Cert.InEven0Ideal.main_v22)),
      θ_run (Cert.InEven0Ideal.defs (F := Ideal)) (onTc (τ := Cert.InEven0Ideal.τ) (Cert.InEven0Ideal.main (F := Ideal))) ⟨m, fun _ => 0, g⟩ (fun r => ∀ c : Dev Cert.InEven0Ideal.nD,
          r.2.mem ((c.tc : Thread Cert.InEven0Ideal.nD Cert.InEven0Ideal.τ).loc Cert.InEven0Ideal.main_v2) = v0 c
          ∧ r.2.mem ((c.tc : Thread Cert.InEven0Ideal.nD Cert.InEven0Ideal.τ).loc Cert.InEven0Ideal.main_v4) = v1 c
          ∧ r.2.mem ((c.tc : Thread Cert.InEven0Ideal.nD Cert.InEven0Ideal.τ).loc Cert.InEven0Ideal.main_v6) = v2 c
          ∧ r.2.mem ((c.tc : Thread Cert.InEven0Ideal.nD Cert.InEven0Ideal.τ).loc Cert.InEven0Ideal.main_v22) = v3 c
          ∧ r.2.mem ((c.tc : Thread Cert.InEven0Ideal.nD Cert.InEven0Ideal.τ).loc Cert.InEven0Ideal.main_arg0) = m ((c.tc : Thread Cert.InEven0Ideal.nD Cert.InEven0Ideal.τ).loc Cert.InEven0Ideal.main_arg0)
          ∧ r.2.mem ((c.tc : Thread Cert.InEven0Ideal.nD Cert.InEven0Ideal.τ).loc Cert.InEven0Ideal.main_arg1) = m ((c.tc : Thread Cert.InEven0Ideal.nD Cert.InEven0Ideal.τ).loc Cert.InEven0Ideal.main_arg1)
          ∧ r.2.mem ((c.tc : Thread Cert.InEven0Ideal.nD Cert.InEven0Ideal.τ).loc Cert.InEven0Ideal.main_arg2) = m ((c.tc : Thread Cert.InEven0Ideal.nD Cert.InEven0Ideal.τ).loc Cert.InEven0Ideal.main_arg2))
      ∧ θ_run (Cert.InEven0RefIdeal.defs (F := Ideal)) (onTc (τ := Cert.InEven0RefIdeal.τ) (Cert.InEven0RefIdeal.main (F := Ideal))) ⟨m', fun _ => 0, g'⟩ (fun r => ∀ c : Dev Cert.InEven0RefIdeal.nD,
          r.2.mem ((c.tc : Thread Cert.InEven0RefIdeal.nD Cert.InEven0RefIdeal.τ).loc Cert.InEven0RefIdeal.main_v18) = v0 c
          ∧ r.2.mem ((c.tc : Thread Cert.InEven0RefIdeal.nD Cert.InEven0RefIdeal.τ).loc Cert.InEven0RefIdeal.main_v19) = v1 c
          ∧ r.2.mem ((c.tc : Thread Cert.InEven0RefIdeal.nD Cert.InEven0RefIdeal.τ).loc Cert.InEven0RefIdeal.main_v20) = v2 c
          ∧ r.2.mem ((c.tc : Thread Cert.InEven0RefIdeal.nD Cert.InEven0RefIdeal.τ).loc Cert.InEven0RefIdeal.main_v22) = v3 c
          ∧ r.2.mem ((c.tc : Thread Cert.InEven0RefIdeal.nD Cert.InEven0RefIdeal.τ).loc Cert.InEven0RefIdeal.main_arg0) = m' ((c.tc : Thread Cert.InEven0RefIdeal.nD Cert.InEven0RefIdeal.τ).loc Cert.InEven0RefIdeal.main_arg0)
          ∧ r.2.mem ((c.tc : Thread Cert.InEven0RefIdeal.nD Cert.InEven0RefIdeal.τ).loc Cert.InEven0RefIdeal.main_arg1) = m' ((c.tc : Thread Cert.InEven0RefIdeal.nD Cert.InEven0RefIdeal.τ).loc Cert.InEven0RefIdeal.main_arg1)
          ∧ r.2.mem ((c.tc : Thread Cert.InEven0RefIdeal.nD Cert.InEven0RefIdeal.τ).loc Cert.InEven0RefIdeal.main_arg2) = m' ((c.tc : Thread Cert.InEven0RefIdeal.nD Cert.InEven0RefIdeal.τ).loc Cert.InEven0RefIdeal.main_arg2))

def preserves_InEven2_InEven2Ideal : Prop :=
  True

def algebraic_InEven2Ideal_InEven2RefIdeal [hInEven2Ideal : Cert.InEven2Ideal.Facts] [hInEven2RefIdeal : Cert.InEven2RefIdeal.Facts] : Prop :=
  ∀ (m : (ℓ : Loc Cert.InEven2Ideal.nD Cert.InEven2Ideal.τ Cert.InEven2Ideal.sig) → Buf (Elt Ideal) ℓ) (g : Dev Cert.InEven2Ideal.nD → PrngReg)
    (m' : (ℓ : Loc Cert.InEven2RefIdeal.nD Cert.InEven2RefIdeal.τ Cert.InEven2RefIdeal.sig) → Buf (Elt Ideal) ℓ) (g' : Dev Cert.InEven2RefIdeal.nD → PrngReg), Pre_InEven2Ideal m →
    (∀ c : Dev Cert.InEven2Ideal.nD,
      m' ((c.tc : Thread Cert.InEven2RefIdeal.nD Cert.InEven2RefIdeal.τ).loc Cert.InEven2RefIdeal.main_arg0) = m ((c.tc : Thread Cert.InEven2Ideal.nD Cert.InEven2Ideal.τ).loc Cert.InEven2Ideal.main_arg0)
      ∧ m' ((c.tc : Thread Cert.InEven2RefIdeal.nD Cert.InEven2RefIdeal.τ).loc Cert.InEven2RefIdeal.main_arg1) = m ((c.tc : Thread Cert.InEven2Ideal.nD Cert.InEven2Ideal.τ).loc Cert.InEven2Ideal.main_arg1)
      ∧ m' ((c.tc : Thread Cert.InEven2RefIdeal.nD Cert.InEven2RefIdeal.τ).loc Cert.InEven2RefIdeal.main_arg2) = m ((c.tc : Thread Cert.InEven2Ideal.nD Cert.InEven2Ideal.τ).loc Cert.InEven2Ideal.main_arg2)) →
    ∃ (v0 : (c : Dev Cert.InEven2Ideal.nD) → Buf (Elt Ideal) ((c.tc : Thread Cert.InEven2Ideal.nD Cert.InEven2Ideal.τ).loc Cert.InEven2Ideal.main_v2)) (v1 : (c : Dev Cert.InEven2Ideal.nD) → Buf (Elt Ideal) ((c.tc : Thread Cert.InEven2Ideal.nD Cert.InEven2Ideal.τ).loc Cert.InEven2Ideal.main_v4)) (v2 : (c : Dev Cert.InEven2Ideal.nD) → Buf (Elt Ideal) ((c.tc : Thread Cert.InEven2Ideal.nD Cert.InEven2Ideal.τ).loc Cert.InEven2Ideal.main_v6)) (v3 : (c : Dev Cert.InEven2Ideal.nD) → Buf (Elt Ideal) ((c.tc : Thread Cert.InEven2Ideal.nD Cert.InEven2Ideal.τ).loc Cert.InEven2Ideal.main_v22)),
      θ_run (Cert.InEven2Ideal.defs (F := Ideal)) (onTc (τ := Cert.InEven2Ideal.τ) (Cert.InEven2Ideal.main (F := Ideal))) ⟨m, fun _ => 0, g⟩ (fun r => ∀ c : Dev Cert.InEven2Ideal.nD,
          r.2.mem ((c.tc : Thread Cert.InEven2Ideal.nD Cert.InEven2Ideal.τ).loc Cert.InEven2Ideal.main_v2) = v0 c
          ∧ r.2.mem ((c.tc : Thread Cert.InEven2Ideal.nD Cert.InEven2Ideal.τ).loc Cert.InEven2Ideal.main_v4) = v1 c
          ∧ r.2.mem ((c.tc : Thread Cert.InEven2Ideal.nD Cert.InEven2Ideal.τ).loc Cert.InEven2Ideal.main_v6) = v2 c
          ∧ r.2.mem ((c.tc : Thread Cert.InEven2Ideal.nD Cert.InEven2Ideal.τ).loc Cert.InEven2Ideal.main_v22) = v3 c
          ∧ r.2.mem ((c.tc : Thread Cert.InEven2Ideal.nD Cert.InEven2Ideal.τ).loc Cert.InEven2Ideal.main_arg0) = m ((c.tc : Thread Cert.InEven2Ideal.nD Cert.InEven2Ideal.τ).loc Cert.InEven2Ideal.main_arg0)
          ∧ r.2.mem ((c.tc : Thread Cert.InEven2Ideal.nD Cert.InEven2Ideal.τ).loc Cert.InEven2Ideal.main_arg1) = m ((c.tc : Thread Cert.InEven2Ideal.nD Cert.InEven2Ideal.τ).loc Cert.InEven2Ideal.main_arg1)
          ∧ r.2.mem ((c.tc : Thread Cert.InEven2Ideal.nD Cert.InEven2Ideal.τ).loc Cert.InEven2Ideal.main_arg2) = m ((c.tc : Thread Cert.InEven2Ideal.nD Cert.InEven2Ideal.τ).loc Cert.InEven2Ideal.main_arg2))
      ∧ θ_run (Cert.InEven2RefIdeal.defs (F := Ideal)) (onTc (τ := Cert.InEven2RefIdeal.τ) (Cert.InEven2RefIdeal.main (F := Ideal))) ⟨m', fun _ => 0, g'⟩ (fun r => ∀ c : Dev Cert.InEven2RefIdeal.nD,
          r.2.mem ((c.tc : Thread Cert.InEven2RefIdeal.nD Cert.InEven2RefIdeal.τ).loc Cert.InEven2RefIdeal.main_v18) = v0 c
          ∧ r.2.mem ((c.tc : Thread Cert.InEven2RefIdeal.nD Cert.InEven2RefIdeal.τ).loc Cert.InEven2RefIdeal.main_v19) = v1 c
          ∧ r.2.mem ((c.tc : Thread Cert.InEven2RefIdeal.nD Cert.InEven2RefIdeal.τ).loc Cert.InEven2RefIdeal.main_v20) = v2 c
          ∧ r.2.mem ((c.tc : Thread Cert.InEven2RefIdeal.nD Cert.InEven2RefIdeal.τ).loc Cert.InEven2RefIdeal.main_v22) = v3 c
          ∧ r.2.mem ((c.tc : Thread Cert.InEven2RefIdeal.nD Cert.InEven2RefIdeal.τ).loc Cert.InEven2RefIdeal.main_arg0) = m' ((c.tc : Thread Cert.InEven2RefIdeal.nD Cert.InEven2RefIdeal.τ).loc Cert.InEven2RefIdeal.main_arg0)
          ∧ r.2.mem ((c.tc : Thread Cert.InEven2RefIdeal.nD Cert.InEven2RefIdeal.τ).loc Cert.InEven2RefIdeal.main_arg1) = m' ((c.tc : Thread Cert.InEven2RefIdeal.nD Cert.InEven2RefIdeal.τ).loc Cert.InEven2RefIdeal.main_arg1)
          ∧ r.2.mem ((c.tc : Thread Cert.InEven2RefIdeal.nD Cert.InEven2RefIdeal.τ).loc Cert.InEven2RefIdeal.main_arg2) = m' ((c.tc : Thread Cert.InEven2RefIdeal.nD Cert.InEven2RefIdeal.τ).loc Cert.InEven2RefIdeal.main_arg2))

def preserves_InSample0_InSample0Ideal : Prop :=
  True

def algebraic_InSample0Ideal_InSample0RefIdeal [hInSample0Ideal : Cert.InSample0Ideal.Facts] [hInSample0RefIdeal : Cert.InSample0RefIdeal.Facts] : Prop :=
  ∀ (m : (ℓ : Loc Cert.InSample0Ideal.nD Cert.InSample0Ideal.τ Cert.InSample0Ideal.sig) → Buf (Elt Ideal) ℓ) (g : Dev Cert.InSample0Ideal.nD → PrngReg)
    (m' : (ℓ : Loc Cert.InSample0RefIdeal.nD Cert.InSample0RefIdeal.τ Cert.InSample0RefIdeal.sig) → Buf (Elt Ideal) ℓ) (g' : Dev Cert.InSample0RefIdeal.nD → PrngReg), Pre_InSample0Ideal m →
    (∀ c : Dev Cert.InSample0Ideal.nD,
      m' ((c.tc : Thread Cert.InSample0RefIdeal.nD Cert.InSample0RefIdeal.τ).loc Cert.InSample0RefIdeal.main_arg0) = m ((c.tc : Thread Cert.InSample0Ideal.nD Cert.InSample0Ideal.τ).loc Cert.InSample0Ideal.main_arg0)
      ∧ m' ((c.tc : Thread Cert.InSample0RefIdeal.nD Cert.InSample0RefIdeal.τ).loc Cert.InSample0RefIdeal.main_arg1) = m ((c.tc : Thread Cert.InSample0Ideal.nD Cert.InSample0Ideal.τ).loc Cert.InSample0Ideal.main_arg1)
      ∧ m' ((c.tc : Thread Cert.InSample0RefIdeal.nD Cert.InSample0RefIdeal.τ).loc Cert.InSample0RefIdeal.main_arg2) = m ((c.tc : Thread Cert.InSample0Ideal.nD Cert.InSample0Ideal.τ).loc Cert.InSample0Ideal.main_arg2)) →
    ∃ (v0 : (c : Dev Cert.InSample0Ideal.nD) → Buf (Elt Ideal) ((c.tc : Thread Cert.InSample0Ideal.nD Cert.InSample0Ideal.τ).loc Cert.InSample0Ideal.main_v4)) (v1 : (c : Dev Cert.InSample0Ideal.nD) → Buf (Elt Ideal) ((c.tc : Thread Cert.InSample0Ideal.nD Cert.InSample0Ideal.τ).loc Cert.InSample0Ideal.main_v6)) (v2 : (c : Dev Cert.InSample0Ideal.nD) → Buf (Elt Ideal) ((c.tc : Thread Cert.InSample0Ideal.nD Cert.InSample0Ideal.τ).loc Cert.InSample0Ideal.main_v8)) (v3 : (c : Dev Cert.InSample0Ideal.nD) → Buf (Elt Ideal) ((c.tc : Thread Cert.InSample0Ideal.nD Cert.InSample0Ideal.τ).loc Cert.InSample0Ideal.main_v23)),
      θ_run (Cert.InSample0Ideal.defs (F := Ideal)) (onTc (τ := Cert.InSample0Ideal.τ) (Cert.InSample0Ideal.main (F := Ideal))) ⟨m, fun _ => 0, g⟩ (fun r => ∀ c : Dev Cert.InSample0Ideal.nD,
          r.2.mem ((c.tc : Thread Cert.InSample0Ideal.nD Cert.InSample0Ideal.τ).loc Cert.InSample0Ideal.main_v4) = v0 c
          ∧ r.2.mem ((c.tc : Thread Cert.InSample0Ideal.nD Cert.InSample0Ideal.τ).loc Cert.InSample0Ideal.main_v6) = v1 c
          ∧ r.2.mem ((c.tc : Thread Cert.InSample0Ideal.nD Cert.InSample0Ideal.τ).loc Cert.InSample0Ideal.main_v8) = v2 c
          ∧ r.2.mem ((c.tc : Thread Cert.InSample0Ideal.nD Cert.InSample0Ideal.τ).loc Cert.InSample0Ideal.main_v23) = v3 c
          ∧ r.2.mem ((c.tc : Thread Cert.InSample0Ideal.nD Cert.InSample0Ideal.τ).loc Cert.InSample0Ideal.main_arg0) = m ((c.tc : Thread Cert.InSample0Ideal.nD Cert.InSample0Ideal.τ).loc Cert.InSample0Ideal.main_arg0)
          ∧ r.2.mem ((c.tc : Thread Cert.InSample0Ideal.nD Cert.InSample0Ideal.τ).loc Cert.InSample0Ideal.main_arg1) = m ((c.tc : Thread Cert.InSample0Ideal.nD Cert.InSample0Ideal.τ).loc Cert.InSample0Ideal.main_arg1)
          ∧ r.2.mem ((c.tc : Thread Cert.InSample0Ideal.nD Cert.InSample0Ideal.τ).loc Cert.InSample0Ideal.main_arg2) = m ((c.tc : Thread Cert.InSample0Ideal.nD Cert.InSample0Ideal.τ).loc Cert.InSample0Ideal.main_arg2))
      ∧ θ_run (Cert.InSample0RefIdeal.defs (F := Ideal)) (onTc (τ := Cert.InSample0RefIdeal.τ) (Cert.InSample0RefIdeal.main (F := Ideal))) ⟨m', fun _ => 0, g'⟩ (fun r => ∀ c : Dev Cert.InSample0RefIdeal.nD,
          r.2.mem ((c.tc : Thread Cert.InSample0RefIdeal.nD Cert.InSample0RefIdeal.τ).loc Cert.InSample0RefIdeal.main_v18) = v0 c
          ∧ r.2.mem ((c.tc : Thread Cert.InSample0RefIdeal.nD Cert.InSample0RefIdeal.τ).loc Cert.InSample0RefIdeal.main_v15) = v1 c
          ∧ r.2.mem ((c.tc : Thread Cert.InSample0RefIdeal.nD Cert.InSample0RefIdeal.τ).loc Cert.InSample0RefIdeal.main_v17) = v2 c
          ∧ r.2.mem ((c.tc : Thread Cert.InSample0RefIdeal.nD Cert.InSample0RefIdeal.τ).loc Cert.InSample0RefIdeal.main_v19) = v3 c
          ∧ r.2.mem ((c.tc : Thread Cert.InSample0RefIdeal.nD Cert.InSample0RefIdeal.τ).loc Cert.InSample0RefIdeal.main_arg0) = m' ((c.tc : Thread Cert.InSample0RefIdeal.nD Cert.InSample0RefIdeal.τ).loc Cert.InSample0RefIdeal.main_arg0)
          ∧ r.2.mem ((c.tc : Thread Cert.InSample0RefIdeal.nD Cert.InSample0RefIdeal.τ).loc Cert.InSample0RefIdeal.main_arg1) = m' ((c.tc : Thread Cert.InSample0RefIdeal.nD Cert.InSample0RefIdeal.τ).loc Cert.InSample0RefIdeal.main_arg1)
          ∧ r.2.mem ((c.tc : Thread Cert.InSample0RefIdeal.nD Cert.InSample0RefIdeal.τ).loc Cert.InSample0RefIdeal.main_arg2) = m' ((c.tc : Thread Cert.InSample0RefIdeal.nD Cert.InSample0RefIdeal.τ).loc Cert.InSample0RefIdeal.main_arg2))

def preserves_InSample1_InSample1Ideal : Prop :=
  True

def algebraic_InSample1Ideal_InSample1RefIdeal [hInSample1Ideal : Cert.InSample1Ideal.Facts] [hInSample1RefIdeal : Cert.InSample1RefIdeal.Facts] : Prop :=
  ∀ (m : (ℓ : Loc Cert.InSample1Ideal.nD Cert.InSample1Ideal.τ Cert.InSample1Ideal.sig) → Buf (Elt Ideal) ℓ) (g : Dev Cert.InSample1Ideal.nD → PrngReg)
    (m' : (ℓ : Loc Cert.InSample1RefIdeal.nD Cert.InSample1RefIdeal.τ Cert.InSample1RefIdeal.sig) → Buf (Elt Ideal) ℓ) (g' : Dev Cert.InSample1RefIdeal.nD → PrngReg), Pre_InSample1Ideal m →
    (∀ c : Dev Cert.InSample1Ideal.nD,
      m' ((c.tc : Thread Cert.InSample1RefIdeal.nD Cert.InSample1RefIdeal.τ).loc Cert.InSample1RefIdeal.main_arg0) = m ((c.tc : Thread Cert.InSample1Ideal.nD Cert.InSample1Ideal.τ).loc Cert.InSample1Ideal.main_arg0)
      ∧ m' ((c.tc : Thread Cert.InSample1RefIdeal.nD Cert.InSample1RefIdeal.τ).loc Cert.InSample1RefIdeal.main_arg1) = m ((c.tc : Thread Cert.InSample1Ideal.nD Cert.InSample1Ideal.τ).loc Cert.InSample1Ideal.main_arg1)
      ∧ m' ((c.tc : Thread Cert.InSample1RefIdeal.nD Cert.InSample1RefIdeal.τ).loc Cert.InSample1RefIdeal.main_arg2) = m ((c.tc : Thread Cert.InSample1Ideal.nD Cert.InSample1Ideal.τ).loc Cert.InSample1Ideal.main_arg2)
      ∧ m' ((c.tc : Thread Cert.InSample1RefIdeal.nD Cert.InSample1RefIdeal.τ).loc Cert.InSample1RefIdeal.main_arg3) = m ((c.tc : Thread Cert.InSample1Ideal.nD Cert.InSample1Ideal.τ).loc Cert.InSample1Ideal.main_arg3)) →
    ∃ (v0 : (c : Dev Cert.InSample1Ideal.nD) → Buf (Elt Ideal) ((c.tc : Thread Cert.InSample1Ideal.nD Cert.InSample1Ideal.τ).loc Cert.InSample1Ideal.main_v4)) (v1 : (c : Dev Cert.InSample1Ideal.nD) → Buf (Elt Ideal) ((c.tc : Thread Cert.InSample1Ideal.nD Cert.InSample1Ideal.τ).loc Cert.InSample1Ideal.main_v8)),
      θ_run (Cert.InSample1Ideal.defs (F := Ideal)) (onTc (τ := Cert.InSample1Ideal.τ) (Cert.InSample1Ideal.main (F := Ideal))) ⟨m, fun _ => 0, g⟩ (fun r => ∀ c : Dev Cert.InSample1Ideal.nD,
          r.2.mem ((c.tc : Thread Cert.InSample1Ideal.nD Cert.InSample1Ideal.τ).loc Cert.InSample1Ideal.main_v4) = v0 c
          ∧ r.2.mem ((c.tc : Thread Cert.InSample1Ideal.nD Cert.InSample1Ideal.τ).loc Cert.InSample1Ideal.main_v8) = v1 c
          ∧ r.2.mem ((c.tc : Thread Cert.InSample1Ideal.nD Cert.InSample1Ideal.τ).loc Cert.InSample1Ideal.main_arg0) = m ((c.tc : Thread Cert.InSample1Ideal.nD Cert.InSample1Ideal.τ).loc Cert.InSample1Ideal.main_arg0)
          ∧ r.2.mem ((c.tc : Thread Cert.InSample1Ideal.nD Cert.InSample1Ideal.τ).loc Cert.InSample1Ideal.main_arg1) = m ((c.tc : Thread Cert.InSample1Ideal.nD Cert.InSample1Ideal.τ).loc Cert.InSample1Ideal.main_arg1)
          ∧ r.2.mem ((c.tc : Thread Cert.InSample1Ideal.nD Cert.InSample1Ideal.τ).loc Cert.InSample1Ideal.main_arg2) = m ((c.tc : Thread Cert.InSample1Ideal.nD Cert.InSample1Ideal.τ).loc Cert.InSample1Ideal.main_arg2)
          ∧ r.2.mem ((c.tc : Thread Cert.InSample1Ideal.nD Cert.InSample1Ideal.τ).loc Cert.InSample1Ideal.main_arg3) = m ((c.tc : Thread Cert.InSample1Ideal.nD Cert.InSample1Ideal.τ).loc Cert.InSample1Ideal.main_arg3))
      ∧ θ_run (Cert.InSample1RefIdeal.defs (F := Ideal)) (onTc (τ := Cert.InSample1RefIdeal.τ) (Cert.InSample1RefIdeal.main (F := Ideal))) ⟨m', fun _ => 0, g'⟩ (fun r => ∀ c : Dev Cert.InSample1RefIdeal.nD,
          r.2.mem ((c.tc : Thread Cert.InSample1RefIdeal.nD Cert.InSample1RefIdeal.τ).loc Cert.InSample1RefIdeal.main_v16) = v0 c
          ∧ r.2.mem ((c.tc : Thread Cert.InSample1RefIdeal.nD Cert.InSample1RefIdeal.τ).loc Cert.InSample1RefIdeal.main_v17) = v1 c
          ∧ r.2.mem ((c.tc : Thread Cert.InSample1RefIdeal.nD Cert.InSample1RefIdeal.τ).loc Cert.InSample1RefIdeal.main_arg0) = m' ((c.tc : Thread Cert.InSample1RefIdeal.nD Cert.InSample1RefIdeal.τ).loc Cert.InSample1RefIdeal.main_arg0)
          ∧ r.2.mem ((c.tc : Thread Cert.InSample1RefIdeal.nD Cert.InSample1RefIdeal.τ).loc Cert.InSample1RefIdeal.main_arg1) = m' ((c.tc : Thread Cert.InSample1RefIdeal.nD Cert.InSample1RefIdeal.τ).loc Cert.InSample1RefIdeal.main_arg1)
          ∧ r.2.mem ((c.tc : Thread Cert.InSample1RefIdeal.nD Cert.InSample1RefIdeal.τ).loc Cert.InSample1RefIdeal.main_arg2) = m' ((c.tc : Thread Cert.InSample1RefIdeal.nD Cert.InSample1RefIdeal.τ).loc Cert.InSample1RefIdeal.main_arg2)
          ∧ r.2.mem ((c.tc : Thread Cert.InSample1RefIdeal.nD Cert.InSample1RefIdeal.τ).loc Cert.InSample1RefIdeal.main_arg3) = m' ((c.tc : Thread Cert.InSample1RefIdeal.nD Cert.InSample1RefIdeal.τ).loc Cert.InSample1RefIdeal.main_arg3))

def preserves_InSample2_InSample2Ideal : Prop :=
  True

def algebraic_InSample2Ideal_InSample2RefIdeal [hInSample2Ideal : Cert.InSample2Ideal.Facts] [hInSample2RefIdeal : Cert.InSample2RefIdeal.Facts] : Prop :=
  ∀ (m : (ℓ : Loc Cert.InSample2Ideal.nD Cert.InSample2Ideal.τ Cert.InSample2Ideal.sig) → Buf (Elt Ideal) ℓ) (g : Dev Cert.InSample2Ideal.nD → PrngReg)
    (m' : (ℓ : Loc Cert.InSample2RefIdeal.nD Cert.InSample2RefIdeal.τ Cert.InSample2RefIdeal.sig) → Buf (Elt Ideal) ℓ) (g' : Dev Cert.InSample2RefIdeal.nD → PrngReg), Pre_InSample2Ideal m →
    (∀ c : Dev Cert.InSample2Ideal.nD,
      m' ((c.tc : Thread Cert.InSample2RefIdeal.nD Cert.InSample2RefIdeal.τ).loc Cert.InSample2RefIdeal.main_arg0) = m ((c.tc : Thread Cert.InSample2Ideal.nD Cert.InSample2Ideal.τ).loc Cert.InSample2Ideal.main_arg0)
      ∧ m' ((c.tc : Thread Cert.InSample2RefIdeal.nD Cert.InSample2RefIdeal.τ).loc Cert.InSample2RefIdeal.main_arg1) = m ((c.tc : Thread Cert.InSample2Ideal.nD Cert.InSample2Ideal.τ).loc Cert.InSample2Ideal.main_arg1)
      ∧ m' ((c.tc : Thread Cert.InSample2RefIdeal.nD Cert.InSample2RefIdeal.τ).loc Cert.InSample2RefIdeal.main_arg2) = m ((c.tc : Thread Cert.InSample2Ideal.nD Cert.InSample2Ideal.τ).loc Cert.InSample2Ideal.main_arg2)) →
    ∃ (v0 : (c : Dev Cert.InSample2Ideal.nD) → Buf (Elt Ideal) ((c.tc : Thread Cert.InSample2Ideal.nD Cert.InSample2Ideal.τ).loc Cert.InSample2Ideal.main_v4)) (v1 : (c : Dev Cert.InSample2Ideal.nD) → Buf (Elt Ideal) ((c.tc : Thread Cert.InSample2Ideal.nD Cert.InSample2Ideal.τ).loc Cert.InSample2Ideal.main_v6)) (v2 : (c : Dev Cert.InSample2Ideal.nD) → Buf (Elt Ideal) ((c.tc : Thread Cert.InSample2Ideal.nD Cert.InSample2Ideal.τ).loc Cert.InSample2Ideal.main_v8)) (v3 : (c : Dev Cert.InSample2Ideal.nD) → Buf (Elt Ideal) ((c.tc : Thread Cert.InSample2Ideal.nD Cert.InSample2Ideal.τ).loc Cert.InSample2Ideal.main_v23)),
      θ_run (Cert.InSample2Ideal.defs (F := Ideal)) (onTc (τ := Cert.InSample2Ideal.τ) (Cert.InSample2Ideal.main (F := Ideal))) ⟨m, fun _ => 0, g⟩ (fun r => ∀ c : Dev Cert.InSample2Ideal.nD,
          r.2.mem ((c.tc : Thread Cert.InSample2Ideal.nD Cert.InSample2Ideal.τ).loc Cert.InSample2Ideal.main_v4) = v0 c
          ∧ r.2.mem ((c.tc : Thread Cert.InSample2Ideal.nD Cert.InSample2Ideal.τ).loc Cert.InSample2Ideal.main_v6) = v1 c
          ∧ r.2.mem ((c.tc : Thread Cert.InSample2Ideal.nD Cert.InSample2Ideal.τ).loc Cert.InSample2Ideal.main_v8) = v2 c
          ∧ r.2.mem ((c.tc : Thread Cert.InSample2Ideal.nD Cert.InSample2Ideal.τ).loc Cert.InSample2Ideal.main_v23) = v3 c
          ∧ r.2.mem ((c.tc : Thread Cert.InSample2Ideal.nD Cert.InSample2Ideal.τ).loc Cert.InSample2Ideal.main_arg0) = m ((c.tc : Thread Cert.InSample2Ideal.nD Cert.InSample2Ideal.τ).loc Cert.InSample2Ideal.main_arg0)
          ∧ r.2.mem ((c.tc : Thread Cert.InSample2Ideal.nD Cert.InSample2Ideal.τ).loc Cert.InSample2Ideal.main_arg1) = m ((c.tc : Thread Cert.InSample2Ideal.nD Cert.InSample2Ideal.τ).loc Cert.InSample2Ideal.main_arg1)
          ∧ r.2.mem ((c.tc : Thread Cert.InSample2Ideal.nD Cert.InSample2Ideal.τ).loc Cert.InSample2Ideal.main_arg2) = m ((c.tc : Thread Cert.InSample2Ideal.nD Cert.InSample2Ideal.τ).loc Cert.InSample2Ideal.main_arg2))
      ∧ θ_run (Cert.InSample2RefIdeal.defs (F := Ideal)) (onTc (τ := Cert.InSample2RefIdeal.τ) (Cert.InSample2RefIdeal.main (F := Ideal))) ⟨m', fun _ => 0, g'⟩ (fun r => ∀ c : Dev Cert.InSample2RefIdeal.nD,
          r.2.mem ((c.tc : Thread Cert.InSample2RefIdeal.nD Cert.InSample2RefIdeal.τ).loc Cert.InSample2RefIdeal.main_v18) = v0 c
          ∧ r.2.mem ((c.tc : Thread Cert.InSample2RefIdeal.nD Cert.InSample2RefIdeal.τ).loc Cert.InSample2RefIdeal.main_v15) = v1 c
          ∧ r.2.mem ((c.tc : Thread Cert.InSample2RefIdeal.nD Cert.InSample2RefIdeal.τ).loc Cert.InSample2RefIdeal.main_v17) = v2 c
          ∧ r.2.mem ((c.tc : Thread Cert.InSample2RefIdeal.nD Cert.InSample2RefIdeal.τ).loc Cert.InSample2RefIdeal.main_v19) = v3 c
          ∧ r.2.mem ((c.tc : Thread Cert.InSample2RefIdeal.nD Cert.InSample2RefIdeal.τ).loc Cert.InSample2RefIdeal.main_arg0) = m' ((c.tc : Thread Cert.InSample2RefIdeal.nD Cert.InSample2RefIdeal.τ).loc Cert.InSample2RefIdeal.main_arg0)
          ∧ r.2.mem ((c.tc : Thread Cert.InSample2RefIdeal.nD Cert.InSample2RefIdeal.τ).loc Cert.InSample2RefIdeal.main_arg1) = m' ((c.tc : Thread Cert.InSample2RefIdeal.nD Cert.InSample2RefIdeal.τ).loc Cert.InSample2RefIdeal.main_arg1)
          ∧ r.2.mem ((c.tc : Thread Cert.InSample2RefIdeal.nD Cert.InSample2RefIdeal.τ).loc Cert.InSample2RefIdeal.main_arg2) = m' ((c.tc : Thread Cert.InSample2RefIdeal.nD Cert.InSample2RefIdeal.τ).loc Cert.InSample2RefIdeal.main_arg2))

def Claim : Prop :=
  ∃ (hKernel : Cert.Kernel.Facts) (hKernelIdeal : Cert.KernelIdeal.Facts) (hReferenceIdeal : Cert.ReferenceIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hOutGdn : Cert.OutGdn.Facts) (hOutGdnIdeal : Cert.OutGdnIdeal.Facts) (hOutGdnRefIdeal : Cert.OutGdnRefIdeal.Facts) (hInEven0 : Cert.InEven0.Facts) (hInEven0Ideal : Cert.InEven0Ideal.Facts) (hInEven0RefIdeal : Cert.InEven0RefIdeal.Facts) (hInEven2 : Cert.InEven2.Facts) (hInEven2Ideal : Cert.InEven2Ideal.Facts) (hInEven2RefIdeal : Cert.InEven2RefIdeal.Facts) (hInSample0 : Cert.InSample0.Facts) (hInSample0Ideal : Cert.InSample0Ideal.Facts) (hInSample0RefIdeal : Cert.InSample0RefIdeal.Facts) (hInSample1 : Cert.InSample1.Facts) (hInSample1Ideal : Cert.InSample1Ideal.Facts) (hInSample1RefIdeal : Cert.InSample1RefIdeal.Facts) (hInSample2 : Cert.InSample2.Facts) (hInSample2Ideal : Cert.InSample2Ideal.Facts) (hInSample2RefIdeal : Cert.InSample2RefIdeal.Facts),
    quiescent_Kernel (hKernel := hKernel)
    ∧ quiescent_KernelIdeal (hKernelIdeal := hKernelIdeal)
    ∧ quiescent_ReferenceIdeal (hReferenceIdeal := hReferenceIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutGdn (hOutGdn := hOutGdn)
    ∧ quiescent_OutGdnIdeal (hOutGdnIdeal := hOutGdnIdeal)
    ∧ quiescent_OutGdnRefIdeal (hOutGdnRefIdeal := hOutGdnRefIdeal)
    ∧ quiescent_InEven0 (hInEven0 := hInEven0)
    ∧ quiescent_InEven0Ideal (hInEven0Ideal := hInEven0Ideal)
    ∧ quiescent_InEven0RefIdeal (hInEven0RefIdeal := hInEven0RefIdeal)
    ∧ quiescent_InEven2 (hInEven2 := hInEven2)
    ∧ quiescent_InEven2Ideal (hInEven2Ideal := hInEven2Ideal)
    ∧ quiescent_InEven2RefIdeal (hInEven2RefIdeal := hInEven2RefIdeal)
    ∧ quiescent_InSample0 (hInSample0 := hInSample0)
    ∧ quiescent_InSample0Ideal (hInSample0Ideal := hInSample0Ideal)
    ∧ quiescent_InSample0RefIdeal (hInSample0RefIdeal := hInSample0RefIdeal)
    ∧ quiescent_InSample1 (hInSample1 := hInSample1)
    ∧ quiescent_InSample1Ideal (hInSample1Ideal := hInSample1Ideal)
    ∧ quiescent_InSample1RefIdeal (hInSample1RefIdeal := hInSample1RefIdeal)
    ∧ quiescent_InSample2 (hInSample2 := hInSample2)
    ∧ quiescent_InSample2Ideal (hInSample2Ideal := hInSample2Ideal)
    ∧ quiescent_InSample2RefIdeal (hInSample2RefIdeal := hInSample2RefIdeal)
    ∧ preserves_Kernel_KernelIdeal
    ∧ algebraic_KernelIdeal_ReferenceIdeal (hKernelIdeal := hKernelIdeal) (hReferenceIdeal := hReferenceIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_OutGdn_OutGdnIdeal
    ∧ algebraic_OutGdnIdeal_OutGdnRefIdeal (hOutGdnIdeal := hOutGdnIdeal) (hOutGdnRefIdeal := hOutGdnRefIdeal)
    ∧ preserves_InEven0_InEven0Ideal
    ∧ algebraic_InEven0Ideal_InEven0RefIdeal (hInEven0Ideal := hInEven0Ideal) (hInEven0RefIdeal := hInEven0RefIdeal)
    ∧ preserves_InEven2_InEven2Ideal
    ∧ algebraic_InEven2Ideal_InEven2RefIdeal (hInEven2Ideal := hInEven2Ideal) (hInEven2RefIdeal := hInEven2RefIdeal)
    ∧ preserves_InSample0_InSample0Ideal
    ∧ algebraic_InSample0Ideal_InSample0RefIdeal (hInSample0Ideal := hInSample0Ideal) (hInSample0RefIdeal := hInSample0RefIdeal)
    ∧ preserves_InSample1_InSample1Ideal
    ∧ algebraic_InSample1Ideal_InSample1RefIdeal (hInSample1Ideal := hInSample1Ideal) (hInSample1RefIdeal := hInSample1RefIdeal)
    ∧ preserves_InSample2_InSample2Ideal
    ∧ algebraic_InSample2Ideal_InSample2RefIdeal (hInSample2Ideal := hInSample2Ideal) (hInSample2RefIdeal := hInSample2RefIdeal)
-- ==== Kernel.lean ====
abbrev S4x2048x16x64 : Shape := ⟨4, ![4, 2048, 16, 64]⟩
abbrev S4x16x64x64 : Shape := ⟨4, ![4, 16, 64, 64]⟩
abbrev S1x4x16x64x2x32 : Shape := ⟨6, ![1, 4, 16, 64, 2, 32]⟩
abbrev S1x64x32x2x4x16 : Shape := ⟨6, ![1, 64, 32, 2, 4, 16]⟩
abbrev S1x64x32x128 : Shape := ⟨4, ![1, 64, 32, 128]⟩
abbrev S1x4x2048x16x2x32 : Shape := ⟨6, ![1, 4, 2048, 16, 2, 32]⟩
abbrev S1x2048x32x2x4x16 : Shape := ⟨6, ![1, 2048, 32, 2, 4, 16]⟩
abbrev S1x2048x32x128 : Shape := ⟨4, ![1, 2048, 32, 128]⟩
abbrev S1x4x2048x16x64 : Shape := ⟨5, ![1, 4, 2048, 16, 64]⟩
abbrev S1x2048x64x4x16 : Shape := ⟨5, ![1, 2048, 64, 4, 16]⟩
abbrev S1x2048x64x64 : Shape := ⟨4, ![1, 2048, 64, 64]⟩
abbrev S1x2048x64x128 : Shape := ⟨4, ![1, 2048, 64, 128]⟩
abbrev S1x64x64x128 : Shape := ⟨4, ![1, 64, 64, 128]⟩
abbrev S64x32x128 : Shape := ⟨3, ![64, 32, 128]⟩
abbrev S1x1x32x128 : Shape := ⟨4, ![1, 1, 32, 128]⟩
abbrev S32x128 : Shape := ⟨2, ![32, 128]⟩
abbrev S1x32x128 : Shape := ⟨3, ![1, 32, 128]⟩
abbrev S1x1x1x128 : Shape := ⟨4, ![1, 1, 1, 128]⟩
abbrev S1x128 : Shape := ⟨2, ![1, 128]⟩
abbrev S128 : Shape := ⟨1, ![128]⟩

abbrev nBuf : Space → Nat
  | .hbm => 38
  | .vmem => 17
  | .smem => 0
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S4x2048x16x64, .f32⟩
  | .hbm, ⟨4, _⟩ => ⟨S4x2048x16x64, .f32⟩
  | .hbm, ⟨5, _⟩ => ⟨S4x2048x16x64, .f32⟩
  | .hbm, ⟨6, _⟩ => ⟨S4x16x64x64, .f32⟩
  | .hbm, ⟨7, _⟩ => ⟨S1x4x16x64x2x32, .f32⟩
  | .hbm, ⟨8, _⟩ => ⟨S1x64x32x2x4x16, .f32⟩
  | .hbm, ⟨9, _⟩ => ⟨S1x64x32x128, .f32⟩
  | .hbm, ⟨10, _⟩ => ⟨S1x4x2048x16x2x32, .f32⟩
  | .hbm, ⟨11, _⟩ => ⟨S1x2048x32x2x4x16, .f32⟩
  | .hbm, ⟨12, _⟩ => ⟨S1x2048x32x128, .f32⟩
  | .hbm, ⟨13, _⟩ => ⟨S1x4x2048x16x2x32, .f32⟩
  | .hbm, ⟨14, _⟩ => ⟨S1x2048x32x2x4x16, .f32⟩
  | .hbm, ⟨15, _⟩ => ⟨S1x2048x32x128, .f32⟩
  | .hbm, ⟨16, _⟩ => ⟨S1x4x2048x16x2x32, .f32⟩
  | .hbm, ⟨17, _⟩ => ⟨S1x2048x32x2x4x16, .f32⟩
  | .hbm, ⟨18, _⟩ => ⟨S1x2048x32x128, .f32⟩
  | .hbm, ⟨19, _⟩ => ⟨S1x4x2048x16x2x32, .f32⟩
  | .hbm, ⟨20, _⟩ => ⟨S1x2048x32x2x4x16, .f32⟩
  | .hbm, ⟨21, _⟩ => ⟨S1x2048x32x128, .f32⟩
  | .hbm, ⟨22, _⟩ => ⟨S1x4x2048x16x2x32, .f32⟩
  | .hbm, ⟨23, _⟩ => ⟨S1x2048x32x2x4x16, .f32⟩
  | .hbm, ⟨24, _⟩ => ⟨S1x2048x32x128, .f32⟩
  | .hbm, ⟨25, _⟩ => ⟨S1x4x2048x16x64, .f32⟩
  | .hbm, ⟨26, _⟩ => ⟨S1x2048x64x4x16, .f32⟩
  | .hbm, ⟨27, _⟩ => ⟨S1x2048x64x64, .f32⟩
  | .hbm, ⟨28, _⟩ => ⟨S1x2048x64x128, .f32⟩
  | .hbm, ⟨29, _⟩ => ⟨S1x2048x64x128, .f32⟩
  | .hbm, ⟨30, _⟩ => ⟨S1x64x32x128, .f32⟩
  | .hbm, ⟨31, _⟩ => ⟨S1x2048x64x64, .f32⟩
  | .hbm, ⟨32, _⟩ => ⟨S1x2048x64x4x16, .f32⟩
  | .hbm, ⟨33, _⟩ => ⟨S1x4x2048x16x64, .f32⟩
  | .hbm, ⟨34, _⟩ => ⟨S4x2048x16x64, .f32⟩
  | .hbm, ⟨35, _⟩ => ⟨S1x64x32x2x4x16, .f32⟩
  | .hbm, ⟨36, _⟩ => ⟨S1x4x16x64x2x32, .f32⟩
  | .hbm, ⟨37, _⟩ => ⟨S4x16x64x64, .f32⟩
  | .local _ .vmem, ⟨0, _⟩ => ⟨S1x64x32x128, .f32⟩
  | .local _ .vmem, ⟨1, _⟩ => ⟨S1x64x32x128, .f32⟩
  | .local _ .vmem, ⟨2, _⟩ => ⟨S1x64x32x128, .f32⟩
  | .local _ .vmem, ⟨3, _⟩ => ⟨S1x64x32x128, .f32⟩
  | .local _ .vmem, ⟨4, _⟩ => ⟨S1x64x32x128, .f32⟩
  | .local _ .vmem, ⟨5, _⟩ => ⟨S1x64x32x128, .f32⟩
  | .local _ .vmem, ⟨6, _⟩ => ⟨S1x64x32x128, .f32⟩
  | .local _ .vmem, ⟨7, _⟩ => ⟨S1x64x32x128, .f32⟩
  | .local _ .vmem, ⟨8, _⟩ => ⟨S1x64x32x128, .f32⟩
  | .local _ .vmem, ⟨9, _⟩ => ⟨S1x64x32x128, .f32⟩
  | .local _ .vmem, ⟨10, _⟩ => ⟨S1x64x64x128, .f32⟩
  | .local _ .vmem, ⟨11, _⟩ => ⟨S1x64x64x128, .f32⟩
  | .local _ .vmem, ⟨12, _⟩ => ⟨S1x64x32x128, .f32⟩
  | .local _ .vmem, ⟨13, _⟩ => ⟨S1x64x64x128, .f32⟩
  | .local _ .vmem, ⟨14, _⟩ => ⟨S1x64x64x128, .f32⟩
  | .local _ .vmem, ⟨15, _⟩ => ⟨S1x64x32x128, .f32⟩
  | .local _ .vmem, ⟨16, _⟩ => ⟨S64x32x128, .f32⟩
  | _, _ => ⟨S4x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32_1 : BitVec 32 := 0#32
  let c64_i32 : BitVec 32 := 64#32
  let v3 : BitVec 32 := Scalar.addi c0_i32_1 c64_i32
  let c1_i32 : BitVec 32 := 1#32
  ⟨c0_i32_1, v3, c1_i32⟩
def k0_off1 (k0_t1 : Fin k0_t1_loop.trips) : Fin 4 → Nat :=
  let c0 : Index := 0#32
  let c0_i32_1 : BitVec 32 := 0#32
  let c1_i32 : BitVec 32 := 1#32
  let arg12 : BitVec 32 := Scf.iv c0_i32_1 c1_i32 k0_t1
  let v7 : Index := Scalar.indexCast arg12
  let c0_4 : Index := 0#32
  let c0_5 : Index := 0#32
  ![0, v7.toNat, 0, 0]
def k0_off2 (k0_t1 : Fin k0_t1_loop.trips) : Fin 4 → Nat :=
  let c0_21 : Index := 0#32
  let c0_i32_1 : BitVec 32 := 0#32
  let c1_i32 : BitVec 32 := 1#32
  let arg12 : BitVec 32 := Scf.iv c0_i32_1 c1_i32 k0_t1
  let v24 : Index := Scalar.indexCast arg12
  let c0_22 : Index := 0#32
  let c0_23 : Index := 0#32
  ![0, v24.toNat, 0, 0]
def k0_off3 (k0_t1 : Fin k0_t1_loop.trips) : Fin 4 → Nat :=
  let c0_36 : Index := 0#32
  let c0_i32_1 : BitVec 32 := 0#32
  let c1_i32 : BitVec 32 := 1#32
  let arg12 : BitVec 32 := Scf.iv c0_i32_1 c1_i32 k0_t1
  let v55 : Index := Scalar.indexCast arg12
  let c1_37 : Index := 1#32
  let c0_38 : Index := 0#32
  ![0, v55.toNat, 1, 0]
def k0_off4 (k0_t1 : Fin k0_t1_loop.trips) : Fin 4 → Nat :=
  let c0_52 : Index := 0#32
  let c0_i32_1 : BitVec 32 := 0#32
  let c1_i32 : BitVec 32 := 1#32
  let arg12 : BitVec 32 := Scf.iv c0_i32_1 c1_i32 k0_t1
  let v86 : Index := Scalar.indexCast arg12
  let c2_53 : Index := 2#32
  let c0_54 : Index := 0#32
  ![0, v86.toNat, 2, 0]
def k0_off5 (k0_t1 : Fin k0_t1_loop.trips) : Fin 4 → Nat :=
  let c0_68 : Index := 0#32
  let c0_i32_1 : BitVec 32 := 0#32
  let c1_i32 : BitVec 32 := 1#32
  let arg12 : BitVec 32 := Scf.iv c0_i32_1 c1_i32 k0_t1
  let v117 : Index := Scalar.indexCast arg12
  let c3_69 : Index := 3#32
  let c0_70 : Index := 0#32
  ![0, v117.toNat, 3, 0]
def k0_off6 (k0_t1 : Fin k0_t1_loop.trips) : Fin 4 → Nat :=
  let c0_84 : Index := 0#32
  let c0_i32_1 : BitVec 32 := 0#32
  let c1_i32 : BitVec 32 := 1#32
  let arg12 : BitVec 32 := Scf.iv c0_i32_1 c1_i32 k0_t1
  let v148 : Index := Scalar.indexCast arg12
  let c4_85 : Index := 4#32
  let c0_86 : Index := 0#32
  ![0, v148.toNat, 4, 0]
def k0_off7 (k0_t1 : Fin k0_t1_loop.trips) : Fin 4 → Nat :=
  let c0_100 : Index := 0#32
  let c0_i32_1 : BitVec 32 := 0#32
  let c1_i32 : BitVec 32 := 1#32
  let arg12 : BitVec 32 := Scf.iv c0_i32_1 c1_i32 k0_t1
  let v179 : Index := Scalar.indexCast arg12
  let c5_101 : Index := 5#32
  let c0_102 : Index := 0#32
  ![0, v179.toNat, 5, 0]
def k0_off8 (k0_t1 : Fin k0_t1_loop.trips) : Fin 4 → Nat :=
  let c0_116 : Index := 0#32
  let c0_i32_1 : BitVec 32 := 0#32
  let c1_i32 : BitVec 32 := 1#32
  let arg12 : BitVec 32 := Scf.iv c0_i32_1 c1_i32 k0_t1
  let v210 : Index := Scalar.indexCast arg12
  let c6_117 : Index := 6#32
  let c0_118 : Index := 0#32
  ![0, v210.toNat, 6, 0]
def k0_off9 (k0_t1 : Fin k0_t1_loop.trips) : Fin 4 → Nat :=
  let c0_132 : Index := 0#32
  let c0_i32_1 : BitVec 32 := 0#32
  let c1_i32 : BitVec 32 := 1#32
  let arg12 : BitVec 32 := Scf.iv c0_i32_1 c1_i32 k0_t1
  let v241 : Index := Scalar.indexCast arg12
  let c7_133 : Index := 7#32
  let c0_134 : Index := 0#32
  ![0, v241.toNat, 7, 0]
def k0_off10 (k0_t1 : Fin k0_t1_loop.trips) : Fin 4 → Nat :=
  let c0_148 : Index := 0#32
  let c0_i32_1 : BitVec 32 := 0#32
  let c1_i32 : BitVec 32 := 1#32
  let arg12 : BitVec 32 := Scf.iv c0_i32_1 c1_i32 k0_t1
  let v272 : Index := Scalar.indexCast arg12
  let c8_149 : Index := 8#32
  let c0_150 : Index := 0#32
  ![0, v272.toNat, 8, 0]
def k0_off11 (k0_t1 : Fin k0_t1_loop.trips) : Fin 4 → Nat :=
  let c0_164 : Index := 0#32
  let c0_i32_1 : BitVec 32 := 0#32
  let c1_i32 : BitVec 32 := 1#32
  let arg12 : BitVec 32 := Scf.iv c0_i32_1 c1_i32 k0_t1
  let v303 : Index := Scalar.indexCast arg12
  let c9_165 : Index := 9#32
  let c0_166 : Index := 0#32
  ![0, v303.toNat, 9, 0]
def k0_off12 (k0_t1 : Fin k0_t1_loop.trips) : Fin 4 → Nat :=
  let c0_180 : Index := 0#32
  let c0_i32_1 : BitVec 32 := 0#32
  let c1_i32 : BitVec 32 := 1#32
  let arg12 : BitVec 32 := Scf.iv c0_i32_1 c1_i32 k0_t1
  let v334 : Index := Scalar.indexCast arg12
  let c10_181 : Index := 10#32
  let c0_182 : Index := 0#32
  ![0, v334.toNat, 10, 0]
def k0_off13 (k0_t1 : Fin k0_t1_loop.trips) : Fin 4 → Nat :=
  let c0_196 : Index := 0#32
  let c0_i32_1 : BitVec 32 := 0#32
  let c1_i32 : BitVec 32 := 1#32
  let arg12 : BitVec 32 := Scf.iv c0_i32_1 c1_i32 k0_t1
  let v365 : Index := Scalar.indexCast arg12
  let c11_197 : Index := 11#32
  let c0_198 : Index := 0#32
  ![0, v365.toNat, 11, 0]
def k0_off14 (k0_t1 : Fin k0_t1_loop.trips) : Fin 4 → Nat :=
  let c0_212 : Index := 0#32
  let c0_i32_1 : BitVec 32 := 0#32
  let c1_i32 : BitVec 32 := 1#32
  let arg12 : BitVec 32 := Scf.iv c0_i32_1 c1_i32 k0_t1
  let v396 : Index := Scalar.indexCast arg12
  let c12_213 : Index := 12#32
  let c0_214 : Index := 0#32
  ![0, v396.toNat, 12, 0]
def k0_off15 (k0_t1 : Fin k0_t1_loop.trips) : Fin 4 → Nat :=
  let c0_228 : Index := 0#32
  let c0_i32_1 : BitVec 32 := 0#32
  let c1_i32 : BitVec 32 := 1#32
  let arg12 : BitVec 32 := Scf.iv c0_i32_1 c1_i32 k0_t1
  let v427 : Index := Scalar.indexCast arg12
  let c13_229 : Index := 13#32
  let c0_230 : Index := 0#32
  ![0, v427.toNat, 13, 0]
def k0_off16 (k0_t1 : Fin k0_t1_loop.trips) : Fin 4 → Nat :=
  let c0_244 : Index := 0#32
  let c0_i32_1 : BitVec 32 := 0#32
  let c1_i32 : BitVec 32 := 1#32
  let arg12 : BitVec 32 := Scf.iv c0_i32_1 c1_i32 k0_t1
  let v458 : Index := Scalar.indexCast arg12
  let c14_245 : Index := 14#32
  let c0_246 : Index := 0#32
  ![0, v458.toNat, 14, 0]
def k0_off17 (k0_t1 : Fin k0_t1_loop.trips) : Fin 4 → Nat :=
  let c0_260 : Index := 0#32
  let c0_i32_1 : BitVec 32 := 0#32
  let c1_i32 : BitVec 32 := 1#32
  let arg12 : BitVec 32 := Scf.iv c0_i32_1 c1_i32 k0_t1
  let v489 : Index := Scalar.indexCast arg12
  let c15_261 : Index := 15#32
  let c0_262 : Index := 0#32
  ![0, v489.toNat, 15, 0]
def k0_off18 (k0_t1 : Fin k0_t1_loop.trips) : Fin 4 → Nat :=
  let c0_276 : Index := 0#32
  let c0_i32_1 : BitVec 32 := 0#32
  let c1_i32 : BitVec 32 := 1#32
  let arg12 : BitVec 32 := Scf.iv c0_i32_1 c1_i32 k0_t1
  let v520 : Index := Scalar.indexCast arg12
  let c16_277 : Index := 16#32
  let c0_278 : Index := 0#32
  ![0, v520.toNat, 16, 0]
def k0_off19 (k0_t1 : Fin k0_t1_loop.trips) : Fin 4 → Nat :=
  let c0_292 : Index := 0#32
  let c0_i32_1 : BitVec 32 := 0#32
  let c1_i32 : BitVec 32 := 1#32
  let arg12 : BitVec 32 := Scf.iv c0_i32_1 c1_i32 k0_t1
  let v551 : Index := Scalar.indexCast arg12
  let c17_293 : Index := 17#32
  let c0_294 : Index := 0#32
  ![0, v551.toNat, 17, 0]
def k0_off20 (k0_t1 : Fin k0_t1_loop.trips) : Fin 4 → Nat :=
  let c0_308 : Index := 0#32
  let c0_i32_1 : BitVec 32 := 0#32
  let c1_i32 : BitVec 32 := 1#32
  let arg12 : BitVec 32 := Scf.iv c0_i32_1 c1_i32 k0_t1
  let v582 : Index := Scalar.indexCast arg12
  let c18_309 : Index := 18#32
  let c0_310 : Index := 0#32
  ![0, v582.toNat, 18, 0]
def k0_off21 (k0_t1 : Fin k0_t1_loop.trips) : Fin 4 → Nat :=
  let c0_324 : Index := 0#32
  let c0_i32_1 : BitVec 32 := 0#32
  let c1_i32 : BitVec 32 := 1#32
  let arg12 : BitVec 32 := Scf.iv c0_i32_1 c1_i32 k0_t1
  let v613 : Index := Scalar.indexCast arg12
  let c19_325 : Index := 19#32
  let c0_326 : Index := 0#32
  ![0, v613.toNat, 19, 0]
def k0_off22 (k0_t1 : Fin k0_t1_loop.trips) : Fin 4 → Nat :=
  let c0_340 : Index := 0#32
  let c0_i32_1 : BitVec 32 := 0#32
  let c1_i32 : BitVec 32 := 1#32
  let arg12 : BitVec 32 := Scf.iv c0_i32_1 c1_i32 k0_t1
  let v644 : Index := Scalar.indexCast arg12
  let c20_341 : Index := 20#32
  let c0_342 : Index := 0#32
  ![0, v644.toNat, 20, 0]
def k0_off23 (k0_t1 : Fin k0_t1_loop.trips) : Fin 4 → Nat :=
  let c0_356 : Index := 0#32
  let c0_i32_1 : BitVec 32 := 0#32
  let c1_i32 : BitVec 32 := 1#32
  let arg12 : BitVec 32 := Scf.iv c0_i32_1 c1_i32 k0_t1
  let v675 : Index := Scalar.indexCast arg12
  let c21_357 : Index := 21#32
  let c0_358 : Index := 0#32
  ![0, v675.toNat, 21, 0]
def k0_off24 (k0_t1 : Fin k0_t1_loop.trips) : Fin 4 → Nat :=
  let c0_372 : Index := 0#32
  let c0_i32_1 : BitVec 32 := 0#32
  let c1_i32 : BitVec 32 := 1#32
  let arg12 : BitVec 32 := Scf.iv c0_i32_1 c1_i32 k0_t1
  let v706 : Index := Scalar.indexCast arg12
  let c22_373 : Index := 22#32
  let c0_374 : Index := 0#32
  ![0, v706.toNat, 22, 0]
def k0_off25 (k0_t1 : Fin k0_t1_loop.trips) : Fin 4 → Nat :=
  let c0_388 : Index := 0#32
  let c0_i32_1 : BitVec 32 := 0#32
  let c1_i32 : BitVec 32 := 1#32
  let arg12 : BitVec 32 := Scf.iv c0_i32_1 c1_i32 k0_t1
  let v737 : Index := Scalar.indexCast arg12
  let c23_389 : Index := 23#32
  let c0_390 : Index := 0#32
  ![0, v737.toNat, 23, 0]
def k0_off26 (k0_t1 : Fin k0_t1_loop.trips) : Fin 4 → Nat :=
  let c0_404 : Index := 0#32
  let c0_i32_1 : BitVec 32 := 0#32
  let c1_i32 : BitVec 32 := 1#32
  let arg12 : BitVec 32 := Scf.iv c0_i32_1 c1_i32 k0_t1
  let v768 : Index := Scalar.indexCast arg12
  let c24_405 : Index := 24#32
  let c0_406 : Index := 0#32
  ![0, v768.toNat, 24, 0]
def k0_off27 (k0_t1 : Fin k0_t1_loop.trips) : Fin 4 → Nat :=
  let c0_420 : Index := 0#32
  let c0_i32_1 : BitVec 32 := 0#32
  let c1_i32 : BitVec 32 := 1#32
  let arg12 : BitVec 32 := Scf.iv c0_i32_1 c1_i32 k0_t1
  let v799 : Index := Scalar.indexCast arg12
  let c25_421 : Index := 25#32
  let c0_422 : Index := 0#32
  ![0, v799.toNat, 25, 0]
def k0_off28 (k0_t1 : Fin k0_t1_loop.trips) : Fin 4 → Nat :=
  let c0_436 : Index := 0#32
  let c0_i32_1 : BitVec 32 := 0#32
  let c1_i32 : BitVec 32 := 1#32
  let arg12 : BitVec 32 := Scf.iv c0_i32_1 c1_i32 k0_t1
  let v830 : Index := Scalar.indexCast arg12
  let c26_437 : Index := 26#32
  let c0_438 : Index := 0#32
  ![0, v830.toNat, 26, 0]
def k0_off29 (k0_t1 : Fin k0_t1_loop.trips) : Fin 4 → Nat :=
  let c0_452 : Index := 0#32
  let c0_i32_1 : BitVec 32 := 0#32
  let c1_i32 : BitVec 32 := 1#32
  let arg12 : BitVec 32 := Scf.iv c0_i32_1 c1_i32 k0_t1
  let v861 : Index := Scalar.indexCast arg12
  let c27_453 : Index := 27#32
  let c0_454 : Index := 0#32
  ![0, v861.toNat, 27, 0]
def k0_off30 (k0_t1 : Fin k0_t1_loop.trips) : Fin 4 → Nat :=
  let c0_468 : Index := 0#32
  let c0_i32_1 : BitVec 32 := 0#32
  let c1_i32 : BitVec 32 := 1#32
  let arg12 : BitVec 32 := Scf.iv c0_i32_1 c1_i32 k0_t1
  let v892 : Index := Scalar.indexCast arg12
  let c28_469 : Index := 28#32
  let c0_470 : Index := 0#32
  ![0, v892.toNat, 28, 0]
def k0_off31 (k0_t1 : Fin k0_t1_loop.trips) : Fin 4 → Nat :=
  let c0_484 : Index := 0#32
  let c0_i32_1 : BitVec 32 := 0#32
  let c1_i32 : BitVec 32 := 1#32
  let arg12 : BitVec 32 := Scf.iv c0_i32_1 c1_i32 k0_t1
  let v923 : Index := Scalar.indexCast arg12
  let c29_485 : Index := 29#32
  let c0_486 : Index := 0#32
  ![0, v923.toNat, 29, 0]
def k0_off32 (k0_t1 : Fin k0_t1_loop.trips) : Fin 4 → Nat :=
  let c0_500 : Index := 0#32
  let c0_i32_1 : BitVec 32 := 0#32
  let c1_i32 : BitVec 32 := 1#32
  let arg12 : BitVec 32 := Scf.iv c0_i32_1 c1_i32 k0_t1
  let v954 : Index := Scalar.indexCast arg12
  let c30_501 : Index := 30#32
  let c0_502 : Index := 0#32
  ![0, v954.toNat, 30, 0]
def k0_off33 (k0_t1 : Fin k0_t1_loop.trips) : Fin 4 → Nat :=
  let c0_516 : Index := 0#32
  let c0_i32_1 : BitVec 32 := 0#32
  let c1_i32 : BitVec 32 := 1#32
  let arg12 : BitVec 32 := Scf.iv c0_i32_1 c1_i32 k0_t1
  let v985 : Index := Scalar.indexCast arg12
  let c31_517 : Index := 31#32
  let c0_518 : Index := 0#32
  ![0, v985.toNat, 31, 0]
def k0_off34 (k0_t1 : Fin k0_t1_loop.trips) : Fin 4 → Nat :=
  let c0_532 : Index := 0#32
  let c0_i32_1 : BitVec 32 := 0#32
  let c1_i32 : BitVec 32 := 1#32
  let arg12 : BitVec 32 := Scf.iv c0_i32_1 c1_i32 k0_t1
  let v1016 : Index := Scalar.indexCast arg12
  let c32_533 : Index := 32#32
  let c0_534 : Index := 0#32
  ![0, v1016.toNat, 32, 0]
def k0_off35 (k0_t1 : Fin k0_t1_loop.trips) : Fin 4 → Nat :=
  let c0_548 : Index := 0#32
  let c0_i32_1 : BitVec 32 := 0#32
  let c1_i32 : BitVec 32 := 1#32
  let arg12 : BitVec 32 := Scf.iv c0_i32_1 c1_i32 k0_t1
  let v1047 : Index := Scalar.indexCast arg12
  let c33_549 : Index := 33#32
  let c0_550 : Index := 0#32
  ![0, v1047.toNat, 33, 0]
def k0_off36 (k0_t1 : Fin k0_t1_loop.trips) : Fin 4 → Nat :=
  let c0_564 : Index := 0#32
  let c0_i32_1 : BitVec 32 := 0#32
  let c1_i32 : BitVec 32 := 1#32
  let arg12 : BitVec 32 := Scf.iv c0_i32_1 c1_i32 k0_t1
  let v1078 : Index := Scalar.indexCast arg12
  let c34_565 : Index := 34#32
  let c0_566 : Index := 0#32
  ![0, v1078.toNat, 34, 0]
def k0_off37 (k0_t1 : Fin k0_t1_loop.trips) : Fin 4 → Nat :=
  let c0_580 : Index := 0#32
  let c0_i32_1 : BitVec 32 := 0#32
  let c1_i32 : BitVec 32 := 1#32
  let arg12 : BitVec 32 := Scf.iv c0_i32_1 c1_i32 k0_t1
  let v1109 : Index := Scalar.indexCast arg12
  let c35_581 : Index := 35#32
  let c0_582 : Index := 0#32
  ![0, v1109.toNat, 35, 0]
def k0_off38 (k0_t1 : Fin k0_t1_loop.trips) : Fin 4 → Nat :=
  let c0_596 : Index := 0#32
  let c0_i32_1 : BitVec 32 := 0#32
  let c1_i32 : BitVec 32 := 1#32
  let arg12 : BitVec 32 := Scf.iv c0_i32_1 c1_i32 k0_t1
  let v1140 : Index := Scalar.indexCast arg12
  let c36_597 : Index := 36#32
  let c0_598 : Index := 0#32
  ![0, v1140.toNat, 36, 0]
def k0_off39 (k0_t1 : Fin k0_t1_loop.trips) : Fin 4 → Nat :=
  let c0_612 : Index := 0#32
  let c0_i32_1 : BitVec 32 := 0#32
  let c1_i32 : BitVec 32 := 1#32
  let arg12 : BitVec 32 := Scf.iv c0_i32_1 c1_i32 k0_t1
  let v1171 : Index := Scalar.indexCast arg12
  let c37_613 : Index := 37#32
  let c0_614 : Index := 0#32
  ![0, v1171.toNat, 37, 0]
def k0_off40 (k0_t1 : Fin k0_t1_loop.trips) : Fin 4 → Nat :=
  let c0_628 : Index := 0#32
  let c0_i32_1 : BitVec 32 := 0#32
  let c1_i32 : BitVec 32 := 1#32
  let arg12 : BitVec 32 := Scf.iv c0_i32_1 c1_i32 k0_t1
  let v1202 : Index := Scalar.indexCast arg12
  let c38_629 : Index := 38#32
  let c0_630 : Index := 0#32
  ![0, v1202.toNat, 38, 0]
def k0_off41 (k0_t1 : Fin k0_t1_loop.trips) : Fin 4 → Nat :=
  let c0_644 : Index := 0#32
  let c0_i32_1 : BitVec 32 := 0#32
  let c1_i32 : BitVec 32 := 1#32
  let arg12 : BitVec 32 := Scf.iv c0_i32_1 c1_i32 k0_t1
  let v1233 : Index := Scalar.indexCast arg12
  let c39_645 : Index := 39#32
  let c0_646 : Index := 0#32
  ![0, v1233.toNat, 39, 0]
def k0_off42 (k0_t1 : Fin k0_t1_loop.trips) : Fin 4 → Nat :=
  let c0_660 : Index := 0#32
  let c0_i32_1 : BitVec 32 := 0#32
  let c1_i32 : BitVec 32 := 1#32
  let arg12 : BitVec 32 := Scf.iv c0_i32_1 c1_i32 k0_t1
  let v1264 : Index := Scalar.indexCast arg12
  let c40_661 : Index := 40#32
  let c0_662 : Index := 0#32
  ![0, v1264.toNat, 40, 0]
def k0_off43 (k0_t1 : Fin k0_t1_loop.trips) : Fin 4 → Nat :=
  let c0_676 : Index := 0#32
  let c0_i32_1 : BitVec 32 := 0#32
  let c1_i32 : BitVec 32 := 1#32
  let arg12 : BitVec 32 := Scf.iv c0_i32_1 c1_i32 k0_t1
  let v1295 : Index := Scalar.indexCast arg12
  let c41_677 : Index := 41#32
  let c0_678 : Index := 0#32
  ![0, v1295.toNat, 41, 0]
def k0_off44 (k0_t1 : Fin k0_t1_loop.trips) : Fin 4 → Nat :=
  let c0_692 : Index := 0#32
  let c0_i32_1 : BitVec 32 := 0#32
  let c1_i32 : BitVec 32 := 1#32
  let arg12 : BitVec 32 := Scf.iv c0_i32_1 c1_i32 k0_t1
  let v1326 : Index := Scalar.indexCast arg12
  let c42_693 : Index := 42#32
  let c0_694 : Index := 0#32
  ![0, v1326.toNat, 42, 0]
def k0_off45 (k0_t1 : Fin k0_t1_loop.trips) : Fin 4 → Nat :=
  let c0_708 : Index := 0#32
  let c0_i32_1 : BitVec 32 := 0#32
  let c1_i32 : BitVec 32 := 1#32
  let arg12 : BitVec 32 := Scf.iv c0_i32_1 c1_i32 k0_t1
  let v1357 : Index := Scalar.indexCast arg12
  let c43_709 : Index := 43#32
  let c0_710 : Index := 0#32
  ![0, v1357.toNat, 43, 0]
def k0_off46 (k0_t1 : Fin k0_t1_loop.trips) : Fin 4 → Nat :=
  let c0_724 : Index := 0#32
  let c0_i32_1 : BitVec 32 := 0#32
  let c1_i32 : BitVec 32 := 1#32
  let arg12 : BitVec 32 := Scf.iv c0_i32_1 c1_i32 k0_t1
  let v1388 : Index := Scalar.indexCast arg12
  let c44_725 : Index := 44#32
  let c0_726 : Index := 0#32
  ![0, v1388.toNat, 44, 0]
def k0_off47 (k0_t1 : Fin k0_t1_loop.trips) : Fin 4 → Nat :=
  let c0_740 : Index := 0#32
  let c0_i32_1 : BitVec 32 := 0#32
  let c1_i32 : BitVec 32 := 1#32
  let arg12 : BitVec 32 := Scf.iv c0_i32_1 c1_i32 k0_t1
  let v1419 : Index := Scalar.indexCast arg12
  let c45_741 : Index := 45#32
  let c0_742 : Index := 0#32
  ![0, v1419.toNat, 45, 0]
def k0_off48 (k0_t1 : Fin k0_t1_loop.trips) : Fin 4 → Nat :=
  let c0_756 : Index := 0#32
  let c0_i32_1 : BitVec 32 := 0#32
  let c1_i32 : BitVec 32 := 1#32
  let arg12 : BitVec 32 := Scf.iv c0_i32_1 c1_i32 k0_t1
  let v1450 : Index := Scalar.indexCast arg12
  let c46_757 : Index := 46#32
  let c0_758 : Index := 0#32
  ![0, v1450.toNat, 46, 0]
def k0_off49 (k0_t1 : Fin k0_t1_loop.trips) : Fin 4 → Nat :=
  let c0_772 : Index := 0#32
  let c0_i32_1 : BitVec 32 := 0#32
  let c1_i32 : BitVec 32 := 1#32
  let arg12 : BitVec 32 := Scf.iv c0_i32_1 c1_i32 k0_t1
  let v1481 : Index := Scalar.indexCast arg12
  let c47_773 : Index := 47#32
  let c0_774 : Index := 0#32
  ![0, v1481.toNat, 47, 0]
def k0_off50 (k0_t1 : Fin k0_t1_loop.trips) : Fin 4 → Nat :=
  let c0_788 : Index := 0#32
  let c0_i32_1 : BitVec 32 := 0#32
  let c1_i32 : BitVec 32 := 1#32
  let arg12 : BitVec 32 := Scf.iv c0_i32_1 c1_i32 k0_t1
  let v1512 : Index := Scalar.indexCast arg12
  let c48_789 : Index := 48#32
  let c0_790 : Index := 0#32
  ![0, v1512.toNat, 48, 0]
def k0_off51 (k0_t1 : Fin k0_t1_loop.trips) : Fin 4 → Nat :=
  let c0_804 : Index := 0#32
  let c0_i32_1 : BitVec 32 := 0#32
  let c1_i32 : BitVec 32 := 1#32
  let arg12 : BitVec 32 := Scf.iv c0_i32_1 c1_i32 k0_t1
  let v1543 : Index := Scalar.indexCast arg12
  let c49_805 : Index := 49#32
  let c0_806 : Index := 0#32
  ![0, v1543.toNat, 49, 0]
def k0_off52 (k0_t1 : Fin k0_t1_loop.trips) : Fin 4 → Nat :=
  let c0_820 : Index := 0#32
  let c0_i32_1 : BitVec 32 := 0#32
  let c1_i32 : BitVec 32 := 1#32
  let arg12 : BitVec 32 := Scf.iv c0_i32_1 c1_i32 k0_t1
  let v1574 : Index := Scalar.indexCast arg12
  let c50_821 : Index := 50#32
  let c0_822 : Index := 0#32
  ![0, v1574.toNat, 50, 0]
def k0_off53 (k0_t1 : Fin k0_t1_loop.trips) : Fin 4 → Nat :=
  let c0_836 : Index := 0#32
  let c0_i32_1 : BitVec 32 := 0#32
  let c1_i32 : BitVec 32 := 1#32
  let arg12 : BitVec 32 := Scf.iv c0_i32_1 c1_i32 k0_t1
  let v1605 : Index := Scalar.indexCast arg12
  let c51_837 : Index := 51#32
  let c0_838 : Index := 0#32
  ![0, v1605.toNat, 51, 0]
def k0_off54 (k0_t1 : Fin k0_t1_loop.trips) : Fin 4 → Nat :=
  let c0_852 : Index := 0#32
  let c0_i32_1 : BitVec 32 := 0#32
  let c1_i32 : BitVec 32 := 1#32
  let arg12 : BitVec 32 := Scf.iv c0_i32_1 c1_i32 k0_t1
  let v1636 : Index := Scalar.indexCast arg12
  let c52_853 : Index := 52#32
  let c0_854 : Index := 0#32
  ![0, v1636.toNat, 52, 0]
def k0_off55 (k0_t1 : Fin k0_t1_loop.trips) : Fin 4 → Nat :=
  let c0_868 : Index := 0#32
  let c0_i32_1 : BitVec 32 := 0#32
  let c1_i32 : BitVec 32 := 1#32
  let arg12 : BitVec 32 := Scf.iv c0_i32_1 c1_i32 k0_t1
  let v1667 : Index := Scalar.indexCast arg12
  let c53_869 : Index := 53#32
  let c0_870 : Index := 0#32
  ![0, v1667.toNat, 53, 0]
def k0_off56 (k0_t1 : Fin k0_t1_loop.trips) : Fin 4 → Nat :=
  let c0_884 : Index := 0#32
  let c0_i32_1 : BitVec 32 := 0#32
  let c1_i32 : BitVec 32 := 1#32
  let arg12 : BitVec 32 := Scf.iv c0_i32_1 c1_i32 k0_t1
  let v1698 : Index := Scalar.indexCast arg12
  let c54_885 : Index := 54#32
  let c0_886 : Index := 0#32
  ![0, v1698.toNat, 54, 0]
def k0_off57 (k0_t1 : Fin k0_t1_loop.trips) : Fin 4 → Nat :=
  let c0_900 : Index := 0#32
  let c0_i32_1 : BitVec 32 := 0#32
  let c1_i32 : BitVec 32 := 1#32
  let arg12 : BitVec 32 := Scf.iv c0_i32_1 c1_i32 k0_t1
  let v1729 : Index := Scalar.indexCast arg12
  let c55_901 : Index := 55#32
  let c0_902 : Index := 0#32
  ![0, v1729.toNat, 55, 0]
def k0_off58 (k0_t1 : Fin k0_t1_loop.trips) : Fin 4 → Nat :=
  let c0_916 : Index := 0#32
  let c0_i32_1 : BitVec 32 := 0#32
  let c1_i32 : BitVec 32 := 1#32
  let arg12 : BitVec 32 := Scf.iv c0_i32_1 c1_i32 k0_t1
  let v1760 : Index := Scalar.indexCast arg12
  let c56_917 : Index := 56#32
  let c0_918 : Index := 0#32
  ![0, v1760.toNat, 56, 0]
def k0_off59 (k0_t1 : Fin k0_t1_loop.trips) : Fin 4 → Nat :=
  let c0_932 : Index := 0#32
  let c0_i32_1 : BitVec 32 := 0#32
  let c1_i32 : BitVec 32 := 1#32
  let arg12 : BitVec 32 := Scf.iv c0_i32_1 c1_i32 k0_t1
  let v1791 : Index := Scalar.indexCast arg12
  let c57_933 : Index := 57#32
  let c0_934 : Index := 0#32
  ![0, v1791.toNat, 57, 0]
def k0_off60 (k0_t1 : Fin k0_t1_loop.trips) : Fin 4 → Nat :=
  let c0_948 : Index := 0#32
  let c0_i32_1 : BitVec 32 := 0#32
  let c1_i32 : BitVec 32 := 1#32
  let arg12 : BitVec 32 := Scf.iv c0_i32_1 c1_i32 k0_t1
  let v1822 : Index := Scalar.indexCast arg12
  let c58_949 : Index := 58#32
  let c0_950 : Index := 0#32
  ![0, v1822.toNat, 58, 0]
def k0_off61 (k0_t1 : Fin k0_t1_loop.trips) : Fin 4 → Nat :=
  let c0_964 : Index := 0#32
  let c0_i32_1 : BitVec 32 := 0#32
  let c1_i32 : BitVec 32 := 1#32
  let arg12 : BitVec 32 := Scf.iv c0_i32_1 c1_i32 k0_t1
  let v1853 : Index := Scalar.indexCast arg12
  let c59_965 : Index := 59#32
  let c0_966 : Index := 0#32
  ![0, v1853.toNat, 59, 0]
def k0_off62 (k0_t1 : Fin k0_t1_loop.trips) : Fin 4 → Nat :=
  let c0_980 : Index := 0#32
  let c0_i32_1 : BitVec 32 := 0#32
  let c1_i32 : BitVec 32 := 1#32
  let arg12 : BitVec 32 := Scf.iv c0_i32_1 c1_i32 k0_t1
  let v1884 : Index := Scalar.indexCast arg12
  let c60_981 : Index := 60#32
  let c0_982 : Index := 0#32
  ![0, v1884.toNat, 60, 0]
def k0_off63 (k0_t1 : Fin k0_t1_loop.trips) : Fin 4 → Nat :=
  let c0_996 : Index := 0#32
  let c0_i32_1 : BitVec 32 := 0#32
  let c1_i32 : BitVec 32 := 1#32
  let arg12 : BitVec 32 := Scf.iv c0_i32_1 c1_i32 k0_t1
  let v1915 : Index := Scalar.indexCast arg12
  let c61_997 : Index := 61#32
  let c0_998 : Index := 0#32
  ![0, v1915.toNat, 61, 0]
def k0_off64 (k0_t1 : Fin k0_t1_loop.trips) : Fin 4 → Nat :=
  let c0_1012 : Index := 0#32
  let c0_i32_1 : BitVec 32 := 0#32
  let c1_i32 : BitVec 32 := 1#32
  let arg12 : BitVec 32 := Scf.iv c0_i32_1 c1_i32 k0_t1
  let v1946 : Index := Scalar.indexCast arg12
  let c62_1013 : Index := 62#32
  let c0_1014 : Index := 0#32
  ![0, v1946.toNat, 62, 0]
def k0_off65 (k0_t1 : Fin k0_t1_loop.trips) : Fin 4 → Nat :=
  let c0_1028 : Index := 0#32
  let c0_i32_1 : BitVec 32 := 0#32
  let c1_i32 : BitVec 32 := 1#32
  let arg12 : BitVec 32 := Scf.iv c0_i32_1 c1_i32 k0_t1
  let v1977 : Index := Scalar.indexCast arg12
  let c63_1029 : Index := 63#32
  let c0_1030 : Index := 0#32
  ![0, v1977.toNat, 63, 0]
def k0_cond2 (i : grid0.Coords) : BitVec 1 :=
  let arg1 : BitVec 32 := BitVec.ofNat 32 (i 1).val
  let c31_i32 : BitVec 32 := 31#32
  let v4 : BitVec 1 := Scalar.cmpi .eq arg1 c31_i32
  let v5 : BitVec 32 := Scalar.extui v4
  let c0_i32_3 : BitVec 32 := 0#32
  let v6 : BitVec 1 := Scalar.cmpi .ne v5 c0_i32_3
  v6

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x64x32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1x64x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x64x32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== ReferenceIdeal.lean ====
abbrev S4x2048x16x64 : Shape := ⟨4, ![4, 2048, 16, 64]⟩
abbrev S4x16x64x64 : Shape := ⟨4, ![4, 16, 64, 64]⟩
abbrev S2048x4x16x64 : Shape := ⟨4, ![2048, 4, 16, 64]⟩
abbrev S_ : Shape := ⟨0, ![]⟩
abbrev S1x4x16x64 : Shape := ⟨4, ![1, 4, 16, 64]⟩
abbrev S4x16x64 : Shape := ⟨3, ![4, 16, 64]⟩
abbrev S4x16x1x64 : Shape := ⟨4, ![4, 16, 1, 64]⟩
abbrev S4x16x64x1 : Shape := ⟨4, ![4, 16, 64, 1]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S4x2048x16x64, .f32⟩
  | .hbm, ⟨4, _⟩ => ⟨S4x2048x16x64, .f32⟩
  | .hbm, ⟨5, _⟩ => ⟨S4x2048x16x64, .f32⟩
  | .hbm, ⟨6, _⟩ => ⟨S4x16x64x64, .f32⟩
  | .hbm, ⟨7, _⟩ => ⟨S2048x4x16x64, .f32⟩
  | .hbm, ⟨8, _⟩ => ⟨S2048x4x16x64, .f32⟩
  | .hbm, ⟨9, _⟩ => ⟨S2048x4x16x64, .f32⟩
  | .hbm, ⟨10, _⟩ => ⟨S2048x4x16x64, .f32⟩
  | .hbm, ⟨11, _⟩ => ⟨S2048x4x16x64, .f32⟩
  | .hbm, ⟨12, _⟩ => ⟨S2048x4x16x64, .f32⟩
  | .hbm, ⟨13, _⟩ => ⟨S_, .f32⟩
  | .hbm, ⟨14, _⟩ => ⟨S2048x4x16x64, .f32⟩
  | .hbm, ⟨15, _⟩ => ⟨S_, .i32⟩
  | .hbm, ⟨16, _⟩ => ⟨S2048x4x16x64, .f32⟩
  | .hbm, ⟨17, _⟩ => ⟨S2048x4x16x64, .f32⟩
  | .hbm, ⟨18, _⟩ => ⟨S2048x4x16x64, .f32⟩
  | .hbm, ⟨19, _⟩ => ⟨S2048x4x16x64, .f32⟩
  | .hbm, ⟨20, _⟩ => ⟨S2048x4x16x64, .f32⟩
  | .hbm, ⟨21, _⟩ => ⟨S2048x4x16x64, .f32⟩
  | .hbm, ⟨22, _⟩ => ⟨S_, .i32⟩
  | .hbm, ⟨23, _⟩ => ⟨S4x16x64x64, .f32⟩
  | .hbm, ⟨24, _⟩ => ⟨S2048x4x16x64, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x4x16x64, .f32⟩
  | .hbm, ⟨31, _⟩ => ⟨S4x16x64, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x4x16x64, .f32⟩
  | .hbm, ⟨36, _⟩ => ⟨S4x16x64, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x4x16x64, .f32⟩
  | .hbm, ⟨41, _⟩ => ⟨S4x16x64, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x4x16x64, .f32⟩
  | .hbm, ⟨46, _⟩ => ⟨S4x16x64, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x4x16x64, .f32⟩
  | .hbm, ⟨51, _⟩ => ⟨S4x16x64, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x4x16x64, .f32⟩
  | .hbm, ⟨56, _⟩ => ⟨S4x16x64, .f32⟩
  | .hbm, ⟨57, _⟩ => ⟨S4x16x64, .f32⟩
  | .hbm, ⟨58, _⟩ => ⟨S4x16x64, .f32⟩
  | .hbm, ⟨59, _⟩ => ⟨S4x16x1x64, .f32⟩
  | .hbm, ⟨60, _⟩ => ⟨S4x16x64x64, .f32⟩
  | .hbm, ⟨61, _⟩ => ⟨S4x16x64x64, .f32⟩
  | .hbm, ⟨62, _⟩ => ⟨S4x16x64x1, .f32⟩
  | .hbm, ⟨63, _⟩ => ⟨S4x16x1x64, .f32⟩
  | .hbm, ⟨64, _⟩ => ⟨S4x16x64x64, .f32⟩
  | .hbm, ⟨65, _⟩ => ⟨S4x16x64x64, .f32⟩
  | .hbm, ⟨66, _⟩ => ⟨S4x16x64x64, .f32⟩
  | .hbm, ⟨67, _⟩ => ⟨S4x16x64x64, .f32⟩
  | .hbm, ⟨68, _⟩ => ⟨S4x16x64x1, .f32⟩
  | .hbm, ⟨69, _⟩ => ⟨S4x16x1x64, .f32⟩
  | .hbm, ⟨70, _⟩ => ⟨S4x16x64x64, .f32⟩
  | .hbm, ⟨71, _⟩ => ⟨S4x16x64x64, .f32⟩
  | .hbm, ⟨72, _⟩ => ⟨S4x16x64x64, .f32⟩
  | .hbm, ⟨73, _⟩ => ⟨S4x16x64x64, .f32⟩
  | .hbm, ⟨74, _⟩ => ⟨S4x16x64, .f32⟩
  | .hbm, ⟨75, _⟩ => ⟨S1x4x16x64, .f32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S2048x4x16x64, .f32⟩
  | .hbm, ⟨80, _⟩ => ⟨S_, .i32⟩
  | .hbm, ⟨81, _⟩ => ⟨S_, .i32⟩
  | .hbm, ⟨82, _⟩ => ⟨S4x2048x16x64, .f32⟩
  | _, _ => ⟨S4x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_c : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_v7_7 : Ref sig .tc := ⟨.hbm, 23, rfl⟩
abbrev main_v7_8 : Ref sig .tc := ⟨.hbm, 24, rfl⟩
abbrev main_while0c_c_8 : Ref sig .tc := ⟨.hbm, 25, rfl⟩
abbrev main_while0c_v9 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_c_1 : Ref sig .tc := ⟨.hbm, 29, rfl⟩
abbrev main_while0b_call0_v0 : Ref sig .tc := ⟨.hbm, 30, rfl⟩
abbrev main_while0b_v9 : Ref sig .tc := ⟨.hbm, 31, rfl⟩
abbrev main_while0b_call1_c : Ref sig .tc := ⟨.hbm, 32, rfl⟩
abbrev main_while0b_call1_c_0 : Ref sig .tc := ⟨.hbm, 33, rfl⟩
abbrev main_while0b_call1_c_1 : Ref sig .tc := ⟨.hbm, 34, rfl⟩
abbrev main_while0b_call1_v0 : Ref sig .tc := ⟨.hbm, 35, rfl⟩
abbrev main_while0b_v10 : Ref sig .tc := ⟨.hbm, 36, rfl⟩
abbrev main_while0b_call2_c : Ref sig .tc := ⟨.hbm, 37, rfl⟩
abbrev main_while0b_call2_c_0 : Ref sig .tc := ⟨.hbm, 38, rfl⟩
abbrev main_while0b_call2_c_1 : Ref sig .tc := ⟨.hbm, 39, rfl⟩
abbrev main_while0b_call2_v0 : Ref sig .tc := ⟨.hbm, 40, rfl⟩
abbrev main_while0b_v11 : Ref sig .tc := ⟨.hbm, 41, rfl⟩
abbrev main_while0b_call3_c : Ref sig .tc := ⟨.hbm, 42, rfl⟩
abbrev main_while0b_call3_c_0 : Ref sig .tc := ⟨.hbm, 43, rfl⟩
abbrev main_while0b_call3_c_1 : Ref sig .tc := ⟨.hbm, 44, rfl⟩
abbrev main_while0b_call3_v0 : Ref sig .tc := ⟨.hbm, 45, rfl⟩
abbrev main_while0b_v12 : Ref sig .tc := ⟨.hbm, 46, rfl⟩
abbrev main_while0b_call4_c : Ref sig .tc := ⟨.hbm, 47, rfl⟩
abbrev main_while0b_call4_c_0 : Ref sig .tc := ⟨.hbm, 48, rfl⟩
abbrev main_while0b_call4_c_1 : Ref sig .tc := ⟨.hbm, 49, rfl⟩
abbrev main_while0b_call4_v0 : Ref sig .tc := ⟨.hbm, 50, rfl⟩
abbrev main_while0b_v13 : Ref sig .tc := ⟨.hbm, 51, rfl⟩
abbrev main_while0b_call5_c : Ref sig .tc := ⟨.hbm, 52, rfl⟩
abbrev main_while0b_call5_c_0 : Ref sig .tc := ⟨.hbm, 53, rfl⟩
abbrev main_while0b_call5_c_1 : Ref sig .tc := ⟨.hbm, 54, rfl⟩
abbrev main_while0b_call5_v0 : Ref sig .tc := ⟨.hbm, 55, rfl⟩
abbrev main_while0b_v14 : Ref sig .tc := ⟨.hbm, 56, rfl⟩
abbrev main_while0b_v15 : Ref sig .tc := ⟨.hbm, 57, rfl⟩
abbrev main_while0b_v16 : Ref sig .tc := ⟨.hbm, 58, rfl⟩
abbrev main_while0b_v17 : Ref sig .tc := ⟨.hbm, 59, rfl⟩
abbrev main_while0b_v18 : Ref sig .tc := ⟨.hbm, 60, rfl⟩
abbrev main_while0b_v19 : Ref sig .tc := ⟨.hbm, 61, rfl⟩
abbrev main_while0b_v20 : Ref sig .tc := ⟨.hbm, 62, rfl⟩
abbrev main_while0b_v21 : Ref sig .tc := ⟨.hbm, 63, rfl⟩
abbrev main_while0b_v22 : Ref sig .tc := ⟨.hbm, 64, rfl⟩
abbrev main_while0b_v23 : Ref sig .tc := ⟨.hbm, 65, rfl⟩
abbrev main_while0b_v24 : Ref sig .tc := ⟨.hbm, 66, rfl⟩
abbrev main_while0b_v25 : Ref sig .tc := ⟨.hbm, 67, rfl⟩
abbrev main_while0b_v26 : Ref sig .tc := ⟨.hbm, 68, rfl⟩
abbrev main_while0b_v27 : Ref sig .tc := ⟨.hbm, 69, rfl⟩
abbrev main_while0b_v28 : Ref sig .tc := ⟨.hbm, 70, rfl⟩
abbrev main_while0b_v29 : Ref sig .tc := ⟨.hbm, 71, rfl⟩
abbrev main_while0b_v30 : Ref sig .tc := ⟨.hbm, 72, rfl⟩
abbrev main_while0b_v31 : Ref sig .tc := ⟨.hbm, 73, rfl⟩
abbrev main_while0b_v32 : Ref sig .tc := ⟨.hbm, 74, rfl⟩
abbrev main_while0b_call6_v0 : Ref sig .tc := ⟨.hbm, 75, rfl⟩
abbrev main_while0b_call6_c : Ref sig .tc := ⟨.hbm, 76, rfl⟩
abbrev main_while0b_call6_c_0 : Ref sig .tc := ⟨.hbm, 77, rfl⟩
abbrev main_while0b_call6_c_1 : Ref sig .tc := ⟨.hbm, 78, rfl⟩
abbrev main_while0b_v33 : Ref sig .tc := ⟨.hbm, 79, rfl⟩
abbrev main_while0b_c_8 : Ref sig .tc := ⟨.hbm, 80, rfl⟩
abbrev main_while0b_v34 : Ref sig .tc := ⟨.hbm, 81, rfl⟩
abbrev main_v8 : Ref sig .tc := ⟨.hbm, 82, rfl⟩

abbrev nD : Nat := 1
abbrev τ : Topo := Topo.v7x

variable {F : FTy → Type} [FloatOps F]

abbrev main_while0_count : Scf.Loop 32 := ⟨0#32, 2048#32, 1#32⟩
-- ==== OutProj.lean ====
abbrev S8192x1024 : Shape := ⟨2, ![8192, 1024]⟩
abbrev S4x2048x1024 : Shape := ⟨3, ![4, 2048, 1024]⟩
abbrev S2048x2048 : Shape := ⟨2, ![2048, 2048]⟩
abbrev S8192x2048 : Shape := ⟨2, ![8192, 2048]⟩
abbrev S_ : Shape := ⟨0, ![]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S4x2048x1024, .f32⟩
  | .hbm, ⟨2, _⟩ => ⟨S2048x2048, .f32⟩
  | .hbm, ⟨3, _⟩ => ⟨S8192x2048, .f32⟩
  | .hbm, ⟨4, _⟩ => ⟨S8192x1024, .f32⟩
  | .hbm, ⟨5, _⟩ => ⟨S8192x2048, .f32⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S8192x1024 : Shape := ⟨2, ![8192, 1024]⟩
abbrev S4x2048x1024 : Shape := ⟨3, ![4, 2048, 1024]⟩
abbrev S2048x2048 : Shape := ⟨2, ![2048, 2048]⟩
abbrev S8192x2048 : Shape := ⟨2, ![8192, 2048]⟩
abbrev S4x2048x2048 : Shape := ⟨3, ![4, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2048x1024, .f32⟩
  | .hbm, ⟨2, _⟩ => ⟨S2048x2048, .f32⟩
  | .hbm, ⟨3, _⟩ => ⟨S8192x2048, .f32⟩
  | .hbm, ⟨4, _⟩ => ⟨S4x2048x1024, .f32⟩
  | .hbm, ⟨5, _⟩ => ⟨S4x2048x2048, .f32⟩
  | .hbm, ⟨6, _⟩ => ⟨S4x2048x2048, .f32⟩
  | .hbm, ⟨7, _⟩ => ⟨S8192x2048, .f32⟩
  | .hbm, ⟨8, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InProj.lean ====
abbrev S4x2048x2048 : Shape := ⟨3, ![4, 2048, 2048]⟩
abbrev S2048 : Shape := ⟨1, ![2048]⟩
abbrev S2048x12352 : Shape := ⟨2, ![2048, 12352]⟩
abbrev S8192x2048 : Shape := ⟨2, ![8192, 2048]⟩
abbrev S1x2048 : Shape := ⟨2, ![1, 2048]⟩
abbrev S8192x12352 : Shape := ⟨2, ![8192, 12352]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩
abbrev S4x2048x12352 : Shape := ⟨3, ![4, 2048, 12352]⟩
abbrev S_ : Shape := ⟨0, ![]⟩
abbrev S4x3x8192 : Shape := ⟨3, ![4, 3, 8192]⟩
abbrev S4x2048x8192 : Shape := ⟨3, ![4, 2048, 8192]⟩
abbrev S4x2051x8192 : Shape := ⟨3, ![4, 2051, 8192]⟩

abbrev nBuf : Space → Nat
  | .hbm => 12
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x12352, .f32⟩
  | .hbm, ⟨3, _⟩ => ⟨S8192x2048, .f32⟩
  | .hbm, ⟨4, _⟩ => ⟨S1x2048, .f32⟩
  | .hbm, ⟨5, _⟩ => ⟨S8192x12352, .f32⟩
  | .hbm, ⟨6, _⟩ => ⟨S4x2048x12352, .f32⟩
  | .hbm, ⟨7, _⟩ => ⟨S_, .f32⟩
  | .hbm, ⟨8, _⟩ => ⟨S4x3x8192, .f32⟩
  | .hbm, ⟨9, _⟩ => ⟨S4x2048x8192, .f32⟩
  | .hbm, ⟨10, _⟩ => ⟨S4x2051x8192, .f32⟩
  | .hbm, ⟨11, _⟩ => ⟨S4x3x8192, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S512x512, .f32⟩
  | .local _ .vmem, ⟨6, _⟩ => ⟨S512x512, .f32⟩
  | .local _ .vmem, ⟨7, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S4x2048x2048 : Shape := ⟨3, ![4, 2048, 2048]⟩
abbrev S2048 : Shape := ⟨1, ![2048]⟩
abbrev S2048x12352 : Shape := ⟨2, ![2048, 12352]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x3x8192 : Shape := ⟨3, ![4, 3, 8192]⟩
abbrev S4x2048x12352 : Shape := ⟨3, ![4, 2048, 12352]⟩
abbrev S4x2048x8192 : Shape := ⟨3, ![4, 2048, 8192]⟩
abbrev S4x2051x8192 : Shape := ⟨3, ![4, 2051, 8192]⟩
abbrev S8192x12352 : Shape := ⟨2, ![8192, 12352]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x12352, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x3x8192, .f32⟩
  | .hbm, ⟨21, _⟩ => ⟨S4x2048x12352, .f32⟩
  | .hbm, ⟨22, _⟩ => ⟨S4x2048x8192, .f32⟩
  | .hbm, ⟨23, _⟩ => ⟨S4x2051x8192, .f32⟩
  | .hbm, ⟨24, _⟩ => ⟨S8192x12352, .f32⟩
  | .hbm, ⟨25, _⟩ => ⟨S4x3x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutGdn.lean ====
abbrev S4x2048x4096 : Shape := ⟨3, ![4, 2048, 4096]⟩
abbrev S4096x2048 : Shape := ⟨2, ![4096, 2048]⟩
abbrev S8192x2048 : Shape := ⟨2, ![8192, 2048]⟩
abbrev S8192x4096 : Shape := ⟨2, ![8192, 4096]⟩
abbrev S_ : Shape := ⟨0, ![]⟩
abbrev S4096 : Shape := ⟨1, ![4096]⟩
abbrev S1x4096 : Shape := ⟨2, ![1, 4096]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .f32⟩
  | .hbm, ⟨2, _⟩ => ⟨S8192x2048, .f32⟩
  | .hbm, ⟨3, _⟩ => ⟨S8192x4096, .f32⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S8192x2048, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .f32⟩
  | .local _ .vmem, ⟨4, _⟩ => ⟨S4096x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutGdnRefIdeal.lean ====
abbrev S4x2048x4096 : Shape := ⟨3, ![4, 2048, 4096]⟩
abbrev S4096x2048 : Shape := ⟨2, ![4096, 2048]⟩
abbrev S8192x2048 : Shape := ⟨2, ![8192, 2048]⟩
abbrev S4x2048x2048 : Shape := ⟨3, ![4, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .f32⟩
  | .hbm, ⟨2, _⟩ => ⟨S8192x2048, .f32⟩
  | .hbm, ⟨3, _⟩ => ⟨S4x2048x2048, .f32⟩
  | .hbm, ⟨4, _⟩ => ⟨S8192x2048, .f32⟩
  | .hbm, ⟨5, _⟩ => ⟨S8192x2048, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InEven0.lean ====
abbrev S4x2048x2048 : Shape := ⟨3, ![4, 2048, 2048]⟩
abbrev S2048 : Shape := ⟨1, ![2048]⟩
abbrev S2048x6432 : Shape := ⟨2, ![2048, 6432]⟩
abbrev S8192x2048 : Shape := ⟨2, ![8192, 2048]⟩
abbrev S1x2048 : Shape := ⟨2, ![1, 2048]⟩
abbrev S8192x6432 : Shape := ⟨2, ![8192, 6432]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩
abbrev S8192x1024 : Shape := ⟨2, ![8192, 1024]⟩
abbrev S4x16x128x8x128 : Shape := ⟨5, ![4, 16, 128, 8, 128]⟩
abbrev S4x1x2048 : Shape := ⟨3, ![4, 1, 2048]⟩
abbrev S4x2048 : Shape := ⟨2, ![4, 2048]⟩
abbrev S_ : Shape := ⟨0, ![]⟩
abbrev S4 : Shape := ⟨1, ![4]⟩
abbrev S4x1 : Shape := ⟨2, ![4, 1]⟩

abbrev nBuf : Space → Nat
  | .hbm => 29
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x6432, .f32⟩
  | .hbm, ⟨3, _⟩ => ⟨S8192x2048, .f32⟩
  | .hbm, ⟨4, _⟩ => ⟨S1x2048, .f32⟩
  | .hbm, ⟨5, _⟩ => ⟨S8192x6432, .f32⟩
  | .hbm, ⟨6, _⟩ => ⟨S8192x1024, .f32⟩
  | .hbm, ⟨7, _⟩ => ⟨S4x16x128x8x128, .f32⟩
  | .hbm, ⟨8, _⟩ => ⟨S8192x1024, .f32⟩
  | .hbm, ⟨9, _⟩ => ⟨S4x16x128x8x128, .f32⟩
  | .hbm, ⟨10, _⟩ => ⟨S4x2048x2048, .f32⟩
  | .hbm, ⟨11, _⟩ => ⟨S4x1x2048, .f32⟩
  | .hbm, ⟨12, _⟩ => ⟨S4x2048, .f32⟩
  | .hbm, ⟨13, _⟩ => ⟨S4x2048, .f32⟩
  | .hbm, ⟨14, _⟩ => ⟨S_, .f32⟩
  | .hbm, ⟨15, _⟩ => ⟨S4, .f32⟩
  | .hbm, ⟨16, _⟩ => ⟨S4x1, .f32⟩
  | .hbm, ⟨17, _⟩ => ⟨S_, .f32⟩
  | .hbm, ⟨18, _⟩ => ⟨S4x1, .f32⟩
  | .hbm, ⟨19, _⟩ => ⟨S4x1, .f32⟩
  | .hbm, ⟨20, _⟩ => ⟨S_, .f32⟩
  | .hbm, ⟨21, _⟩ => ⟨S4x1, .f32⟩
  | .hbm, ⟨22, _⟩ => ⟨S4x1, .f32⟩
  | .hbm, ⟨23, _⟩ => ⟨S4x1, .f32⟩
  | .hbm, ⟨24, _⟩ => ⟨S4x2048, .f32⟩
  | .hbm, ⟨25, _⟩ => ⟨S4x2048, .f32⟩
  | .hbm, ⟨26, _⟩ => ⟨S1x2048, .f32⟩
  | .hbm, ⟨27, _⟩ => ⟨S4x2048, .f32⟩
  | .hbm, ⟨28, _⟩ => ⟨S4x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S512x512, .f32⟩
  | .local _ .vmem, ⟨6, _⟩ => ⟨S512x512, .f32⟩
  | .local _ .vmem, ⟨7, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InEven0Ideal.lean ====
abbrev S4x2048x2048 : Shape := ⟨3, ![4, 2048, 2048]⟩
abbrev S2048 : Shape := ⟨1, ![2048]⟩
abbrev S2048x6432 : Shape := ⟨2, ![2048, 6432]⟩
abbrev S8192x2048 : Shape := ⟨2, ![8192, 2048]⟩
abbrev S1x2048 : Shape := ⟨2, ![1, 2048]⟩
abbrev S8192x6432 : Shape := ⟨2, ![8192, 6432]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩
abbrev S8192x1024 : Shape := ⟨2, ![8192, 1024]⟩
abbrev S4x16x128x8x128 : Shape := ⟨5, ![4, 16, 128, 8, 128]⟩
abbrev S4x1x2048 : Shape := ⟨3, ![4, 1, 2048]⟩
abbrev S4x2048 : Shape := ⟨2, ![4, 2048]⟩
abbrev S_ : Shape := ⟨0, ![]⟩
abbrev S4 : Shape := ⟨1, ![4]⟩
abbrev S4x1 : Shape := ⟨2, ![4, 1]⟩

abbrev nBuf : Space → Nat
  | .hbm => 29
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x6432, .f32⟩
  | .hbm, ⟨3, _⟩ => ⟨S8192x2048, .f32⟩
  | .hbm, ⟨4, _⟩ => ⟨S1x2048, .f32⟩
  | .hbm, ⟨5, _⟩ => ⟨S8192x6432, .f32⟩
  | .hbm, ⟨6, _⟩ => ⟨S8192x1024, .f32⟩
  | .hbm, ⟨7, _⟩ => ⟨S4x16x128x8x128, .f32⟩
  | .hbm, ⟨8, _⟩ => ⟨S8192x1024, .f32⟩
  | .hbm, ⟨9, _⟩ => ⟨S4x16x128x8x128, .f32⟩
  | .hbm, ⟨10, _⟩ => ⟨S4x2048x2048, .f32⟩
  | .hbm, ⟨11, _⟩ => ⟨S4x1x2048, .f32⟩
  | .hbm, ⟨12, _⟩ => ⟨S4x2048, .f32⟩
  | .hbm, ⟨13, _⟩ => ⟨S4x2048, .f32⟩
  | .hbm, ⟨14, _⟩ => ⟨S_, .f32⟩
  | .hbm, ⟨15, _⟩ => ⟨S4, .f32⟩
  | .hbm, ⟨16, _⟩ => ⟨S4x1, .f32⟩
  | .hbm, ⟨17, _⟩ => ⟨S_, .f32⟩
  | .hbm, ⟨18, _⟩ => ⟨S4x1, .f32⟩
  | .hbm, ⟨19, _⟩ => ⟨S4x1, .f32⟩
  | .hbm, ⟨20, _⟩ => ⟨S_, .f32⟩
  | .hbm, ⟨21, _⟩ => ⟨S4x1, .f32⟩
  | .hbm, ⟨22, _⟩ => ⟨S4x1, .f32⟩
  | .hbm, ⟨23, _⟩ => ⟨S4x1, .f32⟩
  | .hbm, ⟨24, _⟩ => ⟨S4x2048, .f32⟩
  | .hbm, ⟨25, _⟩ => ⟨S4x2048, .f32⟩
  | .hbm, ⟨26, _⟩ => ⟨S1x2048, .f32⟩
  | .hbm, ⟨27, _⟩ => ⟨S4x2048, .f32⟩
  | .hbm, ⟨28, _⟩ => ⟨S4x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S512x512, .f32⟩
  | .local _ .vmem, ⟨6, _⟩ => ⟨S512x512, .f32⟩
  | .local _ .vmem, ⟨7, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InEven0RefIdeal.lean ====
abbrev S4x2048x2048 : Shape := ⟨3, ![4, 2048, 2048]⟩
abbrev S2048 : Shape := ⟨1, ![2048]⟩
abbrev S2048x6432 : Shape := ⟨2, ![2048, 6432]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x6432 : Shape := ⟨3, ![4, 2048, 6432]⟩
abbrev S4x2048x1024 : Shape := ⟨3, ![4, 2048, 1024]⟩
abbrev S4x2048x8x128 : Shape := ⟨4, ![4, 2048, 8, 128]⟩
abbrev S8192x6432 : Shape := ⟨2, ![8192, 6432]⟩
abbrev S4x16x128x8x128 : Shape := ⟨5, ![4, 16, 128, 8, 128]⟩
abbrev S4x1x2048 : Shape := ⟨3, ![4, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x6432, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x6432, .f32⟩
  | .hbm, ⟨20, _⟩ => ⟨S4x2048x1024, .f32⟩
  | .hbm, ⟨21, _⟩ => ⟨S4x2048x8x128, .f32⟩
  | .hbm, ⟨22, _⟩ => ⟨S4x2048x1024, .f32⟩
  | .hbm, ⟨23, _⟩ => ⟨S4x2048x8x128, .f32⟩
  | .hbm, ⟨24, _⟩ => ⟨S8192x6432, .f32⟩
  | .hbm, ⟨25, _⟩ => ⟨S4x16x128x8x128, .f32⟩
  | .hbm, ⟨26, _⟩ => ⟨S4x16x128x8x128, .f32⟩
  | .hbm, ⟨27, _⟩ => ⟨S4x1x2048, .f32⟩
  | .hbm, ⟨28, _⟩ => ⟨S4x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== InEven2.lean ====
abbrev S4x2048x2048 : Shape := ⟨3, ![4, 2048, 2048]⟩
abbrev S2048 : Shape := ⟨1, ![2048]⟩
abbrev S2048x6464 : Shape := ⟨2, ![2048, 6464]⟩
abbrev S8192x2048 : Shape := ⟨2, ![8192, 2048]⟩
abbrev S1x2048 : Shape := ⟨2, ![1, 2048]⟩
abbrev S8192x6464 : Shape := ⟨2, ![8192, 6464]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩
abbrev S8192x1024 : Shape := ⟨2, ![8192, 1024]⟩
abbrev S4x16x128x8x128 : Shape := ⟨5, ![4, 16, 128, 8, 128]⟩
abbrev S4x1x2048 : Shape := ⟨3, ![4, 1, 2048]⟩
abbrev S4x2048 : Shape := ⟨2, ![4, 2048]⟩
abbrev S_ : Shape := ⟨0, ![]⟩
abbrev S4 : Shape := ⟨1, ![4]⟩
abbrev S4x1 : Shape := ⟨2, ![4, 1]⟩

abbrev nBuf : Space → Nat
  | .hbm => 29
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x6464, .f32⟩
  | .hbm, ⟨3, _⟩ => ⟨S8192x2048, .f32⟩
  | .hbm, ⟨4, _⟩ => ⟨S1x2048, .f32⟩
  | .hbm, ⟨5, _⟩ => ⟨S8192x6464, .f32⟩
  | .hbm, ⟨6, _⟩ => ⟨S8192x1024, .f32⟩
  | .hbm, ⟨7, _⟩ => ⟨S4x16x128x8x128, .f32⟩
  | .hbm, ⟨8, _⟩ => ⟨S8192x1024, .f32⟩
  | .hbm, ⟨9, _⟩ => ⟨S4x16x128x8x128, .f32⟩
  | .hbm, ⟨10, _⟩ => ⟨S4x2048x2048, .f32⟩
  | .hbm, ⟨11, _⟩ => ⟨S4x1x2048, .f32⟩
  | .hbm, ⟨12, _⟩ => ⟨S4x2048, .f32⟩
  | .hbm, ⟨13, _⟩ => ⟨S4x2048, .f32⟩
  | .hbm, ⟨14, _⟩ => ⟨S_, .f32⟩
  | .hbm, ⟨15, _⟩ => ⟨S4, .f32⟩
  | .hbm, ⟨16, _⟩ => ⟨S4x1, .f32⟩
  | .hbm, ⟨17, _⟩ => ⟨S_, .f32⟩
  | .hbm, ⟨18, _⟩ => ⟨S4x1, .f32⟩
  | .hbm, ⟨19, _⟩ => ⟨S4x1, .f32⟩
  | .hbm, ⟨20, _⟩ => ⟨S_, .f32⟩
  | .hbm, ⟨21, _⟩ => ⟨S4x1, .f32⟩
  | .hbm, ⟨22, _⟩ => ⟨S4x1, .f32⟩
  | .hbm, ⟨23, _⟩ => ⟨S4x1, .f32⟩
  | .hbm, ⟨24, _⟩ => ⟨S4x2048, .f32⟩
  | .hbm, ⟨25, _⟩ => ⟨S4x2048, .f32⟩
  | .hbm, ⟨26, _⟩ => ⟨S1x2048, .f32⟩
  | .hbm, ⟨27, _⟩ => ⟨S4x2048, .f32⟩
  | .hbm, ⟨28, _⟩ => ⟨S4x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S512x512, .f32⟩
  | .local _ .vmem, ⟨6, _⟩ => ⟨S512x512, .f32⟩
  | .local _ .vmem, ⟨7, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InEven2RefIdeal.lean ====
abbrev S4x2048x2048 : Shape := ⟨3, ![4, 2048, 2048]⟩
abbrev S2048 : Shape := ⟨1, ![2048]⟩
abbrev S2048x6464 : Shape := ⟨2, ![2048, 6464]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x6464 : Shape := ⟨3, ![4, 2048, 6464]⟩
abbrev S4x2048x1024 : Shape := ⟨3, ![4, 2048, 1024]⟩
abbrev S4x2048x8x128 : Shape := ⟨4, ![4, 2048, 8, 128]⟩
abbrev S8192x6464 : Shape := ⟨2, ![8192, 6464]⟩
abbrev S4x16x128x8x128 : Shape := ⟨5, ![4, 16, 128, 8, 128]⟩
abbrev S4x1x2048 : Shape := ⟨3, ![4, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x6464, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x6464, .f32⟩
  | .hbm, ⟨20, _⟩ => ⟨S4x2048x1024, .f32⟩
  | .hbm, ⟨21, _⟩ => ⟨S4x2048x8x128, .f32⟩
  | .hbm, ⟨22, _⟩ => ⟨S4x2048x1024, .f32⟩
  | .hbm, ⟨23, _⟩ => ⟨S4x2048x8x128, .f32⟩
  | .hbm, ⟨24, _⟩ => ⟨S8192x6464, .f32⟩
  | .hbm, ⟨25, _⟩ => ⟨S4x16x128x8x128, .f32⟩
  | .hbm, ⟨26, _⟩ => ⟨S4x16x128x8x128, .f32⟩
  | .hbm, ⟨27, _⟩ => ⟨S4x1x2048, .f32⟩
  | .hbm, ⟨28, _⟩ => ⟨S4x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== InSample0.lean ====
abbrev S8x1x2048 : Shape := ⟨3, ![8, 1, 2048]⟩
abbrev S2048 : Shape := ⟨1, ![2048]⟩
abbrev S2048x6432 : Shape := ⟨2, ![2048, 6432]⟩
abbrev S8x2048 : Shape := ⟨2, ![8, 2048]⟩
abbrev S_ : Shape := ⟨0, ![]⟩
abbrev S16x2048 : Shape := ⟨2, ![16, 2048]⟩
abbrev S1x2048 : Shape := ⟨2, ![1, 2048]⟩
abbrev S16x6432 : Shape := ⟨2, ![16, 6432]⟩
abbrev S2048x512 : Shape := ⟨2, ![2048, 512]⟩
abbrev S16x512 : Shape := ⟨2, ![16, 512]⟩
abbrev S16 : Shape := ⟨1, ![16]⟩
abbrev S16x1 : Shape := ⟨2, ![16, 1]⟩
abbrev S8x6432 : Shape := ⟨2, ![8, 6432]⟩
abbrev S8x1024 : Shape := ⟨2, ![8, 1024]⟩
abbrev S8x1x8x128 : Shape := ⟨4, ![8, 1, 8, 128]⟩
abbrev S8 : Shape := ⟨1, ![8]⟩
abbrev S8x1 : Shape := ⟨2, ![8, 1]⟩

abbrev nBuf : Space → Nat
  | .hbm => 32
  | .vmem => 7
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S2048x6432, .f32⟩
  | .hbm, ⟨3, _⟩ => ⟨S8x2048, .f32⟩
  | .hbm, ⟨4, _⟩ => ⟨S_, .i32⟩
  | .hbm, ⟨5, _⟩ => ⟨S_, .f32⟩
  | .hbm, ⟨6, _⟩ => ⟨S16x2048, .f32⟩
  | .hbm, ⟨7, _⟩ => ⟨S1x2048, .f32⟩
  | .hbm, ⟨8, _⟩ => ⟨S16x6432, .f32⟩
  | .hbm, ⟨9, _⟩ => ⟨S8x6432, .f32⟩
  | .hbm, ⟨10, _⟩ => ⟨S8x1024, .f32⟩
  | .hbm, ⟨11, _⟩ => ⟨S8x1x8x128, .f32⟩
  | .hbm, ⟨12, _⟩ => ⟨S8x1024, .f32⟩
  | .hbm, ⟨13, _⟩ => ⟨S8x1x8x128, .f32⟩
  | .hbm, ⟨14, _⟩ => ⟨S8x1x2048, .f32⟩
  | .hbm, ⟨15, _⟩ => ⟨S8x2048, .f32⟩
  | .hbm, ⟨16, _⟩ => ⟨S8x2048, .f32⟩
  | .hbm, ⟨17, _⟩ => ⟨S_, .f32⟩
  | .hbm, ⟨18, _⟩ => ⟨S8, .f32⟩
  | .hbm, ⟨19, _⟩ => ⟨S8x1, .f32⟩
  | .hbm, ⟨20, _⟩ => ⟨S_, .f32⟩
  | .hbm, ⟨21, _⟩ => ⟨S8x1, .f32⟩
  | .hbm, ⟨22, _⟩ => ⟨S8x1, .f32⟩
  | .hbm, ⟨23, _⟩ => ⟨S_, .f32⟩
  | .hbm, ⟨24, _⟩ => ⟨S8x1, .f32⟩
  | .hbm, ⟨25, _⟩ => ⟨S8x1, .f32⟩
  | .hbm, ⟨26, _⟩ => ⟨S8x1, .f32⟩
  | .hbm, ⟨27, _⟩ => ⟨S8x2048, .f32⟩
  | .hbm, ⟨28, _⟩ => ⟨S8x2048, .f32⟩
  | .hbm, ⟨29, _⟩ => ⟨S1x2048, .f32⟩
  | .hbm, ⟨30, _⟩ => ⟨S8x2048, .f32⟩
  | .hbm, ⟨31, _⟩ => ⟨S8x2048, .f32⟩
  | .local _ .vmem, ⟨0, _⟩ => ⟨S16x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S16x512, .f32⟩
  | .local _ .vmem, ⟨5, _⟩ => ⟨S16x512, .f32⟩
  | .local _ .vmem, ⟨6, _⟩ => ⟨S16x2048, .bf16⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InSample0Ideal.lean ====
abbrev S8x1x2048 : Shape := ⟨3, ![8, 1, 2048]⟩
abbrev S2048 : Shape := ⟨1, ![2048]⟩
abbrev S2048x6432 : Shape := ⟨2, ![2048, 6432]⟩
abbrev S8x2048 : Shape := ⟨2, ![8, 2048]⟩
abbrev S_ : Shape := ⟨0, ![]⟩
abbrev S16x2048 : Shape := ⟨2, ![16, 2048]⟩
abbrev S1x2048 : Shape := ⟨2, ![1, 2048]⟩
abbrev S16x6432 : Shape := ⟨2, ![16, 6432]⟩
abbrev S2048x512 : Shape := ⟨2, ![2048, 512]⟩
abbrev S16x512 : Shape := ⟨2, ![16, 512]⟩
abbrev S16 : Shape := ⟨1, ![16]⟩
abbrev S16x1 : Shape := ⟨2, ![16, 1]⟩
abbrev S8x6432 : Shape := ⟨2, ![8, 6432]⟩
abbrev S8x1024 : Shape := ⟨2, ![8, 1024]⟩
abbrev S8x1x8x128 : Shape := ⟨4, ![8, 1, 8, 128]⟩
abbrev S8 : Shape := ⟨1, ![8]⟩
abbrev S8x1 : Shape := ⟨2, ![8, 1]⟩

abbrev nBuf : Space → Nat
  | .hbm => 32
  | .vmem => 7
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S2048x6432, .f32⟩
  | .hbm, ⟨3, _⟩ => ⟨S8x2048, .f32⟩
  | .hbm, ⟨4, _⟩ => ⟨S_, .i32⟩
  | .hbm, ⟨5, _⟩ => ⟨S_, .f32⟩
  | .hbm, ⟨6, _⟩ => ⟨S16x2048, .f32⟩
  | .hbm, ⟨7, _⟩ => ⟨S1x2048, .f32⟩
  | .hbm, ⟨8, _⟩ => ⟨S16x6432, .f32⟩
  | .hbm, ⟨9, _⟩ => ⟨S8x6432, .f32⟩
  | .hbm, ⟨10, _⟩ => ⟨S8x1024, .f32⟩
  | .hbm, ⟨11, _⟩ => ⟨S8x1x8x128, .f32⟩
  | .hbm, ⟨12, _⟩ => ⟨S8x1024, .f32⟩
  | .hbm, ⟨13, _⟩ => ⟨S8x1x8x128, .f32⟩
  | .hbm, ⟨14, _⟩ => ⟨S8x1x2048, .f32⟩
  | .hbm, ⟨15, _⟩ => ⟨S8x2048, .f32⟩
  | .hbm, ⟨16, _⟩ => ⟨S8x2048, .f32⟩
  | .hbm, ⟨17, _⟩ => ⟨S_, .f32⟩
  | .hbm, ⟨18, _⟩ => ⟨S8, .f32⟩
  | .hbm, ⟨19, _⟩ => ⟨S8x1, .f32⟩
  | .hbm, ⟨20, _⟩ => ⟨S_, .f32⟩
  | .hbm, ⟨21, _⟩ => ⟨S8x1, .f32⟩
  | .hbm, ⟨22, _⟩ => ⟨S8x1, .f32⟩
  | .hbm, ⟨23, _⟩ => ⟨S_, .f32⟩
  | .hbm, ⟨24, _⟩ => ⟨S8x1, .f32⟩
  | .hbm, ⟨25, _⟩ => ⟨S8x1, .f32⟩
  | .hbm, ⟨26, _⟩ => ⟨S8x1, .f32⟩
  | .hbm, ⟨27, _⟩ => ⟨S8x2048, .f32⟩
  | .hbm, ⟨28, _⟩ => ⟨S8x2048, .f32⟩
  | .hbm, ⟨29, _⟩ => ⟨S1x2048, .f32⟩
  | .hbm, ⟨30, _⟩ => ⟨S8x2048, .f32⟩
  | .hbm, ⟨31, _⟩ => ⟨S8x2048, .f32⟩
  | .local _ .vmem, ⟨0, _⟩ => ⟨S16x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S16x512, .f32⟩
  | .local _ .vmem, ⟨5, _⟩ => ⟨S16x512, .f32⟩
  | .local _ .vmem, ⟨6, _⟩ => ⟨S16x2048, .bf16⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InSample0RefIdeal.lean ====
abbrev S8x1x2048 : Shape := ⟨3, ![8, 1, 2048]⟩
abbrev S2048 : Shape := ⟨1, ![2048]⟩
abbrev S2048x6432 : Shape := ⟨2, ![2048, 6432]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩
abbrev S8x1x6432 : Shape := ⟨3, ![8, 1, 6432]⟩
abbrev S8x1x1024 : Shape := ⟨3, ![8, 1, 1024]⟩
abbrev S8x1x8x128 : Shape := ⟨4, ![8, 1, 8, 128]⟩
abbrev S8x6432 : Shape := ⟨2, ![8, 6432]⟩
abbrev S8x2048 : Shape := ⟨2, ![8, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S2048x6432, .f32⟩
  | .hbm, ⟨3, _⟩ => ⟨S8x1x2048, .f32⟩
  | .hbm, ⟨4, _⟩ => ⟨S_, .f32⟩
  | .hbm, ⟨5, _⟩ => ⟨S8x1, .f32⟩
  | .hbm, ⟨6, _⟩ => ⟨S8x1x1, .f32⟩
  | .hbm, ⟨7, _⟩ => ⟨S_, .f32⟩
  | .hbm, ⟨8, _⟩ => ⟨S8x1x1, .f32⟩
  | .hbm, ⟨9, _⟩ => ⟨S8x1x1, .f32⟩
  | .hbm, ⟨10, _⟩ => ⟨S_, .f32⟩
  | .hbm, ⟨11, _⟩ => ⟨S8x1x1, .f32⟩
  | .hbm, ⟨12, _⟩ => ⟨S8x1x1, .f32⟩
  | .hbm, ⟨13, _⟩ => ⟨S8x1x1, .f32⟩
  | .hbm, ⟨14, _⟩ => ⟨S8x1x2048, .f32⟩
  | .hbm, ⟨15, _⟩ => ⟨S8x1x2048, .f32⟩
  | .hbm, ⟨16, _⟩ => ⟨S1x1x2048, .f32⟩
  | .hbm, ⟨17, _⟩ => ⟨S8x1x2048, .f32⟩
  | .hbm, ⟨18, _⟩ => ⟨S8x1x2048, .f32⟩
  | .hbm, ⟨19, _⟩ => ⟨S8x1x6432, .f32⟩
  | .hbm, ⟨20, _⟩ => ⟨S8x1x1024, .f32⟩
  | .hbm, ⟨21, _⟩ => ⟨S8x1x8x128, .f32⟩
  | .hbm, ⟨22, _⟩ => ⟨S8x1x1024, .f32⟩
  | .hbm, ⟨23, _⟩ => ⟨S8x1x8x128, .f32⟩
  | .hbm, ⟨24, _⟩ => ⟨S8x6432, .f32⟩
  | .hbm, ⟨25, _⟩ => ⟨S8x2048, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== InSample1.lean ====
abbrev S8x1x2048 : Shape := ⟨3, ![8, 1, 2048]⟩
abbrev S2048 : Shape := ⟨1, ![2048]⟩
abbrev S2048x12352 : Shape := ⟨2, ![2048, 12352]⟩
abbrev S8x3x8192 : Shape := ⟨3, ![8, 3, 8192]⟩
abbrev S8x2048 : Shape := ⟨2, ![8, 2048]⟩
abbrev S_ : Shape := ⟨0, ![]⟩
abbrev S16x2048 : Shape := ⟨2, ![16, 2048]⟩
abbrev S1x2048 : Shape := ⟨2, ![1, 2048]⟩
abbrev S16x12352 : Shape := ⟨2, ![16, 12352]⟩
abbrev S2048x512 : Shape := ⟨2, ![2048, 512]⟩
abbrev S16x512 : Shape := ⟨2, ![16, 512]⟩
abbrev S16 : Shape := ⟨1, ![16]⟩
abbrev S16x1 : Shape := ⟨2, ![16, 1]⟩
abbrev S8x12352 : Shape := ⟨2, ![8, 12352]⟩
abbrev S8x1x12352 : Shape := ⟨3, ![8, 1, 12352]⟩
abbrev S8x1x8192 : Shape := ⟨3, ![8, 1, 8192]⟩
abbrev S8x4x8192 : Shape := ⟨3, ![8, 4, 8192]⟩

abbrev nBuf : Space → Nat
  | .hbm => 15
  | .vmem => 7
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S2048x12352, .f32⟩
  | .hbm, ⟨3, _⟩ => ⟨S8x3x8192, .f32⟩
  | .hbm, ⟨4, _⟩ => ⟨S8x2048, .f32⟩
  | .hbm, ⟨5, _⟩ => ⟨S_, .i32⟩
  | .hbm, ⟨6, _⟩ => ⟨S_, .f32⟩
  | .hbm, ⟨7, _⟩ => ⟨S16x2048, .f32⟩
  | .hbm, ⟨8, _⟩ => ⟨S1x2048, .f32⟩
  | .hbm, ⟨9, _⟩ => ⟨S16x12352, .f32⟩
  | .hbm, ⟨10, _⟩ => ⟨S8x12352, .f32⟩
  | .hbm, ⟨11, _⟩ => ⟨S8x1x12352, .f32⟩
  | .hbm, ⟨12, _⟩ => ⟨S8x1x8192, .f32⟩
  | .hbm, ⟨13, _⟩ => ⟨S8x4x8192, .f32⟩
  | .hbm, ⟨14, _⟩ => ⟨S8x3x8192, .f32⟩
  | .local _ .vmem, ⟨0, _⟩ => ⟨S16x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S16x512, .f32⟩
  | .local _ .vmem, ⟨5, _⟩ => ⟨S16x512, .f32⟩
  | .local _ .vmem, ⟨6, _⟩ => ⟨S16x2048, .bf16⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InSample1RefIdeal.lean ====
abbrev S8x1x2048 : Shape := ⟨3, ![8, 1, 2048]⟩
abbrev S2048 : Shape := ⟨1, ![2048]⟩
abbrev S2048x12352 : Shape := ⟨2, ![2048, 12352]⟩
abbrev S8x3x8192 : Shape := ⟨3, ![8, 3, 8192]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩
abbrev S8x1x12352 : Shape := ⟨3, ![8, 1, 12352]⟩
abbrev S8x1x8192 : Shape := ⟨3, ![8, 1, 8192]⟩
abbrev S8x4x8192 : Shape := ⟨3, ![8, 4, 8192]⟩
abbrev S8x12352 : Shape := ⟨2, ![8, 12352]⟩

abbrev nBuf : Space → Nat
  | .hbm => 25
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S2048x12352, .f32⟩
  | .hbm, ⟨3, _⟩ => ⟨S8x3x8192, .f32⟩
  | .hbm, ⟨4, _⟩ => ⟨S8x1x2048, .f32⟩
  | .hbm, ⟨5, _⟩ => ⟨S_, .f32⟩
  | .hbm, ⟨6, _⟩ => ⟨S8x1, .f32⟩
  | .hbm, ⟨7, _⟩ => ⟨S8x1x1, .f32⟩
  | .hbm, ⟨8, _⟩ => ⟨S_, .f32⟩
  | .hbm, ⟨9, _⟩ => ⟨S8x1x1, .f32⟩
  | .hbm, ⟨10, _⟩ => ⟨S8x1x1, .f32⟩
  | .hbm, ⟨11, _⟩ => ⟨S_, .f32⟩
  | .hbm, ⟨12, _⟩ => ⟨S8x1x1, .f32⟩
  | .hbm, ⟨13, _⟩ => ⟨S8x1x1, .f32⟩
  | .hbm, ⟨14, _⟩ => ⟨S8x1x1, .f32⟩
  | .hbm, ⟨15, _⟩ => ⟨S8x1x2048, .f32⟩
  | .hbm, ⟨16, _⟩ => ⟨S8x1x2048, .f32⟩
  | .hbm, ⟨17, _⟩ => ⟨S1x1x2048, .f32⟩
  | .hbm, ⟨18, _⟩ => ⟨S8x1x2048, .f32⟩
  | .hbm, ⟨19, _⟩ => ⟨S8x1x2048, .f32⟩
  | .hbm, ⟨20, _⟩ => ⟨S8x1x12352, .f32⟩
  | .hbm, ⟨21, _⟩ => ⟨S8x1x8192, .f32⟩
  | .hbm, ⟨22, _⟩ => ⟨S8x4x8192, .f32⟩
  | .hbm, ⟨23, _⟩ => ⟨S8x12352, .f32⟩
  | .hbm, ⟨24, _⟩ => ⟨S8x3x8192, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InSample2.lean ====
abbrev S8x1x2048 : Shape := ⟨3, ![8, 1, 2048]⟩
abbrev S2048 : Shape := ⟨1, ![2048]⟩
abbrev S2048x6464 : Shape := ⟨2, ![2048, 6464]⟩
abbrev S8x2048 : Shape := ⟨2, ![8, 2048]⟩
abbrev S_ : Shape := ⟨0, ![]⟩
abbrev S16x2048 : Shape := ⟨2, ![16, 2048]⟩
abbrev S1x2048 : Shape := ⟨2, ![1, 2048]⟩
abbrev S16x6464 : Shape := ⟨2, ![16, 6464]⟩
abbrev S2048x512 : Shape := ⟨2, ![2048, 512]⟩
abbrev S16x512 : Shape := ⟨2, ![16, 512]⟩
abbrev S16 : Shape := ⟨1, ![16]⟩
abbrev S16x1 : Shape := ⟨2, ![16, 1]⟩
abbrev S8x6464 : Shape := ⟨2, ![8, 6464]⟩
abbrev S8x1024 : Shape := ⟨2, ![8, 1024]⟩
abbrev S8x1x8x128 : Shape := ⟨4, ![8, 1, 8, 128]⟩
abbrev S8 : Shape := ⟨1, ![8]⟩
abbrev S8x1 : Shape := ⟨2, ![8, 1]⟩

abbrev nBuf : Space → Nat
  | .hbm => 32
  | .vmem => 7
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S2048x6464, .f32⟩
  | .hbm, ⟨3, _⟩ => ⟨S8x2048, .f32⟩
  | .hbm, ⟨4, _⟩ => ⟨S_, .i32⟩
  | .hbm, ⟨5, _⟩ => ⟨S_, .f32⟩
  | .hbm, ⟨6, _⟩ => ⟨S16x2048, .f32⟩
  | .hbm, ⟨7, _⟩ => ⟨S1x2048, .f32⟩
  | .hbm, ⟨8, _⟩ => ⟨S16x6464, .f32⟩
  | .hbm, ⟨9, _⟩ => ⟨S8x6464, .f32⟩
  | .hbm, ⟨10, _⟩ => ⟨S8x1024, .f32⟩
  | .hbm, ⟨11, _⟩ => ⟨S8x1x8x128, .f32⟩
  | .hbm, ⟨12, _⟩ => ⟨S8x1024, .f32⟩
  | .hbm, ⟨13, _⟩ => ⟨S8x1x8x128, .f32⟩
  | .hbm, ⟨14, _⟩ => ⟨S8x1x2048, .f32⟩
  | .hbm, ⟨15, _⟩ => ⟨S8x2048, .f32⟩
  | .hbm, ⟨16, _⟩ => ⟨S8x2048, .f32⟩
  | .hbm, ⟨17, _⟩ => ⟨S_, .f32⟩
  | .hbm, ⟨18, _⟩ => ⟨S8, .f32⟩
  | .hbm, ⟨19, _⟩ => ⟨S8x1, .f32⟩
  | .hbm, ⟨20, _⟩ => ⟨S_, .f32⟩
  | .hbm, ⟨21, _⟩ => ⟨S8x1, .f32⟩
  | .hbm, ⟨22, _⟩ => ⟨S8x1, .f32⟩
  | .hbm, ⟨23, _⟩ => ⟨S_, .f32⟩
  | .hbm, ⟨24, _⟩ => ⟨S8x1, .f32⟩
  | .hbm, ⟨25, _⟩ => ⟨S8x1, .f32⟩
  | .hbm, ⟨26, _⟩ => ⟨S8x1, .f32⟩
  | .hbm, ⟨27, _⟩ => ⟨S8x2048, .f32⟩
  | .hbm, ⟨28, _⟩ => ⟨S8x2048, .f32⟩
  | .hbm, ⟨29, _⟩ => ⟨S1x2048, .f32⟩
  | .hbm, ⟨30, _⟩ => ⟨S8x2048, .f32⟩
  | .hbm, ⟨31, _⟩ => ⟨S8x2048, .f32⟩
  | .local _ .vmem, ⟨0, _⟩ => ⟨S16x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S16x512, .f32⟩
  | .local _ .vmem, ⟨5, _⟩ => ⟨S16x512, .f32⟩
  | .local _ .vmem, ⟨6, _⟩ => ⟨S16x2048, .bf16⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InSample2RefIdeal.lean ====
abbrev S8x1x2048 : Shape := ⟨3, ![8, 1, 2048]⟩
abbrev S2048 : Shape := ⟨1, ![2048]⟩
abbrev S2048x6464 : Shape := ⟨2, ![2048, 6464]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩
abbrev S8x1x6464 : Shape := ⟨3, ![8, 1, 6464]⟩
abbrev S8x1x1024 : Shape := ⟨3, ![8, 1, 1024]⟩
abbrev S8x1x8x128 : Shape := ⟨4, ![8, 1, 8, 128]⟩
abbrev S8x6464 : Shape := ⟨2, ![8, 6464]⟩
abbrev S8x2048 : Shape := ⟨2, ![8, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S2048x6464, .f32⟩
  | .hbm, ⟨3, _⟩ => ⟨S8x1x2048, .f32⟩
  | .hbm, ⟨4, _⟩ => ⟨S_, .f32⟩
  | .hbm, ⟨5, _⟩ => ⟨S8x1, .f32⟩
  | .hbm, ⟨6, _⟩ => ⟨S8x1x1, .f32⟩
  | .hbm, ⟨7, _⟩ => ⟨S_, .f32⟩
  | .hbm, ⟨8, _⟩ => ⟨S8x1x1, .f32⟩
  | .hbm, ⟨9, _⟩ => ⟨S8x1x1, .f32⟩
  | .hbm, ⟨10, _⟩ => ⟨S_, .f32⟩
  | .hbm, ⟨11, _⟩ => ⟨S8x1x1, .f32⟩
  | .hbm, ⟨12, _⟩ => ⟨S8x1x1, .f32⟩
  | .hbm, ⟨13, _⟩ => ⟨S8x1x1, .f32⟩
  | .hbm, ⟨14, _⟩ => ⟨S8x1x2048, .f32⟩
  | .hbm, ⟨15, _⟩ => ⟨S8x1x2048, .f32⟩
  | .hbm, ⟨16, _⟩ => ⟨S1x1x2048, .f32⟩
  | .hbm, ⟨17, _⟩ => ⟨S8x1x2048, .f32⟩
  | .hbm, ⟨18, _⟩ => ⟨S8x1x2048, .f32⟩
  | .hbm, ⟨19, _⟩ => ⟨S8x1x6464, .f32⟩
  | .hbm, ⟨20, _⟩ => ⟨S8x1x1024, .f32⟩
  | .hbm, ⟨21, _⟩ => ⟨S8x1x8x128, .f32⟩
  | .hbm, ⟨22, _⟩ => ⟨S8x1x1024, .f32⟩
  | .hbm, ⟨23, _⟩ => ⟨S8x1x8x128, .f32⟩
  | .hbm, ⟨24, _⟩ => ⟨S8x6464, .f32⟩
  | .hbm, ⟨25, _⟩ => ⟨S8x2048, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Wkv.Step.lean ====
/- One trip of the recurrence kernel's loop, as a function: what the 64 rows of the carried state become, and the 64
   output rows, from the step's vectors. The trip's stores, as the library's executor lists them, are these rows. -/
module

public import proofs.«01_k».proof.Proof.Gen.KernelIdeal.Loops
public import Idealize.ShloMosaic.Lib.Pipeline.FrameBody
public import Idealize.ShloMosaic.Lib.Tactic

@[expose] public section

set_option maxRecDepth 16384

noncomputable section

namespace Cert.Wkv

open Cert.KernelIdeal Cert.KernelIdeal.Gen Idealize.ShloMosaic Idealize.ShloMosaic.TcCoe Idealize.SL.Sem

variable {F : FTy → Type} [FloatOps F]

/-- Where row `i` of step `k` lies in a block of 64 steps by 64 rows. -/
def rowOff (i : Fin 64) (k : Fin k0_t1_loop.trips) : Fin 4 → Nat :=
  ![0, (Scalar.indexCast (Scf.iv (0#32 : BitVec 32) 1#32 k) : Index).toNat, i.val, 0]

/-- In plain numbers: step `k`, row `i`. -/
theorem rowOff_eq (i : Fin 64) (k : Fin k0_t1_loop.trips) : rowOff i k = ![0, k.val, i.val, 0] := by
  have h : (Scalar.indexCast (Scf.iv (0#32 : BitVec 32) 1#32 k) : Index).toNat = k.val := by
    have := congrFun (k0_off1_eq k) 1
    exact this
  unfold rowOff; rw [h]

theorem trips_eq : k0_t1_loop.trips = 64 := by decide +kernel

theorem rowOff_inb (i : Fin 64) (k : Fin k0_t1_loop.trips) :
    ∀ a, rowOff i k a + S1x1x1x128.size a ≤ S1x64x64x128.size a := by
  have hk : k.val < 64 := lt_of_lt_of_eq k.isLt trips_eq
  rw [rowOff_eq]; intro a
  fin_cases a <;> simp [S1x1x1x128, S1x64x64x128] <;> omega

/-- Row `i` of the state lies inside the state. -/
theorem stateOff_inb (i : Fin 64) : ∀ a, (![i.val, 0, 0] : Fin 3 → Nat) a + S1x32x128.size a ≤ S64x32x128.size a := by
  intro a; fin_cases a <;> simp [S1x32x128, S64x32x128] <;> omega

/-- The vector of step `k` in a block of 64 steps. -/
def vecAt (x : Vec F S1x64x32x128 .f32) (k : Fin k0_t1_loop.trips) : FVec F S32x128 .f32 :=
  shapeCast S32x128 (View.ld x (Rect.unit (s := S1x64x32x128) (k0_off1 k) S1x1x32x128.size (k0_off1_inb k)))
    shapeCasts_S1x1x32x128_S32x128

/-- The value row `i` of step `k`. -/
def valAt (x : Vec F S1x64x64x128 .f32) (k : Fin k0_t1_loop.trips) (i : Fin 64) : FVec F S1x128 .f32 :=
  shapeCast S1x128 (View.ld x (Rect.unit (s := S1x64x64x128) (rowOff i k) S1x1x1x128.size (rowOff_inb i k)))
    shapeCasts_S1x1x1x128_S1x128

/-- Row `i` of the state. -/
def stateAt (s : Vec F S64x32x128 .f32) (i : Fin 64) : FVec F S32x128 .f32 :=
  shapeCast S32x128 (View.ld s (Rect.unit (s := S64x32x128) ![i.val, 0, 0] S1x32x128.size (stateOff_inb i)))
    shapeCasts_S1x32x128_S32x128

/-- The sum over the key axis, split in the kernel's layout over 32 sublanes and two lane halves: each lane gets the
    sum of its own half and of the other. -/
def keySum (z : FVec F S32x128 .f32) : FVec F S1x128 .f32 :=
  have t : FVec F S1x128 .f32 :=
    shapeCast S1x128 (multiReduction .add [0] S128 z 0x00000000#32 reduces_S32x128_S128 (.inl rfl) rfl) shapeCasts_S128_S1x128
  addf t (dynamicRotate 1 64#32 none t rotates_S1x128_d1)

/-- One state row after a step: decayed, corrected along `b` by what `kk` reads off it, and the new value stored
    along `k`. -/
def newRow (w k kk b s : FVec F S32x128 .f32) (v : FVec F S1x128 .f32) : FVec F S32x128 .f32 :=
  addf (addf (mulf s w)
      (mulf (broadcastTo S32x128 (subf (broadcast S1x128 (Scalar.ofBits .f32 0x00000000#32 : F .f32)) (keySum (mulf s kk)))
        broadcasts_S1x128_S32x128) b))
    (mulf (broadcastTo S32x128 v broadcasts_S1x128_S32x128) k)

/-- Row `i` of the state after step `k` from the state `s` before it. -/
def rowNext (w k kk b : Vec F S1x64x32x128 .f32) (v : Vec F S1x64x64x128 .f32) (n : Fin k0_t1_loop.trips)
    (s : Vec F S64x32x128 .f32) (i : Fin 64) : FVec F S32x128 .f32 :=
  newRow (vecAt w n) (vecAt k n) (vecAt kk n) (vecAt b n) (stateAt s i) (valAt v n i)

/-- The store of row `i` of the next state. -/
def statePiece (w k kk b : Vec F S1x64x32x128 .f32) (v : Vec F S1x64x64x128 .f32) (n : Fin k0_t1_loop.trips)
    (s : Vec F S64x32x128 .f32) (i : Fin 64) : View.Piece (Elt F) S64x32x128 .f32 :=
  ⟨Rect.unit (s := S64x32x128) ![i.val, 0, 0] S1x32x128.size (stateOff_inb i),
    shapeCast S1x32x128 (rowNext w k kk b v n s i) shapeCasts_S32x128_S1x32x128⟩

/-- The store of row `i` of the step's output: the next state's row read along `r`. -/
def outPiece (r w k kk b : Vec F S1x64x32x128 .f32) (v : Vec F S1x64x64x128 .f32) (n : Fin k0_t1_loop.trips)
    (s : Vec F S64x32x128 .f32) (i : Fin 64) : View.Piece (Elt F) S1x64x64x128 .f32 :=
  ⟨Rect.unit (s := S1x64x64x128) (rowOff i n) S1x1x1x128.size (rowOff_inb i n),
    shapeCast S1x1x1x128 (keySum (mulf (rowNext w k kk b v n s i) (vecAt r n))) shapeCasts_S1x128_S1x1x1x128⟩

/-- The rows in the order of the executor's list, the last stored first. -/
def rowsDown : List (Fin 64) := (List.finRange 64).reverse

theorem mem_rowsDown (i : Fin 64) : i ∈ rowsDown := by unfold rowsDown; simp

section trip
variable (𝒱 : Variants) (c : Dev nD) (bd : Option 𝒱.V) (i : grid0.Coords)
  (arg2 : Memref sig .tc .vmem S1x64x32x128 .f32) (harg2 : arg2.IsWhole)
  (arg3 : Memref sig .tc .vmem S1x64x32x128 .f32) (harg3 : arg3.IsWhole)
  (arg4 : Memref sig .tc .vmem S1x64x32x128 .f32) (harg4 : arg4.IsWhole)
  (arg5 : Memref sig .tc .vmem S1x64x32x128 .f32) (harg5 : arg5.IsWhole)
  (arg6 : Memref sig .tc .vmem S1x64x32x128 .f32) (harg6 : arg6.IsWhole)
  (arg7 : Memref sig .tc .vmem S1x64x64x128 .f32) (harg7 : arg7.IsWhole)
  (arg8 : Memref sig .tc .vmem S1x64x32x128 .f32) (harg8 : arg8.IsWhole)
  (arg9 : Memref sig .tc .vmem S1x64x64x128 .f32) (harg9 : arg9.IsWhole)
  (arg10 : Memref sig .tc .vmem S1x64x32x128 .f32) (harg10 : arg10.IsWhole)
  (arg11 : Memref sig .tc .vmem S64x32x128 .f32) (harg11 : arg11.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (k : Fin k0_t1_loop.trips) (f9 : BufTy.Contents (Elt F) arg9.view.ty) (f11 : BufTy.Contents (Elt F) arg11.view.ty)

/-- The trip's stores into the state are the 64 rows of the next state. -/
theorem trip_state : (trip_k0_t1 (F := F) 𝒱 c bd i arg2 harg2 arg3 harg3 arg4 harg4 arg5 harg5 arg6 harg6 arg7 harg7 arg8 harg8
      arg9 harg9 arg10 harg10 arg11 harg11 X2 X3 X4 X5 X6 X7 k).2.1 f9 f11
    = rowsDown.map (statePiece (arg3.view.read (Elt F) X3) (arg4.view.read (Elt F) X4) (arg5.view.read (Elt F) X5)
        (arg6.view.read (Elt F) X6) (arg7.view.read (Elt F) X7) k (arg11.view.read (Elt F) f11)) := by
  sl_kernel_rfl

/-- The trip's stores into the output block are the step's 64 output rows. -/
theorem trip_out : (trip_k0_t1 (F := F) 𝒱 c bd i arg2 harg2 arg3 harg3 arg4 harg4 arg5 harg5 arg6 harg6 arg7 harg7 arg8 harg8
      arg9 harg9 arg10 harg10 arg11 harg11 X2 X3 X4 X5 X6 X7 k).1 f9 f11
    = rowsDown.map (outPiece (arg2.view.read (Elt F) X2) (arg3.view.read (Elt F) X3) (arg4.view.read (Elt F) X4)
        (arg5.view.read (Elt F) X5) (arg6.view.read (Elt F) X6) (arg7.view.read (Elt F) X7) k
        (arg11.view.read (Elt F) f11)) := by
  sl_kernel_rfl

end trip

end Cert.Wkv

end
-- ==== Proof.Wkv.Rows.lean ====
/- What a trip's stores leave, read as whole arrays: the next state, and the step's rows in the output block. -/
module

public import proofs.«01_k».proof.Proof.Wkv.Step
public import Idealize.ShloMosaic.Lib.ValueLayout
public import Idealize.ShloMosaic.Lib.Writes

@[expose] public section

set_option maxRecDepth 16384

noncomputable section

namespace Cert.Wkv

open Cert.KernelIdeal Cert.KernelIdeal.Gen Idealize.ShloMosaic Idealize.ShloMosaic.TcCoe Idealize.SL.Sem

variable {F : FTy → Type} [FloatOps F]

/-- The state after step `n` from the state `s` before it: every row by `rowNext`. -/
def stateNext (w k kk b : Vec F S1x64x32x128 .f32) (v : Vec F S1x64x64x128 .f32) (n : Fin k0_t1_loop.trips)
    (s : Vec F S64x32x128 .f32) : Vec F S64x32x128 .f32 :=
  fun j => rowNext w k kk b v n s (j 0) (ValueIdx.ix2 (n0 := 32) (n1 := 128) (j 1) (j 2))

/-- The output row `i` of step `n` from the state `s` before it. -/
def outRow (r w k kk b : Vec F S1x64x32x128 .f32) (v : Vec F S1x64x64x128 .f32) (n : Fin k0_t1_loop.trips)
    (s : Vec F S64x32x128 .f32) (i : Fin 64) : FVec F S1x128 .f32 :=
  keySum (mulf (rowNext w k kk b v n s i) (vecAt r n))

/-- The state after `t` steps of a block from the state `s` before them. -/
def stateTrips (w k kk b : Vec F S1x64x32x128 .f32) (v : Vec F S1x64x64x128 .f32) (s : Vec F S64x32x128 .f32) :
    Nat → Vec F S64x32x128 .f32
  | 0 => s
  | t + 1 => if h : t < k0_t1_loop.trips then stateNext w k kk b v ⟨t, h⟩ (stateTrips w k kk b v s t) else
      stateTrips w k kk b v s t

/-- One more step. -/
theorem stateTrips_succ (w k kk b : Vec F S1x64x32x128 .f32) (v : Vec F S1x64x64x128 .f32) (s : Vec F S64x32x128 .f32)
    (n : Fin k0_t1_loop.trips) : stateTrips w k kk b v s (n.val + 1) = stateNext w k kk b v n (stateTrips w k kk b v s n.val) := by
  rw [stateTrips, dif_pos n.isLt]

/-- A step of the block as a trip of the loop. -/
def tripOf (t : Fin 64) : Fin k0_t1_loop.trips := ⟨t.val, lt_of_lt_of_eq t.isLt trips_eq.symm⟩

/-- The block of outputs: step by step, each from the state the steps before it left. -/
def outBlock (r w k kk b : Vec F S1x64x32x128 .f32) (v : Vec F S1x64x64x128 .f32) (s : Vec F S64x32x128 .f32) :
    Vec F S1x64x64x128 .f32 :=
  fun j => outRow r w k kk b v (tripOf (j 1)) (stateTrips w k kk b v s (j 1).val) (j 2) (ValueIdx.ix2 (n0 := 1) (n1 := 128) 0 (j 3))

/-- Where the store of state row `i` puts its element. -/
theorem statePiece_emb (w k kk b : Vec F S1x64x32x128 .f32) (v : Vec F S1x64x64x128 .f32) (n : Fin k0_t1_loop.trips)
    (s : Vec F S64x32x128 .f32) (i : Fin 64) (x : (⟨3, ![1, 32, 128]⟩ : Shape).Idx) :
    (statePiece w k kk b v n s i).1.emb x = ValueIdx.ix3 (n0 := 64) (n1 := 32) (n2 := 128) i (x 1) (x 2) := by
  refine Rect.emb_eq_of_coords (statePiece w k kk b v n s i).1 x _ fun a => ?_
  match a with
  | ⟨0, _⟩ =>
    have h0 : (x 0).val = 0 := Nat.lt_one_iff.mp (x 0).isLt
    show i.val = i.val + 1 * (x 0).val
    rw [h0]; rfl
  | ⟨1, _⟩ => show (x 1).val = 0 + 1 * (x 1).val; omega
  | ⟨2, _⟩ => show (x 2).val = 0 + 1 * (x 2).val; omega

/-- Its element is the next state's. -/
theorem statePiece_val (w k kk b : Vec F S1x64x32x128 .f32) (v : Vec F S1x64x64x128 .f32) (n : Fin k0_t1_loop.trips)
    (s : Vec F S64x32x128 .f32) (i : Fin 64) (x : (⟨3, ![1, 32, 128]⟩ : Shape).Idx) :
    (statePiece w k kk b v n s i).2 x = rowNext w k kk b v n s i (ValueIdx.ix2 (n0 := 32) (n1 := 128) (x 1) (x 2)) := by
  have h0 : (x 0).val = 0 := Nat.lt_one_iff.mp (x 0).isLt
  refine shapeCast_apply (rowNext w k kk b v n s i) shapeCasts_S32x128_S1x32x128 x
    (ValueIdx.ix2 (n0 := 32) (n1 := 128) (x 1) (x 2)) ?_
  rw [Shape.rowMajor_val_two, Shape.rowMajor_val_three]
  show (x 1).val * 128 + (x 2).val = ((x 0).val * 32 + (x 1).val) * 128 + (x 2).val
  rw [h0, Nat.zero_mul, Nat.zero_add]

/-- Where the store of output row `i` puts its element. -/
theorem outPiece_emb (r w k kk b : Vec F S1x64x32x128 .f32) (v : Vec F S1x64x64x128 .f32) (n : Fin k0_t1_loop.trips)
    (s : Vec F S64x32x128 .f32) (i : Fin 64) (x : (⟨4, ![1, 1, 1, 128]⟩ : Shape).Idx) :
    (outPiece r w k kk b v n s i).1.emb x
      = ValueIdx.ix4 (n0 := 1) (n1 := 64) (n2 := 64) (n3 := 128) 0 ⟨n.val, lt_of_lt_of_eq n.isLt trips_eq⟩ i (x 3) := by
  refine Rect.emb_eq_of_coords (outPiece r w k kk b v n s i).1 x _ fun a => ?_
  have h0 : (x 0).val = 0 := Nat.lt_one_iff.mp (x 0).isLt
  have h1 : (x 1).val = 0 := Nat.lt_one_iff.mp (x 1).isLt
  have h2 : (x 2).val = 0 := Nat.lt_one_iff.mp (x 2).isLt
  have e := congrFun (rowOff_eq i n)
  match a with
  | ⟨0, _⟩ => show 0 = rowOff i n 0 + 1 * (x 0).val; rw [h0, e 0]; rfl
  | ⟨1, _⟩ => show n.val = rowOff i n 1 + 1 * (x 1).val; rw [h1, e 1]; rfl
  | ⟨2, _⟩ => show i.val = rowOff i n 2 + 1 * (x 2).val; rw [h2, e 2]; rfl
  | ⟨3, _⟩ => show (x 3).val = rowOff i n 3 + 1 * (x 3).val; rw [e 3]; exact (by omega : (x 3).val = 0 + 1 * (x 3).val)

/-- Its element is the output row's. -/
theorem outPiece_val (r w k kk b : Vec F S1x64x32x128 .f32) (v : Vec F S1x64x64x128 .f32) (n : Fin k0_t1_loop.trips)
    (s : Vec F S64x32x128 .f32) (i : Fin 64) (x : (⟨4, ![1, 1, 1, 128]⟩ : Shape).Idx) :
    (outPiece r w k kk b v n s i).2 x = outRow r w k kk b v n s i (ValueIdx.ix2 (n0 := 1) (n1 := 128) 0 (x 3)) := by
  have h0 : (x 0).val = 0 := Nat.lt_one_iff.mp (x 0).isLt
  have h1 : (x 1).val = 0 := Nat.lt_one_iff.mp (x 1).isLt
  have h2 : (x 2).val = 0 := Nat.lt_one_iff.mp (x 2).isLt
  refine shapeCast_apply (outRow r w k kk b v n s i) shapeCasts_S1x128_S1x1x1x128 x (ValueIdx.ix2 (n0 := 1) (n1 := 128) 0 (x 3)) ?_
  rw [Shape.rowMajor_val_two, Shape.rowMajor_val_four]
  show 0 * 128 + (x 3).val = (((x 0).val * 1 + (x 1).val) * 1 + (x 2).val) * 128 + (x 3).val
  rw [h0, h1, h2]

/-- An element of the state lies in row `i`'s store when its row is `i`. -/
theorem mem_state (i : Fin 64) (y : (⟨3, ![64, 32, 128]⟩ : Shape).Idx) :
    y ∈ (Rect.unit (s := S64x32x128) ![i.val, 0, 0] S1x32x128.size (stateOff_inb i)).set ↔ (y 0).val = i.val := by
  refine (Rect.mem_set_unit (inb := stateOff_inb i)).trans ⟨fun h => ?_, fun h a => ?_⟩
  · exact le_antisymm (Nat.lt_succ_iff.mp (h 0).2) (h 0).1
  · match a with
    | ⟨0, _⟩ => exact ⟨le_of_eq h.symm, lt_of_le_of_lt (le_of_eq h) (Nat.lt_succ_self _)⟩
    | ⟨1, _⟩ => exact ⟨Nat.zero_le _, lt_of_lt_of_eq (y 1).isLt (Nat.zero_add 32).symm⟩
    | ⟨2, _⟩ => exact ⟨Nat.zero_le _, lt_of_lt_of_eq (y 2).isLt (Nat.zero_add 128).symm⟩

/-- An element of the output block lies in the store of row `i` of step `n` when its step is `n` and its row `i`. -/
theorem mem_out (i : Fin 64) (n : Fin k0_t1_loop.trips) (y : (⟨4, ![1, 64, 64, 128]⟩ : Shape).Idx) :
    y ∈ (Rect.unit (s := S1x64x64x128) (rowOff i n) S1x1x1x128.size (rowOff_inb i n)).set
      ↔ (y 1).val = n.val ∧ (y 2).val = i.val := by
  have e := congrFun (rowOff_eq i n)
  refine (Rect.mem_set_unit (inb := rowOff_inb i n)).trans ⟨fun h => ?_, fun h a => ?_⟩
  · have h1 := h 1
    have h2 := h 2
    rw [e 1] at h1
    rw [e 2] at h2
    exact ⟨le_antisymm (Nat.lt_succ_iff.mp h1.2) h1.1, le_antisymm (Nat.lt_succ_iff.mp h2.2) h2.1⟩
  · rw [e a]
    match a with
    | ⟨0, _⟩ => exact ⟨Nat.zero_le _, (y 0).isLt⟩
    | ⟨1, _⟩ => exact ⟨le_of_eq h.1.symm, lt_of_le_of_lt (le_of_eq h.1) (Nat.lt_succ_self _)⟩
    | ⟨2, _⟩ => exact ⟨le_of_eq h.2.symm, lt_of_le_of_lt (le_of_eq h.2) (Nat.lt_succ_self _)⟩
    | ⟨3, _⟩ => exact ⟨Nat.zero_le _, lt_of_lt_of_eq (y 3).isLt (Nat.zero_add 128).symm⟩

/-- The 64 row stores leave the next state. -/
theorem read_state (M : Memref sig .tc .vmem S64x32x128 .f32) (f : BufTy.Contents (Elt F) M.view.ty)
    (w k kk b : Vec F S1x64x32x128 .f32) (v : Vec F S1x64x64x128 .f32) (n : Fin k0_t1_loop.trips) (s : Vec F S64x32x128 .f32) :
    M.view.read (Elt F) (M.view.writes (Elt F) f (rowsDown.map (statePiece w k kk b v n s))) = stateNext w k kk b v n s := by
  funext y
  refine View.read_writes_apply_of_pieces M.view f (stateNext w k kk b v n s) _ ?_ y ?_
  · intro p hp x
    obtain ⟨i, -, rfl⟩ := List.mem_map.mp hp
    exact (statePiece_val w k kk b v n s i x).trans (congrArg (stateNext w k kk b v n s) (statePiece_emb w k kk b v n s i x).symm)
  · exact ⟨_, List.mem_map.mpr ⟨(y 0 : Fin 64), mem_rowsDown _, rfl⟩, (mem_state _ y).mpr rfl⟩

/-- The output rows of step `n`, at any step of the block. -/
def outRows (r w k kk b : Vec F S1x64x32x128 .f32) (v : Vec F S1x64x64x128 .f32) (n : Fin k0_t1_loop.trips)
    (s : Vec F S64x32x128 .f32) : Vec F S1x64x64x128 .f32 :=
  fun y => outRow r w k kk b v n s (y 2) (ValueIdx.ix2 (n0 := 1) (n1 := 128) 0 (y 3))

/-- Row `i` of them. -/
theorem outRows_ix4 (r w k kk b : Vec F S1x64x32x128 .f32) (v : Vec F S1x64x64x128 .f32) (n : Fin k0_t1_loop.trips)
    (s : Vec F S64x32x128 .f32) (a : Fin 1) (t i : Fin 64) (l : Fin 128) :
    outRows r w k kk b v n s (ValueIdx.ix4 a t i l) = outRow r w k kk b v n s i (ValueIdx.ix2 (n0 := 1) (n1 := 128) 0 l) := by
  unfold outRows; rfl

/-- The 64 row stores of step `n` put the step's rows into the output block and leave the other steps' alone. -/
theorem read_out (M : Memref sig .tc .vmem S1x64x64x128 .f32) (f : BufTy.Contents (Elt F) M.view.ty)
    (r w k kk b : Vec F S1x64x32x128 .f32) (v : Vec F S1x64x64x128 .f32) (n : Fin k0_t1_loop.trips) (s : Vec F S64x32x128 .f32)
    (y : (⟨4, ![1, 64, 64, 128]⟩ : Shape).Idx) :
    M.view.read (Elt F) (M.view.writes (Elt F) f (rowsDown.map (outPiece r w k kk b v n s))) y
      = if (y 1).val = n.val then outRows r w k kk b v n s y
        else M.view.read (Elt F) f y := by
  split
  · rename_i h
    refine View.read_writes_apply_of_pieces M.view f
      (outRows r w k kk b v n s) _ ?_ y ?_
    · intro p hp x
      obtain ⟨i, -, rfl⟩ := List.mem_map.mp hp
      have e1 := outPiece_val r w k kk b v n s i x
      have e2 := congrArg (outRows r w k kk b v n s) (outPiece_emb r w k kk b v n s i x)
      exact e1.trans ((outRows_ix4 r w k kk b v n s _ _ i _).symm.trans e2.symm)
    · exact ⟨_, List.mem_map.mpr ⟨(y 2 : Fin 64), mem_rowsDown _, rfl⟩, (mem_out _ n y).mpr ⟨h, rfl⟩⟩
  · rename_i h
    refine View.read_writes_apply_of_forall_not_mem M.view f y _ fun p hp hy => h ?_
    obtain ⟨i, -, rfl⟩ := List.mem_map.mp hp
    exact ((mem_out i n y).mp hy).1

end Cert.Wkv

end
-- ==== Proof.Wkv.Loop.lean ====
/- The recurrence kernel's body at a grid point: its loop by an invariant that says what the state and the finished output
   rows are (whatever the output buffer held before), and the three courses of the body: the first point (the state taken
   from the input), a point between, and the last (the state handed out). -/
module

public import proofs.«01_k».proof.Proof.Wkv.Rows
public import proofs.«01_k».proof.Proof.Gen.KernelIdeal.Frame.Runs

@[expose] public section

set_option maxRecDepth 16384

noncomputable section

namespace Cert.Wkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The state buffer after `t` trips from the contents `G`. -/
def stateBuf (M : Memref sig .tc .vmem S64x32x128 .f32) (w k kk b : Vec F S1x64x32x128 .f32) (v : Vec F S1x64x64x128 .f32)
    (G : BufTy.Contents (Elt F) M.view.ty) : Nat → BufTy.Contents (Elt F) M.view.ty
  | 0 => G
  | t + 1 => if h : t < k0_t1_loop.trips then
      M.view.writes (Elt F) (stateBuf M w k kk b v G t)
        (rowsDown.map (statePiece w k kk b v ⟨t, h⟩ (M.view.read (Elt F) (stateBuf M w k kk b v G t))))
      else stateBuf M w k kk b v G t

/-- One more trip. -/
theorem stateBuf_succ (M : Memref sig .tc .vmem S64x32x128 .f32) (w k kk b : Vec F S1x64x32x128 .f32)
    (v : Vec F S1x64x64x128 .f32) (G : BufTy.Contents (Elt F) M.view.ty) (n : Fin k0_t1_loop.trips) :
    stateBuf M w k kk b v G (n.val + 1) = M.view.writes (Elt F) (stateBuf M w k kk b v G n.val)
        (rowsDown.map (statePiece w k kk b v n (M.view.read (Elt F) (stateBuf M w k kk b v G n.val)))) := by
  rw [stateBuf, dif_pos n.isLt]

/-- Read as an array it is the state after `t` steps. -/
theorem read_stateBuf (M : Memref sig .tc .vmem S64x32x128 .f32) (w k kk b : Vec F S1x64x32x128 .f32)
    (v : Vec F S1x64x64x128 .f32) (G : BufTy.Contents (Elt F) M.view.ty) (t : Nat) :
    M.view.read (Elt F) (stateBuf M w k kk b v G t) = stateTrips w k kk b v (M.view.read (Elt F) G) t := by
  induction t with
  | zero => rfl
  | succ t ih =>
    rw [stateBuf, stateTrips]
    split
    · rw [read_state, ih]
    · exact ih

/-- The rows of the first `t` steps are done. -/
def Done (M : Memref sig .tc .vmem S1x64x64x128 .f32) (Y : Vec F S1x64x64x128 .f32) (t : Nat)
    (f : BufTy.Contents (Elt F) M.view.ty) : Prop :=
  ∀ y : (⟨4, ![1, 64, 64, 128]⟩ : Shape).Idx, (y 1).val < t → M.view.read (Elt F) f y = Y y

/-- No row yet. -/
theorem done_zero (M : Memref sig .tc .vmem S1x64x64x128 .f32) (Y : Vec F S1x64x64x128 .f32)
    (f : BufTy.Contents (Elt F) M.view.ty) : Done M Y 0 f := fun _ h => absurd h (Nat.not_lt_zero _)

/-- All rows. -/
theorem done_all (M : Memref sig .tc .vmem S1x64x64x128 .f32) (Y : Vec F S1x64x64x128 .f32)
    (f : BufTy.Contents (Elt F) M.view.ty) (h : Done M Y k0_t1_loop.trips f) : M.view.read (Elt F) f = Y :=
  funext fun y => h y (lt_of_lt_of_eq (y 1).isLt trips_eq.symm)

/-- The rows of one step more. -/
theorem done_succ (M : Memref sig .tc .vmem S1x64x64x128 .f32) (r w k kk b : Vec F S1x64x32x128 .f32)
    (v : Vec F S1x64x64x128 .f32) (s : Vec F S64x32x128 .f32) (n : Fin k0_t1_loop.trips)
    (f : BufTy.Contents (Elt F) M.view.ty) (h : Done M (outBlock r w k kk b v s) n.val f) :
    Done M (outBlock r w k kk b v s) (n.val + 1)
      (M.view.writes (Elt F) f (rowsDown.map (outPiece r w k kk b v n (stateTrips w k kk b v s n.val)))) := by
  intro y hy
  rw [read_out]
  split
  · rename_i e
    have en : tripOf (y 1) = n := Fin.ext e
    unfold outBlock outRows
    rw [en, e]
  · rename_i e
    exact h y (lt_of_le_of_ne (Nat.lt_succ_iff.mp hy) e)

/-- What the loop holds before trip `t`: its inputs, the output block with the first `t` steps' rows done, the state
    after `t` steps. -/
abbrev loopHolds (c : Dev nD)
  (arg2 : Memref sig .tc .vmem S1x64x32x128 .f32) (harg2 : arg2.IsWhole)
  (arg3 : Memref sig .tc .vmem S1x64x32x128 .f32) (harg3 : arg3.IsWhole)
  (arg4 : Memref sig .tc .vmem S1x64x32x128 .f32) (harg4 : arg4.IsWhole)
  (arg5 : Memref sig .tc .vmem S1x64x32x128 .f32) (harg5 : arg5.IsWhole)
  (arg6 : Memref sig .tc .vmem S1x64x32x128 .f32) (harg6 : arg6.IsWhole)
  (arg7 : Memref sig .tc .vmem S1x64x64x128 .f32) (harg7 : arg7.IsWhole)
  (arg8 : Memref sig .tc .vmem S1x64x32x128 .f32) (harg8 : arg8.IsWhole)
  (arg9 : Memref sig .tc .vmem S1x64x64x128 .f32) (harg9 : arg9.IsWhole)
  (arg10 : Memref sig .tc .vmem S1x64x32x128 .f32) (harg10 : arg10.IsWhole)
  (arg11 : Memref sig .tc .vmem S64x32x128 .f32) (harg11 : arg11.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G : BufTy.Contents (Elt F) arg11.view.ty) (t : Nat) (_u : PUnit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f9, (arg9.view.loc (c : Thread nD τ) ↦[arg9.view.set]{fullShare} f9) ∗ ⌜Done arg9 (outBlock (arg2.view.read (Elt F) X2) (arg3.view.read (Elt F) X3) (arg4.view.read (Elt F) X4) (arg5.view.read (Elt F) X5) (arg6.view.read (Elt F) X6) (arg7.view.read (Elt F) X7) (arg11.view.read (Elt F) G)) t f9⌝)
    ∗ (∃ f11, (arg11.view.loc (c : Thread nD τ) ↦[arg11.view.set]{fullShare} f11) ∗ ⌜f11 = stateBuf arg11 (arg3.view.read (Elt F) X3) (arg4.view.read (Elt F) X4) (arg5.view.read (Elt F) X5) (arg6.view.read (Elt F) X6) (arg7.view.read (Elt F) X7) G t⌝))

set_option warn.classDefReducibility false in
/-- The loop keeps it. -/
def wkvLoop (𝒱 : Variants) (c : Dev nD) (bd : Option 𝒱.V) (E : Set ℕ) (i : grid0.Coords)
  (arg2 : Memref sig .tc .vmem S1x64x32x128 .f32) (harg2 : arg2.IsWhole)
  (arg3 : Memref sig .tc .vmem S1x64x32x128 .f32) (harg3 : arg3.IsWhole)
  (arg4 : Memref sig .tc .vmem S1x64x32x128 .f32) (harg4 : arg4.IsWhole)
  (arg5 : Memref sig .tc .vmem S1x64x32x128 .f32) (harg5 : arg5.IsWhole)
  (arg6 : Memref sig .tc .vmem S1x64x32x128 .f32) (harg6 : arg6.IsWhole)
  (arg7 : Memref sig .tc .vmem S1x64x64x128 .f32) (harg7 : arg7.IsWhole)
  (arg8 : Memref sig .tc .vmem S1x64x32x128 .f32) (harg8 : arg8.IsWhole)
  (arg9 : Memref sig .tc .vmem S1x64x64x128 .f32) (harg9 : arg9.IsWhole)
  (arg10 : Memref sig .tc .vmem S1x64x32x128 .f32) (harg10 : arg10.IsWhole)
  (arg11 : Memref sig .tc .vmem S64x32x128 .f32) (harg11 : arg11.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (G : BufTy.Contents (Elt F) arg11.view.ty) :
    Idealize.ShloMosaic.LoopInv (M := MT nD τ sig Unit (Elt F) ℕ (UR sig nD τ) ℕ) Idealize.ShloMosaic.frame (wpE defs₀ 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11) where
  inv := loopHolds (F := F) c arg2 harg2 arg3 harg3 arg4 harg4 arg5 harg5 arg6 harg6 arg7 harg7 arg8 harg8 arg9 harg9 arg10 harg10 arg11 harg11 X2 X3 X4 X5 X6 X7 G
  step n acc := by
    iintro ⟨R2, R3, R4, R5, R6, R7, ⟨%f9, W9, %h9⟩, ⟨%f11, W11, %h11⟩⟩
    subst h11
    iapply (wp_wand_r Idealize.ShloMosaic.frame (wpE (defs₀ (F := F)) 𝒱 (c : Thread nD τ) bd) E)
    isplitl [R2 R3 R4 R5 R6 R7 W9 W11]
    · iapply ((trip_k0_t1 (F := F) 𝒱 c bd i arg2 harg2 arg3 harg3 arg4 harg4 arg5 harg5 arg6 harg6 arg7 harg7 arg8 harg8 arg9 harg9 arg10 harg10 arg11 harg11 X2 X3 X4 X5 X6 X7 n).2.2 E f9 (stateBuf arg11 (arg3.view.read (Elt F) X3) (arg4.view.read (Elt F) X4) (arg5.view.read (Elt F) X5) (arg6.view.read (Elt F) X6) (arg7.view.read (Elt F) X7) G n.val))
      isplitl [R2]; · iexact R2
      isplitl [R3]; · iexact R3
      isplitl [R4]; · iexact R4
      isplitl [R5]; · iexact R5
      isplitl [R6]; · iexact R6
      isplitl [R7]; · iexact R7
      isplitl [W9]; · iexact W9
      iexact W11
    · iintro %_ ⟨R2, R3, R4, R5, R6, R7, W9, W11⟩
      isplitl [R2]; · iexact R2
      isplitl [R3]; · iexact R3
      isplitl [R4]; · iexact R4
      isplitl [R5]; · iexact R5
      isplitl [R6]; · iexact R6
      isplitl [R7]; · iexact R7
      isplitl [W9]
      · iexists _; isplitl [W9]; · iexact W9
        ipureintro
        rw [trip_out, read_stateBuf]
        exact done_succ _ _ _ _ _ _ _ _ _ _ h9
      iexists _; isplitl [W11]; · iexact W11
      ipureintro
      rw [trip_state, stateBuf_succ]

/-- The state a fresh sequence starts from. -/
def firstState (x : Vec F S1x64x32x128 .f32) : Vec F S64x32x128 .f32 := shapeCast S64x32x128 x shapeCasts_S1x64x32x128_S64x32x128

/-- The state as it is handed out. -/
def lastState (s : Vec F S64x32x128 .f32) : Vec F S1x64x32x128 .f32 := shapeCast S1x64x32x128 s shapeCasts_S64x32x128_S1x64x32x128

end Cert.Wkv

end
-- ==== Proof.Wkv.Store.lean ====
/- Whole-array stores read back. -/
module

public import proofs.«01_k».proof.Proof.Wkv.Loop

@[expose] public section

set_option maxRecDepth 16384

noncomputable section

namespace Cert.Wkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store over a whole array leaves its payload. -/
theorem read_store {S : Shape} {e : EltTy} (M : Memref sig .tc .vmem S e) (f : BufTy.Contents (Elt F) M.view.ty)
    {off : Fin S.rank → Nat} (h : off = fun _ => 0) (inb : ∀ a, off a + S.size a ≤ S.size a) (w : Vec F S e) :
    M.view.read (Elt F) (M.view.writes (Elt F) f [⟨Rect.unit off S.size inb, w⟩]) = w := by
  rw [View.read_writes_eq_canon _ _ _ fun y => ⟨_, List.mem_singleton_self _, View.mem_set_unit_zero h inb y⟩]
  exact View.canon_unit_zero h inb w

theorem zero3 : (![0, 0, 0] : Fin 3 → Nat) = fun _ => 0 := by decide

theorem zero4 : (![0, 0, 0, 0] : Fin 4 → Nat) = fun _ => 0 := by decide

/-- The state handed out. -/
theorem read_last (v s : Vec F S64x32x128 .f32) (h : v = s) : k0_pay5 v = lastState s := by
  subst h; unfold k0_pay5 lastState; simp only [shapeCast_self]

/-- The state a fresh sequence starts from. -/
theorem read_first (M8 : Memref sig .tc .vmem S1x64x32x128 .f32) (h8 : M8.IsWhole) (M11 : Memref sig .tc .vmem S64x32x128 .f32)
    (x : Vec F S1x64x32x128 .f32) :
    M11.view.read (Elt F) (M11.view.writes (Elt F) M11.view.junk [⟨Rect.unit (s := S64x32x128) ![0, 0, 0] S64x32x128.size inb_S64x32x128_S64x32x128_0_0_0, k0_pay1 (M8.view.readAt (Elt F) (Rect.unit (s := S1x64x32x128) ![0, 0, 0, 0] S1x64x32x128.size inb_S1x64x32x128_S1x64x32x128_0_0_0_0).toLoadRect (h8.unread x))⟩]) = firstState x := by
  rw [read_store _ _ zero3, View.readAt_eq_ld, h8.read_unread, View.ld_unit_zero (S := S1x64x32x128) zero4]
  unfold k0_pay1 firstState
  simp only [shapeCast_self]

end Cert.Wkv

end
-- ==== Proof.Wkv.BodyA.lean ====
/- The recurrence kernel's body at the first grid point. -/
module

public import proofs.«01_k».proof.Proof.Wkv.Store

@[expose] public section

set_option maxRecDepth 16384

noncomputable section

namespace Cert.Wkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The first point: the state is taken from the input block; the output block and the state after 64 steps are left. -/
theorem bodyA (c : Dev nD) (i : grid0.Coords)
  (arg2 : Memref sig .tc .vmem S1x64x32x128 .f32) (harg2 : arg2.IsWhole)
  (arg3 : Memref sig .tc .vmem S1x64x32x128 .f32) (harg3 : arg3.IsWhole)
  (arg4 : Memref sig .tc .vmem S1x64x32x128 .f32) (harg4 : arg4.IsWhole)
  (arg5 : Memref sig .tc .vmem S1x64x32x128 .f32) (harg5 : arg5.IsWhole)
  (arg6 : Memref sig .tc .vmem S1x64x32x128 .f32) (harg6 : arg6.IsWhole)
  (arg7 : Memref sig .tc .vmem S1x64x64x128 .f32) (harg7 : arg7.IsWhole)
  (arg8 : Memref sig .tc .vmem S1x64x32x128 .f32) (harg8 : arg8.IsWhole)
  (arg9 : Memref sig .tc .vmem S1x64x64x128 .f32) (harg9 : arg9.IsWhole)
  (arg10 : Memref sig .tc .vmem S1x64x32x128 .f32) (harg10 : arg10.IsWhole)
  (arg11 : Memref sig .tc .vmem S64x32x128 .f32) (harg11 : arg11.IsWhole)
    (hc0 : cond0_0 i) (hc1 : ¬ cond0_1 i)
    (x0 x1 x2 x3 x4 : Vec F S1x64x32x128 .f32) (x5 : Vec F S1x64x64x128 .f32) (x6 : Vec F S1x64x32x128 .f32) (z : Vec F S1x64x32x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare z ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outBlock x0 x1 x2 x3 x4 x5 (firstState x6)) ∗ owns (c : Thread nD τ) arg10 fullShare z ∗ owns (c : Thread nD τ) arg11 fullShare (stateTrips x1 x2 x3 x4 x5 (firstState x6) 64)) -∗ K ⟨⟩))
      ⊢ wp frame (wpE (defs₀ (F := F)) Variants.none c none) E (cc0_wkv_scan i arg2 harg2 arg3 harg3 arg4 harg4 arg5 harg5 arg6 harg6 arg7 harg7 arg8 harg8 arg9 harg9 arg10 harg10 arg11 harg11) K := by
  simp only [cc0_wkv_scan_eq_skeleton]; unfold cc0_wkv_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %g11, -, H9⟩, Hk⟩
  obtain rfl := harg2.eq_unread hf0 ; obtain rfl := harg3.eq_unread hf1 ; obtain rfl := harg4.eq_unread hf2 ; obtain rfl := harg5.eq_unread hf3 ; obtain rfl := harg6.eq_unread hf4 ; obtain rfl := harg7.eq_unread hf5 ; obtain rfl := harg8.eq_unread hf6
  have hz := done_zero arg9 (outBlock (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg11.view.read (Elt F) (arg11.view.writes (Elt F) arg11.view.junk [⟨Rect.unit (s := S64x32x128) ![0, 0, 0] S64x32x128.size inb_S64x32x128_S64x32x128_0_0_0, k0_pay1 (arg8.view.readAt (Elt F) (Rect.unit (s := S1x64x32x128) ![0, 0, 0, 0] S1x64x32x128.size inb_S1x64x32x128_S1x64x32x128_0_0_0_0).toLoadRect (harg8.unread x6))⟩]))) f7
  let L := wkvLoop (F := F) Variants.none c none E i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) (arg11.view.writes (Elt F) arg11.view.junk [⟨Rect.unit (s := S64x32x128) ![0, 0, 0] S64x32x128.size inb_S64x32x128_S64x32x128_0_0_0, k0_pay1 (arg8.view.readAt (Elt F) (Rect.unit (s := S1x64x32x128) ![0, 0, 0, 0] S1x64x32x128.size inb_S1x64x32x128_S1x64x32x128_0_0_0_0).toLoadRect (harg8.unread x6))⟩])
  sl_exec (disch := first | sl_exact hc0 | sl_exact hc1)
  have e11 : arg11.view.read (Elt F) (arg11.view.writes (Elt F) arg11.view.junk [⟨Rect.unit (s := S64x32x128) ![0, 0, 0] S64x32x128.size inb_S64x32x128_S64x32x128_0_0_0, k0_pay1 (arg8.view.readAt (Elt F) (Rect.unit (s := S1x64x32x128) ![0, 0, 0, 0] S1x64x32x128.size inb_S1x64x32x128_S1x64x32x128_0_0_0_0).toLoadRect (harg8.unread x6))⟩]) = firstState x6 := by
    exact read_first arg8 harg8 arg11 x6
  have e9 := done_all _ _ _ hL7
  simp only [harg2.read_unread, harg3.read_unread, harg4.read_unread, harg5.read_unread, harg6.read_unread, harg7.read_unread, e11] at e9
  have es : arg11.view.read (Elt F) (stateBuf arg11 (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg11.view.writes (Elt F) arg11.view.junk [⟨Rect.unit (s := S64x32x128) ![0, 0, 0] S64x32x128.size inb_S64x32x128_S64x32x128_0_0_0, k0_pay1 (arg8.view.readAt (Elt F) (Rect.unit (s := S1x64x32x128) ![0, 0, 0, 0] S1x64x32x128.size inb_S1x64x32x128_S1x64x32x128_0_0_0_0).toLoadRect (harg8.unread x6))⟩]) k0_t1_loop.trips) = stateTrips x1 x2 x3 x4 x5 (firstState x6) 64 := by
    rw [read_stateBuf, e11, harg3.read_unread, harg4.read_unread, harg5.read_unread, harg6.read_unread, harg7.read_unread, trips_eq]
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact e9
    iexact H7
  isplitl [H8]
  · iexists _; isplitr; swap; · iexact H8
    ipureintro; exact hf8
  iexists _; isplitr; · ipureintro; exact es
  iexact H9

end Cert.Wkv

end
-- ==== Proof.Wkv.BodyB.lean ====
/- The recurrence kernel's body at a point between the first and the last. -/
module

public import proofs.«01_k».proof.Proof.Wkv.Store

@[expose] public section

set_option maxRecDepth 16384

noncomputable section

namespace Cert.Wkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A point between: the steps go on from the state the point before left. -/
theorem bodyB (c : Dev nD) (i : grid0.Coords)
  (arg2 : Memref sig .tc .vmem S1x64x32x128 .f32) (harg2 : arg2.IsWhole)
  (arg3 : Memref sig .tc .vmem S1x64x32x128 .f32) (harg3 : arg3.IsWhole)
  (arg4 : Memref sig .tc .vmem S1x64x32x128 .f32) (harg4 : arg4.IsWhole)
  (arg5 : Memref sig .tc .vmem S1x64x32x128 .f32) (harg5 : arg5.IsWhole)
  (arg6 : Memref sig .tc .vmem S1x64x32x128 .f32) (harg6 : arg6.IsWhole)
  (arg7 : Memref sig .tc .vmem S1x64x64x128 .f32) (harg7 : arg7.IsWhole)
  (arg8 : Memref sig .tc .vmem S1x64x32x128 .f32) (harg8 : arg8.IsWhole)
  (arg9 : Memref sig .tc .vmem S1x64x64x128 .f32) (harg9 : arg9.IsWhole)
  (arg10 : Memref sig .tc .vmem S1x64x32x128 .f32) (harg10 : arg10.IsWhole)
  (arg11 : Memref sig .tc .vmem S64x32x128 .f32) (harg11 : arg11.IsWhole)
    (hc0 : ¬ cond0_0 i) (hc1 : ¬ cond0_1 i)
    (x0 x1 x2 x3 x4 : Vec F S1x64x32x128 .f32) (x5 : Vec F S1x64x64x128 .f32) (x6 : Vec F S1x64x32x128 .f32) (z : Vec F S1x64x32x128 .f32) (s : Vec F S64x32x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare z ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outBlock x0 x1 x2 x3 x4 x5 s) ∗ owns (c : Thread nD τ) arg10 fullShare z ∗ owns (c : Thread nD τ) arg11 fullShare (stateTrips x1 x2 x3 x4 x5 s 64)) -∗ K ⟨⟩))
      ⊢ wp frame (wpE (defs₀ (F := F)) Variants.none c none) E (cc0_wkv_scan i arg2 harg2 arg3 harg3 arg4 harg4 arg5 harg5 arg6 harg6 arg7 harg7 arg8 harg8 arg9 harg9 arg10 harg10 arg11 harg11) K := by
  simp only [cc0_wkv_scan_eq_skeleton]; unfold cc0_wkv_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%g11, %hg11, H9⟩, Hk⟩
  obtain rfl := harg2.eq_unread hf0 ; obtain rfl := harg3.eq_unread hf1 ; obtain rfl := harg4.eq_unread hf2 ; obtain rfl := harg5.eq_unread hf3 ; obtain rfl := harg6.eq_unread hf4 ; obtain rfl := harg7.eq_unread hf5 ; obtain rfl := harg8.eq_unread hf6
  have hz := done_zero arg9 (outBlock (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg11.view.read (Elt F) g11)) f7
  let L := wkvLoop (F := F) Variants.none c none E i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) g11
  sl_exec (disch := first | sl_exact hc0 | sl_exact hc1)
  have e11 : arg11.view.read (Elt F) g11 = s := by
    exact hg11
  have e9 := done_all _ _ _ hL7
  simp only [harg2.read_unread, harg3.read_unread, harg4.read_unread, harg5.read_unread, harg6.read_unread, harg7.read_unread, e11] at e9
  have es : arg11.view.read (Elt F) (stateBuf arg11 (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) g11 k0_t1_loop.trips) = stateTrips x1 x2 x3 x4 x5 s 64 := by
    rw [read_stateBuf, e11, harg3.read_unread, harg4.read_unread, harg5.read_unread, harg6.read_unread, harg7.read_unread, trips_eq]
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact e9
    iexact H7
  isplitl [H8]
  · iexists _; isplitr; swap; · iexact H8
    ipureintro; exact hf8
  iexists _; isplitr; · ipureintro; exact es
  iexact H9

end Cert.Wkv

end
-- ==== Proof.Wkv.BodyC.lean ====
/- The recurrence kernel's body at the last grid point. -/
module

public import proofs.«01_k».proof.Proof.Wkv.Store

@[expose] public section

set_option maxRecDepth 16384

noncomputable section

namespace Cert.Wkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The last point: the same, and the state after its steps is handed out. -/
theorem bodyC (c : Dev nD) (i : grid0.Coords)
  (arg2 : Memref sig .tc .vmem S1x64x32x128 .f32) (harg2 : arg2.IsWhole)
  (arg3 : Memref sig .tc .vmem S1x64x32x128 .f32) (harg3 : arg3.IsWhole)
  (arg4 : Memref sig .tc .vmem S1x64x32x128 .f32) (harg4 : arg4.IsWhole)
  (arg5 : Memref sig .tc .vmem S1x64x32x128 .f32) (harg5 : arg5.IsWhole)
  (arg6 : Memref sig .tc .vmem S1x64x32x128 .f32) (harg6 : arg6.IsWhole)
  (arg7 : Memref sig .tc .vmem S1x64x64x128 .f32) (harg7 : arg7.IsWhole)
  (arg8 : Memref sig .tc .vmem S1x64x32x128 .f32) (harg8 : arg8.IsWhole)
  (arg9 : Memref sig .tc .vmem S1x64x64x128 .f32) (harg9 : arg9.IsWhole)
  (arg10 : Memref sig .tc .vmem S1x64x32x128 .f32) (harg10 : arg10.IsWhole)
  (arg11 : Memref sig .tc .vmem S64x32x128 .f32) (harg11 : arg11.IsWhole)
    (hc0 : ¬ cond0_0 i) (hc1 : cond0_1 i)
    (x0 x1 x2 x3 x4 : Vec F S1x64x32x128 .f32) (x5 : Vec F S1x64x64x128 .f32) (x6 : Vec F S1x64x32x128 .f32) (s : Vec F S64x32x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outBlock x0 x1 x2 x3 x4 x5 s) ∗ owns (c : Thread nD τ) arg10 fullShare (lastState (stateTrips x1 x2 x3 x4 x5 s 64)) ∗ owns (c : Thread nD τ) arg11 fullShare (stateTrips x1 x2 x3 x4 x5 s 64)) -∗ K ⟨⟩))
      ⊢ wp frame (wpE (defs₀ (F := F)) Variants.none c none) E (cc0_wkv_scan i arg2 harg2 arg3 harg3 arg4 harg4 arg5 harg5 arg6 harg6 arg7 harg7 arg8 harg8 arg9 harg9 arg10 harg10 arg11 harg11) K := by
  simp only [cc0_wkv_scan_eq_skeleton]; unfold cc0_wkv_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%g11, %hg11, H9⟩, Hk⟩
  obtain rfl := harg2.eq_unread hf0 ; obtain rfl := harg3.eq_unread hf1 ; obtain rfl := harg4.eq_unread hf2 ; obtain rfl := harg5.eq_unread hf3 ; obtain rfl := harg6.eq_unread hf4 ; obtain rfl := harg7.eq_unread hf5 ; obtain rfl := harg8.eq_unread hf6
  have hz := done_zero arg9 (outBlock (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg11.view.read (Elt F) g11)) f7
  let L := wkvLoop (F := F) Variants.none c none E i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) (harg7.unread x5) g11
  sl_exec (disch := first | sl_exact hc0 | sl_exact hc1)
  have e11 : arg11.view.read (Elt F) g11 = s := by
    exact hg11
  have e9 := done_all _ _ _ hL7
  simp only [harg2.read_unread, harg3.read_unread, harg4.read_unread, harg5.read_unread, harg6.read_unread, harg7.read_unread, e11] at e9
  have es : arg11.view.read (Elt F) (stateBuf arg11 (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) g11 k0_t1_loop.trips) = stateTrips x1 x2 x3 x4 x5 s 64 := by
    rw [read_stateBuf, e11, harg3.read_unread, harg4.read_unread, harg5.read_unread, harg6.read_unread, harg7.read_unread, trips_eq]
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact e9
    iexact H7
  isplitl [H8]
  · iexists _; isplitr; swap; · iexact H8
    ipureintro; exact (read_store _ _ zero4 _ _).trans (read_last _ _ (by sl_unfold_words; rw [View.readAt_eq_ld, View.ld_unit_zero (S := S64x32x128) zero3]; exact es))
  iexists _; isplitr; · ipureintro; exact es
  iexact H9

end Cert.Wkv

end
-- ==== Proof.Wkv.Frame.lean ====
/- The recurrence kernel's run: the state carried from point to point, the outputs of every point, and the frame. -/
module

public import proofs.«01_k».proof.Proof.Wkv.BodyA
public import proofs.«01_k».proof.Proof.Wkv.BodyB
public import proofs.«01_k».proof.Proof.Wkv.BodyC
public import Idealize.ShloMosaic.Lib.Claim

@[expose] public section

set_option maxRecDepth 16384

noncomputable section

namespace Cert.Wkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state before point `n`: the initial state's block, then 64 steps for each chunk before `n`. -/
def stateBefore (c : Dev nD) : (n : ℕ) → n ≤ cfg0.N → Vec F S64x32x128 .f32
  | 0, _ => firstState (iblk m c 6 ⟨0, lt_of_lt_of_eq (by decide : 0 < 32) (show cfg0.N = 32 from N_0).symm⟩)
  | n + 1, h => stateTrips (iblk m c 1 ⟨n, h⟩) (iblk m c 2 ⟨n, h⟩) (iblk m c 3 ⟨n, h⟩) (iblk m c 4 ⟨n, h⟩)
      (iblk m c 5 ⟨n, h⟩) (stateBefore c n (Nat.le_of_succ_le h)) 64

/-- The state after point `t`. -/
def stateAfter (c : Dev nD) (t : Fin cfg0.N) : Vec F S64x32x128 .f32 :=
  stateTrips (iblk m c 1 t) (iblk m c 2 t) (iblk m c 3 t) (iblk m c 4 t) (iblk m c 5 t)
    (stateBefore m c t.val (Nat.le_of_lt t.isLt)) 64

/-- The outputs of point `t`. -/
def outAt (c : Dev nD) (t : Fin cfg0.N) : Vec F S1x64x64x128 .f32 :=
  outBlock (iblk m c 0 t) (iblk m c 1 t) (iblk m c 2 t) (iblk m c 3 t) (iblk m c 4 t) (iblk m c 5 t)
    (stateBefore m c t.val (Nat.le_of_lt t.isLt))

/-- At the first point the state before is the initial state's block. -/
theorem stateBefore_first (c : Dev nD) (t : Fin cfg0.N) (h : t.val = 0) :
    stateBefore m c t.val (Nat.le_of_lt t.isLt) = firstState (iblk m c 6 t) := by
  obtain ⟨n, hn⟩ := t
  cases n with
  | zero => rfl
  | succ n => exact absurd h (Nat.succ_ne_zero n)

/-- What holds between points: before the first nothing is known of the carried state; then it is `stateBefore`. -/
def carried (c : Dev nD) : (n : ℕ) → n ≤ cfg0.N → sProp 𝕄
  | 0, _ => Pipeline.ΦA spec0 c
  | n + 1, h => iprop(iprop(owns (c : Thread nD τ) scM0_0 fullShare (stateBefore m c (n + 1) h)) ∗ (∃ r, prngReg c r))

/-- Before the first point. -/
theorem carried_zero (c : Dev nD) (n : ℕ) (h : n ≤ cfg0.N) (hz : n = 0) : carried m c n h = Pipeline.ΦA spec0 c := by
  subst hz; rfl

/-- Before any later point. -/
theorem carried_pos (c : Dev nD) (n : ℕ) (h : n ≤ cfg0.N) (hz : n ≠ 0) :
    carried m c n h = iprop(iprop(owns (c : Thread nD τ) scM0_0 fullShare (stateBefore m c n h)) ∗ (∃ r, prngReg c r)) := by
  cases n with
  | zero => exact absurd rfl hz
  | succ n => rfl

/-- After point `t`. -/
theorem carried_succ (c : Dev nD) (t : Fin cfg0.N) :
    carried m c (t.val + 1) t.isLt = iprop(iprop(owns (c : Thread nD τ) scM0_0 fullShare (stateAfter m c t)) ∗ (∃ r, prngReg c r)) := rfl

/-- What each window holds after the body of each point, and what is carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => lastState (stateAfter m c t)
  Φ t := carried m c t.val (Nat.le_of_lt_succ t.isLt)
  q _ := fullShare
  owed _ := 0

/-- The arrays are those the region finds. -/
theorem A_eq (c : Dev nD) (w : Fin cfg0.W) : (dats m 0 c).A w = V m c (Pipeline.arrRef spec0 w) := by
  dsimp only [dats]

/-- What is carried, at a point's start. -/
theorem carried_castSucc (c : Dev nD) (t : Fin cfg0.N) :
    (dats m 0 c).Φ t.castSucc = carried m c t.val (Nat.le_of_lt t.isLt) := by
  dsimp only [dats]; exact Pipeline.Dat.Φ_castSucc (carried m c) t

/-- The seven inputs keep their blocks. -/
theorem after0 (c : Dev nD) (t : Fin cfg0.N) :
    (dats m 0 c).after 0 t = iblk m c 0 t ∧ (dats m 0 c).after 1 t = iblk m c 1 t ∧ (dats m 0 c).after 2 t = iblk m c 2 t
    ∧ (dats m 0 c).after 3 t = iblk m c 3 t ∧ (dats m 0 c).after 4 t = iblk m c 4 t ∧ (dats m 0 c).after 5 t = iblk m c 5 t
    ∧ (dats m 0 c).after 6 t = iblk m c 6 t := by
  dsimp only [dats]; exact ⟨rfl, rfl, rfl, rfl, rfl, rfl, rfl⟩

/-- The output window's buffer after the body. -/
theorem after_out (c : Dev nD) (t : Fin cfg0.N) : (dats m 0 c).after 7 t = outAt m c t := by dsimp only [dats]

/-- The final state's buffer. -/
theorem after_state (c : Dev nD) (t : Fin cfg0.N) : (dats m 0 c).after 8 t = lastState (stateAfter m c t) := by
  dsimp only [dats]

/-- Before the body every input's buffer holds its block. -/
theorem before_inputs (c : Dev nD) (t : Fin cfg0.N) :
    (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t)
    ∧ (∀ d, (dats m 0 c).before 6 t d = iblk m c 6 t) :=
  ⟨before0_0_of m (dats m 0 c) (A_eq m c 0) (fun t => (after0 m c t).1) t,
   before0_1_of m (dats m 0 c) (A_eq m c 1) (fun t => (after0 m c t).2.1) t,
   before0_2_of m (dats m 0 c) (A_eq m c 2) (fun t => (after0 m c t).2.2.1) t,
   before0_3_of m (dats m 0 c) (A_eq m c 3) (fun t => (after0 m c t).2.2.2.1) t,
   before0_4_of m (dats m 0 c) (A_eq m c 4) (fun t => (after0 m c t).2.2.2.2.1) t,
   before0_5_of m (dats m 0 c) (A_eq m c 5) (fun t => (after0 m c t).2.2.2.2.2.1) t,
   before0_6_of m (dats m 0 c) (A_eq m c 6) (fun t => (after0 m c t).2.2.2.2.2.2) t⟩

/-- What the body must leave in the eight windows live at every point. -/
theorem leaves_live (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t)
    ∧ (dats m 0 c).leavesExact 4 t = owns (c : Thread nD τ) (ms0_4 t) fullShare (iblk m c 4 t)
    ∧ (dats m 0 c).leavesExact 5 t = owns (c : Thread nD τ) (ms0_5 t) fullShare (iblk m c 5 t)
    ∧ (dats m 0 c).leavesExact 6 t = owns (c : Thread nD τ) (ms0_6 t) fullShare (iblk m c 6 t)
    ∧ (dats m 0 c).leavesExact 7 t = owns (c : Thread nD τ) (ms0_7 t) fullShare (outAt m c t) := by
  obtain ⟨a0, a1, a2, a3, a4, a5, a6⟩ := after0 m c t
  refine ⟨?_, ?_, ?_, ?_, ?_, ?_, ?_, ?_⟩
  · unfold Dat.leavesExact; rw [liveAt0_0 t, a0]
  · unfold Dat.leavesExact; rw [liveAt0_1 t, a1]
  · unfold Dat.leavesExact; rw [liveAt0_2 t, a2]
  · unfold Dat.leavesExact; rw [liveAt0_3 t, a3]
  · unfold Dat.leavesExact; rw [liveAt0_4 t, a4]
  · unfold Dat.leavesExact; rw [liveAt0_5 t, a5]
  · unfold Dat.leavesExact; rw [liveAt0_6 t, a6]
  · unfold Dat.leavesExact; rw [liveAt0_7 t, after_out]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

set_option maxHeartbeats 4000000 in
/-- The body at any point: the first, one between, the last. -/
theorem body_sound (c : Dev nD) (t : Fin cfg0.N) :
    bodyPre m c t ⊢ wp frame (wpE (defs₀ (F := F)) Variants.none c none) Set.univ (bodyAt0 t) (fun _ => bodyPost m c t) := by
  obtain ⟨b0, b1, b2, b3, b4, b5, b6⟩ := before_inputs m c t
  obtain ⟨l0, l1, l2, l3, l4, l5, l6, l7⟩ := leaves_live m c t
  have hN : t.val < 32 := lt_of_lt_of_eq t.isLt (show cfg0.N = 32 from N_0)
  unfold bodyPre bodyPost bodyAt0
  simp only [b0, b1, b2, b3, b4, b5, b6]
  rw [l0, l1, l2, l3, l4, l5, l6, l7]
  rw [show (dats m 0 c).owesAt () t.succ = (dats m 0 c).owesAt () t.castSucc from rfl]
  rw [show (dats m 0 c).Φ t.succ = carried m c (t.val + 1) t.isLt from rfl, carried_succ, carried_castSucc m c t]
  by_cases h0 : t.val = 0
  · have hc0 : cond0_0 (grid0.coords t) := (hcond0_0 t).mpr (by omega)
    have hc1 : ¬ cond0_1 (grid0.coords t) := fun h => by have := (hcond0_1 t).mp h; omega
    rw [Dat.leavesExact_idle (dats m 0 c) 8 t (idleAt0_8_A t hc0 hc1) (noFlush0_8_A t hc0 hc1)]
    rw [carried_zero m c _ _ h0, PhiA0_eq]
    unfold stateAfter outAt
    rw [stateBefore_first m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bodyA c (grid0.coords t) _ _ _ _ _ _ _ _ _ _ _ _ _ _ _ _ _ _ _ _ hc0 hc1 (iblk m c 0 t) (iblk m c 1 t)
      (iblk m c 2 t) (iblk m c 3 t) (iblk m c 4 t) (iblk m c 5 t) (iblk m c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  have hc0 : ¬ cond0_0 (grid0.coords t) := fun h => by have := (hcond0_0 t).mp h; omega
  rw [carried_pos m c _ _ h0]
  by_cases h1 : t.val = 31
  · have hc1 : cond0_1 (grid0.coords t) := (hcond0_1 t).mpr (by omega)
    rw [show (dats m 0 c).leavesExact 8 t = owns (c : Thread nD τ) (ms0_8 t) fullShare (lastState (stateAfter m c t)) from by
      unfold Dat.leavesExact; rw [liveAt0_8_C t hc0 hc1, after_state]]
    unfold stateAfter outAt
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bodyC c (grid0.coords t) _ _ _ _ _ _ _ _ _ _ _ _ _ _ _ _ _ _ _ _ hc0 hc1 (iblk m c 0 t) (iblk m c 1 t)
      (iblk m c 2 t) (iblk m c 3 t) (iblk m c 4 t) (iblk m c 5 t) (iblk m c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬ cond0_1 (grid0.coords t) := fun h => by have := (hcond0_1 t).mp h; omega
    rw [Dat.leavesExact_idle (dats m 0 c) 8 t (idleAt0_8_B t hc0 hc1) (noFlush0_8_B t hc0 hc1)]
    unfold stateAfter outAt
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bodyB c (grid0.coords t) _ _ _ _ _ _ _ _ _ _ _ _ _ _ _ _ _ _ _ _ hc0 hc1 (iblk m c 0 t) (iblk m c 1 t)
      (iblk m c 2 t) (iblk m c 3 t) (iblk m c 4 t) (iblk m c 5 t) (iblk m c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

/-- What the launch hands over holds before the first point. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the carried state is given back. -/
theorem hout (c : Dev nD) : (dats m 0 c).Φ (Fin.last cfg0.N) ⊢ Pipeline.ΦA spec0 c := by
  have hN : cfg0.N = 32 := N_0
  rw [show (dats m 0 c).Φ (Fin.last cfg0.N) = carried m c cfg0.N (Nat.le_refl _) from rfl,
    carried_pos m c _ _ (by omega), PhiA0_eq]
  iintro ⟨HS, Hg⟩
  isplitl [HS]
  · iexists _; iexact HS
  iexact Hg

set_option backward.isDefEq.respectTransparency.types false in
set_option maxHeartbeats 800000 in
/-- The whole run: every array of the pipeline ends at what the points leave, and every counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.Wkv

end
-- ==== Proof.Wkv.Bits.lean ====
/- The recurrence program at the machine's words: it is the idealized program's own text, so the frame carries over. -/
module

public import proofs.«01_k».proof.Defs
public import proofs.«01_k».proof.Proof.Wkv.Frame
public import proofs.«01_k».proof.Proof.Gen.Kernel

@[expose] public section

set_option maxRecDepth 16384

noncomputable section

namespace Cert.Wkv

open Idealize.ShloMosaic Idealize.SL.Sem

variable {F : FTy → Type} [FloatOps F]

/-- The two programs' bodies are one. -/
theorem body_table : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig)
    (Val := Elt F) (Λ := Cert.KernelIdeal.Λ₀)) ?_
  funext l x
  obtain ⟨l, hl⟩ := l
  cases l with
  | zero => obtain ⟨t, s⟩ := x; rfl
  | succ n => exact absurd hl (Nat.not_lt.2 (Nat.le_add_left _ _))

/-- So are their tables. -/
theorem table : Cert.Kernel.defs (F := F) = Cert.KernelIdeal.defs (F := F) :=
  congrArg (Pipeline.defs (Cert.KernelIdeal.pcfgs (F := F))) body_table

/-- The frame of the program at the machine's words. -/
theorem frameBits : @Cert.quiescent_Kernel Cert.Kernel.Gen.facts := by
  intro m g _
  rw [table]
  exact Cert.Wkv.frame (F := Bits) m g

end Cert.Wkv

end
-- ==== Proof.Wkv.Plain.lean ====
/- The recurrence in plain terms, over the extended reals: one 64 by 64 state per batch and head, one step per
   position, and the output read off the new state. -/
module

public import Idealize.ShloMosaic.Lib.Pointwise
public import Idealize.ShloMosaic.Lib.ValueIdx

@[expose] public section

noncomputable section

namespace Cert.Wkv

open Idealize.ShloMosaic

/-- An array of one vector of 64 per batch, position and head. -/
abbrev Seq := FVec Ideal (⟨4, ![4, 2048, 16, 64]⟩ : Shape) .f32

/-- One 64 by 64 state per batch and head. -/
abbrev States := FVec Ideal (⟨4, ![4, 16, 64, 64]⟩ : Shape) .f32

/-- One step for one value row of one batch and head: `S` is the row over the 64 keys. -/
def plainStep (w k kk b S : Fin 64 → EReal) (v : EReal) (j : Fin 64) : EReal :=
  S j * w j + -(∑ q : Fin 64, S q * kk q) * b j + v * k j

/-- The vector of batch `β`, position `n` and head `h`. -/
def seqAt (x : Seq) (β : Fin 4) (n : Fin 2048) (h : Fin 16) (j : Fin 64) : EReal :=
  x (ix4 (n0 := 4) (n1 := 2048) (n2 := 16) (n3 := 64) β n h j)

/-- Value row `i` of the state of batch `β` and head `h` after the first `n` positions. -/
def plainState (w k kk b v : Seq) (s0 : States) (β : Fin 4) (h : Fin 16) (i : Fin 64) : ℕ → Fin 64 → EReal
  | 0 => fun j => s0 (ix4 (n0 := 4) (n1 := 16) (n2 := 64) (n3 := 64) β h i j)
  | n + 1 => if hn : n < 2048 then
      plainStep (seqAt w β ⟨n, hn⟩ h) (seqAt k β ⟨n, hn⟩ h) (seqAt kk β ⟨n, hn⟩ h) (seqAt b β ⟨n, hn⟩ h)
        (plainState w k kk b v s0 β h i n) (seqAt v β ⟨n, hn⟩ h i)
    else plainState w k kk b v s0 β h i n

/-- One more position. -/
theorem plainState_succ (w k kk b v : Seq) (s0 : States) (β : Fin 4) (h : Fin 16) (i : Fin 64) (n : Fin 2048) :
    plainState w k kk b v s0 β h i (n.val + 1) =
      plainStep (seqAt w β n h) (seqAt k β n h) (seqAt kk β n h) (seqAt b β n h)
        (plainState w k kk b v s0 β h i n.val) (seqAt v β n h i) := by
  rw [plainState, dif_pos n.isLt]

/-- The output at position `n`: the state after it read along `r`. -/
def plainOut (r w k kk b v : Seq) (s0 : States) : Seq :=
  fun x => ∑ j : Fin 64, plainState w k kk b v s0 (x 0) (x 2) (x 3) ((x 1).val + 1) j * seqAt r (x 0) (x 1) (x 2) j

/-- The state after every position. -/
def plainLast (w k kk b v : Seq) (s0 : States) : States :=
  fun x => plainState w k kk b v s0 (x 0) (x 1) (x 2) 2048 (x 3)

end Cert.Wkv

end
-- ==== Proof.Wkv.Lanes.lean ====
/- The kernel's layout of a key vector: 64 keys as 32 sublanes of two lane halves, each half holding the 64
   batch and head pairs; and what a step does there, over the extended reals. -/
module

public import proofs.«01_k».proof.Proof.Wkv.Loop
public import proofs.«01_k».proof.Proof.Wkv.Plain
public import Idealize.ShloMosaic.Lib.Pointwise
public import Idealize.ShloMosaic.Lib.ValueIdx

@[expose] public section

set_option maxRecDepth 16384

noncomputable section

namespace Cert.Wkv

open Cert.KernelIdeal Cert.KernelIdeal.Gen
open Idealize.ShloMosaic Idealize.ShloMosaic.TcCoe Idealize.SL.Sem

/-- The lane of half `e` that holds batch `β` and head `h`. -/
def lane (e : Fin 2) (β : Fin 4) (h : Fin 16) : Fin 128 := ⟨64 * e.val + 16 * β.val + h.val, by omega⟩

/-- The key at sublane `p` of half `e`. -/
def key (e : Fin 2) (p : Fin 32) : Fin 64 := ⟨32 * e.val + p.val, by omega⟩

/-- A sum over the 64 keys is the sum over the two halves, in either order. -/
theorem sum_keys (f : Fin 64 → EReal) (e : Fin 2) :
    (∑ p : Fin 32, f (key e p)) + ∑ p : Fin 32, f (key (1 - e) p) = ∑ j : Fin 64, f j := by
  have h : ∑ j : Fin 64, f j = (∑ p : Fin 32, f (key 0 p)) + ∑ p : Fin 32, f (key 1 p) := by
    rw [show (∑ j : Fin 64, f j) = ∑ j : Fin (32 + 32), f j from rfl, Fin.sum_univ_add]
    refine congrArg₂ (· + ·) (Finset.sum_congr rfl fun p _ => congrArg f (Fin.ext ?_))
      (Finset.sum_congr rfl fun p _ => congrArg f (Fin.ext ?_))
    · show p.val = 32 * 0 + p.val; omega
    · show 32 + p.val = 32 * 1 + p.val; omega
  rw [h]
  match e with
  | ⟨0, _⟩ => rfl
  | ⟨1, _⟩ => exact add_comm _ _

/-- The kernel's sum over its key axis at one lane: the lane's half and the other half. -/
theorem keySum_at (z : FVec Ideal S32x128 .f32) (e : Fin 2) (β : Fin 4) (h : Fin 16) :
    keySum z (ix2 (n0 := 1) (n1 := 128) 0 (lane e β h))
      = (∑ p : Fin 32, z (ix2 (n0 := 32) (n1 := 128) p (lane e β h)) : EReal)
        + ∑ p : Fin 32, z (ix2 (n0 := 32) (n1 := 128) p (lane (1 - e) β h)) := by
  have hl : ∀ q : Fin 128, q.val = ((lane e β h).val + 64) % 128 → q = lane (1 - e) β h := by
    intro q hq
    refine Fin.ext (hq.trans ?_)
    unfold lane
    match e with
    | ⟨0, _⟩ => show (64 * 0 + 16 * β.val + h.val + 64) % 128 = 64 * 1 + 16 * β.val + h.val; omega
    | ⟨1, _⟩ => show (64 * 1 + 16 * β.val + h.val + 64) % 128 = 64 * 0 + 16 * β.val + h.val; omega
  unfold keySum
  pointwise
  rw [hl ⟨((lane e β h).val + 128 - 64) % 128, Nat.mod_lt _ (by decide)⟩ (by show (_ + 128 - 64) % 128 = _; omega)]

/-- One state row's entry after a step. -/
theorem newRow_at (w k kk b s : FVec Ideal S32x128 .f32) (v : FVec Ideal S1x128 .f32) (p : Fin 32) (l : Fin 128) :
    newRow w k kk b s v (ix2 (n0 := 32) (n1 := 128) p l)
      = (s (ix2 p l) * w (ix2 p l) + -(keySum (mulf s kk) (ix2 (n0 := 1) (n1 := 128) 0 l)) * b (ix2 p l)
        + v (ix2 (n0 := 1) (n1 := 128) 0 l) * k (ix2 p l) : EReal) := by
  unfold newRow
  pointwise
  rw [zero_sub]

/-- An entry of the vector of one step, read out of its block. -/
theorem vec_entry (x : Vec Ideal S1x64x32x128 .f32) (off : Fin 4 → Nat) (n : Fin 64) (he : off = ![0, n.val, 0, 0])
    (inb : ∀ a, off a + S1x1x32x128.size a ≤ S1x64x32x128.size a) (p : Fin 32) (l : Fin 128) :
    shapeCast S32x128 (View.ld x (Rect.unit (s := S1x64x32x128) off S1x1x32x128.size inb)) shapeCasts_S1x1x32x128_S32x128
      (ix2 (n0 := 32) (n1 := 128) p l) = x (ix4 (n0 := 1) (n1 := 64) (n2 := 32) (n3 := 128) 0 n p l) := by
  refine (shapeCast_apply _ _ _ (ix4 (n0 := 1) (n1 := 1) (n2 := 32) (n3 := 128) 0 0 p l) ?_).trans ?_
  · rw [Shape.rowMajor_val_two, Shape.rowMajor_val_four]
    show ((0 * 1 + 0) * 32 + p.val) * 128 + l.val = p.val * 128 + l.val
    omega
  · refine congrArg x (Rect.emb_eq_of_coords _ _ _ fun a => ?_)
    have e := congrFun he
    match a with
    | ⟨0, _⟩ => show 0 = off 0 + 1 * 0; rw [e 0]; rfl
    | ⟨1, _⟩ => show n.val = off 1 + 1 * 0; rw [e 1]; rfl
    | ⟨2, _⟩ => show p.val = off 2 + 1 * p.val; rw [e 2]; exact (by omega : p.val = 0 + 1 * p.val)
    | ⟨3, _⟩ => show l.val = off 3 + 1 * l.val; rw [e 3]; exact (by omega : l.val = 0 + 1 * l.val)

/-- An entry of one value row, read out of its block. -/
theorem val_entry (x : Vec Ideal S1x64x64x128 .f32) (off : Fin 4 → Nat) (n i : Fin 64) (he : off = ![0, n.val, i.val, 0])
    (inb : ∀ a, off a + S1x1x1x128.size a ≤ S1x64x64x128.size a) (l : Fin 128) :
    shapeCast S1x128 (View.ld x (Rect.unit (s := S1x64x64x128) off S1x1x1x128.size inb)) shapeCasts_S1x1x1x128_S1x128
      (ix2 (n0 := 1) (n1 := 128) 0 l) = x (ix4 (n0 := 1) (n1 := 64) (n2 := 64) (n3 := 128) 0 n i l) := by
  refine (shapeCast_apply _ _ _ (ix4 (n0 := 1) (n1 := 1) (n2 := 1) (n3 := 128) 0 0 0 l) ?_).trans ?_
  · rw [Shape.rowMajor_val_two, Shape.rowMajor_val_four]
    show ((0 * 1 + 0) * 1 + 0) * 128 + l.val = 0 * 128 + l.val
    omega
  · refine congrArg x (Rect.emb_eq_of_coords _ _ _ fun a => ?_)
    have e := congrFun he
    match a with
    | ⟨0, _⟩ => show 0 = off 0 + 1 * 0; rw [e 0]; rfl
    | ⟨1, _⟩ => show n.val = off 1 + 1 * 0; rw [e 1]; rfl
    | ⟨2, _⟩ => show i.val = off 2 + 1 * 0; rw [e 2]; rfl
    | ⟨3, _⟩ => show l.val = off 3 + 1 * l.val; rw [e 3]; exact (by omega : l.val = 0 + 1 * l.val)

/-- An entry of the vector of step `n`. -/
theorem vecAt_at (x : Vec Ideal S1x64x32x128 .f32) (n : Fin 64) (p : Fin 32) (l : Fin 128) :
    vecAt x (tripOf n) (ix2 (n0 := 32) (n1 := 128) p l) = x (ix4 (n0 := 1) (n1 := 64) (n2 := 32) (n3 := 128) 0 n p l) :=
  vec_entry x _ n (k0_off1_eq (tripOf n)) _ p l

/-- An entry of value row `i` of step `n`. -/
theorem valAt_at (x : Vec Ideal S1x64x64x128 .f32) (n i : Fin 64) (l : Fin 128) :
    valAt x (tripOf n) i (ix2 (n0 := 1) (n1 := 128) 0 l) = x (ix4 (n0 := 1) (n1 := 64) (n2 := 64) (n3 := 128) 0 n i l) :=
  val_entry x _ n i (rowOff_eq i (tripOf n)) _ l

/-- An entry of state row `i`. -/
theorem stateAt_at (s : Vec Ideal S64x32x128 .f32) (i : Fin 64) (p : Fin 32) (l : Fin 128) :
    stateAt s i (ix2 (n0 := 32) (n1 := 128) p l) = s (ix3 (n0 := 64) (n1 := 32) (n2 := 128) i p l) := by
  unfold stateAt
  refine (shapeCast_apply _ _ _ (ix3 (n0 := 1) (n1 := 32) (n2 := 128) 0 p l) ?_).trans ?_
  · rw [Shape.rowMajor_val_two, Shape.rowMajor_val_three]
    show (0 * 32 + p.val) * 128 + l.val = p.val * 128 + l.val
    omega
  · refine congrArg s (Rect.emb_eq_of_coords _ _ _ fun a => ?_)
    match a with
    | ⟨0, _⟩ => show i.val = i.val + 1 * 0; rfl
    | ⟨1, _⟩ => show p.val = 0 + 1 * p.val; omega
    | ⟨2, _⟩ => show l.val = 0 + 1 * l.val; omega

/-- An entry of the state handed in. -/
theorem firstState_at (x : Vec Ideal S1x64x32x128 .f32) (i : Fin 64) (p : Fin 32) (l : Fin 128) :
    firstState x (ix3 (n0 := 64) (n1 := 32) (n2 := 128) i p l) = x (ix4 (n0 := 1) (n1 := 64) (n2 := 32) (n3 := 128) 0 i p l) := by
  unfold firstState
  pointwise

/-- An entry of the state handed out. -/
theorem lastState_at (s : Vec Ideal S64x32x128 .f32) (i : Fin 64) (p : Fin 32) (l : Fin 128) :
    lastState s (ix4 (n0 := 1) (n1 := 64) (n2 := 32) (n3 := 128) 0 i p l) = s (ix3 (n0 := 64) (n1 := 32) (n2 := 128) i p l) := by
  unfold lastState
  pointwise

/-- An entry of the next state. -/
theorem stateNext_at (w k kk b : Vec Ideal S1x64x32x128 .f32) (v : Vec Ideal S1x64x64x128 .f32) (n : Fin 64)
    (s : Vec Ideal S64x32x128 .f32) (i : Fin 64) (p : Fin 32) (l : Fin 128) :
    stateNext w k kk b v (tripOf n) s (ix3 (n0 := 64) (n1 := 32) (n2 := 128) i p l)
      = rowNext w k kk b v (tripOf n) s i (ix2 (n0 := 32) (n1 := 128) p l) := by
  unfold stateNext
  rfl

/-- If the blocks and the state hold plain vectors in the kernel's layout, so does the next state's row. -/
theorem rowNext_at (w k kk b : Vec Ideal S1x64x32x128 .f32) (v : Vec Ideal S1x64x64x128 .f32) (n : Fin 64)
    (s : Vec Ideal S64x32x128 .f32) (i : Fin 64) (β : Fin 4) (h : Fin 16) (w' k' kk' b' S : Fin 64 → EReal) (v' : EReal)
    (hw : ∀ e p, w (ix4 (n0 := 1) (n1 := 64) (n2 := 32) (n3 := 128) 0 n p (lane e β h)) = w' (key e p))
    (hk : ∀ e p, k (ix4 (n0 := 1) (n1 := 64) (n2 := 32) (n3 := 128) 0 n p (lane e β h)) = k' (key e p))
    (hkk : ∀ e p, kk (ix4 (n0 := 1) (n1 := 64) (n2 := 32) (n3 := 128) 0 n p (lane e β h)) = kk' (key e p))
    (hb : ∀ e p, b (ix4 (n0 := 1) (n1 := 64) (n2 := 32) (n3 := 128) 0 n p (lane e β h)) = b' (key e p))
    (hv : ∀ e, v (ix4 (n0 := 1) (n1 := 64) (n2 := 64) (n3 := 128) 0 n i (lane e β h)) = v')
    (hs : ∀ e p, s (ix3 (n0 := 64) (n1 := 32) (n2 := 128) i p (lane e β h)) = S (key e p)) (e : Fin 2) (p : Fin 32) :
    rowNext w k kk b v (tripOf n) s i (ix2 (n0 := 32) (n1 := 128) p (lane e β h)) = plainStep w' k' kk' b' S v' (key e p) := by
  unfold rowNext plainStep
  rw [newRow_at, keySum_at]
  simp only [mulf_apply, vecAt_at, stateAt_at, valAt_at, hw, hk, hkk, hb, hv, hs]
  rw [← sum_keys (fun q => S q * kk' q) e]
  rfl

/-- And the step's output row is that row read along the plain `r`. -/
theorem outRow_at (r w k kk b : Vec Ideal S1x64x32x128 .f32) (v : Vec Ideal S1x64x64x128 .f32) (n : Fin 64)
    (s : Vec Ideal S64x32x128 .f32) (i : Fin 64) (β : Fin 4) (h : Fin 16) (r' T : Fin 64 → EReal)
    (hr : ∀ e p, r (ix4 (n0 := 1) (n1 := 64) (n2 := 32) (n3 := 128) 0 n p (lane e β h)) = r' (key e p))
    (hT : ∀ e p, rowNext w k kk b v (tripOf n) s i (ix2 (n0 := 32) (n1 := 128) p (lane e β h)) = T (key e p)) (e : Fin 2) :
    outRow r w k kk b v (tripOf n) s i (ix2 (n0 := 1) (n1 := 128) 0 (lane e β h)) = (∑ j : Fin 64, T j * r' j : EReal) := by
  unfold outRow
  rw [keySum_at]
  simp only [mulf_apply, vecAt_at, hr, hT]
  rw [← sum_keys (fun j => T j * r' j) e]
  rfl

end Cert.Wkv

end
-- ==== Proof.Wkv.Chunk.lean ====
/- The kernel's points over the extended reals: each chunk of 64 positions takes the plain state 64 positions further
   and leaves the plain outputs of its positions. -/
module

public import proofs.«01_k».proof.Proof.Wkv.Lanes
public import proofs.«01_k».proof.Proof.Wkv.Frame
public import Idealize.ShloMosaic.Lib.Pipeline.Value
public import Idealize.ShloMosaic.Lib.Tactic

@[expose] public section

set_option maxRecDepth 16384

noncomputable section

namespace Cert.Wkv

open Cert.KernelIdeal Cert.KernelIdeal.Gen
open Idealize.ShloMosaic Idealize.ShloMosaic.TcCoe Idealize.SL.Sem
open Idealize.ShloMosaic.Pipeline (Dat)

/-- The key vectors in the kernel's layout. -/
theorem keys_at (x : Seq) (h1 : S4x2048x16x64.ShapeCasts S1x4x2048x16x2x32) (h2 : S1x4x2048x16x2x32.Transposes [0, 2, 5, 4, 1, 3] S1x2048x32x2x4x16)
    (h3 : S1x2048x32x2x4x16.ShapeCasts S1x2048x32x128) (n : Fin 2048) (p : Fin 32) (e : Fin 2) (β : Fin 4) (h : Fin 16) :
    shapeCast S1x2048x32x128 (transpose S1x2048x32x2x4x16 [0, 2, 5, 4, 1, 3] (shapeCast S1x4x2048x16x2x32 x h1) h2) h3
      (ix4 (n0 := 1) (n1 := 2048) (n2 := 32) (n3 := 128) 0 n p (lane e β h)) = seqAt x β n h (key e p) := by
  unfold seqAt lane
  pointwise
  refine congrArg x (congrArg (ix4 (n0 := 4) (n1 := 2048) (n2 := 16) (n3 := 64) β n h) (Fin.ext ?_))
  exact congrArg (· + p.val) (Nat.mul_comm e.val 32)

/-- The value vectors in the kernel's layout, held twice. -/
theorem values_at (x : Seq) (h1 : S4x2048x16x64.ShapeCasts S1x4x2048x16x64) (h2 : S1x4x2048x16x64.Transposes [0, 2, 4, 1, 3] S1x2048x64x4x16)
    (h3 : S1x2048x64x4x16.ShapeCasts S1x2048x64x64) (h4 : Shape.Concatenates [S1x2048x64x64, S1x2048x64x64] S1x2048x64x128 3)
    (n : Fin 2048) (i : Fin 64) (e : Fin 2) (β : Fin 4) (h : Fin 16) :
    concatenate S1x2048x64x128 3 ([⟨S1x2048x64x64, shapeCast S1x2048x64x64 (transpose S1x2048x64x4x16 [0, 2, 4, 1, 3] (shapeCast S1x4x2048x16x64 x h1) h2) h3⟩,
        ⟨S1x2048x64x64, shapeCast S1x2048x64x64 (transpose S1x2048x64x4x16 [0, 2, 4, 1, 3] (shapeCast S1x4x2048x16x64 x h1) h2) h3⟩] : List ((s : Shape) × (s.Idx → Elt Ideal .f32))) h4
      (ix4 (n0 := 1) (n1 := 2048) (n2 := 64) (n3 := 128) 0 n i (lane e β h)) = seqAt x β n h i := by
  have e2 := e.isLt
  unfold seqAt lane
  pointwise
  split
  · rfl
  · rename_i q
    refine congrArg x (congrArg₂ (fun β' h' => ix4 (n0 := 4) (n1 := 2048) (n2 := 16) (n3 := 64) β' n h' i) (Fin.ext ?_) (Fin.ext ?_))
    · show (64 * e.val + 16 * β.val + h.val - 64) / 16 = β.val; omega
    · show (64 * e.val + 16 * β.val + h.val - 64) % 16 = h.val; omega

/-- The initial states in the kernel's layout. -/
theorem states_at (x : States) (h1 : S4x16x64x64.ShapeCasts S1x4x16x64x2x32) (h2 : S1x4x16x64x2x32.Transposes [0, 3, 5, 4, 1, 2] S1x64x32x2x4x16)
    (h3 : S1x64x32x2x4x16.ShapeCasts S1x64x32x128) (i : Fin 64) (p : Fin 32) (e : Fin 2) (β : Fin 4) (h : Fin 16) :
    shapeCast S1x64x32x128 (transpose S1x64x32x2x4x16 [0, 3, 5, 4, 1, 2] (shapeCast S1x4x16x64x2x32 x h1) h2) h3
      (ix4 (n0 := 1) (n1 := 64) (n2 := 32) (n3 := 128) 0 i p (lane e β h))
      = x (ix4 (n0 := 4) (n1 := 16) (n2 := 64) (n3 := 64) β h i (key e p)) := by
  unfold lane
  pointwise
  refine congrArg x (congrArg (ix4 (n0 := 4) (n1 := 16) (n2 := 64) (n3 := 64) β h i) (Fin.ext ?_))
  exact congrArg (· + p.val) (Nat.mul_comm e.val 32)

variable (m : (ℓ : Loc nD τ sig) → Buf (Elt Ideal) ℓ)

/-- The seven arrays the pipeline reads. -/
theorem arrays_at (c : Dev nD) :
    (∀ n p e β h, (V m c main_v5 : Vec Ideal S1x2048x32x128 .f32) (ix4 (n0 := 1) (n1 := 2048) (n2 := 32) (n3 := 128) 0 n p (lane e β h))
      = seqAt (m ((c : Thread nD τ).loc main_arg0)) β n h (key e p))
    ∧ (∀ n p e β h, (V m c main_v8 : Vec Ideal S1x2048x32x128 .f32) (ix4 (n0 := 1) (n1 := 2048) (n2 := 32) (n3 := 128) 0 n p (lane e β h))
      = seqAt (m ((c : Thread nD τ).loc main_arg1)) β n h (key e p))
    ∧ (∀ n p e β h, (V m c main_v11 : Vec Ideal S1x2048x32x128 .f32) (ix4 (n0 := 1) (n1 := 2048) (n2 := 32) (n3 := 128) 0 n p (lane e β h))
      = seqAt (m ((c : Thread nD τ).loc main_arg2)) β n h (key e p))
    ∧ (∀ n p e β h, (V m c main_v14 : Vec Ideal S1x2048x32x128 .f32) (ix4 (n0 := 1) (n1 := 2048) (n2 := 32) (n3 := 128) 0 n p (lane e β h))
      = seqAt (m ((c : Thread nD τ).loc main_arg3)) β n h (key e p))
    ∧ (∀ n p e β h, (V m c main_v17 : Vec Ideal S1x2048x32x128 .f32) (ix4 (n0 := 1) (n1 := 2048) (n2 := 32) (n3 := 128) 0 n p (lane e β h))
      = seqAt (m ((c : Thread nD τ).loc main_arg4)) β n h (key e p))
    ∧ (∀ n i e β h, (V m c main_v21 : Vec Ideal S1x2048x64x128 .f32) (ix4 (n0 := 1) (n1 := 2048) (n2 := 64) (n3 := 128) 0 n i (lane e β h))
      = seqAt (m ((c : Thread nD τ).loc main_arg5)) β n h i)
    ∧ (∀ i p e β h, (V m c main_v2 : Vec Ideal S1x64x32x128 .f32) (ix4 (n0 := 1) (n1 := 64) (n2 := 32) (n3 := 128) 0 i p (lane e β h))
      = (m ((c : Thread nD τ).loc main_arg6) : States) (ix4 (n0 := 4) (n1 := 16) (n2 := 64) (n3 := 64) β h i (key e p))) := by
  refine ⟨fun n p e β h => ?_, fun n p e β h => ?_, fun n p e β h => ?_, fun n p e β h => ?_, fun n p e β h => ?_, fun n p e β h => ?_, fun n p e β h => ?_⟩ <;> entry_read
  · exact keys_at _ _ _ _ n p e β h
  · exact keys_at _ _ _ _ n p e β h
  · exact keys_at _ _ _ _ n p e β h
  · exact keys_at _ _ _ _ n p e β h
  · exact keys_at _ _ _ _ n p e β h
  · exact values_at (m ((c : Thread nD τ).loc main_arg5)) shapeCasts_S4x2048x16x64_S1x4x2048x16x64 transposes_S1x4x2048x16x64_S1x2048x64x4x16_0_2_4_1_3
      shapeCasts_S1x2048x64x4x16_S1x2048x64x64 concatenates_S1x2048x64x64_S1x2048x64x64_S1x2048x64x128_d3 n p e β h
  · exact states_at _ _ _ _ n p e β h

/-- Where the blocks of each point lie: the chunk's positions, and the states whole. -/
theorem chunks_at : ∀ t : Fin cfg0.N, ∀ a : Fin 4,
    win0_0.index t a = ![0, t.val, 0, 0] a ∧ win0_1.index t a = ![0, t.val, 0, 0] a ∧ win0_2.index t a = ![0, t.val, 0, 0] a
    ∧ win0_3.index t a = ![0, t.val, 0, 0] a ∧ win0_4.index t a = ![0, t.val, 0, 0] a ∧ win0_5.index t a = ![0, t.val, 0, 0] a
    ∧ win0_6.index t a = 0 ∧ win0_7.index t a = ![0, t.val, 0, 0] a ∧ win0_8.index t a = 0 :=
  (by decide +kernel : ∀ t : Fin grid0.N, _)

/-- Position `n` of chunk `t`. -/
def pos (t : Fin cfg0.N) (n : Fin 64) : Fin 2048 :=
  ⟨64 * t.val + n.val, by have h := t.isLt; have hN : cfg0.N = 32 := N_0; have := n.isLt; omega⟩

/-- The blocks of a chunk hold its positions' vectors, in the kernel's layout. -/
theorem blocks_at (c : Dev nD) (t : Fin cfg0.N) :
    (∀ n p e β h, (iblk m c 0 t : Vec Ideal S1x64x32x128 .f32) (ix4 (n0 := 1) (n1 := 64) (n2 := 32) (n3 := 128) 0 n p (lane e β h))
      = seqAt (m ((c : Thread nD τ).loc main_arg0)) β (pos t n) h (key e p))
    ∧ (∀ n p e β h, (iblk m c 1 t : Vec Ideal S1x64x32x128 .f32) (ix4 (n0 := 1) (n1 := 64) (n2 := 32) (n3 := 128) 0 n p (lane e β h))
      = seqAt (m ((c : Thread nD τ).loc main_arg1)) β (pos t n) h (key e p))
    ∧ (∀ n p e β h, (iblk m c 2 t : Vec Ideal S1x64x32x128 .f32) (ix4 (n0 := 1) (n1 := 64) (n2 := 32) (n3 := 128) 0 n p (lane e β h))
      = seqAt (m ((c : Thread nD τ).loc main_arg2)) β (pos t n) h (key e p))
    ∧ (∀ n p e β h, (iblk m c 3 t : Vec Ideal S1x64x32x128 .f32) (ix4 (n0 := 1) (n1 := 64) (n2 := 32) (n3 := 128) 0 n p (lane e β h))
      = seqAt (m ((c : Thread nD τ).loc main_arg3)) β (pos t n) h (key e p))
    ∧ (∀ n p e β h, (iblk m c 4 t : Vec Ideal S1x64x32x128 .f32) (ix4 (n0 := 1) (n1 := 64) (n2 := 32) (n3 := 128) 0 n p (lane e β h))
      = seqAt (m ((c : Thread nD τ).loc main_arg4)) β (pos t n) h (key e p))
    ∧ (∀ n i e β h, (iblk m c 5 t : Vec Ideal S1x64x64x128 .f32) (ix4 (n0 := 1) (n1 := 64) (n2 := 64) (n3 := 128) 0 n i (lane e β h))
      = seqAt (m ((c : Thread nD τ).loc main_arg5)) β (pos t n) h i)
    ∧ (∀ i p e β h, (iblk m c 6 t : Vec Ideal S1x64x32x128 .f32) (ix4 (n0 := 1) (n1 := 64) (n2 := 32) (n3 := 128) 0 i p (lane e β h))
      = (m ((c : Thread nD τ).loc main_arg6) : States) (ix4 (n0 := 4) (n1 := 16) (n2 := 64) (n3 := 64) β h i (key e p))) := by
  obtain ⟨a0, a1, a2, a3, a4, a5, a6⟩ := arrays_at m c
  have hc := chunks_at t
  -- the index of a chunk's element, coordinate by coordinate
  have hk : ∀ (f : Fin 4 → ℕ), (∀ a, f a = ![0, t.val, 0, 0] a) → ∀ (k : ℕ) (n : Fin 64) (p : Fin k) (l : Fin 128) (j : (⟨4, ![1, 2048, k, 128]⟩ : Shape).Idx),
      (j 0).val = f 0 * 1 + 1 * 0 → (j 1).val = f 1 * 64 + 1 * n.val → (j 2).val = f 2 * k + 1 * p.val → (j 3).val = f 3 * 128 + 1 * l.val →
      j = ix4 (n0 := 1) (n1 := 2048) (n2 := k) (n3 := 128) 0 (pos t n) p l := by
    intro f hf k n p l j h0 h1 h2 h3
    refine funext fun a => Fin.ext ?_
    match a with
    | ⟨0, _⟩ => exact h0.trans (by rw [hf 0]; rfl)
    | ⟨1, _⟩ => exact h1.trans (by rw [hf 1]; show t.val * 64 + 1 * n.val = 64 * t.val + n.val; omega)
    | ⟨2, _⟩ => exact h2.trans (by rw [hf 2]; show 0 * k + 1 * p.val = p.val; omega)
    | ⟨3, _⟩ => exact h3.trans (by rw [hf 3]; show 0 * 128 + 1 * l.val = l.val; omega)
  refine ⟨fun n p e β h => ?_, fun n p e β h => ?_, fun n p e β h => ?_, fun n p e β h => ?_, fun n p e β h => ?_, fun n p e β h => ?_, fun n p e β h => ?_⟩
  · rw [← a0]; unfold iblk; rw [View.read_apply]
    exact congrArg (V m c main_v5) (hk (win0_0.index t) (fun a => (hc a).1) 32 n p _ _ rfl rfl rfl rfl)
  · rw [← a1]; unfold iblk; rw [View.read_apply]
    exact congrArg (V m c main_v8) (hk (win0_1.index t) (fun a => (hc a).2.1) 32 n p _ _ rfl rfl rfl rfl)
  · rw [← a2]; unfold iblk; rw [View.read_apply]
    exact congrArg (V m c main_v11) (hk (win0_2.index t) (fun a => (hc a).2.2.1) 32 n p _ _ rfl rfl rfl rfl)
  · rw [← a3]; unfold iblk; rw [View.read_apply]
    exact congrArg (V m c main_v14) (hk (win0_3.index t) (fun a => (hc a).2.2.2.1) 32 n p _ _ rfl rfl rfl rfl)
  · rw [← a4]; unfold iblk; rw [View.read_apply]
    exact congrArg (V m c main_v17) (hk (win0_4.index t) (fun a => (hc a).2.2.2.2.1) 32 n p _ _ rfl rfl rfl rfl)
  · rw [← a5]; unfold iblk; rw [View.read_apply]
    exact congrArg (V m c main_v21) (hk (win0_5.index t) (fun a => (hc a).2.2.2.2.2.1) 64 n p _ _ rfl rfl rfl rfl)
  · rw [← a6]; unfold iblk; rw [View.read_apply]
    refine congrArg (V m c main_v2) (funext fun a => Fin.ext ?_)
    have h6 := fun a => (hc a).2.2.2.2.2.2.1
    match a with
    | ⟨0, _⟩ => show win0_6.index t 0 * 1 + 1 * 0 = 0; rw [h6 0]
    | ⟨1, _⟩ => show win0_6.index t 1 * 64 + 1 * n.val = n.val; rw [h6 1]; omega
    | ⟨2, _⟩ => show win0_6.index t 2 * 32 + 1 * p.val = p.val; rw [h6 2]; omega
    | ⟨3, _⟩ => show win0_6.index t 3 * 128 + 1 * (lane e β h).val = (lane e β h).val; rw [h6 3]; omega

/-- The plain state of the kernel's arguments. -/
abbrev mState (c : Dev nD) (β : Fin 4) (h : Fin 16) (i : Fin 64) : ℕ → Fin 64 → EReal :=
  plainState (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) β h i

/-- A step of a chunk takes the plain state to the next position. -/
theorem step_at (c : Dev nD) (t : Fin cfg0.N) (n : Fin 64) (s : Vec Ideal S64x32x128 .f32)
    (hs : ∀ i p e β h, s (ix3 (n0 := 64) (n1 := 32) (n2 := 128) i p (lane e β h)) = mState m c β h i (64 * t.val + n.val) (key e p))
    (i : Fin 64) (p : Fin 32) (e : Fin 2) (β : Fin 4) (h : Fin 16) :
    rowNext (iblk m c 1 t) (iblk m c 2 t) (iblk m c 3 t) (iblk m c 4 t) (iblk m c 5 t) (tripOf n) s i
      (ix2 (n0 := 32) (n1 := 128) p (lane e β h)) = mState m c β h i (64 * t.val + n.val + 1) (key e p) := by
  obtain ⟨-, b1, b2, b3, b4, b5, -⟩ := blocks_at m c t
  refine (rowNext_at (iblk m c 1 t) (iblk m c 2 t) (iblk m c 3 t) (iblk m c 4 t) (iblk m c 5 t) n s i β h _ _ _ _ _ _
    (fun e p => b1 n p e β h) (fun e p => b2 n p e β h) (fun e p => b3 n p e β h) (fun e p => b4 n p e β h) (fun e => b5 n i e β h)
    (fun e p => hs i p e β h) e p).trans ?_
  exact (congrFun (plainState_succ _ _ _ _ _ _ β h i (pos t n)) (key e p)).symm

/-- After `k` steps of a chunk. -/
theorem trips_at (c : Dev nD) (t : Fin cfg0.N) (s : Vec Ideal S64x32x128 .f32)
    (hs : ∀ i p e β h, s (ix3 (n0 := 64) (n1 := 32) (n2 := 128) i p (lane e β h)) = mState m c β h i (64 * t.val) (key e p)) :
    ∀ k : ℕ, k ≤ 64 → ∀ i p e β h,
      stateTrips (iblk m c 1 t) (iblk m c 2 t) (iblk m c 3 t) (iblk m c 4 t) (iblk m c 5 t) s k
        (ix3 (n0 := 64) (n1 := 32) (n2 := 128) i p (lane e β h)) = mState m c β h i (64 * t.val + k) (key e p) := by
  intro k
  induction k with
  | zero => exact fun _ i p e β h => hs i p e β h
  | succ k ih =>
    intro hk i p e β h
    have q := stateTrips_succ (iblk m c 1 t) (iblk m c 2 t) (iblk m c 3 t) (iblk m c 4 t) (iblk m c 5 t) s (tripOf ⟨k, hk⟩)
    refine (congrFun q _).trans ?_
    exact (stateNext_at _ _ _ _ _ ⟨k, hk⟩ _ i p _).trans (step_at m c t ⟨k, hk⟩ _ (ih (Nat.le_of_succ_le hk)) i p e β h)

/-- Before chunk `n` the carried state is the plain state of its first position. -/
theorem before_at (c : Dev nD) : ∀ (n : ℕ) (hn : n ≤ cfg0.N), ∀ i p e β h,
    stateBefore m c n hn (ix3 (n0 := 64) (n1 := 32) (n2 := 128) i p (lane e β h)) = mState m c β h i (64 * n) (key e p) := by
  intro n
  induction n with
  | zero =>
    intro hn i p e β h
    unfold stateBefore
    exact (firstState_at _ i p _).trans ((blocks_at m c _).2.2.2.2.2.2 i p e β h)
  | succ n ih =>
    intro hn i p e β h
    exact trips_at m c ⟨n, hn⟩ _ (ih (Nat.le_of_succ_le hn)) 64 (le_refl _) i p e β h

/-- After chunk `t` it is the plain state of the next chunk's first position. -/
theorem after_at (c : Dev nD) (t : Fin cfg0.N) (i : Fin 64) (p : Fin 32) (e : Fin 2) (β : Fin 4) (h : Fin 16) :
    stateAfter m c t (ix3 (n0 := 64) (n1 := 32) (n2 := 128) i p (lane e β h)) = mState m c β h i (64 * t.val + 64) (key e p) :=
  trips_at m c t _ (before_at m c t.val (Nat.le_of_lt t.isLt)) 64 (le_refl _) i p e β h

/-- The plain outputs of the kernel's arguments. -/
abbrev mOut (c : Dev nD) : Seq :=
  plainOut (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- Chunk `t` leaves the plain outputs of its positions. -/
theorem outAt_at (c : Dev nD) (t : Fin cfg0.N) (n i : Fin 64) (e : Fin 2) (β : Fin 4) (h : Fin 16) :
    outAt m c t (ix4 (n0 := 1) (n1 := 64) (n2 := 64) (n3 := 128) 0 n i (lane e β h))
      = mOut m c (ix4 (n0 := 4) (n1 := 2048) (n2 := 16) (n3 := 64) β (pos t n) h i) := by
  obtain ⟨b0, -⟩ := blocks_at m c t
  have hs := trips_at m c t _ (before_at m c t.val (Nat.le_of_lt t.isLt)) n.val (Nat.le_of_lt n.isLt)
  exact outRow_at (iblk m c 0 t) (iblk m c 1 t) (iblk m c 2 t) (iblk m c 3 t) (iblk m c 4 t) (iblk m c 5 t) n _ i β h _ _
    (fun e p => b0 n p e β h) (fun e p => step_at m c t n _ hs i p e β h) e

end Cert.Wkv

end
-- ==== Proof.Wkv.Ref.lean ====
/- The reference's run over the extended reals: its loop is the plain recurrence. -/
module

public import proofs.«01_k».proof.Proof.Gen.ReferenceIdeal.Run
public import proofs.«01_k».proof.Proof.Wkv.Plain
public import Idealize.ShloMosaic.Lib.DynamicIndex
public import Idealize.ShloMosaic.Lib.WordCmp
public import Idealize.ShloMosaic.Lib.ValueLayout

@[expose] public section

set_option maxRecDepth 16384

noncomputable section

namespace Cert.WkvRef

open Cert.ReferenceIdeal Cert.ReferenceIdeal.Gen Cert.ReferenceIdeal.Value Cert.Wkv
open Idealize.ShloMosaic.StableHlo
open Idealize.ShloMosaic Idealize.ShloMosaic.TcCoe Idealize.SL.Sem

/-- The counter word of position `n`, read signed. -/
theorem word_toInt (n : Fin 2048) : (BitVec.ofNat 32 n.val).toInt = (n.val : Int) := by
  have h := n.isLt
  rw [BitVec.toInt_eq_toNat_of_lt (by rw [BitVec.toNat_ofNat]; omega), BitVec.toNat_ofNat]
  omega

/-- The starts of the loop's slices. -/
abbrev starts (cw : (⟨S_, .i32⟩ : BufTy).Contents (Elt Ideal)) : Fin 4 → Int :=
  fun k => (((![cw, constantI S_ 32 0#32, constantI S_ 32 0#32, constantI S_ 32 0#32] : Fin 4 → (⟨S_, .i32⟩ : BufTy).Contents (Elt Ideal))) k (Shape.Idx.first h_S_)).toInt

/-- They are position `n` and zeros. -/
theorem starts_eq (cw : (⟨S_, .i32⟩ : BufTy).Contents (Elt Ideal)) (n : Fin 2048) (hc : cw = fun _ => BitVec.ofNat 32 n.val)
    (a : Fin 4) : starts cw a = ((![n.val, 0, 0, 0] : Fin 4 → Nat) a : Int) := by
  subst hc
  match a with
  | ⟨0, _⟩ => exact word_toInt n
  | ⟨1, _⟩ => rfl
  | ⟨2, _⟩ => rfl
  | ⟨3, _⟩ => rfl

/-- Position `n`'s block lies inside the array. -/
theorem start_fits (n : Fin 2048) : S2048x4x16x64.Slices (![n.val, 0, 0, 0] : Fin 4 → Nat) S1x4x16x64 := by
  have h := n.isLt
  refine ⟨rfl, fun a => ?_⟩
  match a with
  | ⟨0, _⟩ => show n.val + 1 ≤ 2048; omega
  | ⟨1, _⟩ => show 0 + 4 ≤ 4; omega
  | ⟨2, _⟩ => show 0 + 16 ≤ 16; omega
  | ⟨3, _⟩ => show 0 + 64 ≤ 64; omega

/-- A slice at the counter is the vectors of position `n`. -/
theorem slice_at (x : FVec Ideal S2048x4x16x64 .f32) (cw : (⟨S_, .i32⟩ : BufTy).Contents (Elt Ideal)) (n : Fin 2048)
    (hc : cw = fun _ => BitVec.ofNat 32 n.val) (β : Fin 4) (h : Fin 16) (j : Fin 64) :
    shapeCast S4x16x64 (Host.dynamicSlice S1x4x16x64 x (starts cw) sliceFits_S2048x4x16x64_S1x4x16x64) shapeCasts_S1x4x16x64_S4x16x64
      (ix3 (n0 := 4) (n1 := 16) (n2 := 64) β h j) = x (ix4 (n0 := 2048) (n1 := 4) (n2 := 16) (n3 := 64) n β h j) := by
  rw [Host.dynamicSlice_eq_extractStridedSlice S1x4x16x64 x (starts cw) ![n.val, 0, 0, 0] _ (start_fits n) (starts_eq cw n hc)]
  pointwise

/-- The new state at one entry, of the position's vectors. -/
theorem next_at (S : FVec Ideal S4x16x64x64 .f32) (w k kk b v : FVec Ideal S4x16x64 .f32) (β : Fin 4) (h : Fin 16) (i j : Fin 64) :
    addf (addf (mulf S (broadcastInDim S4x16x64x64 ![0, 1, 2, 3] bcast_S4x16x1x64_S4x16x64x64_0_1_2_3 (broadcastInDim S4x16x1x64 ![0, 1, 3] bcast_S4x16x64_S4x16x1x64_0_1_3 w)))
      (mulf (broadcastInDim S4x16x64x64 ![0, 1, 2, 3] bcast_S4x16x64x1_S4x16x64x64_0_1_2_3 (broadcastInDim S4x16x64x1 ![0, 1, 2] bcast_S4x16x64_S4x16x64x1_0_1_2
          (Host.negf (Host.dotGeneral (F := Ideal) (φ₁ := .f32) dot_S4x16x64x64_S4x16x64_S4x16x64_3_2_2_n_01_01 none S kk))))
        (broadcastInDim S4x16x64x64 ![0, 1, 2, 3] bcast_S4x16x1x64_S4x16x64x64_0_1_2_3 (broadcastInDim S4x16x1x64 ![0, 1, 3] bcast_S4x16x64_S4x16x1x64_0_1_3 b))))
      (mulf (broadcastInDim S4x16x64x64 ![0, 1, 2, 3] bcast_S4x16x64x1_S4x16x64x64_0_1_2_3 (broadcastInDim S4x16x64x1 ![0, 1, 2] bcast_S4x16x64_S4x16x64x1_0_1_2 v))
        (broadcastInDim S4x16x64x64 ![0, 1, 2, 3] bcast_S4x16x1x64_S4x16x64x64_0_1_2_3 (broadcastInDim S4x16x1x64 ![0, 1, 3] bcast_S4x16x64_S4x16x1x64_0_1_3 k)))
      (ix4 (n0 := 4) (n1 := 16) (n2 := 64) (n3 := 64) β h i j)
    = plainStep (fun q => w (ix3 (n0 := 4) (n1 := 16) (n2 := 64) β h q)) (fun q => k (ix3 (n0 := 4) (n1 := 16) (n2 := 64) β h q))
        (fun q => kk (ix3 (n0 := 4) (n1 := 16) (n2 := 64) β h q)) (fun q => b (ix3 (n0 := 4) (n1 := 16) (n2 := 64) β h q))
        (fun q => S (ix4 (n0 := 4) (n1 := 16) (n2 := 64) (n3 := 64) β h i q)) (v (ix3 (n0 := 4) (n1 := 16) (n2 := 64) β h i)) j := by
  unfold plainStep
  pointwise

/-- The position's output at one entry. -/
theorem out_at (S : FVec Ideal S4x16x64x64 .f32) (r : FVec Ideal S4x16x64 .f32) (β : Fin 4) (h : Fin 16) (i : Fin 64) :
    Host.dotGeneral (F := Ideal) (φ₁ := .f32) dot_S4x16x64x64_S4x16x64_S4x16x64_3_2_2_n_01_01 none S r (ix3 (n0 := 4) (n1 := 16) (n2 := 64) β h i)
      = (∑ j : Fin 64, S (ix4 (n0 := 4) (n1 := 16) (n2 := 64) (n3 := 64) β h i j) * r (ix3 (n0 := 4) (n1 := 16) (n2 := 64) β h j) : EReal) := by
  pointwise

/-- The collected outputs at one entry: the position's own, and the others as they were. -/
theorem update_at (x : FVec Ideal S2048x4x16x64 .f32) (o : FVec Ideal S4x16x64 .f32) (cw : (⟨S_, .i32⟩ : BufTy).Contents (Elt Ideal)) (n : Fin 2048)
    (hc : cw = fun _ => BitVec.ofNat 32 n.val) (t : Fin 2048) (β : Fin 4) (h : Fin 16) (j : Fin 64) :
    Host.dynamicUpdateSlice x (broadcastInDim S1x4x16x64 ![1, 2, 3] bcast_S4x16x64_S1x4x16x64_1_2_3 o) (starts cw) updateFits_S2048x4x16x64_S1x4x16x64
      (ix4 (n0 := 2048) (n1 := 4) (n2 := 16) (n3 := 64) t β h j)
    = if t = n then o (ix3 (n0 := 4) (n1 := 16) (n2 := 64) β h j) else x (ix4 (n0 := 2048) (n1 := 4) (n2 := 16) (n3 := 64) t β h j) := by
  rw [WordCmp.dynamicUpdateSlice_eq_update x _ (starts cw) _ ![n.val, 0, 0, 0] (start_fits n) (starts_eq cw n hc)]
  pointwise
  by_cases e : t = n
  · subst e
    rw [dif_pos ⟨le_refl _, Nat.lt_succ_self _⟩, if_pos rfl]
  · rw [dif_neg (fun q => e (Fin.ext (by omega))), if_neg e]

/-- One trip's state, entry by entry. -/
theorem state_step (V : Valuation τ sig (Elt Ideal)) (n : Fin 2048) (hc : V (Proc.devRef .tc main_v7_6) = fun _ => BitVec.ofNat 32 n.val)
    (β : Fin 4) (h : Fin 16) (i j : Fin 64) :
    (res_main_while0b_v31 V : FVec Ideal S4x16x64x64 .f32) (ix4 (n0 := 4) (n1 := 16) (n2 := 64) (n3 := 64) β h i j)
    = plainStep (fun q => (V (Proc.devRef .tc main_v7_1) : FVec Ideal S2048x4x16x64 .f32) (ix4 (n0 := 2048) (n1 := 4) (n2 := 16) (n3 := 64) n β h q))
        (fun q => (V (Proc.devRef .tc main_v7_2) : FVec Ideal S2048x4x16x64 .f32) (ix4 (n0 := 2048) (n1 := 4) (n2 := 16) (n3 := 64) n β h q))
        (fun q => (V (Proc.devRef .tc main_v7_4) : FVec Ideal S2048x4x16x64 .f32) (ix4 (n0 := 2048) (n1 := 4) (n2 := 16) (n3 := 64) n β h q))
        (fun q => (V (Proc.devRef .tc main_v7_5) : FVec Ideal S2048x4x16x64 .f32) (ix4 (n0 := 2048) (n1 := 4) (n2 := 16) (n3 := 64) n β h q))
        (fun q => (V (Proc.devRef .tc main_v7_7) : FVec Ideal S4x16x64x64 .f32) (ix4 (n0 := 4) (n1 := 16) (n2 := 64) (n3 := 64) β h i q))
        ((V (Proc.devRef .tc main_v7_3) : FVec Ideal S2048x4x16x64 .f32) (ix4 (n0 := 2048) (n1 := 4) (n2 := 16) (n3 := 64) n β h i)) j := by
  unfold res_main_while0b_v31
  refine (next_at (V (Proc.devRef .tc main_v7_7)) _ _ _ _ _ β h i j).trans ?_
  have e := fun x β' h' j' => slice_at x (V (Proc.devRef .tc main_v7_6)) n hc β' h' j'
  unfold plainStep
  refine congrArg₂ (· + ·) (congrArg₂ (· + ·) (congrArg₂ (· * ·) rfl (e _ β h j))
    (congrArg₂ (· * ·) (congrArg Neg.neg (Finset.sum_congr rfl fun q _ => congrArg₂ (· * ·) rfl (e _ β h q))) (e _ β h j)))
    (congrArg₂ (· * ·) (e _ β h i) (e _ β h j))

/-- A state's row read along the vector of position `n`. -/
def readOut (S : FVec Ideal S4x16x64x64 .f32) (r : FVec Ideal S2048x4x16x64 .f32) (n : Fin 2048) (β : Fin 4) (h : Fin 16) (i : Fin 64) : EReal :=
  ∑ j : Fin 64, S (ix4 (n0 := 4) (n1 := 16) (n2 := 64) (n3 := 64) β h i j) * r (ix4 (n0 := 2048) (n1 := 4) (n2 := 16) (n3 := 64) n β h j)

/-- One trip's outputs, entry by entry. -/
theorem out_step (V : Valuation τ sig (Elt Ideal)) (n : Fin 2048) (hc : V (Proc.devRef .tc main_v7_6) = fun _ => BitVec.ofNat 32 n.val)
    (t : Fin 2048) (β : Fin 4) (h : Fin 16) (i : Fin 64) :
    (step_main_v7_8 V : FVec Ideal S2048x4x16x64 .f32) (ix4 (n0 := 2048) (n1 := 4) (n2 := 16) (n3 := 64) t β h i)
    = if t = n then readOut (res_main_while0b_v31 V) (V (Proc.devRef .tc main_v7_0)) n β h i
      else (V (Proc.devRef .tc main_v7_8) : FVec Ideal S2048x4x16x64 .f32) (ix4 (n0 := 2048) (n1 := 4) (n2 := 16) (n3 := 64) t β h i) := by
  unfold step_main_v7_8
  refine (update_at (V (Proc.devRef .tc main_v7_8)) _ (V (Proc.devRef .tc main_v7_6)) n hc t β h i).trans ?_
  refine if_congr Iff.rfl ?_ rfl
  refine (out_at _ _ β h i).trans (Finset.sum_congr rfl fun j _ => congrArg₂ (· * ·) rfl ?_)
  exact slice_at (V (Proc.devRef .tc main_v7_0)) (V (Proc.devRef .tc main_v7_6)) n hc β h j

/-- The positions moved to the front. -/
theorem moved_at (x : Seq) (n : Fin 2048) (β : Fin 4) (h : Fin 16) (j : Fin 64) :
    transpose S2048x4x16x64 [1, 0, 2, 3] x transposes_S4x2048x16x64_S2048x4x16x64_1_0_2_3
      (ix4 (n0 := 2048) (n1 := 4) (n2 := 16) (n3 := 64) n β h j) = seqAt x β n h j := by
  unfold seqAt
  pointwise

variable (m : (ℓ : Loc nD τ sig) → Buf (Elt Ideal) ℓ)

/-- The buffers when the loop starts. -/
theorem entry_at (c : Dev nD) :
    (∀ n β h j, (entryContents preI m c (Proc.devRef .tc main_v7_0) : FVec Ideal S2048x4x16x64 .f32) (ix4 (n0 := 2048) (n1 := 4) (n2 := 16) (n3 := 64) n β h j)
      = seqAt (m ((c.tc : Thread nD τ).loc main_arg0)) β n h j)
    ∧ (∀ n β h j, (entryContents preI m c (Proc.devRef .tc main_v7_1) : FVec Ideal S2048x4x16x64 .f32) (ix4 (n0 := 2048) (n1 := 4) (n2 := 16) (n3 := 64) n β h j)
      = seqAt (m ((c.tc : Thread nD τ).loc main_arg1)) β n h j)
    ∧ (∀ n β h j, (entryContents preI m c (Proc.devRef .tc main_v7_2) : FVec Ideal S2048x4x16x64 .f32) (ix4 (n0 := 2048) (n1 := 4) (n2 := 16) (n3 := 64) n β h j)
      = seqAt (m ((c.tc : Thread nD τ).loc main_arg2)) β n h j)
    ∧ (∀ n β h j, (entryContents preI m c (Proc.devRef .tc main_v7_3) : FVec Ideal S2048x4x16x64 .f32) (ix4 (n0 := 2048) (n1 := 4) (n2 := 16) (n3 := 64) n β h j)
      = seqAt (m ((c.tc : Thread nD τ).loc main_arg5)) β n h j)
    ∧ (∀ n β h j, (entryContents preI m c (Proc.devRef .tc main_v7_4) : FVec Ideal S2048x4x16x64 .f32) (ix4 (n0 := 2048) (n1 := 4) (n2 := 16) (n3 := 64) n β h j)
      = seqAt (m ((c.tc : Thread nD τ).loc main_arg3)) β n h j)
    ∧ (∀ n β h j, (entryContents preI m c (Proc.devRef .tc main_v7_5) : FVec Ideal S2048x4x16x64 .f32) (ix4 (n0 := 2048) (n1 := 4) (n2 := 16) (n3 := 64) n β h j)
      = seqAt (m ((c.tc : Thread nD τ).loc main_arg4)) β n h j)
    ∧ entryContents preI m c (Proc.devRef .tc main_v7_7) = m ((c.tc : Thread nD τ).loc main_arg6) := by
  simp only [entryContents, afterL_cons, afterL_nil]
  refine ⟨?_, ?_, ?_, ?_, ?_, ?_, ?_⟩ <;> after_reads_simp
  · exact fun n β h j => moved_at _ n β h j
  · exact fun n β h j => moved_at _ n β h j
  · exact fun n β h j => moved_at _ n β h j
  · exact fun n β h j => moved_at _ n β h j
  · exact fun n β h j => moved_at _ n β h j
  · exact fun n β h j => moved_at _ n β h j
  · rfl

/-- The loop after `k` trips: the inputs as they were, the counter at `k`, the plain state, and the plain outputs of the
    positions done. -/
theorem loop_at (c : Dev nD) : ∀ k : ℕ, k ≤ 2048 →
    (∀ b ∈ [main_v7_0, main_v7_1, main_v7_2, main_v7_3, main_v7_4, main_v7_5],
      (STEP^[k] (entryContents preI m c)) (Proc.devRef .tc b) = entryContents preI m c (Proc.devRef .tc b))
    ∧ (STEP^[k] (entryContents preI m c)) (Proc.devRef .tc main_v7_6) = (fun _ => BitVec.ofNat 32 k)
    ∧ (∀ β h i j, ((STEP^[k] (entryContents preI m c)) (Proc.devRef .tc main_v7_7) : FVec Ideal S4x16x64x64 .f32)
        (ix4 (n0 := 4) (n1 := 16) (n2 := 64) (n3 := 64) β h i j)
        = plainState (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) β h i k j)
    ∧ (∀ (t : Fin 2048) β h i, t.val < k → ((STEP^[k] (entryContents preI m c)) (Proc.devRef .tc main_v7_8) : FVec Ideal S2048x4x16x64 .f32)
        (ix4 (n0 := 2048) (n1 := 4) (n2 := 16) (n3 := 64) t β h i)
        = plainOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (ix4 (n0 := 4) (n1 := 2048) (n2 := 16) (n3 := 64) β t h i)) := by
  obtain ⟨e0, e1, e2, e3, e4, e5, e7⟩ := entry_at m c
  intro k
  induction k with
  | zero =>
    intro _
    refine ⟨fun b _ => rfl, ctr_entry m c, fun β h i j => ?_, fun t β h i ht => absurd ht (Nat.not_lt_zero _)⟩
    exact congrFun e7 _
  | succ k ih =>
    intro hk
    obtain ⟨hin, hct, hst, hou⟩ := ih (Nat.le_of_succ_le hk)
    rw [Function.iterate_succ_apply']
    generalize hX : (STEP^[k] (entryContents preI m c)) = X at hin hct hst hou ⊢
    have b0 := hin main_v7_0 (by decide)
    have b1 := hin main_v7_1 (by decide)
    have b2 := hin main_v7_2 (by decide)
    have b3 := hin main_v7_3 (by decide)
    have b4 := hin main_v7_4 (by decide)
    have b5 := hin main_v7_5 (by decide)
    have hs : ∀ β h i j, (res_main_while0b_v31 X : FVec Ideal S4x16x64x64 .f32) (ix4 (n0 := 4) (n1 := 16) (n2 := 64) (n3 := 64) β h i j)
        = plainState (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) β h i (k + 1) j := by
      intro β h i j
      rw [state_step X ⟨k, hk⟩ hct, b1, b2, b3, b4, b5]
      simp only [e1, e2, e3, e4, e5, hst]
      exact (congrFun (plainState_succ _ _ _ _ _ _ β h i ⟨k, hk⟩) j).symm
    refine ⟨fun b hb => ?_, ?_, fun β h i j => ?_, fun t β h i ht => ?_⟩
    · refine Eq.trans ?_ (hin b hb)
      simp only [List.mem_cons, List.mem_nil_iff, or_false] at hb
      rcases hb with rfl | rfl | rfl | rfl | rfl | rfl
      · exact STEP_main_v7_0 X
      · exact STEP_main_v7_1 X
      · exact STEP_main_v7_2 X
      · exact STEP_main_v7_3 X
      · exact STEP_main_v7_4 X
      · exact STEP_main_v7_5 X
    · rw [STEP_main_v7_6]
      unfold step_main_v7_6
      rw [hct]
      funext x
      show BitVec.ofNat 32 k + 1#32 = BitVec.ofNat 32 (k + 1)
      rw [BitVec.ofNat_add]
    · rw [STEP_main_v7_7]
      exact hs β h i j
    · rw [STEP_main_v7_8]
      refine (out_step X ⟨k, hk⟩ hct t β h i).trans ?_
      split
      · rename_i e
        subst e
        rw [b0]
        unfold readOut
        simp only [e0, hs]
        rfl
      · rename_i e
        exact hou t β h i (lt_of_le_of_ne (Nat.lt_succ_iff.mp ht) fun q => e (Fin.ext q))

/-- The reference's outputs are the plain outputs. -/
theorem result_out (c : Dev nD) : (out_main_v8 (STEP^[2048] (entryContents preI m c)) : Seq)
    = plainOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  funext x
  rw [eq_ix4 x]
  refine Eq.trans ?_ ((loop_at m c 2048 (le_refl _)).2.2.2 (x 1) (x 0) (x 2) (x 3) (x 1).isLt)
  unfold out_main_v8
  pointwise

/-- The reference's last state is the plain one. -/
theorem result_state (c : Dev nD) : ((STEP^[2048] (entryContents preI m c)) (Proc.devRef .tc main_v7_7) : States)
    = plainLast (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  funext x
  rw [eq_ix4 x]
  exact (loop_at m c 2048 (le_refl _)).2.2.1 (x 0) (x 1) (x 2) (x 3)

end Cert.WkvRef

end
-- ==== Proof.Wkv.Value.lean ====
/- The recurrence's results: the call's two arrays, what the host operations after it make of them, and the value claim
   against the plain recurrence. -/
module

public import proofs.«01_k».proof.Proof.Wkv.Chunk
public import proofs.«01_k».proof.Proof.Wkv.Ref
public import proofs.«01_k».proof.Defs
public import Idealize.ShloMosaic.Lib.Pipeline.Value
public import Idealize.ShloMosaic.Lib.Pipeline.ValueKit
public import Idealize.ShloMosaic.Lib.StableHlo.ReadAt
public import Idealize.ShloMosaic.Lib.Tactic

@[expose] public section

set_option maxRecDepth 16384

noncomputable section

namespace Cert.Wkv

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The batch entry of a lane. -/
def batchOf (l : Fin 128) : Fin 4 := ⟨l.val % 64 / 16, by omega⟩
/-- The head of a lane. -/
def headOf (l : Fin 128) : Fin 16 := ⟨l.val % 16, by omega⟩
/-- The half of a lane. -/
def halfOf (l : Fin 128) : Fin 2 := ⟨l.val / 64, by have := l.isLt; omega⟩

/-- A lane is the lane of its half, its batch entry and its head. -/
theorem lane_of (l : Fin 128) : l = lane (halfOf l) (batchOf l) (headOf l) := by
  apply Fin.ext
  show l.val = 64 * (l.val / 64) + 16 * (l.val % 64 / 16) + l.val % 16
  omega

/-- The batch entry of the lane of a half, a batch entry and a head. -/
theorem batchOf_lane (e : Fin 2) (β : Fin 4) (h : Fin 16) : batchOf (lane e β h) = β :=
  Fin.ext (by show (64 * e.val + 16 * β.val + h.val) % 64 / 16 = β.val; omega)

/-- The head of the lane of a half, a batch entry and a head. -/
theorem headOf_lane (e : Fin 2) (β : Fin 4) (h : Fin 16) : headOf (lane e β h) = h :=
  Fin.ext (by show (64 * e.val + 16 * β.val + h.val) % 16 = h.val; omega)

/-- The half of the lane of a half, a batch entry and a head. -/
theorem halfOf_lane (e : Fin 2) (β : Fin 4) (h : Fin 16) : halfOf (lane e β h) = e :=
  Fin.ext (by show (64 * e.val + 16 * β.val + h.val) / 64 = e.val; omega)

/-- The output array in the kernel's layout. -/
def outArr (c : Dev nD) : FVec Ideal S1x2048x64x128 .f32 := fun y =>
  mOut m c (ix4 (n0 := 4) (n1 := 2048) (n2 := 16) (n3 := 64) (batchOf (y 3)) (y 1) (headOf (y 3)) (y 2))

/-- The final state's array in the kernel's layout. -/
def stateArr (c : Dev nD) : FVec Ideal S1x64x32x128 .f32 := fun y =>
  mState m c (batchOf (y 3)) (headOf (y 3)) (y 1) 2048 (key (halfOf (y 3)) (y 2))

/-- Chunk `t` leaves its part of the output array. -/
theorem outAt_arr (c : Dev nD) (t : Fin cfg0.N) (x : S1x64x64x128.Idx) (y : S1x2048x64x128.Idx)
    (h1 : (y 1).val = 64 * t.val + (x 1).val) (h2 : (y 2).val = (x 2).val) (h3 : (y 3).val = (x 3).val) :
    outAt m c t x = outArr m c y := by
  have e2 : y 2 = x 2 := Fin.ext h2
  have e3 : y 3 = x 3 := Fin.ext h3
  have e1 : y 1 = pos t (x 1) := Fin.ext h1
  have ex : x = ix4 (n0 := 1) (n1 := 64) (n2 := 64) (n3 := 128) 0 (x 1) (x 2) (lane (halfOf (x 3)) (batchOf (x 3)) (headOf (x 3))) :=
    (eq_ix4 x).trans (congrArg₂ (fun (a : Fin 1) (d : Fin 128) => ix4 (n0 := 1) (n1 := 64) (n2 := 64) (n3 := 128) a (x 1) (x 2) d)
      (Subsingleton.elim _ _) (lane_of (x 3)))
  unfold outArr
  rw [e1, e2, e3]
  exact (congrArg (outAt m c t) ex).trans (outAt_at m c t (x 1) (x 2) _ _ _)

/-- The output array. -/
theorem arr_out (c : Dev nD) : (dats m 0 c).arrAt 7 cfg0.N = outArr m c := by
  refine (dats m 0 c).arrAt_eq_of_covers 7 _ (by decide +kernel) fun t hf y => ?_
  blk_simp
  rw [after_out]
  refine outAt_arr m c t y _ ?_ ?_ ?_
  · blk_simp [(chunks_at t 1).2.2.2.2.2.2.2.1]
    omega
  · blk_simp [(chunks_at t 2).2.2.2.2.2.2.2.1]
  · blk_simp [(chunks_at t 3).2.2.2.2.2.2.2.1]

/-- The last chunk leaves the final state's array. -/
theorem state_arr (c : Dev nD) (t : Fin cfg0.N) (ht : t.val = 31) (x : S1x64x32x128.Idx) :
    lastState (stateAfter m c t) x = stateArr m c x := by
  have ex : x = ix4 (n0 := 1) (n1 := 64) (n2 := 32) (n3 := 128) 0 (x 1) (x 2) (lane (halfOf (x 3)) (batchOf (x 3)) (headOf (x 3))) :=
    (eq_ix4 x).trans (congrArg₂ (fun (a : Fin 1) (d : Fin 128) => ix4 (n0 := 1) (n1 := 64) (n2 := 32) (n3 := 128) a (x 1) (x 2) d)
      (Subsingleton.elim _ _) (lane_of (x 3)))
  have hn : 64 * t.val + 64 = 2048 := by omega
  unfold stateArr
  refine (congrArg (lastState (stateAfter m c t)) ex).trans ((lastState_at _ _ _ _).trans ?_)
  exact (after_at m c t (x 1) (x 2) _ _ _).trans (by rw [hn])

/-- The final state's array. -/
theorem arr_state (c : Dev nD) : (dats m 0 c).arrAt 8 cfg0.N = stateArr m c := by
  refine (dats m 0 c).arrAt_eq_of_covers 8 _ (by decide +kernel) fun t hf y => ?_
  have ht : t.val = 31 := by
    have h := (flush0_8 t).mp hf
    have hl := t.isLt
    have hN : cfg0.N = 32 := N_0
    omega
  blk_simp
  rw [after_state]
  refine (state_arr m c t ht y).trans (congrArg (stateArr m c) ?_)
  funext a
  apply Fin.ext
  show (y a).val = win0_8.index t a * _ + 1 * (y a).val
  rw [(chunks_at t a).2.2.2.2.2.2.2.2]
  omega

/-- An array of the outputs' layout, taken apart: the first half of its lanes, batch entries first. -/
theorem unpackOut_at (A : FVec Ideal S1x2048x64x128 .f32) (h1 : S1x2048x64x128.Slices ![0, 0, 0, 0] S1x2048x64x64) (h2 : S1x2048x64x64.ShapeCasts S1x2048x64x4x16)
    (h3 : S1x2048x64x4x16.Transposes [0, 3, 1, 4, 2] S1x4x2048x16x64) (h4 : S1x4x2048x16x64.ShapeCasts S4x2048x16x64)
    (β : Fin 4) (n : Fin 2048) (h : Fin 16) (i : Fin 64) :
    shapeCast S4x2048x16x64 (transpose S1x4x2048x16x64 [0, 3, 1, 4, 2] (shapeCast S1x2048x64x4x16 (extractStridedSlice S1x2048x64x64 ![0, 0, 0, 0] A h1) h2) h3) h4
      (ix4 (n0 := 4) (n1 := 2048) (n2 := 16) (n3 := 64) β n h i) = A (ix4 (n0 := 1) (n1 := 2048) (n2 := 64) (n3 := 128) 0 n i (lane 0 β h)) := by
  unfold lane
  pointwise
  refine congrArg A (congrArg (ix4 (n0 := 1) (n1 := 2048) (n2 := 64) (n3 := 128) 0 n i) (Fin.ext ?_))
  simp
  omega

/-- An array of the states' layout, taken apart: the two halves of the keys side by side. -/
theorem unpackState_at (A : FVec Ideal S1x64x32x128 .f32) (h1 : S1x64x32x128.ShapeCasts S1x64x32x2x4x16)
    (h2 : S1x64x32x2x4x16.Transposes [0, 4, 5, 1, 3, 2] S1x4x16x64x2x32) (h3 : S1x4x16x64x2x32.ShapeCasts S4x16x64x64)
    (β : Fin 4) (h : Fin 16) (i : Fin 64) (e : Fin 2) (p : Fin 32) :
    shapeCast S4x16x64x64 (transpose S1x4x16x64x2x32 [0, 4, 5, 1, 3, 2] (shapeCast S1x64x32x2x4x16 A h1) h2) h3
      (ix4 (n0 := 4) (n1 := 16) (n2 := 64) (n3 := 64) β h i (key e p)) = A (ix4 (n0 := 1) (n1 := 64) (n2 := 32) (n3 := 128) 0 i p (lane e β h)) := by
  unfold lane key
  pointwise
  refine congrArg A (congrArg (ix4 (n0 := 1) (n1 := 64) (n2 := 32) (n3 := 128) 0 i p) (Fin.ext ?_))
  show e.val * 64 + β.val * 16 + h.val = 64 * e.val + 16 * β.val + h.val
  omega

/-- The output array at the lane of a half, a batch entry and a head. -/
theorem outArr_at (c : Dev nD) (n : Fin 2048) (i : Fin 64) (e : Fin 2) (β : Fin 4) (h : Fin 16) :
    outArr m c (ix4 (n0 := 1) (n1 := 2048) (n2 := 64) (n3 := 128) 0 n i (lane e β h)) = mOut m c (ix4 (n0 := 4) (n1 := 2048) (n2 := 16) (n3 := 64) β n h i) := by
  show mOut m c (ix4 (n0 := 4) (n1 := 2048) (n2 := 16) (n3 := 64) (batchOf (lane e β h)) n (headOf (lane e β h)) i) = _
  rw [batchOf_lane, headOf_lane]

/-- The final state's array at the lane of a half, a batch entry and a head. -/
theorem stateArr_at (c : Dev nD) (i : Fin 64) (p : Fin 32) (e : Fin 2) (β : Fin 4) (h : Fin 16) :
    stateArr m c (ix4 (n0 := 1) (n1 := 64) (n2 := 32) (n3 := 128) 0 i p (lane e β h)) = mState m c β h i 2048 (key e p) := by
  show mState m c (batchOf (lane e β h)) (headOf (lane e β h)) i 2048 (key (halfOf (lane e β h)) p) = _
  rw [batchOf_lane, headOf_lane, halfOf_lane]

/-- A key is the key of its half and its sublane. -/
theorem key_of (j : Fin 64) : j = key ⟨j.val / 32, by omega⟩ ⟨j.val % 32, by omega⟩ :=
  Fin.ext (by show j.val = 32 * (j.val / 32) + j.val % 32; omega)

/-- What the host operations make of the output array, at an index. -/
theorem suffix_out (c : Dev nD) (W : Valuation τ sig (Elt Ideal)) (hW : (W (Proc.devRef .tc main_v22_0) : FVec Ideal S1x2048x64x128 .f32) = outArr m c) :
    (StableHlo.after hostOps1 W (Proc.devRef .tc main_v26) : FVec Ideal S4x2048x16x64 .f32) = mOut m c := by
  after_reads_simp
  rw [hW]
  funext x
  have ex : x = ix4 (n0 := 4) (n1 := 2048) (n2 := 16) (n3 := 64) (x 0) (x 1) (x 2) (x 3) := eq_ix4 x
  rw [ex]
  exact (unpackOut_at (outArr m c) _ _ _ _ (x 0) (x 1) (x 2) (x 3)).trans (outArr_at m c _ _ _ _ _)

/-- What the host operations make of the final state's array. -/
theorem suffix_state (c : Dev nD) (W : Valuation τ sig (Elt Ideal)) (hW : (W (Proc.devRef .tc main_v22_1) : FVec Ideal S1x64x32x128 .f32) = stateArr m c) :
    (StableHlo.after hostOps1 W (Proc.devRef .tc main_v29) : FVec Ideal S4x16x64x64 .f32)
      = plainLast (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  after_reads_simp
  rw [hW]
  funext x
  have ex : x = ix4 (n0 := 4) (n1 := 16) (n2 := 64) (n3 := 64) (x 0) (x 1) (x 2) (key _ _) :=
    (eq_ix4 x).trans (congrArg (ix4 (n0 := 4) (n1 := 16) (n2 := 64) (n3 := 64) (x 0) (x 1) (x 2)) (key_of (x 3)))
  refine (congrArg _ ex).trans ((unpackState_at (stateArr m c) _ _ _ (x 0) (x 1) (x 2) _ _).trans ((stateArr_at m c _ _ _ _ _).trans ?_))
  exact congrArg (mState m c (x 0) (x 1) (x 2) 2048) (key_of (x 3)).symm

/-- The call's arrays are different buffers. -/
theorem arrays_inj : Function.Injective (Pipeline.arrRef spec0) :=
  (by decide : ∀ w w', Pipeline.arrRef spec0 w = Pipeline.arrRef spec0 w' → w = w')

/-- The recurrence's outputs after the host operations. -/
theorem value_out (c : Dev nD) : Pipeline.afterTail₀ cfgs (dats m) 0 (V0 m) [hostOps1] c main_v26 = mOut m c := by
  unfold Pipeline.afterTail₀
  exact suffix_out m c _ ((Pipeline.withArrays_arr spec0 arrays_inj c (V0 m c) (fun w => (dats m 0 c).arrAt w cfg0.N) 7).trans (arr_out m c))

/-- The recurrence's final state after the host operations. -/
theorem value_state (c : Dev nD) : Pipeline.afterTail₀ cfgs (dats m) 0 (V0 m) [hostOps1] c main_v29
    = plainLast (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  unfold Pipeline.afterTail₀
  exact suffix_state m c _ ((Pipeline.withArrays_arr spec0 arrays_inj c (V0 m c) (fun w => (dats m 0 c).arrAt w cfg0.N) 8).trans (arr_state m c))

/-- The claim: from the same arguments both runs end with the same outputs and the same final state. -/
theorem algebraic : @Cert.algebraic_KernelIdeal_ReferenceIdeal Cert.KernelIdeal.Gen.facts Cert.ReferenceIdeal.Gen.facts := by
  intro m g m' g' _ hagree
  refine ⟨fun c => mOut m c, fun c => plainLast (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)), ?_, ?_⟩
  · refine (θ_run defs _ _).mono (fun r h c => ?_) (run_main m g)
    have k (b : Ref sig .tc) (hb : b ∈ Pipeline.restRefs sig spec0) := (h c).2 b hb
    exact ⟨(k main_v26 (Pipeline.mem_restRefs_of main_v26 (by decide) (by decide))).trans (value_out m c),
      (k main_v29 (Pipeline.mem_restRefs_of main_v29 (by decide) (by decide))).trans (value_state m c),
      (k main_arg0 (Pipeline.mem_restRefs_of main_arg0 (by decide) (by decide))).trans (W_main_arg0 m (dats m) c),
      (k main_arg1 (Pipeline.mem_restRefs_of main_arg1 (by decide) (by decide))).trans (W_main_arg1 m (dats m) c),
      (k main_arg2 (Pipeline.mem_restRefs_of main_arg2 (by decide) (by decide))).trans (W_main_arg2 m (dats m) c),
      (k main_arg3 (Pipeline.mem_restRefs_of main_arg3 (by decide) (by decide))).trans (W_main_arg3 m (dats m) c),
      (k main_arg4 (Pipeline.mem_restRefs_of main_arg4 (by decide) (by decide))).trans (W_main_arg4 m (dats m) c),
      (k main_arg5 (Pipeline.mem_restRefs_of main_arg5 (by decide) (by decide))).trans (W_main_arg5 m (dats m) c),
      (k main_arg6 (Pipeline.mem_restRefs_of main_arg6 (by decide) (by decide))).trans (W_main_arg6 m (dats m) c)⟩
  · refine (θ_run _ _ _).mono (fun r h c => ?_) (Cert.ReferenceIdeal.Value.run (F := Ideal) m' g')
    obtain ⟨h8, h7, k⟩ := h c
    obtain ⟨e0, e1, e2, e3, e4, e5, e6⟩ := hagree c
    refine ⟨h8.trans ((Cert.WkvRef.result_out m' c).trans ?_), h7.trans ((Cert.WkvRef.result_state m' c).trans ?_), k⟩
    · rw [e0, e1, e2, e3, e4, e5, e6]
    · rw [e1, e2, e3, e4, e5, e6]

end Cert.Wkv

end
-- ==== Proof.Host.lean ====
/- The frames of the host references: their runs change no argument, and they declare no counter. -/
module

public import proofs.«01_k».proof.Defs
public import proofs.«01_k».proof.Proof.Gen.ReferenceIdeal.Run
public import proofs.«01_k».proof.Proof.Gen.OutProjRefIdeal.Run
public import proofs.«01_k».proof.Proof.Gen.InProjRefIdeal.Run
public import proofs.«01_k».proof.Proof.Gen.OutGdnRefIdeal.Run
public import proofs.«01_k».proof.Proof.Gen.InEven0RefIdeal.Run
public import proofs.«01_k».proof.Proof.Gen.InEven2RefIdeal.Run
public import proofs.«01_k».proof.Proof.Gen.InSample0RefIdeal.Run
public import proofs.«01_k».proof.Proof.Gen.InSample1RefIdeal.Run
public import proofs.«01_k».proof.Proof.Gen.InSample2RefIdeal.Run
public import Idealize.ShloMosaic.Lib.Quiescent

@[expose] public section

noncomputable section

namespace Cert.Host

open Idealize.ShloMosaic Idealize.ShloMosaic.TcCoe Idealize.SL.Sem

/-- The recurrence's reference. -/
theorem frame_reference : @Cert.quiescent_ReferenceIdeal Cert.ReferenceIdeal.Gen.facts := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The out-projection's reference. -/
theorem frame_outRef : @Cert.quiescent_OutProjRefIdeal Cert.OutProjRefIdeal.Gen.facts := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The in-projection's reference. -/
theorem frame_inRef : @Cert.quiescent_InProjRefIdeal Cert.InProjRefIdeal.Gen.facts := fun m ρ _ =>
  (θ_run Cert.InProjRefIdeal.defs _ _).mono (fun r h => ⟨fun c => (h c).2.2, sem_eq_zero_of_no_sems (by decide) r.2⟩)
    (Cert.InProjRefIdeal.Value.run (F := Ideal) m ρ)

/-- The reference of the gated-delta layers' out-projection. -/
theorem frame_outGdnRef : @Cert.quiescent_OutGdnRefIdeal Cert.OutGdnRefIdeal.Gen.facts := fun m ρ _ =>
  (θ_run Cert.OutGdnRefIdeal.defs _ _).mono (fun r h => ⟨fun c => (h c).2, sem_eq_zero_of_no_sems (by decide) r.2⟩)
    (Cert.OutGdnRefIdeal.Value.run (F := Ideal) m ρ)

/-- The reference of layer 0's in-projection. -/
theorem frame_inEven0Ref : @Cert.quiescent_InEven0RefIdeal Cert.InEven0RefIdeal.Gen.facts := fun m ρ _ =>
  (θ_run Cert.InEven0RefIdeal.defs _ _).mono (fun r h => ⟨fun c => (h c).2.2.2.2, sem_eq_zero_of_no_sems (by decide) r.2⟩)
    (Cert.InEven0RefIdeal.Value.run (F := Ideal) m ρ)

/-- The reference of layer 2's in-projection. -/
theorem frame_inEven2Ref : @Cert.quiescent_InEven2RefIdeal Cert.InEven2RefIdeal.Gen.facts := fun m ρ _ =>
  (θ_run Cert.InEven2RefIdeal.defs _ _).mono (fun r h => ⟨fun c => (h c).2.2.2.2, sem_eq_zero_of_no_sems (by decide) r.2⟩)
    (Cert.InEven2RefIdeal.Value.run (F := Ideal) m ρ)

/-- The reference of the new tokens' in-projection in layer 0. -/
theorem frame_inSample0Ref : @Cert.quiescent_InSample0RefIdeal Cert.InSample0RefIdeal.Gen.facts := fun m ρ _ =>
  (θ_run Cert.InSample0RefIdeal.defs _ _).mono (fun r h => ⟨fun c => (h c).2.2.2.2, sem_eq_zero_of_no_sems (by decide) r.2⟩)
    (Cert.InSample0RefIdeal.Value.run (F := Ideal) m ρ)

/-- The reference of the new tokens' in-projection in layers 1 and 3. -/
theorem frame_inSample1Ref : @Cert.quiescent_InSample1RefIdeal Cert.InSample1RefIdeal.Gen.facts := fun m ρ _ =>
  (θ_run Cert.InSample1RefIdeal.defs _ _).mono (fun r h => ⟨fun c => (h c).2.2, sem_eq_zero_of_no_sems (by decide) r.2⟩)
    (Cert.InSample1RefIdeal.Value.run (F := Ideal) m ρ)

/-- The reference of the new tokens' in-projection in layer 2. -/
theorem frame_inSample2Ref : @Cert.quiescent_InSample2RefIdeal Cert.InSample2RefIdeal.Gen.facts := fun m ρ _ =>
  (θ_run Cert.InSample2RefIdeal.defs _ _).mono (fun r h => ⟨fun c => (h c).2.2.2.2, sem_eq_zero_of_no_sems (by decide) r.2⟩)
    (Cert.InSample2RefIdeal.Value.run (F := Ideal) m ρ)

end Cert.Host

end
-- ==== Proof.Out.Blocks.lean ====
/- The out-projection's points: the row block kept from the first column block on, and what each point leaves. -/
module

public import proofs.«01_k».proof.Proof.Gen.OutProjIdeal.Value
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.Out

open Cert.OutProjIdeal Cert.OutProjIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem zero2 : (![0, 0] : Fin 2 → Nat) = fun _ => 0 := funext fun a => by fin_cases a <;> rfl

/-- A row block's first point: the product of the block just kept, added to the residual. -/
theorem out_first (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x512 .f32) (h4 : a4.IsWhole)
    (a5 : Memref sig .tc .vmem S512x512 .f32) (h5 : a5.IsWhole) (a6 : Memref sig .tc .vmem S512x512 .f32) (h6 : a6.IsWhole)
    (a7 : Memref sig .tc .vmem S512x2048 .bf16) (h7 : a7.IsWhole) (hc : cond0_0 i)
    (x0 : Vec F S512x2048 .f32) (x1 : Vec F S1x2048 .f32) (x2 : Vec F S2048x512 .f32) (x3 : Vec F S512x512 .f32) :
    out0_A_4 c i a2 h2 a3 h3 a4 h4 a5 h5 a6 h6 a7 h7 hc x0 x1 x2 x3 = k0_pay2 (k0_pay1 x0) x2 x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero zero2, View.readCov_unit_zero (S := S512x2048) _ zero2]
  simp only [View.readAt_eq_ld, h2.read_unread, h4.read_unread, h5.read_unread, View.ld_unit_zero (S := S512x2048) zero2,
    View.ld_unit_zero (S := S2048x512) zero2, View.ld_unit_zero (S := S512x512) zero2]

/-- It keeps the row block. -/
theorem kept_first (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x512 .f32) (h4 : a4.IsWhole)
    (a5 : Memref sig .tc .vmem S512x512 .f32) (h5 : a5.IsWhole) (a6 : Memref sig .tc .vmem S512x512 .f32) (h6 : a6.IsWhole)
    (a7 : Memref sig .tc .vmem S512x2048 .bf16) (h7 : a7.IsWhole) (hc : cond0_0 i)
    (x0 : Vec F S512x2048 .f32) (x1 : Vec F S1x2048 .f32) (x2 : Vec F S2048x512 .f32) (x3 : Vec F S512x512 .f32) :
    sout0_A_0 c i a2 h2 a3 h3 a4 h4 a5 h5 a6 h6 a7 h7 hc x0 x1 x2 x3 = k0_pay1 x0 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero zero2]
  simp only [View.readAt_eq_ld, h2.read_unread, View.ld_unit_zero (S := S512x2048) zero2]

/-- Its later points: the product of the kept block. -/
theorem out_later (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x512 .f32) (h4 : a4.IsWhole)
    (a5 : Memref sig .tc .vmem S512x512 .f32) (h5 : a5.IsWhole) (a6 : Memref sig .tc .vmem S512x512 .f32) (h6 : a6.IsWhole)
    (a7 : Memref sig .tc .vmem S512x2048 .bf16) (h7 : a7.IsWhole) (hc : ¬ cond0_0 i)
    (x0 : Vec F S512x2048 .f32) (x1 : Vec F S1x2048 .f32) (x2 : Vec F S2048x512 .f32) (x3 : Vec F S512x512 .f32)
    (xs : Vec F S512x2048 .bf16) :
    out0_B_4 c i a2 h2 a3 h3 a4 h4 a5 h5 a6 h6 a7 h7 hc x0 x1 x2 x3 xs = k0_pay2 xs x2 x3 := by
  unfold out0_B_4
  rw [View.read_writes_eq_canon _ _ _ (cover0_B_4 c i a2 h2 a3 h3 a4 h4 a5 h5 a6 h6 a7 h7 hc x0 x1 x2 x3 xs)]
  unfold kernelRun0_B
  dsimp only
  sl_unfold_words
  rw [View.canon_unit_zero zero2]
  simp only [View.readAt_eq_ld, h7.read_unread, h4.read_unread, h5.read_unread, View.ld_unit_zero (S := S512x2048) zero2,
    View.ld_unit_zero (S := S2048x512) zero2, View.ld_unit_zero (S := S512x512) zero2]

/-- The first point of the row block point `n` works on. -/
def rowStart (n : ℕ) : ℕ := n - n % 4

/-- What every point leaves: the product of its row block with its columns, and the row block. -/
theorem point (c : Dev nD) : ∀ (n : ℕ) (hn : n < cfg0.N), outsAt0 m c n hn =
    (k0_pay2 (k0_pay1 (iblk m c 0 ⟨rowStart n, Nat.lt_of_le_of_lt (Nat.sub_le _ _) hn⟩)) (iblk m c 2 ⟨n, hn⟩) (iblk m c 3 ⟨n, hn⟩),
      k0_pay1 (iblk m c 0 ⟨rowStart n, Nat.lt_of_le_of_lt (Nat.sub_le _ _) hn⟩)) := by
  intro n
  induction n with
  | zero =>
    intro hn
    refine (outsAt0_A m c ⟨0, hn⟩ rfl).trans ?_
    rw [out_first, kept_first]
    rfl
  | succ n ih =>
    intro hn
    by_cases h0 : (n + 1) % 4 = 0
    · refine (outsAt0_A m c ⟨n + 1, hn⟩ h0).trans ?_
      rw [out_first, kept_first]
      have e : (⟨rowStart (n + 1), Nat.lt_of_le_of_lt (Nat.sub_le _ _) hn⟩ : Fin cfg0.N) = ⟨n + 1, hn⟩ :=
        Fin.ext (show n + 1 - (n + 1) % 4 = n + 1 by omega)
      rw [e]
    · refine (outsAt0_B m c ⟨n + 1, hn⟩ h0).trans ?_
      rw [out_later]
      have e : (⟨rowStart (n + 1), Nat.lt_of_le_of_lt (Nat.sub_le _ _) hn⟩ : Fin cfg0.N)
          = ⟨rowStart n, Nat.lt_of_le_of_lt (Nat.sub_le _ _) (Nat.lt_of_succ_lt hn)⟩ :=
        Fin.ext (show n + 1 - (n + 1) % 4 = n - n % 4 by omega)
      rw [e]
      have k := ih (Nat.lt_of_succ_lt hn)
      unfold sout0_B_0
      show (k0_pay2 (outsAt0 m c n _).2 _ _, (outsAt0 m c n _).2) = _
      rw [k]

end Cert.Out

end
-- ==== Proof.Out.Value.lean ====
/- The out-projection over the extended reals: the kernel's result and the reference's are one array. -/
module

public import proofs.«01_k».proof.Defs
public import proofs.«01_k».proof.Proof.Out.Blocks
public import proofs.«01_k».proof.Proof.Gen.OutProjRefIdeal.Run
public import Idealize.ShloMosaic.Lib.Claim
public import Idealize.ShloMosaic.Lib.ValueLayout

@[expose] public section

set_option maxRecDepth 16384

noncomputable section

namespace Cert.Out

open Cert.OutProjIdeal Cert.OutProjIdeal.Gen
open Idealize.ShloMosaic Idealize.ShloMosaic.TcCoe Idealize.SL.Sem
open Idealize.ShloMosaic.Pipeline (Dat)

variable (m : (ℓ : Loc nD τ sig) → Buf (Elt Ideal) ℓ)

/-- Column `k` of row `r` of the two mixers' outputs side by side. -/
def catAt (a : Vec Ideal S8192x1024 .f32) (b : Vec Ideal S4x2048x1024 .f32) (r : Fin 8192) (k : Fin 2048) : Elt Ideal .f32 :=
  if h : k.val < 1024 then a (ix2 (n0 := 8192) (n1 := 1024) r ⟨k.val, h⟩)
  else b (ix3 (n0 := 4) (n1 := 2048) (n2 := 1024) ⟨r.val / 2048, by omega⟩ ⟨r.val % 2048, by omega⟩ ⟨k.val - 1024, by omega⟩)

/-- The projection added to the residual. -/
def proj (a : Vec Ideal S8192x1024 .f32) (b : Vec Ideal S4x2048x1024 .f32) (w : Vec Ideal S2048x2048 .f32)
    (x : Vec Ideal S8192x2048 .f32) : Vec Ideal S8192x2048 .f32 :=
  fun j => x j + ∑ k : Fin 2048, catAt a b (j 0) k * w (ix2 (n0 := 2048) (n1 := 2048) k (j 1))

/-- The kernel's left operand, as the host lines make it. -/
theorem entry_cat (c : Dev nD) (r : Fin 8192) (k : Fin 2048) :
    V m c main_v1 (ix2 (n0 := 8192) (n1 := 2048) r k)
      = catAt (m ((c : Thread nD τ).loc main_arg0)) (m ((c : Thread nD τ).loc main_arg1)) r k := by
  entry_read
  unfold catAt
  pointwise

/-- Where the blocks of each point lie. -/
theorem blocks_at : ∀ t : Fin cfg0.N,
    (win0_0.index t (0 : Fin 2) = t.val / 4 ∧ win0_0.index t (1 : Fin 2) = 0)
    ∧ (win0_2.index t (0 : Fin 2) = 0 ∧ win0_2.index t (1 : Fin 2) = t.val % 4)
    ∧ (win0_3.index t (0 : Fin 2) = t.val / 4 ∧ win0_3.index t (1 : Fin 2) = t.val % 4) :=
  (by decide +kernel : ∀ t : Fin grid0.N, _)

/-- A row block's entry. -/
theorem rows_at (c : Dev nD) (t : Fin cfg0.N) (r : Fin 8192) (p : Fin 512) (k : Fin 2048)
    (h : r.val = 512 * (t.val / 4) + p.val) :
    (iblk m c 0 t : Vec Ideal S512x2048 .f32) (ix2 (n0 := 512) (n1 := 2048) p k) = V m c main_v1 (ix2 (n0 := 8192) (n1 := 2048) r k) := by
  obtain ⟨⟨e0, e1⟩, -, -⟩ := blocks_at t
  unfold iblk
  rw [View.read_apply]
  show V m c main_v1 _ = V m c main_v1 _
  refine congrArg (V m c main_v1) (funext fun a => Fin.ext ?_)
  match a with
  | ⟨0, _⟩ => show win0_0.index t 0 * 512 + 1 * p.val = r.val; rw [e0]; omega
  | ⟨1, _⟩ => show win0_0.index t 1 * 2048 + 1 * k.val = k.val; rw [e1]; omega

/-- A column block's entry. -/
theorem cols_at (c : Dev nD) (t : Fin cfg0.N) (k : Fin 2048) (q : Fin 512) (s : Fin 2048)
    (h : s.val = 512 * (t.val % 4) + q.val) :
    (iblk m c 2 t : Vec Ideal S2048x512 .f32) (ix2 (n0 := 2048) (n1 := 512) k q)
      = m ((c : Thread nD τ).loc main_arg2) (ix2 (n0 := 2048) (n1 := 2048) k s) := by
  obtain ⟨-, ⟨e0, e1⟩, -⟩ := blocks_at t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 2048 + 1 * k.val = k.val; rw [e0]; omega
  | ⟨1, _⟩ => show win0_2.index t 1 * 512 + 1 * q.val = s.val; rw [e1]; omega

/-- A residual block's entry. -/
theorem res_at (c : Dev nD) (t : Fin cfg0.N) (j : S8192x2048.Idx) (y : S512x512.Idx)
    (h0 : (j 0).val = 512 * (t.val / 4) + (y 0).val) (h1 : (j 1).val = 512 * (t.val % 4) + (y 1).val) :
    (iblk m c 3 t : Vec Ideal S512x512 .f32) y = m ((c : Thread nD τ).loc main_arg3) j := by
  obtain ⟨-, -, ⟨e0, e1⟩⟩ := blocks_at t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 512 + 1 * (y 0).val = (j 0).val; rw [e0]; omega
  | ⟨1, _⟩ => show win0_3.index t 1 * 512 + 1 * (y 1).val = (j 1).val; rw [e1]; omega

/-- A point's product at an entry. -/
theorem pay_at (x : Vec Ideal S512x2048 .f32) (w : Vec Ideal S2048x512 .f32) (z : Vec Ideal S512x512 .f32) (y : S512x512.Idx) :
    k0_pay2 (k0_pay1 x) w z y = z y + ∑ k : Fin 2048, x (ix2 (n0 := 512) (n1 := 2048) (y 0) k) * w (ix2 (n0 := 2048) (n1 := 512) k (y 1)) := by
  pointwise [k0_pay2, k0_pay1]

/-- The kernel's result. -/
theorem kernel_value (c : Dev nD) : Cert.OutProjIdeal.Value.G4 m c
    = proj (m ((c : Thread nD τ).loc main_arg0)) (m ((c : Thread nD τ).loc main_arg1))
        (m ((c : Thread nD τ).loc main_arg2)) (m ((c : Thread nD τ).loc main_arg3)) := by
  funext j
  have hj0 : (j 0).val < 8192 := (j 0).isLt
  have hj1 : (j 1).val < 2048 := (j 1).isLt
  have hN : cfg0.N = 64 := N_0
  have hp : Cert.OutProjIdeal.Value.pt4Of j = 4 * ((j 0).val / 512) + (j 1).val / 512 := by
    show 4 * ((j 0).val / 512 - 0) + 1 * ((j 1).val / 512 - 0) = _
    omega
  have hlt : Cert.OutProjIdeal.Value.pt4Of j < cfg0.N := by rw [hp]; omega
  have hs : rowStart (Cert.OutProjIdeal.Value.pt4Of j) = 4 * ((j 0).val / 512) := by
    unfold rowStart; rw [hp]; omega
  unfold Cert.OutProjIdeal.Value.G4
  rw [dif_pos hlt, ← Cert.OutProjIdeal.Value.outsAt0_sweep m c _ hlt, point m c _ hlt]
  dsimp only
  refine (pay_at _ _ _ _).trans ?_
  unfold proj
  refine congrArg₂ (· + ·) ?_ (Finset.sum_congr rfl fun k _ => congrArg₂ (· * ·) ?_ ?_)
  · refine res_at m c _ j _ ?_ ?_
    · show (j 0).val = 512 * (Cert.OutProjIdeal.Value.pt4Of j / 4) + (j 0).val % 512; rw [hp]; omega
    · show (j 1).val = 512 * (Cert.OutProjIdeal.Value.pt4Of j % 4) + (j 1).val % 512; rw [hp]; omega
  · refine (rows_at m c _ (j 0) _ k ?_).trans (entry_cat m c (j 0) k)
    show (j 0).val = 512 * (rowStart (Cert.OutProjIdeal.Value.pt4Of j) / 4) + (j 0).val % 512; rw [hs]; omega
  · refine cols_at m c _ k _ (j 1) ?_
    show (j 1).val = 512 * (Cert.OutProjIdeal.Value.pt4Of j % 4) + (j 1).val % 512; rw [hp]; omega

/-- The reference's result. -/
theorem reference_value (a : FVec Ideal S8192x1024 .f32) (b : FVec Ideal S4x2048x1024 .f32) (w : FVec Ideal S2048x2048 .f32)
    (x : FVec Ideal S8192x2048 .f32) (h1 : S8192x1024.ShapeCasts S4x2048x1024)
    (h2 : Shape.Concatenates [S4x2048x1024, S4x2048x1024] Cert.OutProjRefIdeal.S4x2048x2048 2)
    (h3 : Cert.OutProjRefIdeal.S4x2048x2048.ShapeCasts S8192x2048) :
    addf (F := Ideal) (s := S8192x2048) (φ := .f32) x (shapeCast S8192x2048 (Host.dotGeneral (F := Ideal) (φ₁ := .f32) (φ₂ := .f32)
      Cert.OutProjRefIdeal.dot_S4x2048x2048_S2048x2048_S4x2048x2048_2_0_01_1_n_n none
      (concatenate Cert.OutProjRefIdeal.S4x2048x2048 2 ([⟨S4x2048x1024, (shapeCast S4x2048x1024 a h1)⟩, ⟨S4x2048x1024, b⟩] : List ((s : Shape) × (s.Idx → Elt Ideal .f32))) h2) w) h3)
      = proj a b w x := by
  funext j
  unfold proj catAt
  pointwise

/-- The claim: from the same arguments both runs end with the same result. -/
theorem algebraic : @Cert.algebraic_OutProjIdeal_OutProjRefIdeal Cert.OutProjIdeal.Gen.facts Cert.OutProjRefIdeal.Gen.facts := by
  intro m g m' g' _ hagree
  refine ⟨fun c => proj (m ((c : Thread nD τ).loc main_arg0)) (m ((c : Thread nD τ).loc main_arg1))
    (m ((c : Thread nD τ).loc main_arg2)) (m ((c : Thread nD τ).loc main_arg3)), ?_, ?_⟩
  · refine (θ_run _ _ _).mono (fun r h c => ?_) (Cert.OutProjIdeal.Value.run (F := Ideal) m g)
    obtain ⟨h, k⟩ := h c
    exact ⟨h.trans (kernel_value m c), k⟩
  · refine (θ_run _ _ _).mono (fun r h c => ?_) (Cert.OutProjRefIdeal.Value.run (F := Ideal) m' g')
    obtain ⟨h, k⟩ := h c
    refine ⟨h.trans ?_, k⟩
    obtain ⟨e0, e1, e2, e3⟩ := hagree c
    rw [e0, e1, e2, e3]
    exact reference_value _ _ _ _ _ _ _

end Cert.Out

end
-- ==== Proof.In.Plain.lean ====
/- What the in-projections share: the normalised rows, a block of the product, their entries over the extended reals. -/
module

public import proofs.«01_k».proof.Proof.Gen.InProjIdeal
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.In

open Cert.InProjIdeal Cert.InProjIdeal.Gen
open Idealize.ShloMosaic

section Generic

variable {F : FTy → Type} [FloatOps F]

/-- The normalised rows the scratch holds. -/
def normRows (x : FVec F S512x2048 .f32) (g : FVec F S1x2048 .f32) : FVec F S512x2048 .bf16 :=
  truncf .bf16 (mulf (mulf x (broadcastTo S512x2048 (rsqrt (addf (divf (shapeCast S512x1 (multiReduction .add [1] S512 (mulf x x) 0x00000000#32 reduces_S512x2048_S512 (.inl rfl) rfl) shapeCasts_S512_S512x1)
    (broadcast S512x1 (Scalar.ofBits .f32 0x45000000#32))) (broadcast S512x1 (Scalar.ofBits .f32 0x358637BD#32)))) broadcasts_S512x1_S512x2048))
    (broadcastTo S512x2048 g broadcasts_S1x2048_S512x2048)) bitsLt_bf16_f32

/-- A block of the product. -/
def prodCols (h : FVec F S512x2048 .bf16) (w : FVec F S2048x512 .f32) : FVec F S512x512 .f32 :=
  matmul dot_S512x2048_S2048x512_S512x512_1_0_0_1_n_n none h (truncf .bf16 w bitsLt_bf16_f32) (constant S512x512 .f32 0x00000000#32)

/-- A store over a whole array leaves its payload. -/
theorem read_store {sg : RefSig} {S : Shape} {e : EltTy} (M : Memref sg .tc .vmem S e) (f : BufTy.Contents (Elt F) M.view.ty)
    {off : Fin S.rank → Nat} (h : off = fun _ => 0) (inb : ∀ a, off a + S.size a ≤ S.size a) (w : Vec F S e) :
    M.view.read (Elt F) (M.view.writes (Elt F) f [⟨Rect.unit off S.size inb, w⟩]) = w := by
  rw [View.read_writes_eq_canon _ _ _ fun y => ⟨_, List.mem_singleton_self _, View.mem_set_unit_zero h inb y⟩]
  exact View.canon_unit_zero h inb w

theorem zero2 : (![0, 0] : Fin 2 → Nat) = fun _ => 0 := by decide

/-- A load of a whole array after a store over it gives the payload. -/
theorem load_store {sg : RefSig} {S : Shape} {e : EltTy} (M : Memref sg .tc .vmem S e) {off : Fin S.rank → Nat} (h : off = fun _ => 0)
    (inb : ∀ a, off a + S.size a ≤ S.size a) (w : Vec F S e) :
    M.view.readCov (Val := Elt F) [⟨Rect.unit off S.size inb, w⟩] (Rect.unit off S.size inb).toLoadRect = w := by
  unfold View.readCov
  rw [View.readAt_eq_ld, read_store _ _ h, View.ld_unit_zero (S := S) h]

end Generic

/-- One normalised entry, from its row, its gain and its place in the row. -/
def normOf (x : Fin 2048 → Elt Ideal .f32) (g : Elt Ideal .f32) (k : Fin 2048) : Elt Ideal .f32 :=
  x k * Ideal.rsqrt (Ideal.div (∑ l : Fin 2048, x l * x l) (Ideal.ofBits .f32 0x45000000#32)
    + Ideal.ofBits .f32 0x358637BD#32) * g

/-- The projection of the normalised rows. -/
def proj {n : ℕ} (x : Vec Ideal S4x2048x2048 .f32) (g : Vec Ideal S2048 .f32) (w : Vec Ideal ⟨2, ![2048, n]⟩ .f32) :
    Vec Ideal ⟨2, ![8192, n]⟩ .f32 :=
  fun j => ∑ k : Fin 2048, normOf (fun l => x (ix3 (n0 := 4) (n1 := 2048) (n2 := 2048) ⟨(j 0).val / 2048, by have : (j 0).val < 8192 := (j 0).isLt; omega⟩ ⟨(j 0).val % 2048, by omega⟩ l)) (g (ix1 (n0 := 2048) k)) k
    * w (ix2 (n0 := 2048) (n1 := n) k (j 1))

/-- Pages of 16 by 128 rows, 8 heads of 128 columns each, read off a projection from column `o` on. -/
def pageOf {n : ℕ} (A : Vec Ideal ⟨2, ![8192, n]⟩ .f32) (o : ℕ) (ho : o + 1024 ≤ n) : Vec Ideal ⟨5, ![4, 16, 128, 8, 128]⟩ .f32 :=
  fun j => A (ix2 (n0 := 8192) (n1 := n)
    ⟨(j 0).val * 2048 + (j 1).val * 128 + (j 2).val, by
      have h0 : (j 0).val < 4 := (j 0).isLt; have h1 : (j 1).val < 16 := (j 1).isLt; have h2 : (j 2).val < 128 := (j 2).isLt; omega⟩
    ⟨o + ((j 3).val * 128 + (j 4).val), by
      have h3 : (j 3).val < 8 := (j 3).isLt; have h4 : (j 4).val < 128 := (j 4).isLt; omega⟩)

/-- A page entry's sequence and place in it. -/
theorem page_row (a : Fin 4) (b : Fin 16) (d : Fin 128) :
    (a.val * 2048 + b.val * 128 + d.val) / 2048 = a.val ∧ (a.val * 2048 + b.val * 128 + d.val) % 2048 = b.val * 128 + d.val := by
  omega

/-- The normalised last row of each sequence. -/
def lastOf (x : Vec Ideal S4x2048x2048 .f32) (g : Vec Ideal S2048 .f32) : Vec Ideal ⟨2, ![4, 2048]⟩ .f32 :=
  fun j => normOf (fun l => x (ix3 (n0 := 4) (n1 := 2048) (n2 := 2048) (j 0) ⟨2047, by omega⟩ l)) (g (ix1 (n0 := 2048) (j 1))) (j 1)

/-- The sequences' rows one after the other. -/
def flat (x : Vec Ideal S4x2048x2048 .f32) : Vec Ideal S8192x2048 .f32 :=
  fun j => x (ix3 (n0 := 4) (n1 := 2048) (n2 := 2048) ⟨(j 0).val / 2048, by have : (j 0).val < 8192 := (j 0).isLt; omega⟩ ⟨(j 0).val % 2048, by omega⟩ (j 1))

/-- An entry of the scratch, over the extended reals. -/
def entry (h : Vec Ideal S512x2048 .bf16) (p : Fin 512) (k : Fin 2048) : Elt Ideal .f32 := h (ix2 (n0 := 512) (n1 := 2048) p k)

/-- A block of the product at an entry. -/
theorem prod_at (h : Vec Ideal S512x2048 .bf16) (w : Vec Ideal S2048x512 .f32) (y : S512x512.Idx) :
    prodCols (F := Ideal) h w y = ∑ k : Fin 2048, entry h (y 0) k * w (ix2 (n0 := 2048) (n1 := 512) k (y 1)) := by
  unfold entry
  pointwise [prodCols]

/-- A normalised entry. -/
theorem norm_at (x : Vec Ideal S512x2048 .f32) (g : Vec Ideal S1x2048 .f32) (p : Fin 512) (k : Fin 2048) :
    entry (normRows (F := Ideal) x g) p k
      = normOf (fun l => x (ix2 (n0 := 512) (n1 := 2048) p l)) (g (ix2 (n0 := 1) (n1 := 2048) 0 k)) k := by
  unfold entry normOf
  pointwise [normRows]

end Cert.In

end
-- ==== Proof.In.Body.lean ====
/- The in-projection's body: at a row's first point it normalises the rows into its scratch, and at every point it
   multiplies the scratch by a block of columns. -/
module

public import proofs.«01_k».proof.Proof.Gen.InProjIdeal.Frame
public import proofs.«01_k».proof.Proof.In.Plain
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.In

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- The condition of the body's branch: the point is its row's first. -/
abbrev firstCol (i : grid0.Coords) : Prop := (Scalar.cmpi .ne (Scalar.extui (Scalar.cmpi .eq (BitVec.ofNat 32 (i 1).val) 0#32)) 0#32) = 1#1

/-- It holds at the points whose number is a multiple of the number of column blocks. -/
theorem firstCol_iff : ∀ t : Fin cfg0.N, firstCol (grid0.coords t) ↔ t.val % 25 = 0 :=
  (fun t => by
    have ht : t.val < 400 := Nat.lt_of_lt_of_eq t.isLt N_0
    have e0 : (grid0.coords t 0).val = t.val / 25 % 16 := Pipeline.Grid.coords_val t 0 (by decide) rfl
    have e1 : (grid0.coords t 1).val = t.val / 1 % 25 := Pipeline.Grid.coords_val t 1 (by decide) rfl
    simp only [firstCol, e0, e1]
    word_cmp
   : ∀ t : Fin grid0.N, firstCol (grid0.coords t) ↔ t.val % 25 = 0)

set_option maxHeartbeats 4000000 in
/-- A row's first point: the scratch is left at the normalised rows, the output at their product with the columns. -/
theorem bodyFirst (c : Dev nD) (i : grid0.Coords)
    (arg2 : Memref sig .tc .vmem S512x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S512x512 .f32) (harg5 : arg5.IsWhole)
    (arg6 : Memref sig .tc .vmem S512x2048 .bf16) (harg6 : arg6.IsWhole) (hc : firstCol i)
    (x : Vec F S512x2048 .f32) (g : Vec F S1x2048 .f32) (w : Vec F S2048x512 .f32) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare g ∗ owns (c : Thread nD τ) arg4 fullShare w
            ∗ owns (c : Thread nD τ) arg5 fullShare (prodCols (normRows x g) w) ∗ owns (c : Thread nD τ) arg6 fullShare (normRows x g)) -∗ K ⟨⟩))
      ⊢ wp frame (wpE (defs₀ (F := F)) Variants.none c none) E (cc0_matmul i arg2 harg2 arg3 harg3 arg4 harg4 arg5 harg5 arg6 harg6) K := by
  unfold cc0_matmul
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  have ex : View.readAt (Elt F) arg2.view (Rect.unit (s := S512x2048) ![0, 0] S512x2048.size inb_S512x2048_S512x2048_0_0).toLoadRect (harg2.unread x) = x := by
    rw [View.readAt_eq_ld, harg2.read_unread, View.ld_unit_zero (S := S512x2048) zero2]
  have eg : View.readAt (Elt F) arg3.view (Rect.unit (s := S1x2048) ![0, 0] S1x2048.size inb_S1x2048_S1x2048_0_0).toLoadRect (harg3.unread g) = g := by
    rw [View.readAt_eq_ld, harg3.read_unread, View.ld_unit_zero (S := S1x2048) zero2]
  have ew : View.readAt (Elt F) arg4.view (Rect.unit (s := S2048x512) ![0, 0] S2048x512.size inb_S2048x512_S2048x512_0_0).toLoadRect (harg4.unread w) = w := by
    rw [View.readAt_eq_ld, harg4.read_unread, View.ld_unit_zero (S := S2048x512) zero2]
  have eh : bodyFirst.sl.v27 c arg2 harg2 arg3 harg3 x g = normRows x g := by
    unfold bodyFirst.sl.v27
    refine (shapeCast_self _ _).trans ?_
    refine (show _ = normRows (shapeCast S512x2048 (View.readAt (Elt F) arg2.view (Rect.unit (s := S512x2048) ![0, 0] S512x2048.size inb_S512x2048_S512x2048_0_0).toLoadRect (harg2.unread x)) shapeCasts_S512x2048_S512x2048)
      (shapeCast S1x2048 (View.readAt (Elt F) arg3.view (Rect.unit (s := S1x2048) ![0, 0] S1x2048.size inb_S1x2048_S1x2048_0_0).toLoadRect (harg3.unread g)) shapeCasts_S1x2048_S1x2048) from rfl).trans ?_
    exact congrArg₂ normRows ((shapeCast_self _ _).trans ex) ((shapeCast_self _ _).trans eg)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_store arg5 f3 zero2 _ _).trans ?_
    unfold bodyFirst.sl.v6 bodyFirst.sl.v3 bodyFirst.sl.v5 bodyFirst.sl.cst bodyFirst.sl.H4_1 prodCols
    rw [load_store arg6 zero2, eh, ew]
  iexists _; isplitr; swap; · iexact H4
  ipureintro
  unfold bodyFirst.sl.H4_1
  refine (read_store arg6 f4 zero2 _ _).trans ?_
  exact eh
set_option maxHeartbeats 4000000 in
/-- Any other point: the scratch stays, the output is left at its product with the columns. -/
theorem bodyRest (c : Dev nD) (i : grid0.Coords)
    (arg2 : Memref sig .tc .vmem S512x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S512x512 .f32) (harg5 : arg5.IsWhole)
    (arg6 : Memref sig .tc .vmem S512x2048 .bf16) (harg6 : arg6.IsWhole) (hc : ¬ firstCol i)
    (x : Vec F S512x2048 .f32) (g : Vec F S1x2048 .f32) (w : Vec F S2048x512 .f32) (h : Vec F S512x2048 .bf16) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ owns (c : Thread nD τ) arg6 fullShare h
        ∗ (iprop(owns (c : Thread nD τ) arg2 fullShare x ∗ owns (c : Thread nD τ) arg3 fullShare g ∗ owns (c : Thread nD τ) arg4 fullShare w
            ∗ owns (c : Thread nD τ) arg5 fullShare (prodCols h w) ∗ owns (c : Thread nD τ) arg6 fullShare h) -∗ K ⟨⟩))
      ⊢ wp frame (wpE (defs₀ (F := F)) Variants.none c none) E (cc0_matmul i arg2 harg2 arg3 harg3 arg4 harg4 arg5 harg5 arg6 harg6) K := by
  unfold cc0_matmul
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  have ew : View.readAt (Elt F) arg4.view (Rect.unit (s := S2048x512) ![0, 0] S2048x512.size inb_S2048x512_S2048x512_0_0).toLoadRect (harg4.unread w) = w := by
    rw [View.readAt_eq_ld, harg4.read_unread, View.ld_unit_zero (S := S2048x512) zero2]
  have eh : View.readAt (Elt F) arg6.view (Rect.unit (s := S512x2048) ![0, 0] S512x2048.size inb_S512x2048_S512x2048_0_0).toLoadRect (harg6.unread h) = h := by
    rw [View.readAt_eq_ld, harg6.read_unread, View.ld_unit_zero (S := S512x2048) zero2]
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_store arg5 f3 zero2 _ _).trans ?_
    unfold bodyRest.sl.v6 bodyRest.sl.v5 bodyRest.sl.cst
    unfold prodCols
    rw [ew, eh]
  iexists _; isplitr; · ipureintro; exact harg6.read_unread _
  iexact H4

end Cert.In

end
-- ==== Proof.In.Frame.lean ====
/- The in-projection's run: what every buffer holds at each grid point, and the frame. -/
module

public import proofs.«01_k».proof.Proof.In.Body

@[expose] public section

set_option maxRecDepth 16384

noncomputable section

namespace Cert.In

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of a point's row of blocks. -/
def rowPt (t : Fin cfg0.N) : Fin cfg0.N := ⟨t.val / 25 * 25, lt_of_le_of_lt (Nat.div_mul_le_self _ _) t.isLt⟩

theorem rowPt_of_first {t : Fin cfg0.N} (h : t.val % 25 = 0) : rowPt t = t := Fin.ext (by unfold rowPt; simp only; omega)

theorem rowPt_succ {s t : Fin cfg0.N} (hs : s.val + 1 = t.val) (h : ¬ t.val % 25 = 0) : rowPt s = rowPt t :=
  Fin.ext (by unfold rowPt; simp only; omega)

/-- The normalised rows of a point's row of blocks. -/
def scr (c : Dev nD) (t : Fin cfg0.N) : FVec F S512x2048 .bf16 := normRows (iblk m c 0 (rowPt t)) (iblk m c 1 (rowPt t))

/-- The columns staged at a point: the block the fetch moves, over what the buffer held. -/
def cols (c : Dev nD) (t : Fin cfg0.N) (d : Vec F S2048x512 .f32) : Vec F S2048x512 .f32 :=
  win0_2.fill (grid0.coords t) d (iblk m c 2 t)

/-- Zeros, named where a buffer's contents are nobody's business. -/
def zeros : Vec F S2048x512 .f32 := fun _ => Scalar.ofBits .f32 0x00000000#32

abbrev ms0 (t : Fin cfg0.N) : Memref sig .tc .vmem S512x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x512 .f32 := win0_2.stage (cfg0.slots t 2)
abbrev ms3 (t : Fin cfg0.N) : Memref sig .tc .vmem S512x512 .f32 := win0_3.stage (cfg0.slots t 3)
abbrev scM : Memref sig .tc .vmem S512x2048 .bf16 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The region's invariant before point `n`: the scratch holds the rows the point before left in it. -/
def PhiS (c : Dev nD) : (n : ℕ) → n ≤ cfg0.N → sProp 𝕄
  | 0, _ => Pipeline.ΦA spec0 c
  | n + 1, h => iprop(owns (c : Thread nD τ) scM fullShare (scr m c ⟨n, h⟩) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) scM fullShare (scr m c ⟨n - 1, by omega⟩) ∗ (∃ r, prngReg c r)) := by
  obtain ⟨k, rfl⟩ := Nat.exists_eq_succ_of_ne_zero hz; rfl

/-- The proof data: the arrays as the region finds them, what each point leaves in the staging buffers, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => cols m c t zeros
    | ⟨3, _⟩ => prodCols (scr m c t) (cols m c t zeros)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = cols m c t zeros := by dsimp only [dats]
theorem after_3 (c : Dev nD) (t : Fin cfg0.N) : (dats m 0 c).after 3 t = prodCols (scr m c t) (cols m c t zeros) := by dsimp only [dats]

theorem before_0 (c : Dev nD) (t : Fin cfg0.N) (d) : (dats m 0 c).before 0 t d = iblk m c 0 t :=
  before0_0_of m _ (A_eq m c 0) (after_0 m c) t d
theorem before_1 (c : Dev nD) (t : Fin cfg0.N) (d) : (dats m 0 c).before 1 t d = iblk m c 1 t :=
  before0_1_of m _ (A_eq m c 1) (after_1 m c) t d
theorem before_2 (c : Dev nD) (t : Fin cfg0.N) (d) : (dats m 0 c).before 2 t d = cols m c t d := by
  unfold Dat.before; rw [if_pos (fetch0_2 t)]; rfl

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- What it leaves there, whatever lay in the columns' buffer past the array's end. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (cols m c t d)
        ∗ owns (c : Thread nD τ) (ms3 t) fullShare (prodCols (scr m c t) (cols m c t d))))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1]
  rw [show (dats m 0 c).Φ t.succ = iprop(owns (c : Thread nD τ) scM fullShare (scr m c t) ∗ (∃ r, prngReg c r)) from rfl]
  by_cases h0 : t.val % 25 = 0
  · have es : scr m c t = normRows (iblk m c 0 t) (iblk m c 1 t) := by unfold scr; rw [rowPt_of_first h0]
    have hΦ : (dats m 0 c).Φ t.castSucc ⊢ iprop((∃ d, owns (c : Thread nD τ) scM fullShare d) ∗ (∃ r, prngReg c r)) := by
      rw [PhiS_castSucc m c t]
      by_cases hz : t.val = 0
      · rw [PhiS_zero m c _ _ hz, PhiA_eq]
      · rw [PhiS_pos m c _ _ hz]
        iintro ⟨H, Hg⟩
        isplitl [H]
        · iexists _; iexact H
        iexact Hg
    rw [es]
    iintro ⟨HΦ, Ho, ⟨%d0, H0⟩, ⟨%d1, H1⟩, ⟨%d2, H2⟩, ⟨%d3, H3⟩⟩
    ihave HΦ := hΦ $$ HΦ
    icases HΦ with ⟨HS, Hg⟩
    iapply (bodyFirst c (grid0.coords t) _ _ _ _ _ _ _ _ _ _ ((firstCol_iff t).mpr h0) (iblk m c 0 t) (iblk m c 1 t) (cols m c t d2) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    iexists d2
    isplitl [H2]; · iexact H2
    iexact H3
  · have hz : t.val ≠ 0 := fun h => h0 (by rw [h])
    have es : scr m c ⟨t.val - 1, by omega⟩ = scr m c t := by
      unfold scr; rw [rowPt_succ (s := ⟨t.val - 1, by omega⟩) (t := t) (by simp only; omega) h0]
    rw [PhiS_castSucc m c t, PhiS_pos m c _ _ hz, es]
    iintro ⟨⟨HS, Hg⟩, Ho, ⟨%d0, H0⟩, ⟨%d1, H1⟩, ⟨%d2, H2⟩, ⟨%d3, H3⟩⟩
    iapply (bodyRest c (grid0.coords t) _ _ _ _ _ _ _ _ _ _ (fun h => h0 ((firstCol_iff t).mp h)) (iblk m c 0 t) (iblk m c 1 t) (cols m c t d2) (scr m c t) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    iexists d2
    isplitl [H2]; · iexact H2
    iexact H3

/-- The body table's row at point `t`'s slots. -/
theorem defs₀_row (t : Fin cfg0.N) : defs₀ (F := F) .tc cfg0.body (cfg0.bodyArgs t (cfg0.slots t)) = bodyAt0 t := by
  unfold defs₀; rw [Defs.onTc_tc]

/-- The buffers whose contents the frame does not follow: the result's. -/
def fgt : Fin cfg0.W → Bool := ![false, false, false, true]

theorem leaves_2 (c : Dev nD) (t : Fin cfg0.N) (d : Vec F S2048x512 .f32) :
    cols m c t d = win0_2.fill (grid0.coords t) d (win0_2.cut (grid0.coords t) (cols m c t zeros)) := by
  unfold cols; rw [Window.cut_fill]

/-- The body's post with the result's contents forgotten. -/
def postForget (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ X, owns (c : Thread nD τ) (ms3 t) fullShare X))

theorem post_forget (c : Dev nD) (t : Fin cfg0.N) : bodyPost m c t ⊢ postForget m c t := by
  unfold bodyPost postForget
  rw [after_2]
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← leaves_2]
    iexact H2
  iexists _; iexact H3

/-- The library's body obligation with the result's contents forgotten. -/
theorem obligation_forget (c : Dev nD) : BodyObligationLoose (dats (F := F) m 0 c) (defs₀ (F := F)) Variants.none () Set.univ fgt := fun t => by
  rw [bigSep_W0, bigSep_W0, defs₀_row]
  exact triple_restated (triple_restated (sound_body m c t) rfl .rfl fun _ => post_forget m c t) rfl .rfl fun _ => .rfl

/-- The body's post with the result's contents known inside the array. -/
def postExact (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ d, owns (c : Thread nD τ) (ms3 t) fullShare (win0_3.fill (grid0.coords t) d (win0_3.cut (grid0.coords t) ((dats m 0 c).after 3 t)))))

/-- What a block of the product holds inside the array does not depend on the columns past it. -/
def CutsAgree : Prop := ∀ (c : Dev nD) (t : Fin cfg0.N) (d : Vec F S2048x512 .f32),
  win0_3.cut (grid0.coords t) (prodCols (scr m c t) (cols m c t zeros)) = win0_3.cut (grid0.coords t) (prodCols (scr m c t) (cols m c t d))

theorem post_exact (hc : CutsAgree m) (c : Dev nD) (t : Fin cfg0.N) : bodyPost m c t ⊢ postExact m c t := by
  unfold bodyPost postExact
  rw [after_2, after_3]
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← leaves_2]
    iexact H2
  iexists (prodCols (scr m c t) (cols m c t d))
  rw [hc c t d, Window.fill_cut]
  iexact H3

/-- The library's body obligation, where the products agree inside the array. -/
theorem obligation_exact (hc : CutsAgree m) (c : Dev nD) :
    BodyObligationLoose (dats (F := F) m 0 c) (defs₀ (F := F)) Variants.none () Set.univ := fun t => by
  rw [bigSep_W0, bigSep_W0, defs₀_row]
  exact triple_restated (triple_restated (sound_body m c t) rfl .rfl fun _ => post_exact m hc c t) rfl
    (by
      show _ ⊢ bodyPre m c t
      unfold bodyPre
      iintro ⟨HΦ, Ho, H0, H1, H2, ⟨%d, H3⟩⟩
      isplitl [HΦ]; · iexact HΦ
      isplitl [Ho]; · iexact Ho
      isplitl [H0]; · iexact H0
      isplitl [H1]; · iexact H1
      isplitl [H2]; · iexact H2
      iexists _; iexact H3) fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 400 := N_0; omega), PhiA_eq]
  iintro ⟨HS, Hg⟩
  isplitl [HS]
  · iexists _; iexact HS
  iexact Hg

/-- The buffers the host lines after the call write. -/
def tail : Finset (Ref sig .tc) :=
  {main_v3, main_v4, main_v5, main_v6, main_v7, main_cst}

/-- They write no other. -/
theorem tail_writes : ∀ ops ∈ ([hostOps1] : List (List (HloOp τ sig (Elt F)))), ∀ op ∈ ops,
    ∀ b : Ref sig .tc, Proc.devRef .tc b ∈ op.writes → b ∈ tail := by
  intro ops hops op hop b hb
  simp only [List.mem_cons, List.mem_nil_iff, or_false] at hops
  rcases hops with rfl
  simp only [hostOps1, List.mem_cons, List.mem_nil_iff, or_false] at hop
  by_contra hn
  rcases hop with rfl | rfl | rfl | rfl | rfl | rfl
  all_goals
    simp only [StableHlo.nullary_writes, StableHlo.unary_writes, StableHlo.binary_writes, StableHlo.reshape_writes, Finset.mem_singleton] at hb
    exact StableHlo.devRef_ne_of_ne (fun e => hn (by rw [e]; decide)) hb

set_option backward.isDefEq.respectTransparency.types false in
/-- The launch, the result's contents forgotten. -/
theorem run_forget : θ_run defs (onTc (τ := τ) (main (F := F))) (s₀ m ρ)
    (fun r => RDat.FramePostR cfg0 (fun c => (dats m 0 c).toRForget fgt) tail (V m) r ∧ r.2.sem = fun _ => 0) :=
  Pipeline.θ_run_frame_around_T_track_forget (Q' := _) cfgs (dats m) (0 : Fin 1) launch0 defs₀ Variants.none fgt tail m ρ main
    (hbody := obligation_forget m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hin := hin m) (hout := hout m) (hQ' := fun _ h => h)

set_option backward.isDefEq.respectTransparency.types false in
/-- The launch, where the products agree inside the array. -/
theorem run_exact (hc : CutsAgree m) : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := obligation_exact m hc) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- A buffer no host line after the call writes is one the run leaves as the call found it. -/
theorem kept {b : Ref sig .tc} (hb : b ∈ Pipeline.restRefs sig spec0) (hn : b ∉ tail) : b ∈ Pipeline.restRefs sig spec0 \ tail :=
  Finset.mem_sdiff.mpr ⟨hb, hn⟩

/-- THE FRAME: the program terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (kept (Pipeline.mem_restRefs_of main_arg0 (by decide) (by decide)) (by decide))).trans (V_main_arg0 m c),
      ((h.1 c).2 main_arg1 (kept (Pipeline.mem_restRefs_of main_arg1 (by decide) (by decide)) (by decide))).trans (V_main_arg1 m c),
      (((dats m 0 c).toRForget_arrAt_iff (w := 2) rfl _ _).mp ((h.1 c).1 2)).trans (((dats m 0 c).arrAt_in 2 rfl _).trans ((A_eq m c 2).trans (V_main_arg2 m c)))⟩, h.2⟩) (run_forget m ρ)

end Cert.In

end
-- ==== Proof.In.Bits.lean ====
/- The in-projection at the machine's words: it is the idealized program's own text, so the frame carries over. -/
module

public import proofs.«01_k».proof.Defs
public import proofs.«01_k».proof.Proof.In.Frame
public import proofs.«01_k».proof.Proof.Gen.InProj.Launch

@[expose] public section

set_option maxRecDepth 16384

noncomputable section

namespace Cert.In

open Idealize.ShloMosaic Idealize.SL.Sem

variable {F : FTy → Type} [FloatOps F]

/-- The two programs' bodies are one. -/
theorem body_table : Cert.InProj.defs₀ (F := F) = Cert.InProjIdeal.defs₀ (F := F) := by
  unfold Cert.InProj.defs₀ Cert.InProjIdeal.defs₀
  refine congrArg (Defs.onTc (nD := Cert.InProjIdeal.nD) (τ := Cert.InProjIdeal.τ) (sig := Cert.InProjIdeal.sig)
    (Val := Elt F) (Λ := Cert.InProjIdeal.Λ₀)) ?_
  funext l x
  obtain ⟨l, hl⟩ := l
  cases l with
  | zero => obtain ⟨t, s⟩ := x; rfl
  | succ n => exact absurd hl (Nat.not_lt.2 (Nat.le_add_left _ _))

/-- So are their tables. -/
theorem table : Cert.InProj.defs (F := F) = Cert.InProjIdeal.defs (F := F) :=
  congrArg (Pipeline.defs (Cert.InProjIdeal.pcfgs (F := F))) body_table

/-- The frame of the program at the machine's words. -/
theorem frameBits : @Cert.quiescent_InProj Cert.InProj.Gen.facts := by
  intro m g _
  rw [table]
  exact Cert.In.frame (F := Bits) m g

end Cert.In

end
-- ==== Proof.In.Value.lean ====
/- The in-projection over the extended reals: the kernel's result and the reference's are one array. -/
module

public import proofs.«01_k».proof.Defs
public import proofs.«01_k».proof.Proof.In.Frame
public import proofs.«01_k».proof.Proof.Gen.InProjRefIdeal.Run
public import Idealize.ShloMosaic.Lib.Claim
public import Idealize.ShloMosaic.Lib.Pipeline.ValueKit
public import Idealize.ShloMosaic.Lib.Pointwise
public import Idealize.ShloMosaic.Lib.ValueIdx
public import Idealize.ShloMosaic.Lib.ValueLayout

@[expose] public section

set_option maxRecDepth 16384

noncomputable section

namespace Cert.In

open Cert.InProjIdeal Cert.InProjIdeal.Gen
open Idealize.ShloMosaic Idealize.ShloMosaic.TcCoe Idealize.SL.Sem
open Idealize.ShloMosaic.Pipeline (Dat Window)

variable (m : (ℓ : Loc nD τ sig) → Buf (Elt Ideal) ℓ)

/-- Where the blocks of each point lie, and how many of the last one's columns are in the array. -/
theorem blocks_at : ∀ t : Fin cfg0.N,
    (win0_0.index t (0 : Fin 2) = t.val / 25 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 25)
    ∧ (win0_3.index t (0 : Fin 2) = t.val / 25 ∧ win0_3.index t (1 : Fin 2) = t.val % 25)
    ∧ (win0_2.xsize (grid0.coords t) (0 : Fin 2) = 2048 ∧ win0_2.xsize (grid0.coords t) (1 : Fin 2) = min 512 (12352 - 512 * (t.val % 25)))
    ∧ (win0_3.xsize (grid0.coords t) (0 : Fin 2) = 512 ∧ win0_3.xsize (grid0.coords t) (1 : Fin 2) = min 512 (12352 - 512 * (t.val % 25))) :=
  (by decide +kernel : ∀ t : Fin grid0.N, _)

/-- A staged column inside the array. -/
theorem cols_at (c : Dev nD) (t : Fin cfg0.N) (d : Vec Ideal S2048x512 .f32) (k : Fin 2048) (q : Fin 512) (s : Fin 12352)
    (h : s.val = 512 * (t.val % 25) + q.val) :
    cols m c t d (ix2 (n0 := 2048) (n1 := 512) k q) = m ((c : Thread nD τ).loc main_arg2) (ix2 (n0 := 2048) (n1 := 12352) k s) := by
  obtain ⟨-, -, ⟨e0, e1⟩, -, ⟨x0, x1⟩, -⟩ := blocks_at t
  have hs : s.val < 12352 := s.isLt
  have hm : win0_2.moved (grid0.coords t) (ix2 (n0 := 2048) (n1 := 512) k q) = true := by
    refine (win0_2.moved_iff (grid0.coords t) _).mpr fun a => ?_
    match a with
    | ⟨0, _⟩ => show k.val < win0_2.xsize (grid0.coords t) (0 : Fin 2); rw [x0]; omega
    | ⟨1, _⟩ => show q.val < win0_2.xsize (grid0.coords t) (1 : Fin 2); rw [x1]; omega
  unfold cols Window.fill
  refine (dif_pos hm).trans ?_
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 2048 + 1 * k.val = k.val; rw [e0]; omega
  | ⟨1, _⟩ => show win0_2.index t 1 * 512 + 1 * q.val = s.val; rw [e1]; omega

/-- Inside the array a block of the product does not see the columns past it. -/
theorem cuts_agree : CutsAgree m := by
  intro c t d
  obtain ⟨-, -, -, -, -, ⟨x0, x1⟩⟩ := blocks_at t
  funext j
  have hj : (j 1).val < min 512 (12352 - 512 * (t.val % 25)) := lt_of_lt_of_eq (j 1).isLt x1
  refine (prod_at _ _ _).trans (Eq.trans ?_ (prod_at _ _ _).symm)
  refine Finset.sum_congr rfl fun k _ => congrArg₂ (· * ·) rfl ?_
  have hs : 512 * (t.val % 25) + (j 1).val < 12352 := by omega
  exact (cols_at m c t zeros k _ ⟨512 * (t.val % 25) + (j 1).val, hs⟩ rfl).trans (cols_at m c t d k _ ⟨512 * (t.val % 25) + (j 1).val, hs⟩ rfl).symm

/-- A staged row's entry. -/
theorem rows_at (c : Dev nD) (t : Fin cfg0.N) (r : Fin 8192) (p : Fin 512) (k : Fin 2048)
    (h : r.val = 512 * (t.val / 25) + p.val) :
    (iblk m c 0 t : Vec Ideal S512x2048 .f32) (ix2 (n0 := 512) (n1 := 2048) p k)
      = m ((c : Thread nD τ).loc main_arg0) (ix3 (n0 := 4) (n1 := 2048) (n2 := 2048) ⟨r.val / 2048, by omega⟩ ⟨r.val % 2048, by omega⟩ k) := by
  obtain ⟨⟨e0, e1⟩, -⟩ := blocks_at t
  refine Eq.trans (b := V m c main_v0 (ix2 (n0 := 8192) (n1 := 2048) r k)) ?_ ?_
  · unfold iblk
    rw [View.read_apply]
    show V m c main_v0 _ = V m c main_v0 _
    refine congrArg (V m c main_v0) (funext fun a => Fin.ext ?_)
    match a with
    | ⟨0, _⟩ => show win0_0.index t 0 * 512 + 1 * p.val = r.val; rw [e0]; omega
    | ⟨1, _⟩ => show win0_0.index t 1 * 2048 + 1 * k.val = k.val; rw [e1]; omega
  · unfold V V0
    rw [List.flatten_singleton]
    entry_read
    pointwise

/-- A staged gain. -/
theorem gain_at (c : Dev nD) (t : Fin cfg0.N) (k : Fin 2048) :
    (iblk m c 1 t : Vec Ideal S1x2048 .f32) (ix2 (n0 := 1) (n1 := 2048) 0 k) = m ((c : Thread nD τ).loc main_arg1) (ix1 (n0 := 2048) k) := by
  obtain ⟨-, ⟨e0, e1⟩, -⟩ := blocks_at t
  refine Eq.trans (b := V m c main_v1 (ix2 (n0 := 1) (n1 := 2048) 0 k)) ?_ ?_
  · unfold iblk
    rw [View.read_apply]
    show V m c main_v1 _ = V m c main_v1 _
    refine congrArg (V m c main_v1) (funext fun a => Fin.ext ?_)
    match a with
    | ⟨0, _⟩ => show win0_1.index t 0 * 1 + 1 * 0 = 0; rw [e0]
    | ⟨1, _⟩ => show win0_1.index t 1 * 2048 + 1 * k.val = k.val; rw [e1]; omega
  · unfold V V0
    rw [List.flatten_singleton]
    entry_read
    pointwise

/-- What a point leaves at an entry inside the array. -/
theorem out_at (c : Dev nD) (t : Fin cfg0.N) (y : S512x512.Idx) (J : S8192x12352.Idx)
    (h0 : (J 0).val = 512 * (t.val / 25) + (y 0).val) (h1 : (J 1).val = 512 * (t.val % 25) + (y 1).val) :
    prodCols (F := Ideal) (scr m c t) (cols m c t zeros) y
      = proj (m ((c : Thread nD τ).loc main_arg0)) (m ((c : Thread nD τ).loc main_arg1)) (m ((c : Thread nD τ).loc main_arg2)) J := by
  refine (prod_at _ _ _).trans ?_
  unfold proj
  refine Finset.sum_congr rfl fun k _ => congrArg₂ (· * ·) ?_ (cols_at m c t zeros k (y 1) (J 1) h1)
  unfold scr
  refine (norm_at _ _ _ _).trans ?_
  rw [gain_at]
  refine congrArg (fun f => normOf f _ k) (funext fun l => rows_at m c (rowPt t) (J 0) (y 0) l ?_)
  rw [h0]; unfold rowPt; simp only; omega

/-- The kernel's result. -/
theorem kernel_value (c : Dev nD) : (dats m 0 c).arrAt 3 cfg0.N
    = proj (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, ⟨e0, e1⟩, -, -⟩ := blocks_at t
  rw [after_3]
  refine out_at m c t (win0_3.xinj (grid0.coords t) y) _ ?_ ?_
  · show win0_3.index t 0 * 512 + 1 * (y 0).val = 512 * (t.val / 25) + (y 0).val; rw [e0]; omega
  · show win0_3.index t 1 * 512 + 1 * (y 1).val = 512 * (t.val % 25) + (y 1).val; rw [e1]; omega

/-- The columns' last three rows in each sequence: what the host lines after the call make of the projection. -/
def lastRows (A : Vec Ideal S8192x12352 .f32) : Vec Ideal S4x3x8192 .f32 :=
  fun j => A (ix2 (n0 := 8192) (n1 := 12352)
    ⟨(j 0).val * 2048 + ((j 1).val + 2045), by have h0 : (j 0).val < 4 := (j 0).isLt; have h1 : (j 1).val < 3 := (j 1).isLt; omega⟩
    ⟨(j 2).val, by have h2 : (j 2).val < 8192 := (j 2).isLt; omega⟩)

/-- The projection's first columns, the rows of a sequence together. -/
def convCols (A : Vec Ideal S8192x12352 .f32) : Vec Ideal S4x2048x8192 .f32 :=
  fun j => A (ix2 (n0 := 8192) (n1 := 12352)
    ⟨(j 0).val * 2048 + (j 1).val, by have h0 : (j 0).val < 4 := (j 0).isLt; have h1 : (j 1).val < 2048 := (j 1).isLt; omega⟩
    ⟨(j 2).val, by have h2 : (j 2).val < 8192 := (j 2).isLt; omega⟩)

/-- The host lines make those columns of it first. -/
theorem suffix_cols (W : Valuation τ sig (Elt Ideal)) (A : Vec Ideal S8192x12352 .f32)
    (hW : (W (Proc.devRef .tc main_v2) : FVec Ideal S8192x12352 .f32) = A) :
    (StableHlo.upto hostOps1 W 4 (Proc.devRef .tc main_v5) : FVec Ideal S4x2048x8192 .f32) = convCols A := by
  after_reads_simp
  rw [hW]
  funext j
  have h0 : (j 0).val < 4 := (j 0).isLt
  have h1 : (j 1).val < 2048 := (j 1).isLt
  have h2 : (j 2).val < 8192 := (j 2).isLt
  unfold convCols
  pointwise

/-- They make the last rows of it. -/
theorem suffix_rows (W : Valuation τ sig (Elt Ideal)) (A : Vec Ideal S8192x12352 .f32)
    (hW : (W (Proc.devRef .tc main_v2) : FVec Ideal S8192x12352 .f32) = A) :
    (StableHlo.after hostOps1 W (Proc.devRef .tc main_v7) : FVec Ideal S4x3x8192 .f32) = lastRows A := by
  have hc := suffix_cols W A hW
  after_reads_simp
  generalize StableHlo.upto hostOps1 W 4 (Proc.devRef .tc main_v5) = C at hc ⊢
  generalize StableHlo.upto hostOps1 W 4 (Proc.devRef .tc main_v4) = Z
  subst hc
  funext j
  have h0 : (j 0).val < 4 := (j 0).isLt
  have h1 : (j 1).val < 3 := (j 1).isLt
  have h2 : (j 2).val < 8192 := (j 2).isLt
  unfold lastRows convCols
  pointwise
  have r2 : 2048 + (j 1).val - 3 = (j 1).val + 2045 := by omega
  rw [dif_neg (by omega)]
  simp only [r2]

/-- The call's arrays are different buffers. -/
theorem arrays_inj : Function.Injective (Pipeline.arrRef spec0) :=
  (by decide : ∀ w w', Pipeline.arrRef spec0 w = Pipeline.arrRef spec0 w' → w = w')

/-- The last rows after the host lines. -/
theorem value_rows (c : Dev nD) : Pipeline.afterTail₀ cfgs (dats m) 0 (V0 m) [hostOps1] c main_v7 = lastRows (proj (m ((c : Thread nD τ).loc main_arg0)) (m ((c : Thread nD τ).loc main_arg1)) (m ((c : Thread nD τ).loc main_arg2))) := by
  unfold Pipeline.afterTail₀
  exact suffix_rows _ _ ((Pipeline.withArrays_arr spec0 arrays_inj c (V0 m c) (fun w => (dats m 0 c).arrAt w cfg0.N) 3).trans (kernel_value m c))

set_option maxHeartbeats 1600000 in
/-- The claim: from the same arguments both runs end with the same projection and the same last rows. -/
theorem algebraic : @Cert.algebraic_InProjIdeal_InProjRefIdeal Cert.InProjIdeal.Gen.facts Cert.InProjRefIdeal.Gen.facts := by
  intro m g m' g' _ hagree
  refine ⟨fun c => (proj (m ((c : Thread nD τ).loc main_arg0)) (m ((c : Thread nD τ).loc main_arg1)) (m ((c : Thread nD τ).loc main_arg2))), fun c => lastRows (proj (m ((c : Thread nD τ).loc main_arg0)) (m ((c : Thread nD τ).loc main_arg1)) (m ((c : Thread nD τ).loc main_arg2))), ?_, ?_⟩
  · refine (θ_run _ _ _).mono (fun r h c => ?_) (run_exact (F := Ideal) m g (cuts_agree m))
    have k (b : Ref sig .tc) (hb : b ∈ Pipeline.restRefs sig spec0) := (h c).2 b hb
    exact ⟨((h c).1 3).trans (kernel_value m c),
      (k main_v7 (Pipeline.mem_restRefs_of main_v7 (by decide) (by decide))).trans (value_rows m c),
      (k main_arg0 (Pipeline.mem_restRefs_of main_arg0 (by decide) (by decide))).trans (W_main_arg0 m (dats m) c),
      (k main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩
  · refine (θ_run _ _ _).mono (fun r h c => ?_) (Cert.InProjRefIdeal.Value.run (F := Ideal) m' g')
    obtain ⟨h0, h1, k⟩ := h c
    obtain ⟨e0, e1, e2⟩ := hagree c
    refine ⟨h0.trans ?_, h1.trans ?_, k⟩
    · rw [e0, e1, e2]
      funext j
      unfold proj normOf
      pointwise
    · rw [e0, e1, e2]
      funext j
      have h0 : (j 0).val < 4 := (j 0).isLt
      have h1 : (j 1).val < 3 := (j 1).isLt
      have h2 : (j 2).val < 8192 := (j 2).isLt
      unfold lastRows proj normOf
      pointwise
      have r0 : ((j 0).val * 2048 + ((j 1).val + 2045)) / 2048 = (j 0).val := by omega
      have r1 : ((j 0).val * 2048 + ((j 1).val + 2045)) % 2048 = (j 1).val + 2045 := by omega
      have r2 : 2048 + (j 1).val - 3 = (j 1).val + 2045 := by omega
      rw [dif_neg (by omega)]
      simp only [r0, r1, r2]
      rfl

end Cert.In

end
-- ==== Proof.OutB.Blocks.lean ====
/- The out-projection of the gated-delta layers: its points: the row block kept from the first column block on, and what each point leaves. -/
module

public import proofs.«01_k».proof.Proof.Gen.OutGdnIdeal.Value
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.OutB

open Cert.OutGdnIdeal Cert.OutGdnIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem zero2 : (![0, 0] : Fin 2 → Nat) = fun _ => 0 := funext fun a => by fin_cases a <;> rfl

/-- A row block's first point: the product of the block just kept, added to the residual. -/
theorem out_first (c : Dev nD) (i : grid0.Coords) (a2 : Memref sig .tc .vmem S512x4096 .f32) (h2 : a2.IsWhole)
    (a3 : Memref sig .tc .vmem S1x4096 .f32) (h3 : a3.IsWhole) (a4 : Memref sig .tc .vmem S4096x512 .f32) (h4 : a4.IsWhole)
    (a5 : Memref sig .tc .vmem S512x512 .f32) (h5 : a5.IsWhole) (a6 : Memref sig .tc .vmem S512x512 .f32) (h6 : a6.IsWhole)
    (a7 : Memref sig .tc .vmem S512x4096 .bf16) (h7 : a7.IsWhole) (hc : cond0_0 i)
    (x0 : Vec F S512x4096 .f32) (x1 : Vec F S1x4096 .f32) (x2 : Vec F S4096x512 .f32) (x3 : Vec F S512x512 .f32) :
    out0_A_4 c i a2 h2 a3 h3 a4 h4 a5 h5 a6 h6 a7 h7 hc x0 x1 x2 x3 = k0_pay2 (k0_pay1 x0) x2 x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero zero2, View.readCov_unit_zero (S := S512x4096) _ zero2]
  simp only [View.readAt_eq_ld, h2.read_unread, h4.read_unread, h5.read_unread, View.ld_unit_zero (S := S512x4096) zero2,
    View.ld_unit_zero (S := S4096x512) zero2, View.ld_unit_zero (S := S512x512) zero2]

/-- It keeps the row block. -/
theorem kept_first (c : Dev nD) (i : grid0.Coords) (a2 : Memref sig .tc .vmem S512x4096 .f32) (h2 : a2.IsWhole)
    (a3 : Memref sig .tc .vmem S1x4096 .f32) (h3 : a3.IsWhole) (a4 : Memref sig .tc .vmem S4096x512 .f32) (h4 : a4.IsWhole)
    (a5 : Memref sig .tc .vmem S512x512 .f32) (h5 : a5.IsWhole) (a6 : Memref sig .tc .vmem S512x512 .f32) (h6 : a6.IsWhole)
    (a7 : Memref sig .tc .vmem S512x4096 .bf16) (h7 : a7.IsWhole) (hc : cond0_0 i)
    (x0 : Vec F S512x4096 .f32) (x1 : Vec F S1x4096 .f32) (x2 : Vec F S4096x512 .f32) (x3 : Vec F S512x512 .f32) :
    sout0_A_0 c i a2 h2 a3 h3 a4 h4 a5 h5 a6 h6 a7 h7 hc x0 x1 x2 x3 = k0_pay1 x0 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero zero2]
  simp only [View.readAt_eq_ld, h2.read_unread, View.ld_unit_zero (S := S512x4096) zero2]

/-- Its later points: the product of the kept block. -/
theorem out_later (c : Dev nD) (i : grid0.Coords) (a2 : Memref sig .tc .vmem S512x4096 .f32) (h2 : a2.IsWhole)
    (a3 : Memref sig .tc .vmem S1x4096 .f32) (h3 : a3.IsWhole) (a4 : Memref sig .tc .vmem S4096x512 .f32) (h4 : a4.IsWhole)
    (a5 : Memref sig .tc .vmem S512x512 .f32) (h5 : a5.IsWhole) (a6 : Memref sig .tc .vmem S512x512 .f32) (h6 : a6.IsWhole)
    (a7 : Memref sig .tc .vmem S512x4096 .bf16) (h7 : a7.IsWhole) (hc : ¬ cond0_0 i)
    (x0 : Vec F S512x4096 .f32) (x1 : Vec F S1x4096 .f32) (x2 : Vec F S4096x512 .f32) (x3 : Vec F S512x512 .f32)
    (xs : Vec F S512x4096 .bf16) :
    out0_B_4 c i a2 h2 a3 h3 a4 h4 a5 h5 a6 h6 a7 h7 hc x0 x1 x2 x3 xs = k0_pay2 xs x2 x3 := by
  unfold out0_B_4
  rw [View.read_writes_eq_canon _ _ _ (cover0_B_4 c i a2 h2 a3 h3 a4 h4 a5 h5 a6 h6 a7 h7 hc x0 x1 x2 x3 xs)]
  unfold kernelRun0_B
  dsimp only
  sl_unfold_words
  rw [View.canon_unit_zero zero2]
  simp only [View.readAt_eq_ld, h7.read_unread, h4.read_unread, h5.read_unread, View.ld_unit_zero (S := S512x4096) zero2,
    View.ld_unit_zero (S := S4096x512) zero2, View.ld_unit_zero (S := S512x512) zero2]

/-- The first point of the row block point `n` works on. -/
def rowStart (n : ℕ) : ℕ := n - n % 4

/-- What every point leaves: the product of its row block with its columns, and the row block. -/
theorem point (c : Dev nD) : ∀ (n : ℕ) (hn : n < cfg0.N), outsAt0 m c n hn =
    (k0_pay2 (k0_pay1 (iblk m c 0 ⟨rowStart n, Nat.lt_of_le_of_lt (Nat.sub_le _ _) hn⟩)) (iblk m c 2 ⟨n, hn⟩) (iblk m c 3 ⟨n, hn⟩),
      k0_pay1 (iblk m c 0 ⟨rowStart n, Nat.lt_of_le_of_lt (Nat.sub_le _ _) hn⟩)) := by
  intro n
  induction n with
  | zero =>
    intro hn
    refine (outsAt0_A m c ⟨0, hn⟩ rfl).trans ?_
    rw [out_first, kept_first]
    rfl
  | succ n ih =>
    intro hn
    by_cases h0 : (n + 1) % 4 = 0
    · refine (outsAt0_A m c ⟨n + 1, hn⟩ h0).trans ?_
      rw [out_first, kept_first]
      have e : (⟨rowStart (n + 1), Nat.lt_of_le_of_lt (Nat.sub_le _ _) hn⟩ : Fin cfg0.N) = ⟨n + 1, hn⟩ :=
        Fin.ext (show n + 1 - (n + 1) % 4 = n + 1 by omega)
      rw [e]
    · refine (outsAt0_B m c ⟨n + 1, hn⟩ h0).trans ?_
      rw [out_later]
      have e : (⟨rowStart (n + 1), Nat.lt_of_le_of_lt (Nat.sub_le _ _) hn⟩ : Fin cfg0.N)
          = ⟨rowStart n, Nat.lt_of_le_of_lt (Nat.sub_le _ _) (Nat.lt_of_succ_lt hn)⟩ :=
        Fin.ext (show n + 1 - (n + 1) % 4 = n - n % 4 by omega)
      rw [e]
      have k := ih (Nat.lt_of_succ_lt hn)
      unfold sout0_B_0
      show (k0_pay2 (outsAt0 m c n _).2 _ _, (outsAt0 m c n _).2) = _
      rw [k]

end Cert.OutB

end
-- ==== Proof.OutB.Value.lean ====
/- The out-projection of the gated-delta layers over the extended reals: the kernel's result and the reference's are one array. -/
module

public import proofs.«01_k».proof.Defs
public import proofs.«01_k».proof.Proof.OutB.Blocks
public import proofs.«01_k».proof.Proof.Gen.OutGdnRefIdeal.Run
public import Idealize.ShloMosaic.Lib.Claim
public import Idealize.ShloMosaic.Lib.ValueLayout

@[expose] public section

set_option maxRecDepth 16384

noncomputable section

namespace Cert.OutB

open Cert.OutGdnIdeal Cert.OutGdnIdeal.Gen
open Idealize.ShloMosaic Idealize.ShloMosaic.TcCoe Idealize.SL.Sem
open Idealize.ShloMosaic.Pipeline (Dat)

variable (m : (ℓ : Loc nD τ sig) → Buf (Elt Ideal) ℓ)

/-- Column `k` of row `r` of the mixer's output. -/
def rowAt (o : Vec Ideal S4x2048x4096 .f32) (r : Fin 8192) (k : Fin 4096) : Elt Ideal .f32 :=
  o (ix3 (n0 := 4) (n1 := 2048) (n2 := 4096) ⟨r.val / 2048, by omega⟩ ⟨r.val % 2048, by omega⟩ k)

/-- The projection added to the residual. -/
def proj (o : Vec Ideal S4x2048x4096 .f32) (w : Vec Ideal S4096x2048 .f32)
    (x : Vec Ideal S8192x2048 .f32) : Vec Ideal S8192x2048 .f32 :=
  fun j => x j + ∑ k : Fin 4096, rowAt o (j 0) k * w (ix2 (n0 := 4096) (n1 := 2048) k (j 1))

/-- The kernel's left operand, as the host line makes it. -/
theorem entry_rows (c : Dev nD) (r : Fin 8192) (k : Fin 4096) :
    V m c main_v0 (ix2 (n0 := 8192) (n1 := 4096) r k) = rowAt (m ((c : Thread nD τ).loc main_arg0)) r k := by
  entry_read
  unfold rowAt
  pointwise

/-- Where the blocks of each point lie. -/
theorem blocks_at : ∀ t : Fin cfg0.N,
    (win0_0.index t (0 : Fin 2) = t.val / 4 ∧ win0_0.index t (1 : Fin 2) = 0)
    ∧ (win0_2.index t (0 : Fin 2) = 0 ∧ win0_2.index t (1 : Fin 2) = t.val % 4)
    ∧ (win0_3.index t (0 : Fin 2) = t.val / 4 ∧ win0_3.index t (1 : Fin 2) = t.val % 4) :=
  (by decide +kernel : ∀ t : Fin grid0.N, _)

/-- A row block's entry. -/
theorem rows_at (c : Dev nD) (t : Fin cfg0.N) (r : Fin 8192) (p : Fin 512) (k : Fin 4096)
    (h : r.val = 512 * (t.val / 4) + p.val) :
    (iblk m c 0 t : Vec Ideal S512x4096 .f32) (ix2 (n0 := 512) (n1 := 4096) p k) = V m c main_v0 (ix2 (n0 := 8192) (n1 := 4096) r k) := by
  obtain ⟨⟨e0, e1⟩, -, -⟩ := blocks_at t
  unfold iblk
  rw [View.read_apply]
  show V m c main_v0 _ = V m c main_v0 _
  refine congrArg (V m c main_v0) (funext fun a => Fin.ext ?_)
  match a with
  | ⟨0, _⟩ => show win0_0.index t 0 * 512 + 1 * p.val = r.val; rw [e0]; omega
  | ⟨1, _⟩ => show win0_0.index t 1 * 4096 + 1 * k.val = k.val; rw [e1]; omega

/-- A column block's entry. -/
theorem cols_at (c : Dev nD) (t : Fin cfg0.N) (k : Fin 4096) (q : Fin 512) (s : Fin 2048)
    (h : s.val = 512 * (t.val % 4) + q.val) :
    (iblk m c 2 t : Vec Ideal S4096x512 .f32) (ix2 (n0 := 4096) (n1 := 512) k q)
      = m ((c : Thread nD τ).loc main_arg1) (ix2 (n0 := 4096) (n1 := 2048) k s) := by
  obtain ⟨-, ⟨e0, e1⟩, -⟩ := blocks_at t
  unfold iblk
  rw [View.read_apply]
  show V m c main_arg1 _ = _
  rw [V_main_arg1]
  refine congrArg (m ((c : Thread nD τ).loc main_arg1)) (funext fun a => Fin.ext ?_)
  match a with
  | ⟨0, _⟩ => show win0_2.index t 0 * 4096 + 1 * k.val = k.val; rw [e0]; omega
  | ⟨1, _⟩ => show win0_2.index t 1 * 512 + 1 * q.val = s.val; rw [e1]; omega

/-- A residual block's entry. -/
theorem res_at (c : Dev nD) (t : Fin cfg0.N) (j : S8192x2048.Idx) (y : S512x512.Idx)
    (h0 : (j 0).val = 512 * (t.val / 4) + (y 0).val) (h1 : (j 1).val = 512 * (t.val % 4) + (y 1).val) :
    (iblk m c 3 t : Vec Ideal S512x512 .f32) y = m ((c : Thread nD τ).loc main_arg2) j := by
  obtain ⟨-, -, ⟨e0, e1⟩⟩ := blocks_at t
  unfold iblk
  rw [View.read_apply]
  show V m c main_arg2 _ = _
  rw [V_main_arg2]
  refine congrArg (m ((c : Thread nD τ).loc main_arg2)) (funext fun a => Fin.ext ?_)
  match a with
  | ⟨0, _⟩ => show win0_3.index t 0 * 512 + 1 * (y 0).val = (j 0).val; rw [e0]; omega
  | ⟨1, _⟩ => show win0_3.index t 1 * 512 + 1 * (y 1).val = (j 1).val; rw [e1]; omega

/-- A point's product at an entry. -/
theorem pay_at (x : Vec Ideal S512x4096 .f32) (w : Vec Ideal S4096x512 .f32) (z : Vec Ideal S512x512 .f32) (y : S512x512.Idx) :
    k0_pay2 (k0_pay1 x) w z y = z y + ∑ k : Fin 4096, x (ix2 (n0 := 512) (n1 := 4096) (y 0) k) * w (ix2 (n0 := 4096) (n1 := 512) k (y 1)) := by
  pointwise [k0_pay2, k0_pay1]

/-- The kernel's result. -/
theorem kernel_value (c : Dev nD) : Cert.OutGdnIdeal.Value.G4 m c
    = proj (m ((c : Thread nD τ).loc main_arg0)) (m ((c : Thread nD τ).loc main_arg1)) (m ((c : Thread nD τ).loc main_arg2)) := by
  funext j
  have hj0 : (j 0).val < 8192 := (j 0).isLt
  have hj1 : (j 1).val < 2048 := (j 1).isLt
  have hN : cfg0.N = 64 := N_0
  have hp : Cert.OutGdnIdeal.Value.pt4Of j = 4 * ((j 0).val / 512) + (j 1).val / 512 := by
    show 4 * ((j 0).val / 512 - 0) + 1 * ((j 1).val / 512 - 0) = _
    omega
  have hlt : Cert.OutGdnIdeal.Value.pt4Of j < cfg0.N := by rw [hp]; omega
  have hs : rowStart (Cert.OutGdnIdeal.Value.pt4Of j) = 4 * ((j 0).val / 512) := by
    unfold rowStart; rw [hp]; omega
  unfold Cert.OutGdnIdeal.Value.G4
  rw [dif_pos hlt, ← Cert.OutGdnIdeal.Value.outsAt0_sweep m c _ hlt, point m c _ hlt]
  dsimp only
  refine (pay_at _ _ _ _).trans ?_
  unfold proj
  refine congrArg₂ (· + ·) ?_ (Finset.sum_congr rfl fun k _ => congrArg₂ (· * ·) ?_ ?_)
  · refine res_at m c _ j _ ?_ ?_
    · show (j 0).val = 512 * (Cert.OutGdnIdeal.Value.pt4Of j / 4) + (j 0).val % 512; rw [hp]; omega
    · show (j 1).val = 512 * (Cert.OutGdnIdeal.Value.pt4Of j % 4) + (j 1).val % 512; rw [hp]; omega
  · refine (rows_at m c _ (j 0) _ k ?_).trans (entry_rows m c (j 0) k)
    show (j 0).val = 512 * (rowStart (Cert.OutGdnIdeal.Value.pt4Of j) / 4) + (j 0).val % 512; rw [hs]; omega
  · refine cols_at m c _ k _ (j 1) ?_
    show (j 1).val = 512 * (Cert.OutGdnIdeal.Value.pt4Of j % 4) + (j 1).val % 512; rw [hp]; omega

/-- The reference's result. -/
theorem reference_value (o : FVec Ideal S4x2048x4096 .f32) (w : FVec Ideal S4096x2048 .f32)
    (x : FVec Ideal S8192x2048 .f32) (h : Cert.OutGdnRefIdeal.S4x2048x2048.ShapeCasts S8192x2048) :
    addf (F := Ideal) (s := S8192x2048) (φ := .f32) x (shapeCast S8192x2048 (Host.dotGeneral (F := Ideal) (φ₁ := .f32) (φ₂ := .f32)
      Cert.OutGdnRefIdeal.dot_S4x2048x4096_S4096x2048_S4x2048x2048_2_0_01_1_n_n none o w) h) = proj o w x := by
  funext j
  unfold proj rowAt
  pointwise

/-- The claim: from the same arguments both runs end with the same result. -/
theorem algebraic : @Cert.algebraic_OutGdnIdeal_OutGdnRefIdeal Cert.OutGdnIdeal.Gen.facts Cert.OutGdnRefIdeal.Gen.facts := by
  intro m g m' g' _ hagree
  refine ⟨fun c => proj (m ((c : Thread nD τ).loc main_arg0)) (m ((c : Thread nD τ).loc main_arg1)) (m ((c : Thread nD τ).loc main_arg2)), ?_, ?_⟩
  · refine (θ_run _ _ _).mono (fun r h c => ?_) (Cert.OutGdnIdeal.Value.run (F := Ideal) m g)
    obtain ⟨h, k⟩ := h c
    exact ⟨h.trans (kernel_value m c), k⟩
  · refine (θ_run _ _ _).mono (fun r h c => ?_) (Cert.OutGdnRefIdeal.Value.run (F := Ideal) m' g')
    obtain ⟨h, k⟩ := h c
    refine ⟨h.trans ?_, k⟩
    obtain ⟨e0, e1, e2⟩ := hagree c
    rw [e0, e1, e2]
    exact reference_value _ _ _ _

end Cert.OutB

end
-- ==== Proof.Even0.Body.lean ====
/- The in-projection of layer 0's body: at a row's first point it normalises the rows into its scratch, and at every point it
   multiplies the scratch by a block of columns. -/
module

public import proofs.«01_k».proof.Proof.Gen.InEven0Ideal.Frame
public import proofs.«01_k».proof.Proof.In.Plain
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.Even0

open Cert.InEven0Ideal Cert.InEven0Ideal.Gen
open Cert.In (normRows prodCols normOf entry prod_at norm_at read_store load_store zero2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- The condition of the body's branch: the point is its row's first. -/
abbrev firstCol (i : grid0.Coords) : Prop := (Scalar.cmpi .ne (Scalar.extui (Scalar.cmpi .eq (BitVec.ofNat 32 (i 1).val) 0#32)) 0#32) = 1#1

/-- It holds at the points whose number is a multiple of the number of column blocks. -/
theorem firstCol_iff : ∀ t : Fin cfg0.N, firstCol (grid0.coords t) ↔ t.val % 13 = 0 :=
  (fun t => by
    have ht : t.val < 208 := Nat.lt_of_lt_of_eq t.isLt N_0
    have e0 : (grid0.coords t 0).val = t.val / 13 % 16 := Pipeline.Grid.coords_val t 0 (by decide) rfl
    have e1 : (grid0.coords t 1).val = t.val / 1 % 13 := Pipeline.Grid.coords_val t 1 (by decide) rfl
    simp only [firstCol, e0, e1]
    word_cmp
   : ∀ t : Fin grid0.N, firstCol (grid0.coords t) ↔ t.val % 13 = 0)

set_option maxHeartbeats 4000000 in
/-- A row's first point: the scratch is left at the normalised rows, the output at their product with the columns. -/
theorem bodyFirst (c : Dev nD) (i : grid0.Coords)
    (arg2 : Memref sig .tc .vmem S512x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S512x512 .f32) (harg5 : arg5.IsWhole)
    (arg6 : Memref sig .tc .vmem S512x2048 .bf16) (harg6 : arg6.IsWhole) (hc : firstCol i)
    (x : Vec F S512x2048 .f32) (g : Vec F S1x2048 .f32) (w : Vec F S2048x512 .f32) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare g ∗ owns (c : Thread nD τ) arg4 fullShare w
            ∗ owns (c : Thread nD τ) arg5 fullShare (prodCols (normRows x g) w) ∗ owns (c : Thread nD τ) arg6 fullShare (normRows x g)) -∗ K ⟨⟩))
      ⊢ wp frame (wpE (defs₀ (F := F)) Variants.none c none) E (cc0_matmul i arg2 harg2 arg3 harg3 arg4 harg4 arg5 harg5 arg6 harg6) K := by
  unfold cc0_matmul
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  have ex : View.readAt (Elt F) arg2.view (Rect.unit (s := S512x2048) ![0, 0] S512x2048.size inb_S512x2048_S512x2048_0_0).toLoadRect (harg2.unread x) = x := by
    rw [View.readAt_eq_ld, harg2.read_unread, View.ld_unit_zero (S := S512x2048) zero2]
  have eg : View.readAt (Elt F) arg3.view (Rect.unit (s := S1x2048) ![0, 0] S1x2048.size inb_S1x2048_S1x2048_0_0).toLoadRect (harg3.unread g) = g := by
    rw [View.readAt_eq_ld, harg3.read_unread, View.ld_unit_zero (S := S1x2048) zero2]
  have ew : View.readAt (Elt F) arg4.view (Rect.unit (s := S2048x512) ![0, 0] S2048x512.size inb_S2048x512_S2048x512_0_0).toLoadRect (harg4.unread w) = w := by
    rw [View.readAt_eq_ld, harg4.read_unread, View.ld_unit_zero (S := S2048x512) zero2]
  have eh : bodyFirst.sl.v27 c arg2 harg2 arg3 harg3 x g = normRows x g := by
    unfold bodyFirst.sl.v27
    refine (shapeCast_self _ _).trans ?_
    refine (show _ = normRows (shapeCast S512x2048 (View.readAt (Elt F) arg2.view (Rect.unit (s := S512x2048) ![0, 0] S512x2048.size inb_S512x2048_S512x2048_0_0).toLoadRect (harg2.unread x)) shapeCasts_S512x2048_S512x2048)
      (shapeCast S1x2048 (View.readAt (Elt F) arg3.view (Rect.unit (s := S1x2048) ![0, 0] S1x2048.size inb_S1x2048_S1x2048_0_0).toLoadRect (harg3.unread g)) shapeCasts_S1x2048_S1x2048) from rfl).trans ?_
    exact congrArg₂ normRows ((shapeCast_self _ _).trans ex) ((shapeCast_self _ _).trans eg)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_store arg5 f3 zero2 _ _).trans ?_
    unfold bodyFirst.sl.v6 bodyFirst.sl.v3 bodyFirst.sl.v5 bodyFirst.sl.cst bodyFirst.sl.H4_1 prodCols
    rw [load_store arg6 zero2, eh, ew]
    rfl
  iexists _; isplitr; swap; · iexact H4
  ipureintro
  unfold bodyFirst.sl.H4_1
  refine (read_store arg6 f4 zero2 _ _).trans ?_
  exact eh
set_option maxHeartbeats 4000000 in
/-- Any other point: the scratch stays, the output is left at its product with the columns. -/
theorem bodyRest (c : Dev nD) (i : grid0.Coords)
    (arg2 : Memref sig .tc .vmem S512x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S512x512 .f32) (harg5 : arg5.IsWhole)
    (arg6 : Memref sig .tc .vmem S512x2048 .bf16) (harg6 : arg6.IsWhole) (hc : ¬ firstCol i)
    (x : Vec F S512x2048 .f32) (g : Vec F S1x2048 .f32) (w : Vec F S2048x512 .f32) (h : Vec F S512x2048 .bf16) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ owns (c : Thread nD τ) arg6 fullShare h
        ∗ (iprop(owns (c : Thread nD τ) arg2 fullShare x ∗ owns (c : Thread nD τ) arg3 fullShare g ∗ owns (c : Thread nD τ) arg4 fullShare w
            ∗ owns (c : Thread nD τ) arg5 fullShare (prodCols h w) ∗ owns (c : Thread nD τ) arg6 fullShare h) -∗ K ⟨⟩))
      ⊢ wp frame (wpE (defs₀ (F := F)) Variants.none c none) E (cc0_matmul i arg2 harg2 arg3 harg3 arg4 harg4 arg5 harg5 arg6 harg6) K := by
  unfold cc0_matmul
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  have ew : View.readAt (Elt F) arg4.view (Rect.unit (s := S2048x512) ![0, 0] S2048x512.size inb_S2048x512_S2048x512_0_0).toLoadRect (harg4.unread w) = w := by
    rw [View.readAt_eq_ld, harg4.read_unread, View.ld_unit_zero (S := S2048x512) zero2]
  have eh : View.readAt (Elt F) arg6.view (Rect.unit (s := S512x2048) ![0, 0] S512x2048.size inb_S512x2048_S512x2048_0_0).toLoadRect (harg6.unread h) = h := by
    rw [View.readAt_eq_ld, harg6.read_unread, View.ld_unit_zero (S := S512x2048) zero2]
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_store arg5 f3 zero2 _ _).trans ?_
    unfold bodyRest.sl.v6 bodyRest.sl.v5 bodyRest.sl.cst
    unfold prodCols
    rw [ew, eh]
    rfl
  iexists _; isplitr; · ipureintro; exact harg6.read_unread _
  iexact H4

end Cert.Even0

end
-- ==== Proof.Even0.Frame.lean ====
/- The in-projection of layer 0's run: what every buffer holds at each grid point, and the frame. -/
module

public import proofs.«01_k».proof.Proof.Even0.Body

@[expose] public section

set_option maxRecDepth 16384

noncomputable section

namespace Cert.Even0

open Cert.InEven0Ideal Cert.InEven0Ideal.Gen
open Cert.In (normRows prodCols normOf entry prod_at norm_at read_store load_store zero2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of a point's row of blocks. -/
def rowPt (t : Fin cfg0.N) : Fin cfg0.N := ⟨t.val / 13 * 13, lt_of_le_of_lt (Nat.div_mul_le_self _ _) t.isLt⟩

theorem rowPt_of_first {t : Fin cfg0.N} (h : t.val % 13 = 0) : rowPt t = t := Fin.ext (by unfold rowPt; simp only; omega)

theorem rowPt_succ {s t : Fin cfg0.N} (hs : s.val + 1 = t.val) (h : ¬ t.val % 13 = 0) : rowPt s = rowPt t :=
  Fin.ext (by unfold rowPt; simp only; omega)

/-- The normalised rows of a point's row of blocks. -/
def scr (c : Dev nD) (t : Fin cfg0.N) : FVec F S512x2048 .bf16 := normRows (iblk m c 0 (rowPt t)) (iblk m c 1 (rowPt t))

/-- The columns staged at a point: the block the fetch moves, over what the buffer held. -/
def cols (c : Dev nD) (t : Fin cfg0.N) (d : Vec F S2048x512 .f32) : Vec F S2048x512 .f32 :=
  win0_2.fill (grid0.coords t) d (iblk m c 2 t)

/-- Zeros, named where a buffer's contents are nobody's business. -/
def zeros : Vec F S2048x512 .f32 := fun _ => Scalar.ofBits .f32 0x00000000#32

abbrev ms0 (t : Fin cfg0.N) : Memref sig .tc .vmem S512x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x512 .f32 := win0_2.stage (cfg0.slots t 2)
abbrev ms3 (t : Fin cfg0.N) : Memref sig .tc .vmem S512x512 .f32 := win0_3.stage (cfg0.slots t 3)
abbrev scM : Memref sig .tc .vmem S512x2048 .bf16 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The region's invariant before point `n`: the scratch holds the rows the point before left in it. -/
def PhiS (c : Dev nD) : (n : ℕ) → n ≤ cfg0.N → sProp 𝕄
  | 0, _ => Pipeline.ΦA spec0 c
  | n + 1, h => iprop(owns (c : Thread nD τ) scM fullShare (scr m c ⟨n, h⟩) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) scM fullShare (scr m c ⟨n - 1, by omega⟩) ∗ (∃ r, prngReg c r)) := by
  obtain ⟨k, rfl⟩ := Nat.exists_eq_succ_of_ne_zero hz; rfl

/-- The proof data: the arrays as the region finds them, what each point leaves in the staging buffers, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => cols m c t zeros
    | ⟨3, _⟩ => prodCols (scr m c t) (cols m c t zeros)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = cols m c t zeros := by dsimp only [dats]
theorem after_3 (c : Dev nD) (t : Fin cfg0.N) : (dats m 0 c).after 3 t = prodCols (scr m c t) (cols m c t zeros) := by dsimp only [dats]

theorem before_0 (c : Dev nD) (t : Fin cfg0.N) (d) : (dats m 0 c).before 0 t d = iblk m c 0 t :=
  before0_0_of m _ (A_eq m c 0) (after_0 m c) t d
theorem before_1 (c : Dev nD) (t : Fin cfg0.N) (d) : (dats m 0 c).before 1 t d = iblk m c 1 t :=
  before0_1_of m _ (A_eq m c 1) (after_1 m c) t d
theorem before_2 (c : Dev nD) (t : Fin cfg0.N) (d) : (dats m 0 c).before 2 t d = cols m c t d := by
  unfold Dat.before; rw [if_pos (fetch0_2 t)]; rfl

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- What it leaves there, whatever lay in the columns' buffer past the array's end. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (cols m c t d)
        ∗ owns (c : Thread nD τ) (ms3 t) fullShare (prodCols (scr m c t) (cols m c t d))))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1]
  rw [show (dats m 0 c).Φ t.succ = iprop(owns (c : Thread nD τ) scM fullShare (scr m c t) ∗ (∃ r, prngReg c r)) from rfl]
  by_cases h0 : t.val % 13 = 0
  · have es : scr m c t = normRows (iblk m c 0 t) (iblk m c 1 t) := by unfold scr; rw [rowPt_of_first h0]
    have hΦ : (dats m 0 c).Φ t.castSucc ⊢ iprop((∃ d, owns (c : Thread nD τ) scM fullShare d) ∗ (∃ r, prngReg c r)) := by
      rw [PhiS_castSucc m c t]
      by_cases hz : t.val = 0
      · rw [PhiS_zero m c _ _ hz, PhiA_eq]
      · rw [PhiS_pos m c _ _ hz]
        iintro ⟨H, Hg⟩
        isplitl [H]
        · iexists _; iexact H
        iexact Hg
    rw [es]
    iintro ⟨HΦ, Ho, ⟨%d0, H0⟩, ⟨%d1, H1⟩, ⟨%d2, H2⟩, ⟨%d3, H3⟩⟩
    ihave HΦ := hΦ $$ HΦ
    icases HΦ with ⟨HS, Hg⟩
    iapply (bodyFirst c (grid0.coords t) _ _ _ _ _ _ _ _ _ _ ((firstCol_iff t).mpr h0) (iblk m c 0 t) (iblk m c 1 t) (cols m c t d2) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    iexists d2
    isplitl [H2]; · iexact H2
    iexact H3
  · have hz : t.val ≠ 0 := fun h => h0 (by rw [h])
    have es : scr m c ⟨t.val - 1, by omega⟩ = scr m c t := by
      unfold scr; rw [rowPt_succ (s := ⟨t.val - 1, by omega⟩) (t := t) (by simp only; omega) h0]
    rw [PhiS_castSucc m c t, PhiS_pos m c _ _ hz, es]
    iintro ⟨⟨HS, Hg⟩, Ho, ⟨%d0, H0⟩, ⟨%d1, H1⟩, ⟨%d2, H2⟩, ⟨%d3, H3⟩⟩
    iapply (bodyRest c (grid0.coords t) _ _ _ _ _ _ _ _ _ _ (fun h => h0 ((firstCol_iff t).mp h)) (iblk m c 0 t) (iblk m c 1 t) (cols m c t d2) (scr m c t) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    iexists d2
    isplitl [H2]; · iexact H2
    iexact H3

/-- The body table's row at point `t`'s slots. -/
theorem defs₀_row (t : Fin cfg0.N) : defs₀ (F := F) .tc cfg0.body (cfg0.bodyArgs t (cfg0.slots t)) = bodyAt0 t := by
  unfold defs₀; rw [Defs.onTc_tc]

/-- The buffers whose contents the frame does not follow: the result's. -/
def fgt : Fin cfg0.W → Bool := ![false, false, false, true]

theorem leaves_2 (c : Dev nD) (t : Fin cfg0.N) (d : Vec F S2048x512 .f32) :
    cols m c t d = win0_2.fill (grid0.coords t) d (win0_2.cut (grid0.coords t) (cols m c t zeros)) := by
  unfold cols; rw [Window.cut_fill]

/-- The body's post with the result's contents forgotten. -/
def postForget (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ X, owns (c : Thread nD τ) (ms3 t) fullShare X))

theorem post_forget (c : Dev nD) (t : Fin cfg0.N) : bodyPost m c t ⊢ postForget m c t := by
  unfold bodyPost postForget
  rw [after_2]
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← leaves_2]
    iexact H2
  iexists _; iexact H3

/-- The library's body obligation with the result's contents forgotten. -/
theorem obligation_forget (c : Dev nD) : BodyObligationLoose (dats (F := F) m 0 c) (defs₀ (F := F)) Variants.none () Set.univ fgt := fun t => by
  rw [bigSep_W0, bigSep_W0, defs₀_row]
  exact triple_restated (triple_restated (sound_body m c t) rfl .rfl fun _ => post_forget m c t) rfl .rfl fun _ => .rfl

/-- The body's post with the result's contents known inside the array. -/
def postExact (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ d, owns (c : Thread nD τ) (ms3 t) fullShare (win0_3.fill (grid0.coords t) d (win0_3.cut (grid0.coords t) ((dats m 0 c).after 3 t)))))

/-- What a block of the product holds inside the array does not depend on the columns past it. -/
def CutsAgree : Prop := ∀ (c : Dev nD) (t : Fin cfg0.N) (d : Vec F S2048x512 .f32),
  win0_3.cut (grid0.coords t) (prodCols (scr m c t) (cols m c t zeros)) = win0_3.cut (grid0.coords t) (prodCols (scr m c t) (cols m c t d))

theorem post_exact (hc : CutsAgree m) (c : Dev nD) (t : Fin cfg0.N) : bodyPost m c t ⊢ postExact m c t := by
  unfold bodyPost postExact
  rw [after_2, after_3]
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← leaves_2]
    iexact H2
  iexists (prodCols (scr m c t) (cols m c t d))
  rw [hc c t d, Window.fill_cut]
  iexact H3

/-- The library's body obligation, where the products agree inside the array. -/
theorem obligation_exact (hc : CutsAgree m) (c : Dev nD) :
    BodyObligationLoose (dats (F := F) m 0 c) (defs₀ (F := F)) Variants.none () Set.univ := fun t => by
  rw [bigSep_W0, bigSep_W0, defs₀_row]
  exact triple_restated (triple_restated (sound_body m c t) rfl .rfl fun _ => post_exact m hc c t) rfl
    (by
      show _ ⊢ bodyPre m c t
      unfold bodyPre
      iintro ⟨HΦ, Ho, H0, H1, H2, ⟨%d, H3⟩⟩
      isplitl [HΦ]; · iexact HΦ
      isplitl [Ho]; · iexact Ho
      isplitl [H0]; · iexact H0
      isplitl [H1]; · iexact H1
      isplitl [H2]; · iexact H2
      iexists _; iexact H3) fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 208 := N_0; omega), PhiA_eq]
  iintro ⟨HS, Hg⟩
  isplitl [HS]
  · iexists _; iexact HS
  iexact Hg

/-- The buffers the host lines after the call write. -/
def tail : Finset (Ref sig .tc) :=
  {main_v3, main_v4, main_v5, main_v6, main_v7, main_v8, main_v9, main_v10, main_v11, main_v12, main_v13, main_v14, main_v15, main_v16, main_v17, main_v18, main_v19, main_v20, main_v21, main_v22, main_cst, main_cst_0, main_cst_1}

/-- They write no other. -/
theorem tail_writes : ∀ ops ∈ ([hostOps1] : List (List (HloOp τ sig (Elt F)))), ∀ op ∈ ops,
    ∀ b : Ref sig .tc, Proc.devRef .tc b ∈ op.writes → b ∈ tail := by
  intro ops hops op hop b hb
  simp only [List.mem_cons, List.mem_nil_iff, or_false] at hops
  rcases hops with rfl
  simp only [hostOps1, List.mem_cons, List.mem_nil_iff, or_false] at hop
  by_contra hn
  rcases hop with rfl | rfl | rfl | rfl | rfl | rfl | rfl | rfl | rfl | rfl | rfl | rfl | rfl | rfl | rfl | rfl | rfl | rfl | rfl | rfl | rfl | rfl | rfl
  all_goals
    simp only [StableHlo.nullary_writes, StableHlo.unary_writes, StableHlo.binary_writes, StableHlo.reshape_writes, Finset.mem_singleton] at hb
    exact StableHlo.devRef_ne_of_ne (fun e => hn (by rw [e]; decide)) hb

set_option backward.isDefEq.respectTransparency.types false in
/-- The launch, the result's contents forgotten. -/
theorem run_forget : θ_run defs (onTc (τ := τ) (main (F := F))) (s₀ m ρ)
    (fun r => RDat.FramePostR cfg0 (fun c => (dats m 0 c).toRForget fgt) tail (V m) r ∧ r.2.sem = fun _ => 0) :=
  Pipeline.θ_run_frame_around_T_track_forget (Q' := _) cfgs (dats m) (0 : Fin 1) launch0 defs₀ Variants.none fgt tail m ρ main
    (hbody := obligation_forget m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hin := hin m) (hout := hout m) (hQ' := fun _ h => h)

set_option backward.isDefEq.respectTransparency.types false in
/-- The launch, where the products agree inside the array. -/
theorem run_exact (hc : CutsAgree m) : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := obligation_exact m hc) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- A buffer no host line after the call writes is one the run leaves as the call found it. -/
theorem kept {b : Ref sig .tc} (hb : b ∈ Pipeline.restRefs sig spec0) (hn : b ∉ tail) : b ∈ Pipeline.restRefs sig spec0 \ tail :=
  Finset.mem_sdiff.mpr ⟨hb, hn⟩

/-- THE FRAME: the program terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (kept (Pipeline.mem_restRefs_of main_arg0 (by decide) (by decide)) (by decide))).trans (V_main_arg0 m c),
      ((h.1 c).2 main_arg1 (kept (Pipeline.mem_restRefs_of main_arg1 (by decide) (by decide)) (by decide))).trans (V_main_arg1 m c),
      (((dats m 0 c).toRForget_arrAt_iff (w := 2) rfl _ _).mp ((h.1 c).1 2)).trans (((dats m 0 c).arrAt_in 2 rfl _).trans ((A_eq m c 2).trans (V_main_arg2 m c)))⟩, h.2⟩) (run_forget m ρ)

end Cert.Even0

end
-- ==== Proof.Even0.Bits.lean ====
/- The in-projection of layer 0 at the machine's words: it is the idealized program's own text, so the frame carries over. -/
module

public import proofs.«01_k».proof.Defs
public import proofs.«01_k».proof.Proof.Even0.Frame
public import proofs.«01_k».proof.Proof.Gen.InEven0.Launch

@[expose] public section

set_option maxRecDepth 16384

noncomputable section

namespace Cert.Even0

open Idealize.ShloMosaic Idealize.SL.Sem

variable {F : FTy → Type} [FloatOps F]

/-- The two programs' bodies are one. -/
theorem body_table : Cert.InEven0.defs₀ (F := F) = Cert.InEven0Ideal.defs₀ (F := F) := by
  unfold Cert.InEven0.defs₀ Cert.InEven0Ideal.defs₀
  refine congrArg (Defs.onTc (nD := Cert.InEven0Ideal.nD) (τ := Cert.InEven0Ideal.τ) (sig := Cert.InEven0Ideal.sig)
    (Val := Elt F) (Λ := Cert.InEven0Ideal.Λ₀)) ?_
  funext l x
  obtain ⟨l, hl⟩ := l
  cases l with
  | zero => obtain ⟨t, s⟩ := x; rfl
  | succ n => exact absurd hl (Nat.not_lt.2 (Nat.le_add_left _ _))

/-- So are their tables. -/
theorem table : Cert.InEven0.defs (F := F) = Cert.InEven0Ideal.defs (F := F) :=
  congrArg (Pipeline.defs (Cert.InEven0Ideal.pcfgs (F := F))) body_table

/-- The frame of the program at the machine's words. -/
theorem frameBits : @Cert.quiescent_InEven0 Cert.InEven0.Gen.facts := by
  intro m g _
  rw [table]
  exact Cert.Even0.frame (F := Bits) m g

end Cert.Even0

end
-- ==== Proof.Even0.Value.lean ====
/- The in-projection of layer 0 over the extended reals: the kernel's result and the reference's are one array. -/
module

public import proofs.«01_k».proof.Defs
public import proofs.«01_k».proof.Proof.Even0.Frame
public import proofs.«01_k».proof.Proof.Gen.InEven0RefIdeal.Run
public import Idealize.ShloMosaic.Lib.Claim
public import Idealize.ShloMosaic.Lib.Pipeline.ValueKit
public import Idealize.ShloMosaic.Lib.Pointwise
public import Idealize.ShloMosaic.Lib.ValueIdx
public import Idealize.ShloMosaic.Lib.ValueLayout

@[expose] public section

set_option maxRecDepth 16384

noncomputable section

namespace Cert.Even0

open Cert.InEven0Ideal Cert.InEven0Ideal.Gen
open Cert.In (normRows prodCols normOf entry prod_at norm_at proj pageOf page_row lastOf flat)
open Idealize.ShloMosaic Idealize.ShloMosaic.TcCoe Idealize.SL.Sem
open Idealize.ShloMosaic.Pipeline (Dat Window)

variable (m : (ℓ : Loc nD τ sig) → Buf (Elt Ideal) ℓ)

/-- Where the blocks of each point lie, and how many of the last one's columns are in the array. -/
theorem blocks_at : ∀ t : Fin cfg0.N,
    (win0_0.index t (0 : Fin 2) = t.val / 13 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 13)
    ∧ (win0_3.index t (0 : Fin 2) = t.val / 13 ∧ win0_3.index t (1 : Fin 2) = t.val % 13)
    ∧ (win0_2.xsize (grid0.coords t) (0 : Fin 2) = 2048 ∧ win0_2.xsize (grid0.coords t) (1 : Fin 2) = min 512 (6432 - 512 * (t.val % 13)))
    ∧ (win0_3.xsize (grid0.coords t) (0 : Fin 2) = 512 ∧ win0_3.xsize (grid0.coords t) (1 : Fin 2) = min 512 (6432 - 512 * (t.val % 13))) :=
  (by decide +kernel : ∀ t : Fin grid0.N, _)

/-- A staged column inside the array. -/
theorem cols_at (c : Dev nD) (t : Fin cfg0.N) (d : Vec Ideal S2048x512 .f32) (k : Fin 2048) (q : Fin 512) (s : Fin 6432)
    (h : s.val = 512 * (t.val % 13) + q.val) :
    cols m c t d (ix2 (n0 := 2048) (n1 := 512) k q) = m ((c : Thread nD τ).loc main_arg2) (ix2 (n0 := 2048) (n1 := 6432) k s) := by
  obtain ⟨-, -, ⟨e0, e1⟩, -, ⟨x0, x1⟩, -⟩ := blocks_at t
  have hs : s.val < 6432 := s.isLt
  have hm : win0_2.moved (grid0.coords t) (ix2 (n0 := 2048) (n1 := 512) k q) = true := by
    refine (win0_2.moved_iff (grid0.coords t) _).mpr fun a => ?_
    match a with
    | ⟨0, _⟩ => show k.val < win0_2.xsize (grid0.coords t) (0 : Fin 2); rw [x0]; omega
    | ⟨1, _⟩ => show q.val < win0_2.xsize (grid0.coords t) (1 : Fin 2); rw [x1]; omega
  unfold cols Window.fill
  refine (dif_pos hm).trans ?_
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 2048 + 1 * k.val = k.val; rw [e0]; omega
  | ⟨1, _⟩ => show win0_2.index t 1 * 512 + 1 * q.val = s.val; rw [e1]; omega

/-- Inside the array a block of the product does not see the columns past it. -/
theorem cuts_agree : CutsAgree m := by
  intro c t d
  obtain ⟨-, -, -, -, -, ⟨x0, x1⟩⟩ := blocks_at t
  funext j
  have hj : (j 1).val < min 512 (6432 - 512 * (t.val % 13)) := lt_of_lt_of_eq (j 1).isLt x1
  refine (prod_at _ _ _).trans (Eq.trans ?_ (prod_at _ _ _).symm)
  refine Finset.sum_congr rfl fun k _ => congrArg₂ (· * ·) rfl ?_
  have hs : 512 * (t.val % 13) + (j 1).val < 6432 := by omega
  exact (cols_at m c t zeros k _ ⟨512 * (t.val % 13) + (j 1).val, hs⟩ rfl).trans (cols_at m c t d k _ ⟨512 * (t.val % 13) + (j 1).val, hs⟩ rfl).symm

/-- A staged row's entry. -/
theorem rows_at (c : Dev nD) (t : Fin cfg0.N) (r : Fin 8192) (p : Fin 512) (k : Fin 2048)
    (h : r.val = 512 * (t.val / 13) + p.val) :
    (iblk m c 0 t : Vec Ideal S512x2048 .f32) (ix2 (n0 := 512) (n1 := 2048) p k)
      = m ((c : Thread nD τ).loc main_arg0) (ix3 (n0 := 4) (n1 := 2048) (n2 := 2048) ⟨r.val / 2048, by omega⟩ ⟨r.val % 2048, by omega⟩ k) := by
  obtain ⟨⟨e0, e1⟩, -⟩ := blocks_at t
  refine Eq.trans (b := V m c main_v0 (ix2 (n0 := 8192) (n1 := 2048) r k)) ?_ ?_
  · unfold iblk
    rw [View.read_apply]
    show V m c main_v0 _ = V m c main_v0 _
    refine congrArg (V m c main_v0) (funext fun a => Fin.ext ?_)
    match a with
    | ⟨0, _⟩ => show win0_0.index t 0 * 512 + 1 * p.val = r.val; rw [e0]; omega
    | ⟨1, _⟩ => show win0_0.index t 1 * 2048 + 1 * k.val = k.val; rw [e1]; omega
  · unfold V V0
    rw [List.flatten_singleton]
    entry_read
    pointwise

/-- A staged gain. -/
theorem gain_at (c : Dev nD) (t : Fin cfg0.N) (k : Fin 2048) :
    (iblk m c 1 t : Vec Ideal S1x2048 .f32) (ix2 (n0 := 1) (n1 := 2048) 0 k) = m ((c : Thread nD τ).loc main_arg1) (ix1 (n0 := 2048) k) := by
  obtain ⟨-, ⟨e0, e1⟩, -⟩ := blocks_at t
  refine Eq.trans (b := V m c main_v1 (ix2 (n0 := 1) (n1 := 2048) 0 k)) ?_ ?_
  · unfold iblk
    rw [View.read_apply]
    show V m c main_v1 _ = V m c main_v1 _
    refine congrArg (V m c main_v1) (funext fun a => Fin.ext ?_)
    match a with
    | ⟨0, _⟩ => show win0_1.index t 0 * 1 + 1 * 0 = 0; rw [e0]
    | ⟨1, _⟩ => show win0_1.index t 1 * 2048 + 1 * k.val = k.val; rw [e1]; omega
  · unfold V V0
    rw [List.flatten_singleton]
    entry_read
    pointwise

/-- What a point leaves at an entry inside the array. -/
theorem out_at (c : Dev nD) (t : Fin cfg0.N) (y : S512x512.Idx) (J : S8192x6432.Idx)
    (h0 : (J 0).val = 512 * (t.val / 13) + (y 0).val) (h1 : (J 1).val = 512 * (t.val % 13) + (y 1).val) :
    prodCols (F := Ideal) (scr m c t) (cols m c t zeros) y
      = proj (m ((c : Thread nD τ).loc main_arg0)) (m ((c : Thread nD τ).loc main_arg1)) (m ((c : Thread nD τ).loc main_arg2)) J := by
  refine (prod_at _ _ _).trans ?_
  unfold proj
  refine Finset.sum_congr rfl fun k _ => congrArg₂ (· * ·) ?_ (cols_at m c t zeros k (y 1) (J 1) h1)
  unfold scr
  refine (norm_at _ _ _ _).trans ?_
  rw [gain_at]
  refine congrArg (fun f => normOf f _ k) (funext fun l => rows_at m c (rowPt t) (J 0) (y 0) l ?_)
  rw [h0]; unfold rowPt; simp only; omega

/-- The kernel's result. -/
theorem kernel_value (c : Dev nD) : (dats m 0 c).arrAt 3 cfg0.N
    = proj (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, ⟨e0, e1⟩, -, -⟩ := blocks_at t
  rw [after_3]
  refine out_at m c t (win0_3.xinj (grid0.coords t) y) _ ?_ ?_
  · show win0_3.index t 0 * 512 + 1 * (y 0).val = 512 * (t.val / 13) + (y 0).val; rw [e0]; omega
  · show win0_3.index t 1 * 512 + 1 * (y 1).val = 512 * (t.val % 13) + (y 1).val; rw [e1]; omega

/-- The rows as the call finds them. -/
theorem entry_flat (c : Dev nD) : (V m c main_v0 : FVec Ideal S8192x2048 .f32) = flat (m ((c : Thread nD τ).loc main_arg0)) := by
  funext j
  unfold flat V V0
  rw [List.flatten_singleton]
  entry_read
  pointwise

/-- The host lines after the call: the key pages. -/
theorem suffix_keys (W : Valuation τ sig (Elt Ideal)) (A : Vec Ideal S8192x6432 .f32)
    (hW : (W (Proc.devRef .tc main_v2) : FVec Ideal S8192x6432 .f32) = A) :
    (StableHlo.after hostOps1 W (Proc.devRef .tc main_v4) : FVec Ideal S4x16x128x8x128 .f32) = pageOf A 1024 (by omega) := by
  after_reads_simp
  rw [hW]
  funext j
  unfold pageOf
  pointwise

/-- The value pages. -/
theorem suffix_values (W : Valuation τ sig (Elt Ideal)) (A : Vec Ideal S8192x6432 .f32)
    (hW : (W (Proc.devRef .tc main_v2) : FVec Ideal S8192x6432 .f32) = A) :
    (StableHlo.after hostOps1 W (Proc.devRef .tc main_v6) : FVec Ideal S4x16x128x8x128 .f32) = pageOf A 2048 (by omega) := by
  after_reads_simp
  rw [hW]
  funext j
  unfold pageOf
  pointwise

set_option maxHeartbeats 1600000 in
/-- The last rows. -/
theorem suffix_last (W : Valuation τ sig (Elt Ideal)) (x : Vec Ideal S4x2048x2048 .f32) (g : Vec Ideal S2048 .f32)
    (hx : (W (Proc.devRef .tc main_v0) : FVec Ideal S8192x2048 .f32) = flat x)
    (hg : (W (Proc.devRef .tc main_arg1) : FVec Ideal S2048 .f32) = g) :
    (StableHlo.after hostOps1 W (Proc.devRef .tc main_v22) : FVec Ideal S4x2048 .f32) = lastOf x g := by
  after_reads_simp
  rw [hx, hg]
  funext j
  unfold lastOf normOf flat
  pointwise
  have h : (j 0).val < 4 := (j 0).isLt
  have e0 : ((j 0).val * 2048 + 2047) / 2048 = (j 0).val := by omega
  have e1 : ((j 0).val * 2048 + 2047) % 2048 = 2047 := by omega
  simp only [e0, e1, Fin.eta]
  rfl

/-- The call's arrays are different buffers. -/
theorem arrays_inj : Function.Injective (Pipeline.arrRef spec0) :=
  (by decide : ∀ w w', Pipeline.arrRef spec0 w = Pipeline.arrRef spec0 w' → w = w')

/-- The key pages after the host lines. -/
theorem value_keys (c : Dev nD) : Pipeline.afterTail₀ cfgs (dats m) 0 (V0 m) [hostOps1] c main_v4 = pageOf (proj (m ((c : Thread nD τ).loc main_arg0)) (m ((c : Thread nD τ).loc main_arg1)) (m ((c : Thread nD τ).loc main_arg2))) 1024 (by omega) := by
  unfold Pipeline.afterTail₀
  exact suffix_keys _ _ ((Pipeline.withArrays_arr spec0 arrays_inj c (V0 m c) (fun w => (dats m 0 c).arrAt w cfg0.N) 3).trans (kernel_value m c))

/-- The value pages after them. -/
theorem value_values (c : Dev nD) : Pipeline.afterTail₀ cfgs (dats m) 0 (V0 m) [hostOps1] c main_v6 = pageOf (proj (m ((c : Thread nD τ).loc main_arg0)) (m ((c : Thread nD τ).loc main_arg1)) (m ((c : Thread nD τ).loc main_arg2))) 2048 (by omega) := by
  unfold Pipeline.afterTail₀
  exact suffix_values _ _ ((Pipeline.withArrays_arr spec0 arrays_inj c (V0 m c) (fun w => (dats m 0 c).arrAt w cfg0.N) 3).trans (kernel_value m c))

/-- The last rows after them. -/
theorem value_last (c : Dev nD) : Pipeline.afterTail₀ cfgs (dats m) 0 (V0 m) [hostOps1] c main_v22 = lastOf (m ((c : Thread nD τ).loc main_arg0)) (m ((c : Thread nD τ).loc main_arg1)) := by
  unfold Pipeline.afterTail₀
  refine suffix_last _ _ _ ?_ ?_
  · exact (Pipeline.withArrays_arr spec0 arrays_inj c (V0 m c) (fun w => (dats m 0 c).arrAt w cfg0.N) 0).trans
      (((dats m 0 c).arrAt_in 0 rfl _).trans ((A_eq m c 0).trans (entry_flat m c)))
  · exact (Pipeline.withArrays_of_ne spec0 c (V0 m c) _ main_arg1 (by exact (by decide : ∀ w, Pipeline.arrRef spec0 w ≠ main_arg1))).trans (V_main_arg1 m c)

set_option maxHeartbeats 1600000 in
/-- The claim: from the same arguments both runs end with the same projection, pages and last rows. -/
theorem algebraic : @Cert.algebraic_InEven0Ideal_InEven0RefIdeal Cert.InEven0Ideal.Gen.facts Cert.InEven0RefIdeal.Gen.facts := by
  intro m g m' g' _ hagree
  refine ⟨fun c => (proj (m ((c : Thread nD τ).loc main_arg0)) (m ((c : Thread nD τ).loc main_arg1)) (m ((c : Thread nD τ).loc main_arg2))), fun c => pageOf (proj (m ((c : Thread nD τ).loc main_arg0)) (m ((c : Thread nD τ).loc main_arg1)) (m ((c : Thread nD τ).loc main_arg2))) 1024 (by omega), fun c => pageOf (proj (m ((c : Thread nD τ).loc main_arg0)) (m ((c : Thread nD τ).loc main_arg1)) (m ((c : Thread nD τ).loc main_arg2))) 2048 (by omega), fun c => lastOf (m ((c : Thread nD τ).loc main_arg0)) (m ((c : Thread nD τ).loc main_arg1)), ?_, ?_⟩
  · refine (θ_run _ _ _).mono (fun r h c => ?_) (run_exact (F := Ideal) m g (cuts_agree m))
    have k (b : Ref sig .tc) (hb : b ∈ Pipeline.restRefs sig spec0) := (h c).2 b hb
    exact ⟨((h c).1 3).trans (kernel_value m c),
      (k main_v4 (Pipeline.mem_restRefs_of main_v4 (by decide) (by decide))).trans (value_keys m c),
      (k main_v6 (Pipeline.mem_restRefs_of main_v6 (by decide) (by decide))).trans (value_values m c),
      (k main_v22 (Pipeline.mem_restRefs_of main_v22 (by decide) (by decide))).trans (value_last m c),
      (k main_arg0 (Pipeline.mem_restRefs_of main_arg0 (by decide) (by decide))).trans (W_main_arg0 m (dats m) c),
      (k main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩
  · refine (θ_run _ _ _).mono (fun r h c => ?_) (Cert.InEven0RefIdeal.Value.run (F := Ideal) m' g')
    obtain ⟨h0, h1, h2, h3, k⟩ := h c
    obtain ⟨e0, e1, e2⟩ := hagree c
    refine ⟨h0.trans ?_, h1.trans ?_, h2.trans ?_, h3.trans ?_, k⟩
    · rw [e0, e1, e2]
      funext j
      unfold proj normOf
      pointwise
    · rw [e0, e1, e2]
      funext j
      unfold pageOf proj normOf
      pointwise
      obtain ⟨r0, r1⟩ := page_row (j 0) (j 1) (j 2)
      simp only [r0, r1]
      rfl
    · rw [e0, e1, e2]
      funext j
      unfold pageOf proj normOf
      pointwise
      obtain ⟨r0, r1⟩ := page_row (j 0) (j 1) (j 2)
      simp only [r0, r1]
      rfl
    · rw [e0, e1]
      funext j
      unfold lastOf normOf
      pointwise

end Cert.Even0

end
-- ==== Proof.Even2.Body.lean ====
/- The in-projection of layer 2's body: at a row's first point it normalises the rows into its scratch, and at every point it
   multiplies the scratch by a block of columns. -/
module

public import proofs.«01_k».proof.Proof.Gen.InEven2Ideal.Frame
public import proofs.«01_k».proof.Proof.In.Plain
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.Even2

open Cert.InEven2Ideal Cert.InEven2Ideal.Gen
open Cert.In (normRows prodCols normOf entry prod_at norm_at read_store load_store zero2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- The condition of the body's branch: the point is its row's first. -/
abbrev firstCol (i : grid0.Coords) : Prop := (Scalar.cmpi .ne (Scalar.extui (Scalar.cmpi .eq (BitVec.ofNat 32 (i 1).val) 0#32)) 0#32) = 1#1

/-- It holds at the points whose number is a multiple of the number of column blocks. -/
theorem firstCol_iff : ∀ t : Fin cfg0.N, firstCol (grid0.coords t) ↔ t.val % 13 = 0 :=
  (fun t => by
    have ht : t.val < 208 := Nat.lt_of_lt_of_eq t.isLt N_0
    have e0 : (grid0.coords t 0).val = t.val / 13 % 16 := Pipeline.Grid.coords_val t 0 (by decide) rfl
    have e1 : (grid0.coords t 1).val = t.val / 1 % 13 := Pipeline.Grid.coords_val t 1 (by decide) rfl
    simp only [firstCol, e0, e1]
    word_cmp
   : ∀ t : Fin grid0.N, firstCol (grid0.coords t) ↔ t.val % 13 = 0)

set_option maxHeartbeats 4000000 in
/-- A row's first point: the scratch is left at the normalised rows, the output at their product with the columns. -/
theorem bodyFirst (c : Dev nD) (i : grid0.Coords)
    (arg2 : Memref sig .tc .vmem S512x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S512x512 .f32) (harg5 : arg5.IsWhole)
    (arg6 : Memref sig .tc .vmem S512x2048 .bf16) (harg6 : arg6.IsWhole) (hc : firstCol i)
    (x : Vec F S512x2048 .f32) (g : Vec F S1x2048 .f32) (w : Vec F S2048x512 .f32) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare g ∗ owns (c : Thread nD τ) arg4 fullShare w
            ∗ owns (c : Thread nD τ) arg5 fullShare (prodCols (normRows x g) w) ∗ owns (c : Thread nD τ) arg6 fullShare (normRows x g)) -∗ K ⟨⟩))
      ⊢ wp frame (wpE (defs₀ (F := F)) Variants.none c none) E (cc0_matmul i arg2 harg2 arg3 harg3 arg4 harg4 arg5 harg5 arg6 harg6) K := by
  unfold cc0_matmul
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  have ex : View.readAt (Elt F) arg2.view (Rect.unit (s := S512x2048) ![0, 0] S512x2048.size inb_S512x2048_S512x2048_0_0).toLoadRect (harg2.unread x) = x := by
    rw [View.readAt_eq_ld, harg2.read_unread, View.ld_unit_zero (S := S512x2048) zero2]
  have eg : View.readAt (Elt F) arg3.view (Rect.unit (s := S1x2048) ![0, 0] S1x2048.size inb_S1x2048_S1x2048_0_0).toLoadRect (harg3.unread g) = g := by
    rw [View.readAt_eq_ld, harg3.read_unread, View.ld_unit_zero (S := S1x2048) zero2]
  have ew : View.readAt (Elt F) arg4.view (Rect.unit (s := S2048x512) ![0, 0] S2048x512.size inb_S2048x512_S2048x512_0_0).toLoadRect (harg4.unread w) = w := by
    rw [View.readAt_eq_ld, harg4.read_unread, View.ld_unit_zero (S := S2048x512) zero2]
  have eh : bodyFirst.sl.v27 c arg2 harg2 arg3 harg3 x g = normRows x g := by
    unfold bodyFirst.sl.v27
    refine (shapeCast_self _ _).trans ?_
    refine (show _ = normRows (shapeCast S512x2048 (View.readAt (Elt F) arg2.view (Rect.unit (s := S512x2048) ![0, 0] S512x2048.size inb_S512x2048_S512x2048_0_0).toLoadRect (harg2.unread x)) shapeCasts_S512x2048_S512x2048)
      (shapeCast S1x2048 (View.readAt (Elt F) arg3.view (Rect.unit (s := S1x2048) ![0, 0] S1x2048.size inb_S1x2048_S1x2048_0_0).toLoadRect (harg3.unread g)) shapeCasts_S1x2048_S1x2048) from rfl).trans ?_
    exact congrArg₂ normRows ((shapeCast_self _ _).trans ex) ((shapeCast_self _ _).trans eg)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_store arg5 f3 zero2 _ _).trans ?_
    unfold bodyFirst.sl.v6 bodyFirst.sl.v3 bodyFirst.sl.v5 bodyFirst.sl.cst bodyFirst.sl.H4_1 prodCols
    rw [load_store arg6 zero2, eh, ew]
    rfl
  iexists _; isplitr; swap; · iexact H4
  ipureintro
  unfold bodyFirst.sl.H4_1
  refine (read_store arg6 f4 zero2 _ _).trans ?_
  exact eh
set_option maxHeartbeats 4000000 in
/-- Any other point: the scratch stays, the output is left at its product with the columns. -/
theorem bodyRest (c : Dev nD) (i : grid0.Coords)
    (arg2 : Memref sig .tc .vmem S512x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S512x512 .f32) (harg5 : arg5.IsWhole)
    (arg6 : Memref sig .tc .vmem S512x2048 .bf16) (harg6 : arg6.IsWhole) (hc : ¬ firstCol i)
    (x : Vec F S512x2048 .f32) (g : Vec F S1x2048 .f32) (w : Vec F S2048x512 .f32) (h : Vec F S512x2048 .bf16) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ owns (c : Thread nD τ) arg6 fullShare h
        ∗ (iprop(owns (c : Thread nD τ) arg2 fullShare x ∗ owns (c : Thread nD τ) arg3 fullShare g ∗ owns (c : Thread nD τ) arg4 fullShare w
            ∗ owns (c : Thread nD τ) arg5 fullShare (prodCols h w) ∗ owns (c : Thread nD τ) arg6 fullShare h) -∗ K ⟨⟩))
      ⊢ wp frame (wpE (defs₀ (F := F)) Variants.none c none) E (cc0_matmul i arg2 harg2 arg3 harg3 arg4 harg4 arg5 harg5 arg6 harg6) K := by
  unfold cc0_matmul
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  have ew : View.readAt (Elt F) arg4.view (Rect.unit (s := S2048x512) ![0, 0] S2048x512.size inb_S2048x512_S2048x512_0_0).toLoadRect (harg4.unread w) = w := by
    rw [View.readAt_eq_ld, harg4.read_unread, View.ld_unit_zero (S := S2048x512) zero2]
  have eh : View.readAt (Elt F) arg6.view (Rect.unit (s := S512x2048) ![0, 0] S512x2048.size inb_S512x2048_S512x2048_0_0).toLoadRect (harg6.unread h) = h := by
    rw [View.readAt_eq_ld, harg6.read_unread, View.ld_unit_zero (S := S512x2048) zero2]
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_store arg5 f3 zero2 _ _).trans ?_
    unfold bodyRest.sl.v6 bodyRest.sl.v5 bodyRest.sl.cst
    unfold prodCols
    rw [ew, eh]
    rfl
  iexists _; isplitr; · ipureintro; exact harg6.read_unread _
  iexact H4

end Cert.Even2

end
-- ==== Proof.Even2.Frame.lean ====
/- The in-projection of layer 2's run: what every buffer holds at each grid point, and the frame. -/
module

public import proofs.«01_k».proof.Proof.Even2.Body

@[expose] public section

set_option maxRecDepth 16384

noncomputable section

namespace Cert.Even2

open Cert.InEven2Ideal Cert.InEven2Ideal.Gen
open Cert.In (normRows prodCols normOf entry prod_at norm_at read_store load_store zero2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of a point's row of blocks. -/
def rowPt (t : Fin cfg0.N) : Fin cfg0.N := ⟨t.val / 13 * 13, lt_of_le_of_lt (Nat.div_mul_le_self _ _) t.isLt⟩

theorem rowPt_of_first {t : Fin cfg0.N} (h : t.val % 13 = 0) : rowPt t = t := Fin.ext (by unfold rowPt; simp only; omega)

theorem rowPt_succ {s t : Fin cfg0.N} (hs : s.val + 1 = t.val) (h : ¬ t.val % 13 = 0) : rowPt s = rowPt t :=
  Fin.ext (by unfold rowPt; simp only; omega)

/-- The normalised rows of a point's row of blocks. -/
def scr (c : Dev nD) (t : Fin cfg0.N) : FVec F S512x2048 .bf16 := normRows (iblk m c 0 (rowPt t)) (iblk m c 1 (rowPt t))

/-- The columns staged at a point: the block the fetch moves, over what the buffer held. -/
def cols (c : Dev nD) (t : Fin cfg0.N) (d : Vec F S2048x512 .f32) : Vec F S2048x512 .f32 :=
  win0_2.fill (grid0.coords t) d (iblk m c 2 t)

/-- Zeros, named where a buffer's contents are nobody's business. -/
def zeros : Vec F S2048x512 .f32 := fun _ => Scalar.ofBits .f32 0x00000000#32

abbrev ms0 (t : Fin cfg0.N) : Memref sig .tc .vmem S512x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x512 .f32 := win0_2.stage (cfg0.slots t 2)
abbrev ms3 (t : Fin cfg0.N) : Memref sig .tc .vmem S512x512 .f32 := win0_3.stage (cfg0.slots t 3)
abbrev scM : Memref sig .tc .vmem S512x2048 .bf16 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The region's invariant before point `n`: the scratch holds the rows the point before left in it. -/
def PhiS (c : Dev nD) : (n : ℕ) → n ≤ cfg0.N → sProp 𝕄
  | 0, _ => Pipeline.ΦA spec0 c
  | n + 1, h => iprop(owns (c : Thread nD τ) scM fullShare (scr m c ⟨n, h⟩) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) scM fullShare (scr m c ⟨n - 1, by omega⟩) ∗ (∃ r, prngReg c r)) := by
  obtain ⟨k, rfl⟩ := Nat.exists_eq_succ_of_ne_zero hz; rfl

/-- The proof data: the arrays as the region finds them, what each point leaves in the staging buffers, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => cols m c t zeros
    | ⟨3, _⟩ => prodCols (scr m c t) (cols m c t zeros)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = cols m c t zeros := by dsimp only [dats]
theorem after_3 (c : Dev nD) (t : Fin cfg0.N) : (dats m 0 c).after 3 t = prodCols (scr m c t) (cols m c t zeros) := by dsimp only [dats]

theorem before_0 (c : Dev nD) (t : Fin cfg0.N) (d) : (dats m 0 c).before 0 t d = iblk m c 0 t :=
  before0_0_of m _ (A_eq m c 0) (after_0 m c) t d
theorem before_1 (c : Dev nD) (t : Fin cfg0.N) (d) : (dats m 0 c).before 1 t d = iblk m c 1 t :=
  before0_1_of m _ (A_eq m c 1) (after_1 m c) t d
theorem before_2 (c : Dev nD) (t : Fin cfg0.N) (d) : (dats m 0 c).before 2 t d = cols m c t d := by
  unfold Dat.before; rw [if_pos (fetch0_2 t)]; rfl

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- What it leaves there, whatever lay in the columns' buffer past the array's end. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (cols m c t d)
        ∗ owns (c : Thread nD τ) (ms3 t) fullShare (prodCols (scr m c t) (cols m c t d))))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1]
  rw [show (dats m 0 c).Φ t.succ = iprop(owns (c : Thread nD τ) scM fullShare (scr m c t) ∗ (∃ r, prngReg c r)) from rfl]
  by_cases h0 : t.val % 13 = 0
  · have es : scr m c t = normRows (iblk m c 0 t) (iblk m c 1 t) := by unfold scr; rw [rowPt_of_first h0]
    have hΦ : (dats m 0 c).Φ t.castSucc ⊢ iprop((∃ d, owns (c : Thread nD τ) scM fullShare d) ∗ (∃ r, prngReg c r)) := by
      rw [PhiS_castSucc m c t]
      by_cases hz : t.val = 0
      · rw [PhiS_zero m c _ _ hz, PhiA_eq]
      · rw [PhiS_pos m c _ _ hz]
        iintro ⟨H, Hg⟩
        isplitl [H]
        · iexists _; iexact H
        iexact Hg
    rw [es]
    iintro ⟨HΦ, Ho, ⟨%d0, H0⟩, ⟨%d1, H1⟩, ⟨%d2, H2⟩, ⟨%d3, H3⟩⟩
    ihave HΦ := hΦ $$ HΦ
    icases HΦ with ⟨HS, Hg⟩
    iapply (bodyFirst c (grid0.coords t) _ _ _ _ _ _ _ _ _ _ ((firstCol_iff t).mpr h0) (iblk m c 0 t) (iblk m c 1 t) (cols m c t d2) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    iexists d2
    isplitl [H2]; · iexact H2
    iexact H3
  · have hz : t.val ≠ 0 := fun h => h0 (by rw [h])
    have es : scr m c ⟨t.val - 1, by omega⟩ = scr m c t := by
      unfold scr; rw [rowPt_succ (s := ⟨t.val - 1, by omega⟩) (t := t) (by simp only; omega) h0]
    rw [PhiS_castSucc m c t, PhiS_pos m c _ _ hz, es]
    iintro ⟨⟨HS, Hg⟩, Ho, ⟨%d0, H0⟩, ⟨%d1, H1⟩, ⟨%d2, H2⟩, ⟨%d3, H3⟩⟩
    iapply (bodyRest c (grid0.coords t) _ _ _ _ _ _ _ _ _ _ (fun h => h0 ((firstCol_iff t).mp h)) (iblk m c 0 t) (iblk m c 1 t) (cols m c t d2) (scr m c t) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    iexists d2
    isplitl [H2]; · iexact H2
    iexact H3

/-- The body table's row at point `t`'s slots. -/
theorem defs₀_row (t : Fin cfg0.N) : defs₀ (F := F) .tc cfg0.body (cfg0.bodyArgs t (cfg0.slots t)) = bodyAt0 t := by
  unfold defs₀; rw [Defs.onTc_tc]

/-- The buffers whose contents the frame does not follow: the result's. -/
def fgt : Fin cfg0.W → Bool := ![false, false, false, true]

theorem leaves_2 (c : Dev nD) (t : Fin cfg0.N) (d : Vec F S2048x512 .f32) :
    cols m c t d = win0_2.fill (grid0.coords t) d (win0_2.cut (grid0.coords t) (cols m c t zeros)) := by
  unfold cols; rw [Window.cut_fill]

/-- The body's post with the result's contents forgotten. -/
def postForget (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ X, owns (c : Thread nD τ) (ms3 t) fullShare X))

theorem post_forget (c : Dev nD) (t : Fin cfg0.N) : bodyPost m c t ⊢ postForget m c t := by
  unfold bodyPost postForget
  rw [after_2]
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← leaves_2]
    iexact H2
  iexists _; iexact H3

/-- The library's body obligation with the result's contents forgotten. -/
theorem obligation_forget (c : Dev nD) : BodyObligationLoose (dats (F := F) m 0 c) (defs₀ (F := F)) Variants.none () Set.univ fgt := fun t => by
  rw [bigSep_W0, bigSep_W0, defs₀_row]
  exact triple_restated (triple_restated (sound_body m c t) rfl .rfl fun _ => post_forget m c t) rfl .rfl fun _ => .rfl

/-- The body's post with the result's contents known inside the array. -/
def postExact (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ d, owns (c : Thread nD τ) (ms3 t) fullShare (win0_3.fill (grid0.coords t) d (win0_3.cut (grid0.coords t) ((dats m 0 c).after 3 t)))))

/-- What a block of the product holds inside the array does not depend on the columns past it. -/
def CutsAgree : Prop := ∀ (c : Dev nD) (t : Fin cfg0.N) (d : Vec F S2048x512 .f32),
  win0_3.cut (grid0.coords t) (prodCols (scr m c t) (cols m c t zeros)) = win0_3.cut (grid0.coords t) (prodCols (scr m c t) (cols m c t d))

theorem post_exact (hc : CutsAgree m) (c : Dev nD) (t : Fin cfg0.N) : bodyPost m c t ⊢ postExact m c t := by
  unfold bodyPost postExact
  rw [after_2, after_3]
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← leaves_2]
    iexact H2
  iexists (prodCols (scr m c t) (cols m c t d))
  rw [hc c t d, Window.fill_cut]
  iexact H3

/-- The library's body obligation, where the products agree inside the array. -/
theorem obligation_exact (hc : CutsAgree m) (c : Dev nD) :
    BodyObligationLoose (dats (F := F) m 0 c) (defs₀ (F := F)) Variants.none () Set.univ := fun t => by
  rw [bigSep_W0, bigSep_W0, defs₀_row]
  exact triple_restated (triple_restated (sound_body m c t) rfl .rfl fun _ => post_exact m hc c t) rfl
    (by
      show _ ⊢ bodyPre m c t
      unfold bodyPre
      iintro ⟨HΦ, Ho, H0, H1, H2, ⟨%d, H3⟩⟩
      isplitl [HΦ]; · iexact HΦ
      isplitl [Ho]; · iexact Ho
      isplitl [H0]; · iexact H0
      isplitl [H1]; · iexact H1
      isplitl [H2]; · iexact H2
      iexists _; iexact H3) fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 208 := N_0; omega), PhiA_eq]
  iintro ⟨HS, Hg⟩
  isplitl [HS]
  · iexists _; iexact HS
  iexact Hg

/-- The buffers the host lines after the call write. -/
def tail : Finset (Ref sig .tc) :=
  {main_v3, main_v4, main_v5, main_v6, main_v7, main_v8, main_v9, main_v10, main_v11, main_v12, main_v13, main_v14, main_v15, main_v16, main_v17, main_v18, main_v19, main_v20, main_v21, main_v22, main_cst, main_cst_0, main_cst_1}

/-- They write no other. -/
theorem tail_writes : ∀ ops ∈ ([hostOps1] : List (List (HloOp τ sig (Elt F)))), ∀ op ∈ ops,
    ∀ b : Ref sig .tc, Proc.devRef .tc b ∈ op.writes → b ∈ tail := by
  intro ops hops op hop b hb
  simp only [List.mem_cons, List.mem_nil_iff, or_false] at hops
  rcases hops with rfl
  simp only [hostOps1, List.mem_cons, List.mem_nil_iff, or_false] at hop
  by_contra hn
  rcases hop with rfl | rfl | rfl | rfl | rfl | rfl | rfl | rfl | rfl | rfl | rfl | rfl | rfl | rfl | rfl | rfl | rfl | rfl | rfl | rfl | rfl | rfl | rfl
  all_goals
    simp only [StableHlo.nullary_writes, StableHlo.unary_writes, StableHlo.binary_writes, StableHlo.reshape_writes, Finset.mem_singleton] at hb
    exact StableHlo.devRef_ne_of_ne (fun e => hn (by rw [e]; decide)) hb

set_option backward.isDefEq.respectTransparency.types false in
/-- The launch, the result's contents forgotten. -/
theorem run_forget : θ_run defs (onTc (τ := τ) (main (F := F))) (s₀ m ρ)
    (fun r => RDat.FramePostR cfg0 (fun c => (dats m 0 c).toRForget fgt) tail (V m) r ∧ r.2.sem = fun _ => 0) :=
  Pipeline.θ_run_frame_around_T_track_forget (Q' := _) cfgs (dats m) (0 : Fin 1) launch0 defs₀ Variants.none fgt tail m ρ main
    (hbody := obligation_forget m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hin := hin m) (hout := hout m) (hQ' := fun _ h => h)

set_option backward.isDefEq.respectTransparency.types false in
/-- The launch, where the products agree inside the array. -/
theorem run_exact (hc : CutsAgree m) : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := obligation_exact m hc) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- A buffer no host line after the call writes is one the run leaves as the call found it. -/
theorem kept {b : Ref sig .tc} (hb : b ∈ Pipeline.restRefs sig spec0) (hn : b ∉ tail) : b ∈ Pipeline.restRefs sig spec0 \ tail :=
  Finset.mem_sdiff.mpr ⟨hb, hn⟩

/-- THE FRAME: the program terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (kept (Pipeline.mem_restRefs_of main_arg0 (by decide) (by decide)) (by decide))).trans (V_main_arg0 m c),
      ((h.1 c).2 main_arg1 (kept (Pipeline.mem_restRefs_of main_arg1 (by decide) (by decide)) (by decide))).trans (V_main_arg1 m c),
      (((dats m 0 c).toRForget_arrAt_iff (w := 2) rfl _ _).mp ((h.1 c).1 2)).trans (((dats m 0 c).arrAt_in 2 rfl _).trans ((A_eq m c 2).trans (V_main_arg2 m c)))⟩, h.2⟩) (run_forget m ρ)

end Cert.Even2

end
-- ==== Proof.Even2.Bits.lean ====
/- The in-projection of layer 2 at the machine's words: it is the idealized program's own text, so the frame carries over. -/
module

public import proofs.«01_k».proof.Defs
public import proofs.«01_k».proof.Proof.Even2.Frame
public import proofs.«01_k».proof.Proof.Gen.InEven2.Launch

@[expose] public section

set_option maxRecDepth 16384

noncomputable section

namespace Cert.Even2

open Idealize.ShloMosaic Idealize.SL.Sem

variable {F : FTy → Type} [FloatOps F]

/-- The two programs' bodies are one. -/
theorem body_table : Cert.InEven2.defs₀ (F := F) = Cert.InEven2Ideal.defs₀ (F := F) := by
  unfold Cert.InEven2.defs₀ Cert.InEven2Ideal.defs₀
  refine congrArg (Defs.onTc (nD := Cert.InEven2Ideal.nD) (τ := Cert.InEven2Ideal.τ) (sig := Cert.InEven2Ideal.sig)
    (Val := Elt F) (Λ := Cert.InEven2Ideal.Λ₀)) ?_
  funext l x
  obtain ⟨l, hl⟩ := l
  cases l with
  | zero => obtain ⟨t, s⟩ := x; rfl
  | succ n => exact absurd hl (Nat.not_lt.2 (Nat.le_add_left _ _))

/-- So are their tables. -/
theorem table : Cert.InEven2.defs (F := F) = Cert.InEven2Ideal.defs (F := F) :=
  congrArg (Pipeline.defs (Cert.InEven2Ideal.pcfgs (F := F))) body_table

/-- The frame of the program at the machine's words. -/
theorem frameBits : @Cert.quiescent_InEven2 Cert.InEven2.Gen.facts := by
  intro m g _
  rw [table]
  exact Cert.Even2.frame (F := Bits) m g

end Cert.Even2

end
-- ==== Proof.Even2.Value.lean ====
/- The in-projection of layer 2 over the extended reals: the kernel's result and the reference's are one array. -/
module

public import proofs.«01_k».proof.Defs
public import proofs.«01_k».proof.Proof.Even2.Frame
public import proofs.«01_k».proof.Proof.Gen.InEven2RefIdeal.Run
public import Idealize.ShloMosaic.Lib.Claim
public import Idealize.ShloMosaic.Lib.Pipeline.ValueKit
public import Idealize.ShloMosaic.Lib.Pointwise
public import Idealize.ShloMosaic.Lib.ValueIdx
public import Idealize.ShloMosaic.Lib.ValueLayout

@[expose] public section

set_option maxRecDepth 16384

noncomputable section

namespace Cert.Even2

open Cert.InEven2Ideal Cert.InEven2Ideal.Gen
open Cert.In (normRows prodCols normOf entry prod_at norm_at proj pageOf page_row lastOf flat)
open Idealize.ShloMosaic Idealize.ShloMosaic.TcCoe Idealize.SL.Sem
open Idealize.ShloMosaic.Pipeline (Dat Window)

variable (m : (ℓ : Loc nD τ sig) → Buf (Elt Ideal) ℓ)

/-- Where the blocks of each point lie, and how many of the last one's columns are in the array. -/
theorem blocks_at : ∀ t : Fin cfg0.N,
    (win0_0.index t (0 : Fin 2) = t.val / 13 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 13)
    ∧ (win0_3.index t (0 : Fin 2) = t.val / 13 ∧ win0_3.index t (1 : Fin 2) = t.val % 13)
    ∧ (win0_2.xsize (grid0.coords t) (0 : Fin 2) = 2048 ∧ win0_2.xsize (grid0.coords t) (1 : Fin 2) = min 512 (6464 - 512 * (t.val % 13)))
    ∧ (win0_3.xsize (grid0.coords t) (0 : Fin 2) = 512 ∧ win0_3.xsize (grid0.coords t) (1 : Fin 2) = min 512 (6464 - 512 * (t.val % 13))) :=
  (by decide +kernel : ∀ t : Fin grid0.N, _)

/-- A staged column inside the array. -/
theorem cols_at (c : Dev nD) (t : Fin cfg0.N) (d : Vec Ideal S2048x512 .f32) (k : Fin 2048) (q : Fin 512) (s : Fin 6464)
    (h : s.val = 512 * (t.val % 13) + q.val) :
    cols m c t d (ix2 (n0 := 2048) (n1 := 512) k q) = m ((c : Thread nD τ).loc main_arg2) (ix2 (n0 := 2048) (n1 := 6464) k s) := by
  obtain ⟨-, -, ⟨e0, e1⟩, -, ⟨x0, x1⟩, -⟩ := blocks_at t
  have hs : s.val < 6464 := s.isLt
  have hm : win0_2.moved (grid0.coords t) (ix2 (n0 := 2048) (n1 := 512) k q) = true := by
    refine (win0_2.moved_iff (grid0.coords t) _).mpr fun a => ?_
    match a with
    | ⟨0, _⟩ => show k.val < win0_2.xsize (grid0.coords t) (0 : Fin 2); rw [x0]; omega
    | ⟨1, _⟩ => show q.val < win0_2.xsize (grid0.coords t) (1 : Fin 2); rw [x1]; omega
  unfold cols Window.fill
  refine (dif_pos hm).trans ?_
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 2048 + 1 * k.val = k.val; rw [e0]; omega
  | ⟨1, _⟩ => show win0_2.index t 1 * 512 + 1 * q.val = s.val; rw [e1]; omega

/-- Inside the array a block of the product does not see the columns past it. -/
theorem cuts_agree : CutsAgree m := by
  intro c t d
  obtain ⟨-, -, -, -, -, ⟨x0, x1⟩⟩ := blocks_at t
  funext j
  have hj : (j 1).val < min 512 (6464 - 512 * (t.val % 13)) := lt_of_lt_of_eq (j 1).isLt x1
  refine (prod_at _ _ _).trans (Eq.trans ?_ (prod_at _ _ _).symm)
  refine Finset.sum_congr rfl fun k _ => congrArg₂ (· * ·) rfl ?_
  have hs : 512 * (t.val % 13) + (j 1).val < 6464 := by omega
  exact (cols_at m c t zeros k _ ⟨512 * (t.val % 13) + (j 1).val, hs⟩ rfl).trans (cols_at m c t d k _ ⟨512 * (t.val % 13) + (j 1).val, hs⟩ rfl).symm

/-- A staged row's entry. -/
theorem rows_at (c : Dev nD) (t : Fin cfg0.N) (r : Fin 8192) (p : Fin 512) (k : Fin 2048)
    (h : r.val = 512 * (t.val / 13) + p.val) :
    (iblk m c 0 t : Vec Ideal S512x2048 .f32) (ix2 (n0 := 512) (n1 := 2048) p k)
      = m ((c : Thread nD τ).loc main_arg0) (ix3 (n0 := 4) (n1 := 2048) (n2 := 2048) ⟨r.val / 2048, by omega⟩ ⟨r.val % 2048, by omega⟩ k) := by
  obtain ⟨⟨e0, e1⟩, -⟩ := blocks_at t
  refine Eq.trans (b := V m c main_v0 (ix2 (n0 := 8192) (n1 := 2048) r k)) ?_ ?_
  · unfold iblk
    rw [View.read_apply]
    show V m c main_v0 _ = V m c main_v0 _
    refine congrArg (V m c main_v0) (funext fun a => Fin.ext ?_)
    match a with
    | ⟨0, _⟩ => show win0_0.index t 0 * 512 + 1 * p.val = r.val; rw [e0]; omega
    | ⟨1, _⟩ => show win0_0.index t 1 * 2048 + 1 * k.val = k.val; rw [e1]; omega
  · unfold V V0
    rw [List.flatten_singleton]
    entry_read
    pointwise

/-- A staged gain. -/
theorem gain_at (c : Dev nD) (t : Fin cfg0.N) (k : Fin 2048) :
    (iblk m c 1 t : Vec Ideal S1x2048 .f32) (ix2 (n0 := 1) (n1 := 2048) 0 k) = m ((c : Thread nD τ).loc main_arg1) (ix1 (n0 := 2048) k) := by
  obtain ⟨-, ⟨e0, e1⟩, -⟩ := blocks_at t
  refine Eq.trans (b := V m c main_v1 (ix2 (n0 := 1) (n1 := 2048) 0 k)) ?_ ?_
  · unfold iblk
    rw [View.read_apply]
    show V m c main_v1 _ = V m c main_v1 _
    refine congrArg (V m c main_v1) (funext fun a => Fin.ext ?_)
    match a with
    | ⟨0, _⟩ => show win0_1.index t 0 * 1 + 1 * 0 = 0; rw [e0]
    | ⟨1, _⟩ => show win0_1.index t 1 * 2048 + 1 * k.val = k.val; rw [e1]; omega
  · unfold V V0
    rw [List.flatten_singleton]
    entry_read
    pointwise

/-- What a point leaves at an entry inside the array. -/
theorem out_at (c : Dev nD) (t : Fin cfg0.N) (y : S512x512.Idx) (J : S8192x6464.Idx)
    (h0 : (J 0).val = 512 * (t.val / 13) + (y 0).val) (h1 : (J 1).val = 512 * (t.val % 13) + (y 1).val) :
    prodCols (F := Ideal) (scr m c t) (cols m c t zeros) y
      = proj (m ((c : Thread nD τ).loc main_arg0)) (m ((c : Thread nD τ).loc main_arg1)) (m ((c : Thread nD τ).loc main_arg2)) J := by
  refine (prod_at _ _ _).trans ?_
  unfold proj
  refine Finset.sum_congr rfl fun k _ => congrArg₂ (· * ·) ?_ (cols_at m c t zeros k (y 1) (J 1) h1)
  unfold scr
  refine (norm_at _ _ _ _).trans ?_
  rw [gain_at]
  refine congrArg (fun f => normOf f _ k) (funext fun l => rows_at m c (rowPt t) (J 0) (y 0) l ?_)
  rw [h0]; unfold rowPt; simp only; omega

/-- The kernel's result. -/
theorem kernel_value (c : Dev nD) : (dats m 0 c).arrAt 3 cfg0.N
    = proj (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, ⟨e0, e1⟩, -, -⟩ := blocks_at t
  rw [after_3]
  refine out_at m c t (win0_3.xinj (grid0.coords t) y) _ ?_ ?_
  · show win0_3.index t 0 * 512 + 1 * (y 0).val = 512 * (t.val / 13) + (y 0).val; rw [e0]; omega
  · show win0_3.index t 1 * 512 + 1 * (y 1).val = 512 * (t.val % 13) + (y 1).val; rw [e1]; omega

/-- The rows as the call finds them. -/
theorem entry_flat (c : Dev nD) : (V m c main_v0 : FVec Ideal S8192x2048 .f32) = flat (m ((c : Thread nD τ).loc main_arg0)) := by
  funext j
  unfold flat V V0
  rw [List.flatten_singleton]
  entry_read
  pointwise

/-- The host lines after the call: the key pages. -/
theorem suffix_keys (W : Valuation τ sig (Elt Ideal)) (A : Vec Ideal S8192x6464 .f32)
    (hW : (W (Proc.devRef .tc main_v2) : FVec Ideal S8192x6464 .f32) = A) :
    (StableHlo.after hostOps1 W (Proc.devRef .tc main_v4) : FVec Ideal S4x16x128x8x128 .f32) = pageOf A 1024 (by omega) := by
  after_reads_simp
  rw [hW]
  funext j
  unfold pageOf
  pointwise

/-- The value pages. -/
theorem suffix_values (W : Valuation τ sig (Elt Ideal)) (A : Vec Ideal S8192x6464 .f32)
    (hW : (W (Proc.devRef .tc main_v2) : FVec Ideal S8192x6464 .f32) = A) :
    (StableHlo.after hostOps1 W (Proc.devRef .tc main_v6) : FVec Ideal S4x16x128x8x128 .f32) = pageOf A 2048 (by omega) := by
  after_reads_simp
  rw [hW]
  funext j
  unfold pageOf
  pointwise

set_option maxHeartbeats 1600000 in
/-- The last rows. -/
theorem suffix_last (W : Valuation τ sig (Elt Ideal)) (x : Vec Ideal S4x2048x2048 .f32) (g : Vec Ideal S2048 .f32)
    (hx : (W (Proc.devRef .tc main_v0) : FVec Ideal S8192x2048 .f32) = flat x)
    (hg : (W (Proc.devRef .tc main_arg1) : FVec Ideal S2048 .f32) = g) :
    (StableHlo.after hostOps1 W (Proc.devRef .tc main_v22) : FVec Ideal S4x2048 .f32) = lastOf x g := by
  after_reads_simp
  rw [hx, hg]
  funext j
  unfold lastOf normOf flat
  pointwise
  have h : (j 0).val < 4 := (j 0).isLt
  have e0 : ((j 0).val * 2048 + 2047) / 2048 = (j 0).val := by omega
  have e1 : ((j 0).val * 2048 + 2047) % 2048 = 2047 := by omega
  simp only [e0, e1, Fin.eta]
  rfl

/-- The call's arrays are different buffers. -/
theorem arrays_inj : Function.Injective (Pipeline.arrRef spec0) :=
  (by decide : ∀ w w', Pipeline.arrRef spec0 w = Pipeline.arrRef spec0 w' → w = w')

/-- The key pages after the host lines. -/
theorem value_keys (c : Dev nD) : Pipeline.afterTail₀ cfgs (dats m) 0 (V0 m) [hostOps1] c main_v4 = pageOf (proj (m ((c : Thread nD τ).loc main_arg0)) (m ((c : Thread nD τ).loc main_arg1)) (m ((c : Thread nD τ).loc main_arg2))) 1024 (by omega) := by
  unfold Pipeline.afterTail₀
  exact suffix_keys _ _ ((Pipeline.withArrays_arr spec0 arrays_inj c (V0 m c) (fun w => (dats m 0 c).arrAt w cfg0.N) 3).trans (kernel_value m c))

/-- The value pages after them. -/
theorem value_values (c : Dev nD) : Pipeline.afterTail₀ cfgs (dats m) 0 (V0 m) [hostOps1] c main_v6 = pageOf (proj (m ((c : Thread nD τ).loc main_arg0)) (m ((c : Thread nD τ).loc main_arg1)) (m ((c : Thread nD τ).loc main_arg2))) 2048 (by omega) := by
  unfold Pipeline.afterTail₀
  exact suffix_values _ _ ((Pipeline.withArrays_arr spec0 arrays_inj c (V0 m c) (fun w => (dats m 0 c).arrAt w cfg0.N) 3).trans (kernel_value m c))

/-- The last rows after them. -/
theorem value_last (c : Dev nD) : Pipeline.afterTail₀ cfgs (dats m) 0 (V0 m) [hostOps1] c main_v22 = lastOf (m ((c : Thread nD τ).loc main_arg0)) (m ((c : Thread nD τ).loc main_arg1)) := by
  unfold Pipeline.afterTail₀
  refine suffix_last _ _ _ ?_ ?_
  · exact (Pipeline.withArrays_arr spec0 arrays_inj c (V0 m c) (fun w => (dats m 0 c).arrAt w cfg0.N) 0).trans
      (((dats m 0 c).arrAt_in 0 rfl _).trans ((A_eq m c 0).trans (entry_flat m c)))
  · exact (Pipeline.withArrays_of_ne spec0 c (V0 m c) _ main_arg1 (by exact (by decide : ∀ w, Pipeline.arrRef spec0 w ≠ main_arg1))).trans (V_main_arg1 m c)

set_option maxHeartbeats 1600000 in
/-- The claim: from the same arguments both runs end with the same projection, pages and last rows. -/
theorem algebraic : @Cert.algebraic_InEven2Ideal_InEven2RefIdeal Cert.InEven2Ideal.Gen.facts Cert.InEven2RefIdeal.Gen.facts := by
  intro m g m' g' _ hagree
  refine ⟨fun c => (proj (m ((c : Thread nD τ).loc main_arg0)) (m ((c : Thread nD τ).loc main_arg1)) (m ((c : Thread nD τ).loc main_arg2))), fun c => pageOf (proj (m ((c : Thread nD τ).loc main_arg0)) (m ((c : Thread nD τ).loc main_arg1)) (m ((c : Thread nD τ).loc main_arg2))) 1024 (by omega), fun c => pageOf (proj (m ((c : Thread nD τ).loc main_arg0)) (m ((c : Thread nD τ).loc main_arg1)) (m ((c : Thread nD τ).loc main_arg2))) 2048 (by omega), fun c => lastOf (m ((c : Thread nD τ).loc main_arg0)) (m ((c : Thread nD τ).loc main_arg1)), ?_, ?_⟩
  · refine (θ_run _ _ _).mono (fun r h c => ?_) (run_exact (F := Ideal) m g (cuts_agree m))
    have k (b : Ref sig .tc) (hb : b ∈ Pipeline.restRefs sig spec0) := (h c).2 b hb
    exact ⟨((h c).1 3).trans (kernel_value m c),
      (k main_v4 (Pipeline.mem_restRefs_of main_v4 (by decide) (by decide))).trans (value_keys m c),
      (k main_v6 (Pipeline.mem_restRefs_of main_v6 (by decide) (by decide))).trans (value_values m c),
      (k main_v22 (Pipeline.mem_restRefs_of main_v22 (by decide) (by decide))).trans (value_last m c),
      (k main_arg0 (Pipeline.mem_restRefs_of main_arg0 (by decide) (by decide))).trans (W_main_arg0 m (dats m) c),
      (k main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩
  · refine (θ_run _ _ _).mono (fun r h c => ?_) (Cert.InEven2RefIdeal.Value.run (F := Ideal) m' g')
    obtain ⟨h0, h1, h2, h3, k⟩ := h c
    obtain ⟨e0, e1, e2⟩ := hagree c
    refine ⟨h0.trans ?_, h1.trans ?_, h2.trans ?_, h3.trans ?_, k⟩
    · rw [e0, e1, e2]
      funext j
      unfold proj normOf
      pointwise
    · rw [e0, e1, e2]
      funext j
      unfold pageOf proj normOf
      pointwise
      obtain ⟨r0, r1⟩ := page_row (j 0) (j 1) (j 2)
      simp only [r0, r1]
      rfl
    · rw [e0, e1, e2]
      funext j
      unfold pageOf proj normOf
      pointwise
      obtain ⟨r0, r1⟩ := page_row (j 0) (j 1) (j 2)
      simp only [r0, r1]
      rfl
    · rw [e0, e1]
      funext j
      unfold lastOf normOf
      pointwise

end Cert.Even2

end
-- ==== Proof.Samp.Plain.lean ====
/- What the in-projections of the new tokens share: the sixteen staged rows normalised, a block of the product, their entries. -/
module

public import proofs.«01_k».proof.Proof.Gen.InSample0Ideal
public import proofs.«01_k».proof.Proof.In.Plain
public import Idealize.ShloMosaic.Lib.Pipeline.Value
public import Idealize.ShloMosaic.Lib.Tactic
public import Idealize.ShloMosaic.Lib.Pointwise
public import Idealize.ShloMosaic.Lib.ValueIdx

@[expose] public section

set_option maxRecDepth 16384

noncomputable section

namespace Cert.Samp

open Cert.InSample0Ideal Cert.InSample0Ideal.Gen
open Cert.In (normOf)
open Idealize.ShloMosaic

section Generic

variable {F : FTy → Type} [FloatOps F]

/-- The normalised rows the scratch holds. -/
def normRows (x : FVec F S16x2048 .f32) (g : FVec F S1x2048 .f32) : FVec F S16x2048 .bf16 :=
  truncf .bf16 (mulf (mulf x (broadcastTo S16x2048 (rsqrt (addf (divf (shapeCast S16x1 (multiReduction .add [1] S16 (mulf x x) 0x00000000#32 reduces_S16x2048_S16 (.inl rfl) rfl) shapeCasts_S16_S16x1)
    (broadcast S16x1 (Scalar.ofBits .f32 0x45000000#32))) (broadcast S16x1 (Scalar.ofBits .f32 0x358637BD#32)))) broadcasts_S16x1_S16x2048))
    (broadcastTo S16x2048 g broadcasts_S1x2048_S16x2048)) bitsLt_bf16_f32

/-- A block of the product. -/
def prodCols (h : FVec F S16x2048 .bf16) (w : FVec F S2048x512 .f32) : FVec F S16x512 .f32 :=
  matmul dot_S16x2048_S2048x512_S16x512_1_0_0_1_n_n none h (truncf .bf16 w bitsLt_bf16_f32) (constant S16x512 .f32 0x00000000#32)

end Generic

/-- The projection of sixteen normalised rows. -/
def projRows {n : ℕ} (x : Vec Ideal S16x2048 .f32) (g : Vec Ideal S2048 .f32) (w : Vec Ideal ⟨2, ![2048, n]⟩ .f32) :
    Vec Ideal ⟨2, ![16, n]⟩ .f32 :=
  fun j => ∑ k : Fin 2048, normOf (fun l => x (ix2 (n0 := 16) (n1 := 2048) (j 0) l)) (g (ix1 (n0 := 2048) k)) k
    * w (ix2 (n0 := 2048) (n1 := n) k (j 1))

/-- The projection of the normalised new tokens, one to a sequence. -/
def proj {n : ℕ} (x : Vec Ideal S8x1x2048 .f32) (g : Vec Ideal S2048 .f32) (w : Vec Ideal ⟨2, ![2048, n]⟩ .f32) :
    Vec Ideal ⟨2, ![8, n]⟩ .f32 :=
  fun j => ∑ k : Fin 2048, normOf (fun l => x (ix3 (n0 := 8) (n1 := 1) (n2 := 2048) (j 0) 0 l)) (g (ix1 (n0 := 2048) k)) k
    * w (ix2 (n0 := 2048) (n1 := n) k (j 1))

/-- The first eight of the padded rows are the rows padded. -/
theorem pad_top {α : Type} (x : S8x2048.Idx → α) {u : Shape} (v : u.Idx → α) (h : S8x2048.Pads ![0, 0] ![8, 0] ![0, 0] S16x2048)
    (hu : 0 < u.numel) (r : Fin 16) (hr : r.val < 8) (k : Fin 2048) :
    pad S16x2048 ![0, 0] ![8, 0] ![0, 0] x v h hu (ix2 (n0 := 16) (n1 := 2048) r k) = x (ix2 (n0 := 8) (n1 := 2048) ⟨r.val, hr⟩ k) := by
  have hin : ∀ a : Fin 2, (![0, 0] : Fin 2 → ℕ) a ≤ ((ix2 (n0 := 16) (n1 := 2048) r k) (a.cast rfl)).val
      ∧ (((ix2 (n0 := 16) (n1 := 2048) r k) (a.cast rfl)).val - (![0, 0] : Fin 2 → ℕ) a) % ((![0, 0] : Fin 2 → ℕ) a + 1) = 0
      ∧ (((ix2 (n0 := 16) (n1 := 2048) r k) (a.cast rfl)).val - (![0, 0] : Fin 2 → ℕ) a) / ((![0, 0] : Fin 2 → ℕ) a + 1) < S8x2048.size a := by
    intro a
    match a with
    | ⟨0, _⟩ => exact ⟨Nat.zero_le _, Nat.mod_one _, (by show (r.val - 0) / (0 + 1) < 8; omega)⟩
    | ⟨1, _⟩ => exact ⟨Nat.zero_le _, Nat.mod_one _, (by show (k.val - 0) / (0 + 1) < 2048; omega)⟩
  refine (dif_pos hin).trans (congrArg x (funext fun a => Fin.ext ?_))
  match a with
  | ⟨0, _⟩ => show (r.val - 0) / (0 + 1) = r.val; omega
  | ⟨1, _⟩ => show (k.val - 0) / (0 + 1) = k.val; omega

/-- Over rows that begin with the new tokens, the projection begins with theirs. -/
theorem top_rows {n : ℕ} (X : Vec Ideal S16x2048 .f32) (x : Vec Ideal S8x1x2048 .f32) (g : Vec Ideal S2048 .f32) (w : Vec Ideal ⟨2, ![2048, n]⟩ .f32)
    (hX : ∀ (r : Fin 16) (hr : r.val < 8) (k : Fin 2048), X (ix2 (n0 := 16) (n1 := 2048) r k) = x (ix3 (n0 := 8) (n1 := 1) (n2 := 2048) ⟨r.val, hr⟩ 0 k))
    (j : Fin 8) (k : Fin n) (h : j.val < 16) :
    projRows X g w (ix2 (n0 := 16) (n1 := n) ⟨j.val, h⟩ k) = proj x g w (ix2 (n0 := 8) (n1 := n) j k) := by
  unfold projRows proj
  exact Finset.sum_congr rfl fun l _ => congrArg₂ (· * ·) (congrArg (fun f => normOf f _ l) (funext fun i => hX ⟨j.val, h⟩ j.isLt i)) rfl

/-- Its rows by 8 heads of 128 columns each, from column `o` on. -/
def headsOf {n : ℕ} (A : Vec Ideal ⟨2, ![8, n]⟩ .f32) (o : ℕ) (ho : o + 1024 ≤ n) : Vec Ideal ⟨4, ![8, 1, 8, 128]⟩ .f32 :=
  fun j => A (ix2 (n0 := 8) (n1 := n) (j 0)
    ⟨o + ((j 2).val * 128 + (j 3).val), by
      have h2 : (j 2).val < 8 := (j 2).isLt; have h3 : (j 3).val < 128 := (j 3).isLt; omega⟩)

/-- The normalised new tokens. -/
def lastOf (x : Vec Ideal S8x1x2048 .f32) (g : Vec Ideal S2048 .f32) : Vec Ideal S8x2048 .f32 :=
  fun j => normOf (fun l => x (ix3 (n0 := 8) (n1 := 1) (n2 := 2048) (j 0) 0 l)) (g (ix1 (n0 := 2048) (j 1))) (j 1)

/-- The new tokens as rows. -/
def flat (x : Vec Ideal S8x1x2048 .f32) : Vec Ideal S8x2048 .f32 :=
  fun j => x (ix3 (n0 := 8) (n1 := 1) (n2 := 2048) (j 0) 0 (j 1))

/-- Each sequence's buffer of three rows moved on by one: the new token's first columns come last. -/
def nextRows {n : ℕ} (hn : 8192 ≤ n) (b : Vec Ideal ⟨3, ![8, 3, 8192]⟩ .f32) (A : Vec Ideal ⟨2, ![8, n]⟩ .f32) : Vec Ideal ⟨3, ![8, 3, 8192]⟩ .f32 :=
  fun j => if h : 1 + (j 1).val < 3 then b (ix3 (n0 := 8) (n1 := 3) (n2 := 8192) (j 0) ⟨1 + (j 1).val, h⟩ (j 2))
    else A (ix2 (n0 := 8) (n1 := n) (j 0) ⟨(j 2).val, lt_of_lt_of_le (j 2).isLt hn⟩)

/-- An entry of the scratch, over the extended reals. -/
def entry (h : Vec Ideal S16x2048 .bf16) (p : Fin 16) (k : Fin 2048) : Elt Ideal .f32 := h (ix2 (n0 := 16) (n1 := 2048) p k)

/-- A block of the product at an entry. -/
theorem prod_at (h : Vec Ideal S16x2048 .bf16) (w : Vec Ideal S2048x512 .f32) (y : S16x512.Idx) :
    prodCols (F := Ideal) h w y = ∑ k : Fin 2048, entry h (y 0) k * w (ix2 (n0 := 2048) (n1 := 512) k (y 1)) := by
  unfold entry
  pointwise [prodCols]

/-- A normalised entry. -/
theorem norm_at (x : Vec Ideal S16x2048 .f32) (g : Vec Ideal S1x2048 .f32) (p : Fin 16) (k : Fin 2048) :
    entry (normRows (F := Ideal) x g) p k
      = normOf (fun l => x (ix2 (n0 := 16) (n1 := 2048) p l)) (g (ix2 (n0 := 1) (n1 := 2048) 0 k)) k := by
  unfold entry normOf
  pointwise [normRows]

end Cert.Samp

end
-- ==== Proof.Samp.Body.lean ====
/- The in-projection of the new tokens in layer 0's body: at the first point it normalises the rows into its scratch, and at every point it
   multiplies the scratch by a block of columns. -/
module

public import proofs.«01_k».proof.Proof.Gen.InSample0Ideal.Frame
public import proofs.«01_k».proof.Proof.Samp.Plain
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.Samp

open Cert.InSample0Ideal Cert.InSample0Ideal.Gen
open Cert.In (normOf read_store load_store zero2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- The condition of the body's branch: the point is the first. -/
abbrev firstCol (i : grid0.Coords) : Prop := (Scalar.cmpi .ne (Scalar.extui (Scalar.cmpi .eq (BitVec.ofNat 32 (i 1).val) 0#32)) 0#32) = 1#1

/-- It holds at point 0 alone. -/
theorem firstCol_iff : ∀ t : Fin cfg0.N, firstCol (grid0.coords t) ↔ t.val = 0 :=
  (by decide +kernel : ∀ t : Fin grid0.N, firstCol (grid0.coords t) ↔ t.val = 0)

set_option maxHeartbeats 4000000 in
/-- The first point: the scratch is left at the normalised rows, the output at their product with the columns. -/
theorem bodyFirst (c : Dev nD) (i : grid0.Coords)
    (arg2 : Memref sig .tc .vmem S16x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S16x512 .f32) (harg5 : arg5.IsWhole)
    (arg6 : Memref sig .tc .vmem S16x2048 .bf16) (harg6 : arg6.IsWhole) (hc : firstCol i)
    (x : Vec F S16x2048 .f32) (g : Vec F S1x2048 .f32) (w : Vec F S2048x512 .f32) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare g ∗ owns (c : Thread nD τ) arg4 fullShare w
            ∗ owns (c : Thread nD τ) arg5 fullShare (prodCols (normRows x g) w) ∗ owns (c : Thread nD τ) arg6 fullShare (normRows x g)) -∗ K ⟨⟩))
      ⊢ wp frame (wpE (defs₀ (F := F)) Variants.none c none) E (cc0_matmul i arg2 harg2 arg3 harg3 arg4 harg4 arg5 harg5 arg6 harg6) K := by
  unfold cc0_matmul
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  have ex : View.readAt (Elt F) arg2.view (Rect.unit (s := S16x2048) ![0, 0] S16x2048.size inb_S16x2048_S16x2048_0_0).toLoadRect (harg2.unread x) = x := by
    rw [View.readAt_eq_ld, harg2.read_unread, View.ld_unit_zero (S := S16x2048) zero2]
  have eg : View.readAt (Elt F) arg3.view (Rect.unit (s := S1x2048) ![0, 0] S1x2048.size inb_S1x2048_S1x2048_0_0).toLoadRect (harg3.unread g) = g := by
    rw [View.readAt_eq_ld, harg3.read_unread, View.ld_unit_zero (S := S1x2048) zero2]
  have ew : View.readAt (Elt F) arg4.view (Rect.unit (s := S2048x512) ![0, 0] S2048x512.size inb_S2048x512_S2048x512_0_0).toLoadRect (harg4.unread w) = w := by
    rw [View.readAt_eq_ld, harg4.read_unread, View.ld_unit_zero (S := S2048x512) zero2]
  have eh : bodyFirst.sl.v27 c arg2 harg2 arg3 harg3 x g = normRows x g := by
    unfold bodyFirst.sl.v27
    refine (shapeCast_self _ _).trans ?_
    refine (show _ = normRows (shapeCast S16x2048 (View.readAt (Elt F) arg2.view (Rect.unit (s := S16x2048) ![0, 0] S16x2048.size inb_S16x2048_S16x2048_0_0).toLoadRect (harg2.unread x)) shapeCasts_S16x2048_S16x2048)
      (shapeCast S1x2048 (View.readAt (Elt F) arg3.view (Rect.unit (s := S1x2048) ![0, 0] S1x2048.size inb_S1x2048_S1x2048_0_0).toLoadRect (harg3.unread g)) shapeCasts_S1x2048_S1x2048) from rfl).trans ?_
    exact congrArg₂ normRows ((shapeCast_self _ _).trans ex) ((shapeCast_self _ _).trans eg)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_store arg5 f3 zero2 _ _).trans ?_
    unfold bodyFirst.sl.v6 bodyFirst.sl.v3 bodyFirst.sl.v5 bodyFirst.sl.cst bodyFirst.sl.H4_1 prodCols
    rw [load_store arg6 zero2, eh, ew]
  iexists _; isplitr; swap; · iexact H4
  ipureintro
  unfold bodyFirst.sl.H4_1
  refine (read_store arg6 f4 zero2 _ _).trans ?_
  exact eh
set_option maxHeartbeats 4000000 in
/-- Any other point: the scratch stays, the output is left at its product with the columns. -/
theorem bodyRest (c : Dev nD) (i : grid0.Coords)
    (arg2 : Memref sig .tc .vmem S16x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S16x512 .f32) (harg5 : arg5.IsWhole)
    (arg6 : Memref sig .tc .vmem S16x2048 .bf16) (harg6 : arg6.IsWhole) (hc : ¬ firstCol i)
    (x : Vec F S16x2048 .f32) (g : Vec F S1x2048 .f32) (w : Vec F S2048x512 .f32) (h : Vec F S16x2048 .bf16) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ owns (c : Thread nD τ) arg6 fullShare h
        ∗ (iprop(owns (c : Thread nD τ) arg2 fullShare x ∗ owns (c : Thread nD τ) arg3 fullShare g ∗ owns (c : Thread nD τ) arg4 fullShare w
            ∗ owns (c : Thread nD τ) arg5 fullShare (prodCols h w) ∗ owns (c : Thread nD τ) arg6 fullShare h) -∗ K ⟨⟩))
      ⊢ wp frame (wpE (defs₀ (F := F)) Variants.none c none) E (cc0_matmul i arg2 harg2 arg3 harg3 arg4 harg4 arg5 harg5 arg6 harg6) K := by
  unfold cc0_matmul
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  have ew : View.readAt (Elt F) arg4.view (Rect.unit (s := S2048x512) ![0, 0] S2048x512.size inb_S2048x512_S2048x512_0_0).toLoadRect (harg4.unread w) = w := by
    rw [View.readAt_eq_ld, harg4.read_unread, View.ld_unit_zero (S := S2048x512) zero2]
  have eh : View.readAt (Elt F) arg6.view (Rect.unit (s := S16x2048) ![0, 0] S16x2048.size inb_S16x2048_S16x2048_0_0).toLoadRect (harg6.unread h) = h := by
    rw [View.readAt_eq_ld, harg6.read_unread, View.ld_unit_zero (S := S16x2048) zero2]
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_store arg5 f3 zero2 _ _).trans ?_
    unfold bodyRest.sl.v6 bodyRest.sl.v5 bodyRest.sl.cst
    unfold prodCols
    rw [ew, eh]
  iexists _; isplitr; · ipureintro; exact harg6.read_unread _
  iexact H4

end Cert.Samp

end
-- ==== Proof.Samp.Frame.lean ====
/- The in-projection of the new tokens in layer 0's run: what every buffer holds at each grid point, and the frame. -/
module

public import proofs.«01_k».proof.Proof.Samp.Body

@[expose] public section

set_option maxRecDepth 16384

noncomputable section

namespace Cert.Samp

open Cert.InSample0Ideal Cert.InSample0Ideal.Gen
open Cert.In (normOf read_store load_store zero2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
def first : Fin cfg0.N := ⟨0, by have : cfg0.N = 13 := N_0; omega⟩

/-- The normalised rows: every point stages the same. -/
def scr (c : Dev nD) : FVec F S16x2048 .bf16 := normRows (iblk m c 0 first) (iblk m c 1 first)

/-- The columns staged at a point: the block the fetch moves, over what the buffer held. -/
def cols (c : Dev nD) (t : Fin cfg0.N) (d : Vec F S2048x512 .f32) : Vec F S2048x512 .f32 :=
  win0_2.fill (grid0.coords t) d (iblk m c 2 t)

/-- Zeros, named where a buffer's contents are nobody's business. -/
def zeros : Vec F S2048x512 .f32 := fun _ => Scalar.ofBits .f32 0x00000000#32

abbrev ms0 (t : Fin cfg0.N) : Memref sig .tc .vmem S16x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x512 .f32 := win0_2.stage (cfg0.slots t 2)
abbrev ms3 (t : Fin cfg0.N) : Memref sig .tc .vmem S16x512 .f32 := win0_3.stage (cfg0.slots t 3)
abbrev scM : Memref sig .tc .vmem S16x2048 .bf16 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The region's invariant before point `n`: the scratch holds the rows the point before left in it. -/
def PhiS (c : Dev nD) : (n : ℕ) → n ≤ cfg0.N → sProp 𝕄
  | 0, _ => Pipeline.ΦA spec0 c
  | n + 1, h => iprop(owns (c : Thread nD τ) scM fullShare (scr m c) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) scM fullShare (scr m c) ∗ (∃ r, prngReg c r)) := by
  obtain ⟨k, rfl⟩ := Nat.exists_eq_succ_of_ne_zero hz; rfl

/-- The proof data: the arrays as the region finds them, what each point leaves in the staging buffers, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => cols m c t zeros
    | ⟨3, _⟩ => prodCols (scr m c) (cols m c t zeros)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = cols m c t zeros := by dsimp only [dats]
theorem after_3 (c : Dev nD) (t : Fin cfg0.N) : (dats m 0 c).after 3 t = prodCols (scr m c) (cols m c t zeros) := by dsimp only [dats]

theorem before_0 (c : Dev nD) (t : Fin cfg0.N) (d) : (dats m 0 c).before 0 t d = iblk m c 0 t :=
  before0_0_of m _ (A_eq m c 0) (after_0 m c) t d
theorem before_1 (c : Dev nD) (t : Fin cfg0.N) (d) : (dats m 0 c).before 1 t d = iblk m c 1 t :=
  before0_1_of m _ (A_eq m c 1) (after_1 m c) t d
theorem before_2 (c : Dev nD) (t : Fin cfg0.N) (d) : (dats m 0 c).before 2 t d = cols m c t d := by
  unfold Dat.before; rw [if_pos (fetch0_2 t)]; rfl

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- What it leaves there, whatever lay in the columns' buffer past the array's end. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (cols m c t d)
        ∗ owns (c : Thread nD τ) (ms3 t) fullShare (prodCols (scr m c) (cols m c t d))))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1]
  rw [show (dats m 0 c).Φ t.succ = iprop(owns (c : Thread nD τ) scM fullShare (scr m c) ∗ (∃ r, prngReg c r)) from rfl]
  by_cases h0 : t.val = 0
  · have es : scr m c = normRows (iblk m c 0 t) (iblk m c 1 t) := by
      have e : t = first := Fin.ext h0
      rw [e]; rfl
    have hΦ : (dats m 0 c).Φ t.castSucc ⊢ iprop((∃ d, owns (c : Thread nD τ) scM fullShare d) ∗ (∃ r, prngReg c r)) := by
      rw [PhiS_castSucc m c t]
      rw [PhiS_zero m c _ _ h0, PhiA_eq]
    rw [es]
    iintro ⟨HΦ, Ho, ⟨%d0, H0⟩, ⟨%d1, H1⟩, ⟨%d2, H2⟩, ⟨%d3, H3⟩⟩
    ihave HΦ := hΦ $$ HΦ
    icases HΦ with ⟨HS, Hg⟩
    iapply (bodyFirst c (grid0.coords t) _ _ _ _ _ _ _ _ _ _ ((firstCol_iff t).mpr h0) (iblk m c 0 t) (iblk m c 1 t) (cols m c t d2) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    iexists d2
    isplitl [H2]; · iexact H2
    iexact H3
  · rw [PhiS_castSucc m c t, PhiS_pos m c _ _ h0]
    iintro ⟨⟨HS, Hg⟩, Ho, ⟨%d0, H0⟩, ⟨%d1, H1⟩, ⟨%d2, H2⟩, ⟨%d3, H3⟩⟩
    iapply (bodyRest c (grid0.coords t) _ _ _ _ _ _ _ _ _ _ (fun h => h0 ((firstCol_iff t).mp h)) (iblk m c 0 t) (iblk m c 1 t) (cols m c t d2) (scr m c) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    iexists d2
    isplitl [H2]; · iexact H2
    iexact H3

/-- The body table's row at point `t`'s slots. -/
theorem defs₀_row (t : Fin cfg0.N) : defs₀ (F := F) .tc cfg0.body (cfg0.bodyArgs t (cfg0.slots t)) = bodyAt0 t := by
  unfold defs₀; rw [Defs.onTc_tc]

/-- The buffers whose contents the frame does not follow: the result's. -/
def fgt : Fin cfg0.W → Bool := ![false, false, false, true]

theorem leaves_2 (c : Dev nD) (t : Fin cfg0.N) (d : Vec F S2048x512 .f32) :
    cols m c t d = win0_2.fill (grid0.coords t) d (win0_2.cut (grid0.coords t) (cols m c t zeros)) := by
  unfold cols; rw [Window.cut_fill]

/-- The body's post with the result's contents forgotten. -/
def postForget (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ X, owns (c : Thread nD τ) (ms3 t) fullShare X))

theorem post_forget (c : Dev nD) (t : Fin cfg0.N) : bodyPost m c t ⊢ postForget m c t := by
  unfold bodyPost postForget
  rw [after_2]
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← leaves_2]
    iexact H2
  iexists _; iexact H3

/-- The library's body obligation with the result's contents forgotten. -/
theorem obligation_forget (c : Dev nD) : BodyObligationLoose (dats (F := F) m 0 c) (defs₀ (F := F)) Variants.none () Set.univ fgt := fun t => by
  rw [bigSep_W0, bigSep_W0, defs₀_row]
  exact triple_restated (triple_restated (sound_body m c t) rfl .rfl fun _ => post_forget m c t) rfl .rfl fun _ => .rfl

/-- The body's post with the result's contents known inside the array. -/
def postExact (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ d, owns (c : Thread nD τ) (ms3 t) fullShare (win0_3.fill (grid0.coords t) d (win0_3.cut (grid0.coords t) ((dats m 0 c).after 3 t)))))

/-- What a block of the product holds inside the array does not depend on the columns past it. -/
def CutsAgree : Prop := ∀ (c : Dev nD) (t : Fin cfg0.N) (d : Vec F S2048x512 .f32),
  win0_3.cut (grid0.coords t) (prodCols (scr m c) (cols m c t zeros)) = win0_3.cut (grid0.coords t) (prodCols (scr m c) (cols m c t d))

theorem post_exact (hc : CutsAgree m) (c : Dev nD) (t : Fin cfg0.N) : bodyPost m c t ⊢ postExact m c t := by
  unfold bodyPost postExact
  rw [after_2, after_3]
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← leaves_2]
    iexact H2
  iexists (prodCols (scr m c) (cols m c t d))
  rw [hc c t d, Window.fill_cut]
  iexact H3

/-- The library's body obligation, where the products agree inside the array. -/
theorem obligation_exact (hc : CutsAgree m) (c : Dev nD) :
    BodyObligationLoose (dats (F := F) m 0 c) (defs₀ (F := F)) Variants.none () Set.univ := fun t => by
  rw [bigSep_W0, bigSep_W0, defs₀_row]
  exact triple_restated (triple_restated (sound_body m c t) rfl .rfl fun _ => post_exact m hc c t) rfl
    (by
      show _ ⊢ bodyPre m c t
      unfold bodyPre
      iintro ⟨HΦ, Ho, H0, H1, H2, ⟨%d, H3⟩⟩
      isplitl [HΦ]; · iexact HΦ
      isplitl [Ho]; · iexact Ho
      isplitl [H0]; · iexact H0
      isplitl [H1]; · iexact H1
      isplitl [H2]; · iexact H2
      iexists _; iexact H3) fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 13 := N_0; omega), PhiA_eq]
  iintro ⟨HS, Hg⟩
  isplitl [HS]
  · iexists _; iexact HS
  iexact Hg

/-- The buffers the host lines after the call write. -/
def tail : Finset (Ref sig .tc) :=
  {main_v4, main_v5, main_v6, main_v7, main_v8, main_v9, main_v10, main_v11, main_v12, main_v13, main_v14, main_v15, main_v16, main_v17, main_v18, main_v19, main_v20, main_v21, main_v22, main_v23, main_cst, main_cst_0, main_cst_1}

/-- They write no other. -/
theorem tail_writes : ∀ ops ∈ ([hostOps1] : List (List (HloOp τ sig (Elt F)))), ∀ op ∈ ops,
    ∀ b : Ref sig .tc, Proc.devRef .tc b ∈ op.writes → b ∈ tail := by
  intro ops hops op hop b hb
  simp only [List.mem_cons, List.mem_nil_iff, or_false] at hops
  rcases hops with rfl
  simp only [hostOps1, List.mem_cons, List.mem_nil_iff, or_false] at hop
  by_contra hn
  rcases hop with rfl | rfl | rfl | rfl | rfl | rfl | rfl | rfl | rfl | rfl | rfl | rfl | rfl | rfl | rfl | rfl | rfl | rfl | rfl | rfl | rfl | rfl | rfl
  all_goals
    simp only [StableHlo.nullary_writes, StableHlo.unary_writes, StableHlo.binary_writes, StableHlo.reshape_writes, Finset.mem_singleton] at hb
    exact StableHlo.devRef_ne_of_ne (fun e => hn (by rw [e]; decide)) hb

set_option backward.isDefEq.respectTransparency.types false in
/-- The launch, the result's contents forgotten. -/
theorem run_forget : θ_run defs (onTc (τ := τ) (main (F := F))) (s₀ m ρ)
    (fun r => RDat.FramePostR cfg0 (fun c => (dats m 0 c).toRForget fgt) tail (V m) r ∧ r.2.sem = fun _ => 0) :=
  Pipeline.θ_run_frame_around_T_track_forget (Q' := _) cfgs (dats m) (0 : Fin 1) launch0 defs₀ Variants.none fgt tail m ρ main
    (hbody := obligation_forget m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hin := hin m) (hout := hout m) (hQ' := fun _ h => h)

set_option backward.isDefEq.respectTransparency.types false in
/-- The launch, where the products agree inside the array. -/
theorem run_exact (hc : CutsAgree m) : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := obligation_exact m hc) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- A buffer no host line after the call writes is one the run leaves as the call found it. -/
theorem kept {b : Ref sig .tc} (hb : b ∈ Pipeline.restRefs sig spec0) (hn : b ∉ tail) : b ∈ Pipeline.restRefs sig spec0 \ tail :=
  Finset.mem_sdiff.mpr ⟨hb, hn⟩

/-- THE FRAME: the program terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (kept (Pipeline.mem_restRefs_of main_arg0 (by decide) (by decide)) (by decide))).trans (V_main_arg0 m c),
      ((h.1 c).2 main_arg1 (kept (Pipeline.mem_restRefs_of main_arg1 (by decide) (by decide)) (by decide))).trans (V_main_arg1 m c),
      (((dats m 0 c).toRForget_arrAt_iff (w := 2) rfl _ _).mp ((h.1 c).1 2)).trans (((dats m 0 c).arrAt_in 2 rfl _).trans ((A_eq m c 2).trans (V_main_arg2 m c)))⟩, h.2⟩) (run_forget m ρ)

end Cert.Samp

end
-- ==== Proof.Samp.Bits.lean ====
/- The in-projection of the new tokens in layer 0 at the machine's words: it is the idealized program's own text, so the frame carries over. -/
module

public import proofs.«01_k».proof.Defs
public import proofs.«01_k».proof.Proof.Samp.Frame
public import proofs.«01_k».proof.Proof.Gen.InSample0.Launch

@[expose] public section

set_option maxRecDepth 16384

noncomputable section

namespace Cert.Samp

open Idealize.ShloMosaic Idealize.SL.Sem

variable {F : FTy → Type} [FloatOps F]

/-- The two programs' bodies are one. -/
theorem body_table : Cert.InSample0.defs₀ (F := F) = Cert.InSample0Ideal.defs₀ (F := F) := by
  unfold Cert.InSample0.defs₀ Cert.InSample0Ideal.defs₀
  refine congrArg (Defs.onTc (nD := Cert.InSample0Ideal.nD) (τ := Cert.InSample0Ideal.τ) (sig := Cert.InSample0Ideal.sig)
    (Val := Elt F) (Λ := Cert.InSample0Ideal.Λ₀)) ?_
  funext l x
  obtain ⟨l, hl⟩ := l
  cases l with
  | zero => obtain ⟨t, s⟩ := x; rfl
  | succ n => exact absurd hl (Nat.not_lt.2 (Nat.le_add_left _ _))

/-- So are their tables. -/
theorem table : Cert.InSample0.defs (F := F) = Cert.InSample0Ideal.defs (F := F) :=
  congrArg (Pipeline.defs (Cert.InSample0Ideal.pcfgs (F := F))) body_table

/-- The frame of the program at the machine's words. -/
theorem frameBits : @Cert.quiescent_InSample0 Cert.InSample0.Gen.facts := by
  intro m g _
  rw [table]
  exact Cert.Samp.frame (F := Bits) m g

end Cert.Samp

end
-- ==== Proof.Samp.Value.lean ====
/- The in-projection of the new tokens in layer 0 over the extended reals: the kernel's results and the reference's are the same. -/
module

public import proofs.«01_k».proof.Defs
public import proofs.«01_k».proof.Proof.Samp.Frame
public import proofs.«01_k».proof.Proof.Gen.InSample0RefIdeal.Run
public import Idealize.ShloMosaic.Lib.Claim
public import Idealize.ShloMosaic.Lib.Pipeline.ValueKit
public import Idealize.ShloMosaic.Lib.Pointwise
public import Idealize.ShloMosaic.Lib.ValueIdx
public import Idealize.ShloMosaic.Lib.ValueLayout

@[expose] public section

set_option maxRecDepth 16384

noncomputable section

namespace Cert.Samp

open Cert.InSample0Ideal Cert.InSample0Ideal.Gen
open Cert.In (normOf)
open Idealize.ShloMosaic Idealize.ShloMosaic.TcCoe Idealize.SL.Sem
open Idealize.ShloMosaic.Pipeline (Dat Window)

variable (m : (ℓ : Loc nD τ sig) → Buf (Elt Ideal) ℓ)

/-- Where the blocks of each point lie, and how many of the last one's columns are in the array. -/
theorem blocks_at : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val)
    ∧ (win0_3.index t (0 : Fin 2) = 0 ∧ win0_3.index t (1 : Fin 2) = t.val)
    ∧ (win0_2.xsize (grid0.coords t) (0 : Fin 2) = 2048 ∧ win0_2.xsize (grid0.coords t) (1 : Fin 2) = min 512 (6432 - 512 * t.val))
    ∧ (win0_3.xsize (grid0.coords t) (0 : Fin 2) = 16 ∧ win0_3.xsize (grid0.coords t) (1 : Fin 2) = min 512 (6432 - 512 * t.val)) :=
  (by decide +kernel : ∀ t : Fin grid0.N, _)

/-- A staged column inside the array. -/
theorem cols_at (c : Dev nD) (t : Fin cfg0.N) (d : Vec Ideal S2048x512 .f32) (k : Fin 2048) (q : Fin 512) (s : Fin 6432)
    (h : s.val = 512 * t.val + q.val) :
    cols m c t d (ix2 (n0 := 2048) (n1 := 512) k q) = m ((c : Thread nD τ).loc main_arg2) (ix2 (n0 := 2048) (n1 := 6432) k s) := by
  obtain ⟨-, -, ⟨e0, e1⟩, -, ⟨x0, x1⟩, -⟩ := blocks_at t
  have hs : s.val < 6432 := s.isLt
  have hm : win0_2.moved (grid0.coords t) (ix2 (n0 := 2048) (n1 := 512) k q) = true := by
    refine (win0_2.moved_iff (grid0.coords t) _).mpr fun a => ?_
    match a with
    | ⟨0, _⟩ => show k.val < win0_2.xsize (grid0.coords t) (0 : Fin 2); rw [x0]; omega
    | ⟨1, _⟩ => show q.val < win0_2.xsize (grid0.coords t) (1 : Fin 2); rw [x1]; omega
  unfold cols Window.fill
  refine (dif_pos hm).trans ?_
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 2048 + 1 * k.val = k.val; rw [e0]; omega
  | ⟨1, _⟩ => show win0_2.index t 1 * 512 + 1 * q.val = s.val; rw [e1]; omega

/-- Inside the array a block of the product does not see the columns past it. -/
theorem cuts_agree : CutsAgree m := by
  intro c t d
  obtain ⟨-, -, -, -, -, ⟨x0, x1⟩⟩ := blocks_at t
  funext j
  have hj : (j 1).val < min 512 (6432 - 512 * t.val) := lt_of_lt_of_eq (j 1).isLt x1
  refine (prod_at _ _ _).trans (Eq.trans ?_ (prod_at _ _ _).symm)
  refine Finset.sum_congr rfl fun k _ => congrArg₂ (· * ·) rfl ?_
  have hs : 512 * t.val + (j 1).val < 6432 := by omega
  exact (cols_at m c t zeros k _ ⟨512 * t.val + (j 1).val, hs⟩ rfl).trans (cols_at m c t d k _ ⟨512 * t.val + (j 1).val, hs⟩ rfl).symm

/-- A staged row's entry. -/
theorem rows_at (c : Dev nD) (p : Fin 16) (k : Fin 2048) :
    (iblk m c 0 first : Vec Ideal S16x2048 .f32) (ix2 (n0 := 16) (n1 := 2048) p k) = V m c main_v1 (ix2 (n0 := 16) (n1 := 2048) p k) := by
  obtain ⟨⟨e0, e1⟩, -⟩ := blocks_at first
  unfold iblk
  rw [View.read_apply]
  show V m c main_v1 _ = V m c main_v1 _
  refine congrArg (V m c main_v1) (funext fun a => Fin.ext ?_)
  match a with
  | ⟨0, _⟩ => show win0_0.index first 0 * 16 + 1 * p.val = p.val; rw [e0]; omega
  | ⟨1, _⟩ => show win0_0.index first 1 * 2048 + 1 * k.val = k.val; rw [e1]; omega

/-- A staged gain. -/
theorem gain_at (c : Dev nD) (k : Fin 2048) :
    (iblk m c 1 first : Vec Ideal S1x2048 .f32) (ix2 (n0 := 1) (n1 := 2048) 0 k) = m ((c : Thread nD τ).loc main_arg1) (ix1 (n0 := 2048) k) := by
  obtain ⟨-, ⟨e0, e1⟩, -⟩ := blocks_at first
  refine Eq.trans (b := V m c main_v2 (ix2 (n0 := 1) (n1 := 2048) 0 k)) ?_ ?_
  · unfold iblk
    rw [View.read_apply]
    show V m c main_v2 _ = V m c main_v2 _
    refine congrArg (V m c main_v2) (funext fun a => Fin.ext ?_)
    match a with
    | ⟨0, _⟩ => show win0_1.index first 0 * 1 + 1 * 0 = 0; rw [e0]
    | ⟨1, _⟩ => show win0_1.index first 1 * 2048 + 1 * k.val = k.val; rw [e1]; omega
  · unfold V V0
    simp only [List.flatten_cons, List.flatten_nil, List.append_nil, List.cons_append, List.nil_append]
    entry_read
    pointwise

/-- The array the call leaves, over the rows it finds. -/
theorem kernel_value (c : Dev nD) : (dats m 0 c).arrAt 3 cfg0.N
    = projRows (V m c main_v1) (m ((c : Thread nD τ).loc main_arg1)) (m ((c : Thread nD τ).loc main_arg2)) := by
  refine (dats m 0 c).arrAt_eq_of_covers 3 _ (by decide +kernel) fun t hf y => ?_
  obtain ⟨-, -, -, ⟨e0, e1⟩, -, -⟩ := blocks_at t
  rw [after_3]
  refine (prod_at _ _ _).trans ?_
  have h0 : win0_3.index t 0 * 16 + 1 * (y 0).val = (y 0).val := by rw [e0]; omega
  have h1 : win0_3.index t 1 * 512 + 1 * (y 1).val = 512 * t.val + (y 1).val := by rw [e1]; omega
  refine Finset.sum_congr rfl fun k _ => congrArg₂ (· * ·) ?_ (cols_at m c t zeros k _ _ h1)
  unfold scr
  refine (norm_at _ _ _ _).trans ?_
  rw [gain_at]
  refine congrArg (fun f => normOf f _ k) (funext fun l => (rows_at m c _ l).trans ?_)
  exact congrArg (fun r => V m c main_v1 (ix2 (n0 := 16) (n1 := 2048) r l)) (Fin.ext h0.symm)

/-- The new tokens as the call finds them. -/
theorem entry_flat (c : Dev nD) : (V m c main_v0 : FVec Ideal S8x2048 .f32) = flat (m ((c : Thread nD τ).loc main_arg0)) := by
  funext j
  unfold flat V V0
  simp only [List.flatten_cons, List.flatten_nil, List.append_nil, List.cons_append, List.nil_append]
  entry_read
  pointwise

/-- The first eight of the padded rows are the new tokens. -/
theorem entry_padded (c : Dev nD) (r : Fin 16) (hr : r.val < 8) (k : Fin 2048) :
    (V m c main_v1 : FVec Ideal S16x2048 .f32) (ix2 (n0 := 16) (n1 := 2048) r k)
      = m ((c : Thread nD τ).loc main_arg0) (ix3 (n0 := 8) (n1 := 1) (n2 := 2048) ⟨r.val, hr⟩ 0 k) := by
  unfold V V0
  simp only [List.flatten_cons, List.flatten_nil, List.append_nil, List.cons_append, List.nil_append]
  entry_read
  pointwise
  exact pad_top (flat (m ((c : Thread nD τ).loc main_arg0))) (sitofp (F := Ideal) FTy.f32 (constantI S_ 32 0#32)) pads_S8x2048_S16x2048_080_000 h_S_ r hr k

/-- The host lines after the call take the first eight rows. -/
theorem suffix_proj (W : Valuation τ sig (Elt Ideal)) (A : Vec Ideal S16x6432 .f32) (B : Vec Ideal S8x6432 .f32)
    (hW : (W (Proc.devRef .tc main_v3) : FVec Ideal S16x6432 .f32) = A)
    (hB : ∀ (j : Fin 8) (k : Fin 6432) (h : j.val < 16), A (ix2 (n0 := 16) (n1 := 6432) ⟨j.val, h⟩ k) = B (ix2 (n0 := 8) (n1 := 6432) j k)) :
    (StableHlo.after hostOps1 W (Proc.devRef .tc main_v4) : FVec Ideal S8x6432 .f32) = B := by
  after_reads_simp
  rw [hW]
  funext j
  pointwise
  refine (hB (j 0) (j 1) _).trans (congrArg B (eq_ix2 j).symm)

/-- The keys. -/
theorem suffix_keys (W : Valuation τ sig (Elt Ideal)) (A : Vec Ideal S16x6432 .f32) (B : Vec Ideal S8x6432 .f32)
    (hW : (W (Proc.devRef .tc main_v3) : FVec Ideal S16x6432 .f32) = A)
    (hB : ∀ (j : Fin 8) (k : Fin 6432) (h : j.val < 16), A (ix2 (n0 := 16) (n1 := 6432) ⟨j.val, h⟩ k) = B (ix2 (n0 := 8) (n1 := 6432) j k)) :
    (StableHlo.after hostOps1 W (Proc.devRef .tc main_v6) : FVec Ideal S8x1x8x128 .f32) = headsOf B 1024 (by omega) := by
  after_reads_simp
  rw [hW]
  funext j
  unfold headsOf
  pointwise
  exact hB (j 0) _ _

/-- The values. -/
theorem suffix_values (W : Valuation τ sig (Elt Ideal)) (A : Vec Ideal S16x6432 .f32) (B : Vec Ideal S8x6432 .f32)
    (hW : (W (Proc.devRef .tc main_v3) : FVec Ideal S16x6432 .f32) = A)
    (hB : ∀ (j : Fin 8) (k : Fin 6432) (h : j.val < 16), A (ix2 (n0 := 16) (n1 := 6432) ⟨j.val, h⟩ k) = B (ix2 (n0 := 8) (n1 := 6432) j k)) :
    (StableHlo.after hostOps1 W (Proc.devRef .tc main_v8) : FVec Ideal S8x1x8x128 .f32) = headsOf B 2048 (by omega) := by
  after_reads_simp
  rw [hW]
  funext j
  unfold headsOf
  pointwise
  exact hB (j 0) _ _

set_option maxHeartbeats 1600000 in
/-- The normalised new tokens. -/
theorem suffix_last (W : Valuation τ sig (Elt Ideal)) (x : Vec Ideal S8x1x2048 .f32) (g : Vec Ideal S2048 .f32)
    (hx : (W (Proc.devRef .tc main_v0) : FVec Ideal S8x2048 .f32) = flat x)
    (hg : (W (Proc.devRef .tc main_arg1) : FVec Ideal S2048 .f32) = g) :
    (StableHlo.after hostOps1 W (Proc.devRef .tc main_v23) : FVec Ideal S8x2048 .f32) = lastOf x g := by
  after_reads_simp
  rw [hx, hg]
  funext j
  unfold lastOf normOf flat
  pointwise

/-- The call's arrays are different buffers. -/
theorem arrays_inj : Function.Injective (Pipeline.arrRef spec0) :=
  (by decide : ∀ w w', Pipeline.arrRef spec0 w = Pipeline.arrRef spec0 w' → w = w')

/-- The call's array as the host lines after it find it. -/
theorem call_array (c : Dev nD) : Pipeline.withArrays spec0 c (V0 m c) (fun w => (dats m 0 c).arrAt w cfg0.N) (Proc.devRef .tc main_v3)
    = projRows (V m c main_v1) (m ((c : Thread nD τ).loc main_arg1)) (m ((c : Thread nD τ).loc main_arg2)) :=
  (Pipeline.withArrays_arr spec0 arrays_inj c (V0 m c) (fun w => (dats m 0 c).arrAt w cfg0.N) 3).trans (kernel_value m c)

/-- The normalised new tokens after the host lines. -/
theorem value_last (c : Dev nD) : Pipeline.afterTail₀ cfgs (dats m) 0 (V0 m) [hostOps1] c main_v23 = lastOf (m ((c : Thread nD τ).loc main_arg0)) (m ((c : Thread nD τ).loc main_arg1)) := by
  unfold Pipeline.afterTail₀
  refine suffix_last _ _ _ ?_ ?_
  · exact (Pipeline.withArrays_of_ne spec0 c (V0 m c) _ main_v0 (by exact (by decide : ∀ w, Pipeline.arrRef spec0 w ≠ main_v0))).trans (entry_flat m c)
  · exact (Pipeline.withArrays_of_ne spec0 c (V0 m c) _ main_arg1 (by exact (by decide : ∀ w, Pipeline.arrRef spec0 w ≠ main_arg1))).trans (V_main_arg1 m c)

set_option maxHeartbeats 1600000 in
/-- The claim: from the same arguments both runs end with the same projection, keys, values and normalised tokens. -/
theorem algebraic : @Cert.algebraic_InSample0Ideal_InSample0RefIdeal Cert.InSample0Ideal.Gen.facts Cert.InSample0RefIdeal.Gen.facts := by
  intro m g m' g' _ hagree
  refine ⟨fun c => (proj (m ((c : Thread nD τ).loc main_arg0)) (m ((c : Thread nD τ).loc main_arg1)) (m ((c : Thread nD τ).loc main_arg2))), fun c => headsOf (proj (m ((c : Thread nD τ).loc main_arg0)) (m ((c : Thread nD τ).loc main_arg1)) (m ((c : Thread nD τ).loc main_arg2))) 1024 (by omega), fun c => headsOf (proj (m ((c : Thread nD τ).loc main_arg0)) (m ((c : Thread nD τ).loc main_arg1)) (m ((c : Thread nD τ).loc main_arg2))) 2048 (by omega), fun c => lastOf (m ((c : Thread nD τ).loc main_arg0)) (m ((c : Thread nD τ).loc main_arg1)), ?_, ?_⟩
  · refine (θ_run _ _ _).mono (fun r h c => ?_) (run_exact (F := Ideal) m g (cuts_agree m))
    have k (b : Ref sig .tc) (hb : b ∈ Pipeline.restRefs sig spec0) := (h c).2 b hb
    exact ⟨(k main_v4 (Pipeline.mem_restRefs_of main_v4 (by decide) (by decide))).trans (suffix_proj _ _ _ (call_array m c) (top_rows _ _ _ _ (entry_padded m c))),
      (k main_v6 (Pipeline.mem_restRefs_of main_v6 (by decide) (by decide))).trans (suffix_keys _ _ _ (call_array m c) (top_rows _ _ _ _ (entry_padded m c))),
      (k main_v8 (Pipeline.mem_restRefs_of main_v8 (by decide) (by decide))).trans (suffix_values _ _ _ (call_array m c) (top_rows _ _ _ _ (entry_padded m c))),
      (k main_v23 (Pipeline.mem_restRefs_of main_v23 (by decide) (by decide))).trans (value_last m c),
      (k main_arg0 (Pipeline.mem_restRefs_of main_arg0 (by decide) (by decide))).trans (W_main_arg0 m (dats m) c),
      (k main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩
  · refine (θ_run _ _ _).mono (fun r h c => ?_) (Cert.InSample0RefIdeal.Value.run (F := Ideal) m' g')
    obtain ⟨h0, h1, h2, h3, k⟩ := h c
    obtain ⟨e0, e1, e2⟩ := hagree c
    refine ⟨h0.trans ?_, h1.trans ?_, h2.trans ?_, h3.trans ?_, k⟩
    · rw [e0, e1, e2]
      funext j
      unfold proj normOf
      pointwise
    · rw [e0, e1, e2]
      funext j
      unfold headsOf proj normOf
      pointwise
    · rw [e0, e1, e2]
      funext j
      unfold headsOf proj normOf
      pointwise
    · rw [e0, e1]
      funext j
      unfold lastOf normOf
      pointwise

end Cert.Samp

end
-- ==== Proof.SampG.Body.lean ====
/- The in-projection of the new tokens in layers 1 and 3's body: at the first point it normalises the rows into its scratch, and at every point it
   multiplies the scratch by a block of columns. -/
module

public import proofs.«01_k».proof.Proof.Gen.InSample1Ideal.Frame
public import proofs.«01_k».proof.Proof.Samp.Plain
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.SampG

open Cert.InSample1Ideal Cert.InSample1Ideal.Gen
open Cert.In (normOf read_store load_store zero2)
open Cert.Samp (normRows prodCols projRows proj headsOf lastOf flat nextRows entry prod_at norm_at pad_top top_rows)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- The condition of the body's branch: the point is the first. -/
abbrev firstCol (i : grid0.Coords) : Prop := (Scalar.cmpi .ne (Scalar.extui (Scalar.cmpi .eq (BitVec.ofNat 32 (i 1).val) 0#32)) 0#32) = 1#1

/-- It holds at point 0 alone. -/
theorem firstCol_iff : ∀ t : Fin cfg0.N, firstCol (grid0.coords t) ↔ t.val = 0 :=
  (by decide +kernel : ∀ t : Fin grid0.N, firstCol (grid0.coords t) ↔ t.val = 0)

set_option maxHeartbeats 4000000 in
/-- The first point: the scratch is left at the normalised rows, the output at their product with the columns. -/
theorem bodyFirst (c : Dev nD) (i : grid0.Coords)
    (arg2 : Memref sig .tc .vmem S16x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S16x512 .f32) (harg5 : arg5.IsWhole)
    (arg6 : Memref sig .tc .vmem S16x2048 .bf16) (harg6 : arg6.IsWhole) (hc : firstCol i)
    (x : Vec F S16x2048 .f32) (g : Vec F S1x2048 .f32) (w : Vec F S2048x512 .f32) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare g ∗ owns (c : Thread nD τ) arg4 fullShare w
            ∗ owns (c : Thread nD τ) arg5 fullShare (prodCols (normRows x g) w) ∗ owns (c : Thread nD τ) arg6 fullShare (normRows x g)) -∗ K ⟨⟩))
      ⊢ wp frame (wpE (defs₀ (F := F)) Variants.none c none) E (cc0_matmul i arg2 harg2 arg3 harg3 arg4 harg4 arg5 harg5 arg6 harg6) K := by
  unfold cc0_matmul
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  have ex : View.readAt (Elt F) arg2.view (Rect.unit (s := S16x2048) ![0, 0] S16x2048.size inb_S16x2048_S16x2048_0_0).toLoadRect (harg2.unread x) = x := by
    rw [View.readAt_eq_ld, harg2.read_unread, View.ld_unit_zero (S := S16x2048) zero2]
  have eg : View.readAt (Elt F) arg3.view (Rect.unit (s := S1x2048) ![0, 0] S1x2048.size inb_S1x2048_S1x2048_0_0).toLoadRect (harg3.unread g) = g := by
    rw [View.readAt_eq_ld, harg3.read_unread, View.ld_unit_zero (S := S1x2048) zero2]
  have ew : View.readAt (Elt F) arg4.view (Rect.unit (s := S2048x512) ![0, 0] S2048x512.size inb_S2048x512_S2048x512_0_0).toLoadRect (harg4.unread w) = w := by
    rw [View.readAt_eq_ld, harg4.read_unread, View.ld_unit_zero (S := S2048x512) zero2]
  have eh : bodyFirst.sl.v27 c arg2 harg2 arg3 harg3 x g = normRows x g := by
    unfold bodyFirst.sl.v27
    refine (shapeCast_self _ _).trans ?_
    refine (show _ = normRows (shapeCast S16x2048 (View.readAt (Elt F) arg2.view (Rect.unit (s := S16x2048) ![0, 0] S16x2048.size inb_S16x2048_S16x2048_0_0).toLoadRect (harg2.unread x)) shapeCasts_S16x2048_S16x2048)
      (shapeCast S1x2048 (View.readAt (Elt F) arg3.view (Rect.unit (s := S1x2048) ![0, 0] S1x2048.size inb_S1x2048_S1x2048_0_0).toLoadRect (harg3.unread g)) shapeCasts_S1x2048_S1x2048) from rfl).trans ?_
    exact congrArg₂ normRows ((shapeCast_self _ _).trans ex) ((shapeCast_self _ _).trans eg)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_store arg5 f3 zero2 _ _).trans ?_
    unfold bodyFirst.sl.v6 bodyFirst.sl.v3 bodyFirst.sl.v5 bodyFirst.sl.cst bodyFirst.sl.H4_1 prodCols
    rw [load_store arg6 zero2, eh, ew]
    rfl
  iexists _; isplitr; swap; · iexact H4
  ipureintro
  unfold bodyFirst.sl.H4_1
  refine (read_store arg6 f4 zero2 _ _).trans ?_
  exact eh
set_option maxHeartbeats 4000000 in
/-- Any other point: the scratch stays, the output is left at its product with the columns. -/
theorem bodyRest (c : Dev nD) (i : grid0.Coords)
    (arg2 : Memref sig .tc .vmem S16x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S16x512 .f32) (harg5 : arg5.IsWhole)
    (arg6 : Memref sig .tc .vmem S16x2048 .bf16) (harg6 : arg6.IsWhole) (hc : ¬ firstCol i)
    (x : Vec F S16x2048 .f32) (g : Vec F S1x2048 .f32) (w : Vec F S2048x512 .f32) (h : Vec F S16x2048 .bf16) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ owns (c : Thread nD τ) arg6 fullShare h
        ∗ (iprop(owns (c : Thread nD τ) arg2 fullShare x ∗ owns (c : Thread nD τ) arg3 fullShare g ∗ owns (c : Thread nD τ) arg4 fullShare w
            ∗ owns (c : Thread nD τ) arg5 fullShare (prodCols h w) ∗ owns (c : Thread nD τ) arg6 fullShare h) -∗ K ⟨⟩))
      ⊢ wp frame (wpE (defs₀ (F := F)) Variants.none c none) E (cc0_matmul i arg2 harg2 arg3 harg3 arg4 harg4 arg5 harg5 arg6 harg6) K := by
  unfold cc0_matmul
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  have ew : View.readAt (Elt F) arg4.view (Rect.unit (s := S2048x512) ![0, 0] S2048x512.size inb_S2048x512_S2048x512_0_0).toLoadRect (harg4.unread w) = w := by
    rw [View.readAt_eq_ld, harg4.read_unread, View.ld_unit_zero (S := S2048x512) zero2]
  have eh : View.readAt (Elt F) arg6.view (Rect.unit (s := S16x2048) ![0, 0] S16x2048.size inb_S16x2048_S16x2048_0_0).toLoadRect (harg6.unread h) = h := by
    rw [View.readAt_eq_ld, harg6.read_unread, View.ld_unit_zero (S := S16x2048) zero2]
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_store arg5 f3 zero2 _ _).trans ?_
    unfold bodyRest.sl.v6 bodyRest.sl.v5 bodyRest.sl.cst
    unfold prodCols
    rw [ew, eh]
    rfl
  iexists _; isplitr; · ipureintro; exact harg6.read_unread _
  iexact H4

end Cert.SampG

end
-- ==== Proof.SampG.Frame.lean ====
/- The in-projection of the new tokens in layers 1 and 3's run: what every buffer holds at each grid point, and the frame. -/
module

public import proofs.«01_k».proof.Proof.SampG.Body

@[expose] public section

set_option maxRecDepth 16384

noncomputable section

namespace Cert.SampG

open Cert.InSample1Ideal Cert.InSample1Ideal.Gen
open Cert.In (normOf read_store load_store zero2)
open Cert.Samp (normRows prodCols projRows proj headsOf lastOf flat nextRows entry prod_at norm_at pad_top top_rows)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
def first : Fin cfg0.N := ⟨0, by have : cfg0.N = 25 := N_0; omega⟩

/-- The normalised rows: every point stages the same. -/
def scr (c : Dev nD) : FVec F S16x2048 .bf16 := normRows (iblk m c 0 first) (iblk m c 1 first)

/-- The columns staged at a point: the block the fetch moves, over what the buffer held. -/
def cols (c : Dev nD) (t : Fin cfg0.N) (d : Vec F S2048x512 .f32) : Vec F S2048x512 .f32 :=
  win0_2.fill (grid0.coords t) d (iblk m c 2 t)

/-- Zeros, named where a buffer's contents are nobody's business. -/
def zeros : Vec F S2048x512 .f32 := fun _ => Scalar.ofBits .f32 0x00000000#32

abbrev ms0 (t : Fin cfg0.N) : Memref sig .tc .vmem S16x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x512 .f32 := win0_2.stage (cfg0.slots t 2)
abbrev ms3 (t : Fin cfg0.N) : Memref sig .tc .vmem S16x512 .f32 := win0_3.stage (cfg0.slots t 3)
abbrev scM : Memref sig .tc .vmem S16x2048 .bf16 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The region's invariant before point `n`: the scratch holds the rows the point before left in it. -/
def PhiS (c : Dev nD) : (n : ℕ) → n ≤ cfg0.N → sProp 𝕄
  | 0, _ => Pipeline.ΦA spec0 c
  | n + 1, h => iprop(owns (c : Thread nD τ) scM fullShare (scr m c) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) scM fullShare (scr m c) ∗ (∃ r, prngReg c r)) := by
  obtain ⟨k, rfl⟩ := Nat.exists_eq_succ_of_ne_zero hz; rfl

/-- The proof data: the arrays as the region finds them, what each point leaves in the staging buffers, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => cols m c t zeros
    | ⟨3, _⟩ => prodCols (scr m c) (cols m c t zeros)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = cols m c t zeros := by dsimp only [dats]
theorem after_3 (c : Dev nD) (t : Fin cfg0.N) : (dats m 0 c).after 3 t = prodCols (scr m c) (cols m c t zeros) := by dsimp only [dats]

theorem before_0 (c : Dev nD) (t : Fin cfg0.N) (d) : (dats m 0 c).before 0 t d = iblk m c 0 t :=
  before0_0_of m _ (A_eq m c 0) (after_0 m c) t d
theorem before_1 (c : Dev nD) (t : Fin cfg0.N) (d) : (dats m 0 c).before 1 t d = iblk m c 1 t :=
  before0_1_of m _ (A_eq m c 1) (after_1 m c) t d
theorem before_2 (c : Dev nD) (t : Fin cfg0.N) (d) : (dats m 0 c).before 2 t d = cols m c t d := by
  unfold Dat.before; rw [if_pos (fetch0_2 t)]; rfl

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- What it leaves there, whatever lay in the columns' buffer past the array's end. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (cols m c t d)
        ∗ owns (c : Thread nD τ) (ms3 t) fullShare (prodCols (scr m c) (cols m c t d))))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1]
  rw [show (dats m 0 c).Φ t.succ = iprop(owns (c : Thread nD τ) scM fullShare (scr m c) ∗ (∃ r, prngReg c r)) from rfl]
  by_cases h0 : t.val = 0
  · have es : scr m c = normRows (iblk m c 0 t) (iblk m c 1 t) := by
      have e : t = first := Fin.ext h0
      rw [e]; rfl
    have hΦ : (dats m 0 c).Φ t.castSucc ⊢ iprop((∃ d, owns (c : Thread nD τ) scM fullShare d) ∗ (∃ r, prngReg c r)) := by
      rw [PhiS_castSucc m c t]
      rw [PhiS_zero m c _ _ h0, PhiA_eq]
    rw [es]
    iintro ⟨HΦ, Ho, ⟨%d0, H0⟩, ⟨%d1, H1⟩, ⟨%d2, H2⟩, ⟨%d3, H3⟩⟩
    ihave HΦ := hΦ $$ HΦ
    icases HΦ with ⟨HS, Hg⟩
    iapply (bodyFirst c (grid0.coords t) _ _ _ _ _ _ _ _ _ _ ((firstCol_iff t).mpr h0) (iblk m c 0 t) (iblk m c 1 t) (cols m c t d2) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    iexists d2
    isplitl [H2]; · iexact H2
    iexact H3
  · rw [PhiS_castSucc m c t, PhiS_pos m c _ _ h0]
    iintro ⟨⟨HS, Hg⟩, Ho, ⟨%d0, H0⟩, ⟨%d1, H1⟩, ⟨%d2, H2⟩, ⟨%d3, H3⟩⟩
    iapply (bodyRest c (grid0.coords t) _ _ _ _ _ _ _ _ _ _ (fun h => h0 ((firstCol_iff t).mp h)) (iblk m c 0 t) (iblk m c 1 t) (cols m c t d2) (scr m c) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    iexists d2
    isplitl [H2]; · iexact H2
    iexact H3

/-- The body table's row at point `t`'s slots. -/
theorem defs₀_row (t : Fin cfg0.N) : defs₀ (F := F) .tc cfg0.body (cfg0.bodyArgs t (cfg0.slots t)) = bodyAt0 t := by
  unfold defs₀; rw [Defs.onTc_tc]

/-- The buffers whose contents the frame does not follow: the result's. -/
def fgt : Fin cfg0.W → Bool := ![false, false, false, true]

theorem leaves_2 (c : Dev nD) (t : Fin cfg0.N) (d : Vec F S2048x512 .f32) :
    cols m c t d = win0_2.fill (grid0.coords t) d (win0_2.cut (grid0.coords t) (cols m c t zeros)) := by
  unfold cols; rw [Window.cut_fill]

/-- The body's post with the result's contents forgotten. -/
def postForget (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ X, owns (c : Thread nD τ) (ms3 t) fullShare X))

theorem post_forget (c : Dev nD) (t : Fin cfg0.N) : bodyPost m c t ⊢ postForget m c t := by
  unfold bodyPost postForget
  rw [after_2]
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← leaves_2]
    iexact H2
  iexists _; iexact H3

/-- The library's body obligation with the result's contents forgotten. -/
theorem obligation_forget (c : Dev nD) : BodyObligationLoose (dats (F := F) m 0 c) (defs₀ (F := F)) Variants.none () Set.univ fgt := fun t => by
  rw [bigSep_W0, bigSep_W0, defs₀_row]
  exact triple_restated (triple_restated (sound_body m c t) rfl .rfl fun _ => post_forget m c t) rfl .rfl fun _ => .rfl

/-- The body's post with the result's contents known inside the array. -/
def postExact (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ d, owns (c : Thread nD τ) (ms3 t) fullShare (win0_3.fill (grid0.coords t) d (win0_3.cut (grid0.coords t) ((dats m 0 c).after 3 t)))))

/-- What a block of the product holds inside the array does not depend on the columns past it. -/
def CutsAgree : Prop := ∀ (c : Dev nD) (t : Fin cfg0.N) (d : Vec F S2048x512 .f32),
  win0_3.cut (grid0.coords t) (prodCols (scr m c) (cols m c t zeros)) = win0_3.cut (grid0.coords t) (prodCols (scr m c) (cols m c t d))

theorem post_exact (hc : CutsAgree m) (c : Dev nD) (t : Fin cfg0.N) : bodyPost m c t ⊢ postExact m c t := by
  unfold bodyPost postExact
  rw [after_2, after_3]
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← leaves_2]
    iexact H2
  iexists (prodCols (scr m c) (cols m c t d))
  rw [hc c t d, Window.fill_cut]
  iexact H3

/-- The library's body obligation, where the products agree inside the array. -/
theorem obligation_exact (hc : CutsAgree m) (c : Dev nD) :
    BodyObligationLoose (dats (F := F) m 0 c) (defs₀ (F := F)) Variants.none () Set.univ := fun t => by
  rw [bigSep_W0, bigSep_W0, defs₀_row]
  exact triple_restated (triple_restated (sound_body m c t) rfl .rfl fun _ => post_exact m hc c t) rfl
    (by
      show _ ⊢ bodyPre m c t
      unfold bodyPre
      iintro ⟨HΦ, Ho, H0, H1, H2, ⟨%d, H3⟩⟩
      isplitl [HΦ]; · iexact HΦ
      isplitl [Ho]; · iexact Ho
      isplitl [H0]; · iexact H0
      isplitl [H1]; · iexact H1
      isplitl [H2]; · iexact H2
      iexists _; iexact H3) fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 25 := N_0; omega), PhiA_eq]
  iintro ⟨HS, Hg⟩
  isplitl [HS]
  · iexists _; iexact HS
  iexact Hg

/-- The buffers the host lines after the call write. -/
def tail : Finset (Ref sig .tc) :=
  {main_v4, main_v5, main_v6, main_v7, main_v8}

/-- They write no other. -/
theorem tail_writes : ∀ ops ∈ ([hostOps1] : List (List (HloOp τ sig (Elt F)))), ∀ op ∈ ops,
    ∀ b : Ref sig .tc, Proc.devRef .tc b ∈ op.writes → b ∈ tail := by
  intro ops hops op hop b hb
  simp only [List.mem_cons, List.mem_nil_iff, or_false] at hops
  rcases hops with rfl
  simp only [hostOps1, List.mem_cons, List.mem_nil_iff, or_false] at hop
  by_contra hn
  rcases hop with rfl | rfl | rfl | rfl | rfl
  all_goals
    simp only [StableHlo.nullary_writes, StableHlo.unary_writes, StableHlo.binary_writes, StableHlo.reshape_writes, Finset.mem_singleton] at hb
    exact StableHlo.devRef_ne_of_ne (fun e => hn (by rw [e]; decide)) hb

set_option backward.isDefEq.respectTransparency.types false in
/-- The launch, the result's contents forgotten. -/
theorem run_forget : θ_run defs (onTc (τ := τ) (main (F := F))) (s₀ m ρ)
    (fun r => RDat.FramePostR cfg0 (fun c => (dats m 0 c).toRForget fgt) tail (V m) r ∧ r.2.sem = fun _ => 0) :=
  Pipeline.θ_run_frame_around_T_track_forget (Q' := _) cfgs (dats m) (0 : Fin 1) launch0 defs₀ Variants.none fgt tail m ρ main
    (hbody := obligation_forget m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hin := hin m) (hout := hout m) (hQ' := fun _ h => h)

set_option backward.isDefEq.respectTransparency.types false in
/-- The launch, where the products agree inside the array. -/
theorem run_exact (hc : CutsAgree m) : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := obligation_exact m hc) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- A buffer no host line after the call writes is one the run leaves as the call found it. -/
theorem kept {b : Ref sig .tc} (hb : b ∈ Pipeline.restRefs sig spec0) (hn : b ∉ tail) : b ∈ Pipeline.restRefs sig spec0 \ tail :=
  Finset.mem_sdiff.mpr ⟨hb, hn⟩

/-- THE FRAME: the program terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (kept (Pipeline.mem_restRefs_of main_arg0 (by decide) (by decide)) (by decide))).trans (V_main_arg0 m c),
      ((h.1 c).2 main_arg1 (kept (Pipeline.mem_restRefs_of main_arg1 (by decide) (by decide)) (by decide))).trans (V_main_arg1 m c),
      (((dats m 0 c).toRForget_arrAt_iff (w := 2) rfl _ _).mp ((h.1 c).1 2)).trans (((dats m 0 c).arrAt_in 2 rfl _).trans ((A_eq m c 2).trans (V_main_arg2 m c))),
      ((h.1 c).2 main_arg3 (kept (Pipeline.mem_restRefs_of main_arg3 (by decide) (by decide)) (by decide))).trans (V_main_arg3 m c)⟩, h.2⟩) (run_forget m ρ)

end Cert.SampG

end
-- ==== Proof.SampG.Bits.lean ====
/- The in-projection of the new tokens in layers 1 and 3 at the machine's words: it is the idealized program's own text, so the frame carries over. -/
module

public import proofs.«01_k».proof.Defs
public import proofs.«01_k».proof.Proof.SampG.Frame
public import proofs.«01_k».proof.Proof.Gen.InSample1.Launch

@[expose] public section

set_option maxRecDepth 16384

noncomputable section

namespace Cert.SampG

open Idealize.ShloMosaic Idealize.SL.Sem

variable {F : FTy → Type} [FloatOps F]

/-- The two programs' bodies are one. -/
theorem body_table : Cert.InSample1.defs₀ (F := F) = Cert.InSample1Ideal.defs₀ (F := F) := by
  unfold Cert.InSample1.defs₀ Cert.InSample1Ideal.defs₀
  refine congrArg (Defs.onTc (nD := Cert.InSample1Ideal.nD) (τ := Cert.InSample1Ideal.τ) (sig := Cert.InSample1Ideal.sig)
    (Val := Elt F) (Λ := Cert.InSample1Ideal.Λ₀)) ?_
  funext l x
  obtain ⟨l, hl⟩ := l
  cases l with
  | zero => obtain ⟨t, s⟩ := x; rfl
  | succ n => exact absurd hl (Nat.not_lt.2 (Nat.le_add_left _ _))

/-- So are their tables. -/
theorem table : Cert.InSample1.defs (F := F) = Cert.InSample1Ideal.defs (F := F) :=
  congrArg (Pipeline.defs (Cert.InSample1Ideal.pcfgs (F := F))) body_table

/-- The frame of the program at the machine's words. -/
theorem frameBits : @Cert.quiescent_InSample1 Cert.InSample1.Gen.facts := by
  intro m g _
  rw [table]
  exact Cert.SampG.frame (F := Bits) m g

end Cert.SampG

end
-- ==== Proof.SampG.Value.lean ====
/- The in-projection of the new tokens in layers 1 and 3 over the extended reals: the kernel's results and the reference's are the same. -/
module

public import proofs.«01_k».proof.Defs
public import proofs.«01_k».proof.Proof.SampG.Frame
public import proofs.«01_k».proof.Proof.Gen.InSample1RefIdeal.Run
public import Idealize.ShloMosaic.Lib.Claim
public import Idealize.ShloMosaic.Lib.Pipeline.ValueKit
public import Idealize.ShloMosaic.Lib.Pointwise
public import Idealize.ShloMosaic.Lib.ValueIdx
public import Idealize.ShloMosaic.Lib.ValueLayout

@[expose] public section

set_option maxRecDepth 16384

noncomputable section

namespace Cert.SampG

open Cert.InSample1Ideal Cert.InSample1Ideal.Gen
open Cert.In (normOf)
open Cert.Samp (normRows prodCols projRows proj headsOf lastOf flat nextRows entry prod_at norm_at pad_top top_rows)
open Idealize.ShloMosaic Idealize.ShloMosaic.TcCoe Idealize.SL.Sem
open Idealize.ShloMosaic.Pipeline (Dat Window)

variable (m : (ℓ : Loc nD τ sig) → Buf (Elt Ideal) ℓ)

/-- Where the blocks of each point lie, and how many of the last one's columns are in the array. -/
theorem blocks_at : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val)
    ∧ (win0_3.index t (0 : Fin 2) = 0 ∧ win0_3.index t (1 : Fin 2) = t.val)
    ∧ (win0_2.xsize (grid0.coords t) (0 : Fin 2) = 2048 ∧ win0_2.xsize (grid0.coords t) (1 : Fin 2) = min 512 (12352 - 512 * t.val))
    ∧ (win0_3.xsize (grid0.coords t) (0 : Fin 2) = 16 ∧ win0_3.xsize (grid0.coords t) (1 : Fin 2) = min 512 (12352 - 512 * t.val)) :=
  (by decide +kernel : ∀ t : Fin grid0.N, _)

/-- A staged column inside the array. -/
theorem cols_at (c : Dev nD) (t : Fin cfg0.N) (d : Vec Ideal S2048x512 .f32) (k : Fin 2048) (q : Fin 512) (s : Fin 12352)
    (h : s.val = 512 * t.val + q.val) :
    cols m c t d (ix2 (n0 := 2048) (n1 := 512) k q) = m ((c : Thread nD τ).loc main_arg2) (ix2 (n0 := 2048) (n1 := 12352) k s) := by
  obtain ⟨-, -, ⟨e0, e1⟩, -, ⟨x0, x1⟩, -⟩ := blocks_at t
  have hs : s.val < 12352 := s.isLt
  have hm : win0_2.moved (grid0.coords t) (ix2 (n0 := 2048) (n1 := 512) k q) = true := by
    refine (win0_2.moved_iff (grid0.coords t) _).mpr fun a => ?_
    match a with
    | ⟨0, _⟩ => show k.val < win0_2.xsize (grid0.coords t) (0 : Fin 2); rw [x0]; omega
    | ⟨1, _⟩ => show q.val < win0_2.xsize (grid0.coords t) (1 : Fin 2); rw [x1]; omega
  unfold cols Window.fill
  refine (dif_pos hm).trans ?_
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 2048 + 1 * k.val = k.val; rw [e0]; omega
  | ⟨1, _⟩ => show win0_2.index t 1 * 512 + 1 * q.val = s.val; rw [e1]; omega

/-- Inside the array a block of the product does not see the columns past it. -/
theorem cuts_agree : CutsAgree m := by
  intro c t d
  obtain ⟨-, -, -, -, -, ⟨x0, x1⟩⟩ := blocks_at t
  funext j
  have hj : (j 1).val < min 512 (12352 - 512 * t.val) := lt_of_lt_of_eq (j 1).isLt x1
  refine (prod_at _ _ _).trans (Eq.trans ?_ (prod_at _ _ _).symm)
  refine Finset.sum_congr rfl fun k _ => congrArg₂ (· * ·) rfl ?_
  have hs : 512 * t.val + (j 1).val < 12352 := by omega
  exact (cols_at m c t zeros k _ ⟨512 * t.val + (j 1).val, hs⟩ rfl).trans (cols_at m c t d k _ ⟨512 * t.val + (j 1).val, hs⟩ rfl).symm

/-- A staged row's entry. -/
theorem rows_at (c : Dev nD) (p : Fin 16) (k : Fin 2048) :
    (iblk m c 0 first : Vec Ideal S16x2048 .f32) (ix2 (n0 := 16) (n1 := 2048) p k) = V m c main_v1 (ix2 (n0 := 16) (n1 := 2048) p k) := by
  obtain ⟨⟨e0, e1⟩, -⟩ := blocks_at first
  unfold iblk
  rw [View.read_apply]
  show V m c main_v1 _ = V m c main_v1 _
  refine congrArg (V m c main_v1) (funext fun a => Fin.ext ?_)
  match a with
  | ⟨0, _⟩ => show win0_0.index first 0 * 16 + 1 * p.val = p.val; rw [e0]; omega
  | ⟨1, _⟩ => show win0_0.index first 1 * 2048 + 1 * k.val = k.val; rw [e1]; omega

/-- A staged gain. -/
theorem gain_at (c : Dev nD) (k : Fin 2048) :
    (iblk m c 1 first : Vec Ideal S1x2048 .f32) (ix2 (n0 := 1) (n1 := 2048) 0 k) = m ((c : Thread nD τ).loc main_arg1) (ix1 (n0 := 2048) k) := by
  obtain ⟨-, ⟨e0, e1⟩, -⟩ := blocks_at first
  refine Eq.trans (b := V m c main_v2 (ix2 (n0 := 1) (n1 := 2048) 0 k)) ?_ ?_
  · unfold iblk
    rw [View.read_apply]
    show V m c main_v2 _ = V m c main_v2 _
    refine congrArg (V m c main_v2) (funext fun a => Fin.ext ?_)
    match a with
    | ⟨0, _⟩ => show win0_1.index first 0 * 1 + 1 * 0 = 0; rw [e0]
    | ⟨1, _⟩ => show win0_1.index first 1 * 2048 + 1 * k.val = k.val; rw [e1]; omega
  · unfold V V0
    simp only [List.flatten_cons, List.flatten_nil, List.append_nil, List.cons_append, List.nil_append]
    entry_read
    pointwise

/-- The array the call leaves, over the rows it finds. -/
theorem kernel_value (c : Dev nD) : (dats m 0 c).arrAt 3 cfg0.N
    = projRows (V m c main_v1) (m ((c : Thread nD τ).loc main_arg1)) (m ((c : Thread nD τ).loc main_arg2)) := by
  refine (dats m 0 c).arrAt_eq_of_covers 3 _ (by decide +kernel) fun t hf y => ?_
  obtain ⟨-, -, -, ⟨e0, e1⟩, -, -⟩ := blocks_at t
  rw [after_3]
  refine (prod_at _ _ _).trans ?_
  have h0 : win0_3.index t 0 * 16 + 1 * (y 0).val = (y 0).val := by rw [e0]; omega
  have h1 : win0_3.index t 1 * 512 + 1 * (y 1).val = 512 * t.val + (y 1).val := by rw [e1]; omega
  refine Finset.sum_congr rfl fun k _ => congrArg₂ (· * ·) ?_ (cols_at m c t zeros k _ _ h1)
  unfold scr
  refine (norm_at _ _ _ _).trans ?_
  rw [gain_at]
  refine congrArg (fun f => normOf f _ k) (funext fun l => (rows_at m c _ l).trans ?_)
  exact congrArg (fun r => V m c main_v1 (ix2 (n0 := 16) (n1 := 2048) r l)) (Fin.ext h0.symm)

/-- The first eight of the padded rows are the new tokens. -/
theorem entry_padded (c : Dev nD) (r : Fin 16) (hr : r.val < 8) (k : Fin 2048) :
    (V m c main_v1 : FVec Ideal S16x2048 .f32) (ix2 (n0 := 16) (n1 := 2048) r k)
      = m ((c : Thread nD τ).loc main_arg0) (ix3 (n0 := 8) (n1 := 1) (n2 := 2048) ⟨r.val, hr⟩ 0 k) := by
  unfold V V0
  simp only [List.flatten_cons, List.flatten_nil, List.append_nil, List.cons_append, List.nil_append]
  entry_read
  pointwise
  exact pad_top (flat (m ((c : Thread nD τ).loc main_arg0))) (sitofp (F := Ideal) FTy.f32 (constantI S_ 32 0#32)) pads_S8x2048_S16x2048_080_000 h_S_ r hr k

/-- The host lines after the call take the first eight rows. -/
theorem suffix_proj (W : Valuation τ sig (Elt Ideal)) (A : Vec Ideal S16x12352 .f32) (B : Vec Ideal S8x12352 .f32)
    (hW : (W (Proc.devRef .tc main_v3) : FVec Ideal S16x12352 .f32) = A)
    (hB : ∀ (j : Fin 8) (k : Fin 12352) (h : j.val < 16), A (ix2 (n0 := 16) (n1 := 12352) ⟨j.val, h⟩ k) = B (ix2 (n0 := 8) (n1 := 12352) j k)) :
    (StableHlo.after hostOps1 W (Proc.devRef .tc main_v4) : FVec Ideal S8x12352 .f32) = B := by
  after_reads_simp
  rw [hW]
  funext j
  pointwise
  refine (hB (j 0) (j 1) _).trans (congrArg B (eq_ix2 j).symm)

/-- They take the new tokens' first columns. -/
theorem suffix_cols (W : Valuation τ sig (Elt Ideal)) (A : Vec Ideal S16x12352 .f32) (B : Vec Ideal S8x12352 .f32)
    (hW : (W (Proc.devRef .tc main_v3) : FVec Ideal S16x12352 .f32) = A)
    (hB : ∀ (j : Fin 8) (k : Fin 12352) (h : j.val < 16), A (ix2 (n0 := 16) (n1 := 12352) ⟨j.val, h⟩ k) = B (ix2 (n0 := 8) (n1 := 12352) j k)) :
    (StableHlo.upto hostOps1 W 3 (Proc.devRef .tc main_v6) : FVec Ideal S8x1x8192 .f32)
      = fun j => B (ix2 (n0 := 8) (n1 := 12352) (j 0) ⟨(j 2).val, lt_of_lt_of_le (j 2).isLt (by decide)⟩) := by
  after_reads_simp
  rw [hW]
  funext j
  pointwise
  exact hB (j 0) _ _

/-- The buffers moved on by one row. -/
theorem suffix_next (W : Valuation τ sig (Elt Ideal)) (A : Vec Ideal S16x12352 .f32) (B : Vec Ideal S8x12352 .f32) (b : Vec Ideal S8x3x8192 .f32)
    (hW : (W (Proc.devRef .tc main_v3) : FVec Ideal S16x12352 .f32) = A)
    (hb : (W (Proc.devRef .tc main_arg3) : FVec Ideal S8x3x8192 .f32) = b)
    (hB : ∀ (j : Fin 8) (k : Fin 12352) (h : j.val < 16), A (ix2 (n0 := 16) (n1 := 12352) ⟨j.val, h⟩ k) = B (ix2 (n0 := 8) (n1 := 12352) j k)) :
    (StableHlo.after hostOps1 W (Proc.devRef .tc main_v8) : FVec Ideal S8x3x8192 .f32) = nextRows (by decide) b B := by
  have hc := suffix_cols W A B hW hB
  have hz : (StableHlo.upto hostOps1 W 3 (Proc.devRef .tc main_arg3) : FVec Ideal S8x3x8192 .f32) = b := by
    after_reads_simp
    exact hb
  after_reads_simp
  generalize StableHlo.upto hostOps1 W 3 (Proc.devRef .tc main_v6) = C at hc ⊢
  generalize StableHlo.upto hostOps1 W 3 (Proc.devRef .tc main_arg3) = Z at hz ⊢
  subst hc
  subst hz
  funext j
  unfold nextRows
  pointwise

/-- The call's arrays are different buffers. -/
theorem arrays_inj : Function.Injective (Pipeline.arrRef spec0) :=
  (by decide : ∀ w w', Pipeline.arrRef spec0 w = Pipeline.arrRef spec0 w' → w = w')

/-- The call's array as the host lines after it find it. -/
theorem call_array (c : Dev nD) : Pipeline.withArrays spec0 c (V0 m c) (fun w => (dats m 0 c).arrAt w cfg0.N) (Proc.devRef .tc main_v3)
    = projRows (V m c main_v1) (m ((c : Thread nD τ).loc main_arg1)) (m ((c : Thread nD τ).loc main_arg2)) :=
  (Pipeline.withArrays_arr spec0 arrays_inj c (V0 m c) (fun w => (dats m 0 c).arrAt w cfg0.N) 3).trans (kernel_value m c)

/-- The buffers as the host lines after it find them. -/
theorem call_buffers (c : Dev nD) : Pipeline.withArrays spec0 c (V0 m c) (fun w => (dats m 0 c).arrAt w cfg0.N) (Proc.devRef .tc main_arg3)
    = m ((c : Thread nD τ).loc main_arg3) :=
  (Pipeline.withArrays_of_ne spec0 c (V0 m c) _ main_arg3 (by exact (by decide : ∀ w, Pipeline.arrRef spec0 w ≠ main_arg3))).trans (V_main_arg3 m c)

set_option maxHeartbeats 1600000 in
/-- The claim: from the same arguments both runs end with the same projection and the same buffers moved on. -/
theorem algebraic : @Cert.algebraic_InSample1Ideal_InSample1RefIdeal Cert.InSample1Ideal.Gen.facts Cert.InSample1RefIdeal.Gen.facts := by
  intro m g m' g' _ hagree
  refine ⟨fun c => (proj (m ((c : Thread nD τ).loc main_arg0)) (m ((c : Thread nD τ).loc main_arg1)) (m ((c : Thread nD τ).loc main_arg2))), fun c => nextRows (by decide) (m ((c : Thread nD τ).loc main_arg3)) (proj (m ((c : Thread nD τ).loc main_arg0)) (m ((c : Thread nD τ).loc main_arg1)) (m ((c : Thread nD τ).loc main_arg2))), ?_, ?_⟩
  · refine (θ_run _ _ _).mono (fun r h c => ?_) (run_exact (F := Ideal) m g (cuts_agree m))
    have k (b : Ref sig .tc) (hb : b ∈ Pipeline.restRefs sig spec0) := (h c).2 b hb
    exact ⟨(k main_v4 (Pipeline.mem_restRefs_of main_v4 (by decide) (by decide))).trans (suffix_proj _ _ _ (call_array m c) (top_rows _ _ _ _ (entry_padded m c))),
      (k main_v8 (Pipeline.mem_restRefs_of main_v8 (by decide) (by decide))).trans (suffix_next _ _ _ _ (call_array m c) (call_buffers m c) (top_rows _ _ _ _ (entry_padded m c))),
      (k main_arg0 (Pipeline.mem_restRefs_of main_arg0 (by decide) (by decide))).trans (W_main_arg0 m (dats m) c),
      (k main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      (k main_arg3 (Pipeline.mem_restRefs_of main_arg3 (by decide) (by decide))).trans (W_main_arg3 m (dats m) c)⟩
  · refine (θ_run _ _ _).mono (fun r h c => ?_) (Cert.InSample1RefIdeal.Value.run (F := Ideal) m' g')
    obtain ⟨h0, h1, k⟩ := h c
    obtain ⟨e0, e1, e2, e3⟩ := hagree c
    refine ⟨h0.trans ?_, h1.trans ?_, k⟩
    · rw [e0, e1, e2]
      funext j
      unfold proj normOf
      pointwise
    · rw [e0, e1, e2, e3]
      funext j
      unfold nextRows proj normOf
      pointwise
      have hz : ∀ p : 1 + (j 1).val - 3 < 1, (⟨1 + (j 1).val - 3, p⟩ : Fin 1) = 0 := fun p => Subsingleton.elim _ _
      simp only [hz]

end Cert.SampG

end
-- ==== Proof.Samp2.Body.lean ====
/- The in-projection of the new tokens in layer 2's body: at the first point it normalises the rows into its scratch, and at every point it
   multiplies the scratch by a block of columns. -/
module

public import proofs.«01_k».proof.Proof.Gen.InSample2Ideal.Frame
public import proofs.«01_k».proof.Proof.Samp.Plain
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.Samp2

open Cert.InSample2Ideal Cert.InSample2Ideal.Gen
open Cert.In (normOf read_store load_store zero2)
open Cert.Samp (normRows prodCols projRows proj headsOf lastOf flat nextRows entry prod_at norm_at pad_top top_rows)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- The condition of the body's branch: the point is the first. -/
abbrev firstCol (i : grid0.Coords) : Prop := (Scalar.cmpi .ne (Scalar.extui (Scalar.cmpi .eq (BitVec.ofNat 32 (i 1).val) 0#32)) 0#32) = 1#1

/-- It holds at point 0 alone. -/
theorem firstCol_iff : ∀ t : Fin cfg0.N, firstCol (grid0.coords t) ↔ t.val = 0 :=
  (by decide +kernel : ∀ t : Fin grid0.N, firstCol (grid0.coords t) ↔ t.val = 0)

set_option maxHeartbeats 4000000 in
/-- The first point: the scratch is left at the normalised rows, the output at their product with the columns. -/
theorem bodyFirst (c : Dev nD) (i : grid0.Coords)
    (arg2 : Memref sig .tc .vmem S16x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S16x512 .f32) (harg5 : arg5.IsWhole)
    (arg6 : Memref sig .tc .vmem S16x2048 .bf16) (harg6 : arg6.IsWhole) (hc : firstCol i)
    (x : Vec F S16x2048 .f32) (g : Vec F S1x2048 .f32) (w : Vec F S2048x512 .f32) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare g ∗ owns (c : Thread nD τ) arg4 fullShare w
            ∗ owns (c : Thread nD τ) arg5 fullShare (prodCols (normRows x g) w) ∗ owns (c : Thread nD τ) arg6 fullShare (normRows x g)) -∗ K ⟨⟩))
      ⊢ wp frame (wpE (defs₀ (F := F)) Variants.none c none) E (cc0_matmul i arg2 harg2 arg3 harg3 arg4 harg4 arg5 harg5 arg6 harg6) K := by
  unfold cc0_matmul
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  have ex : View.readAt (Elt F) arg2.view (Rect.unit (s := S16x2048) ![0, 0] S16x2048.size inb_S16x2048_S16x2048_0_0).toLoadRect (harg2.unread x) = x := by
    rw [View.readAt_eq_ld, harg2.read_unread, View.ld_unit_zero (S := S16x2048) zero2]
  have eg : View.readAt (Elt F) arg3.view (Rect.unit (s := S1x2048) ![0, 0] S1x2048.size inb_S1x2048_S1x2048_0_0).toLoadRect (harg3.unread g) = g := by
    rw [View.readAt_eq_ld, harg3.read_unread, View.ld_unit_zero (S := S1x2048) zero2]
  have ew : View.readAt (Elt F) arg4.view (Rect.unit (s := S2048x512) ![0, 0] S2048x512.size inb_S2048x512_S2048x512_0_0).toLoadRect (harg4.unread w) = w := by
    rw [View.readAt_eq_ld, harg4.read_unread, View.ld_unit_zero (S := S2048x512) zero2]
  have eh : bodyFirst.sl.v27 c arg2 harg2 arg3 harg3 x g = normRows x g := by
    unfold bodyFirst.sl.v27
    refine (shapeCast_self _ _).trans ?_
    refine (show _ = normRows (shapeCast S16x2048 (View.readAt (Elt F) arg2.view (Rect.unit (s := S16x2048) ![0, 0] S16x2048.size inb_S16x2048_S16x2048_0_0).toLoadRect (harg2.unread x)) shapeCasts_S16x2048_S16x2048)
      (shapeCast S1x2048 (View.readAt (Elt F) arg3.view (Rect.unit (s := S1x2048) ![0, 0] S1x2048.size inb_S1x2048_S1x2048_0_0).toLoadRect (harg3.unread g)) shapeCasts_S1x2048_S1x2048) from rfl).trans ?_
    exact congrArg₂ normRows ((shapeCast_self _ _).trans ex) ((shapeCast_self _ _).trans eg)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_store arg5 f3 zero2 _ _).trans ?_
    unfold bodyFirst.sl.v6 bodyFirst.sl.v3 bodyFirst.sl.v5 bodyFirst.sl.cst bodyFirst.sl.H4_1 prodCols
    rw [load_store arg6 zero2, eh, ew]
    rfl
  iexists _; isplitr; swap; · iexact H4
  ipureintro
  unfold bodyFirst.sl.H4_1
  refine (read_store arg6 f4 zero2 _ _).trans ?_
  exact eh
set_option maxHeartbeats 4000000 in
/-- Any other point: the scratch stays, the output is left at its product with the columns. -/
theorem bodyRest (c : Dev nD) (i : grid0.Coords)
    (arg2 : Memref sig .tc .vmem S16x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S16x512 .f32) (harg5 : arg5.IsWhole)
    (arg6 : Memref sig .tc .vmem S16x2048 .bf16) (harg6 : arg6.IsWhole) (hc : ¬ firstCol i)
    (x : Vec F S16x2048 .f32) (g : Vec F S1x2048 .f32) (w : Vec F S2048x512 .f32) (h : Vec F S16x2048 .bf16) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ owns (c : Thread nD τ) arg6 fullShare h
        ∗ (iprop(owns (c : Thread nD τ) arg2 fullShare x ∗ owns (c : Thread nD τ) arg3 fullShare g ∗ owns (c : Thread nD τ) arg4 fullShare w
            ∗ owns (c : Thread nD τ) arg5 fullShare (prodCols h w) ∗ owns (c : Thread nD τ) arg6 fullShare h) -∗ K ⟨⟩))
      ⊢ wp frame (wpE (defs₀ (F := F)) Variants.none c none) E (cc0_matmul i arg2 harg2 arg3 harg3 arg4 harg4 arg5 harg5 arg6 harg6) K := by
  unfold cc0_matmul
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  have ew : View.readAt (Elt F) arg4.view (Rect.unit (s := S2048x512) ![0, 0] S2048x512.size inb_S2048x512_S2048x512_0_0).toLoadRect (harg4.unread w) = w := by
    rw [View.readAt_eq_ld, harg4.read_unread, View.ld_unit_zero (S := S2048x512) zero2]
  have eh : View.readAt (Elt F) arg6.view (Rect.unit (s := S16x2048) ![0, 0] S16x2048.size inb_S16x2048_S16x2048_0_0).toLoadRect (harg6.unread h) = h := by
    rw [View.readAt_eq_ld, harg6.read_unread, View.ld_unit_zero (S := S16x2048) zero2]
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_store arg5 f3 zero2 _ _).trans ?_
    unfold bodyRest.sl.v6 bodyRest.sl.v5 bodyRest.sl.cst
    unfold prodCols
    rw [ew, eh]
    rfl
  iexists _; isplitr; · ipureintro; exact harg6.read_unread _
  iexact H4

end Cert.Samp2

end
-- ==== Proof.Samp2.Frame.lean ====
/- The in-projection of the new tokens in layer 2's run: what every buffer holds at each grid point, and the frame. -/
module

public import proofs.«01_k».proof.Proof.Samp2.Body

@[expose] public section

set_option maxRecDepth 16384

noncomputable section

namespace Cert.Samp2

open Cert.InSample2Ideal Cert.InSample2Ideal.Gen
open Cert.In (normOf read_store load_store zero2)
open Cert.Samp (normRows prodCols projRows proj headsOf lastOf flat nextRows entry prod_at norm_at pad_top top_rows)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
def first : Fin cfg0.N := ⟨0, by have : cfg0.N = 13 := N_0; omega⟩

/-- The normalised rows: every point stages the same. -/
def scr (c : Dev nD) : FVec F S16x2048 .bf16 := normRows (iblk m c 0 first) (iblk m c 1 first)

/-- The columns staged at a point: the block the fetch moves, over what the buffer held. -/
def cols (c : Dev nD) (t : Fin cfg0.N) (d : Vec F S2048x512 .f32) : Vec F S2048x512 .f32 :=
  win0_2.fill (grid0.coords t) d (iblk m c 2 t)

/-- Zeros, named where a buffer's contents are nobody's business. -/
def zeros : Vec F S2048x512 .f32 := fun _ => Scalar.ofBits .f32 0x00000000#32

abbrev ms0 (t : Fin cfg0.N) : Memref sig .tc .vmem S16x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x512 .f32 := win0_2.stage (cfg0.slots t 2)
abbrev ms3 (t : Fin cfg0.N) : Memref sig .tc .vmem S16x512 .f32 := win0_3.stage (cfg0.slots t 3)
abbrev scM : Memref sig .tc .vmem S16x2048 .bf16 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The region's invariant before point `n`: the scratch holds the rows the point before left in it. -/
def PhiS (c : Dev nD) : (n : ℕ) → n ≤ cfg0.N → sProp 𝕄
  | 0, _ => Pipeline.ΦA spec0 c
  | n + 1, h => iprop(owns (c : Thread nD τ) scM fullShare (scr m c) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) scM fullShare (scr m c) ∗ (∃ r, prngReg c r)) := by
  obtain ⟨k, rfl⟩ := Nat.exists_eq_succ_of_ne_zero hz; rfl

/-- The proof data: the arrays as the region finds them, what each point leaves in the staging buffers, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => cols m c t zeros
    | ⟨3, _⟩ => prodCols (scr m c) (cols m c t zeros)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = cols m c t zeros := by dsimp only [dats]
theorem after_3 (c : Dev nD) (t : Fin cfg0.N) : (dats m 0 c).after 3 t = prodCols (scr m c) (cols m c t zeros) := by dsimp only [dats]

theorem before_0 (c : Dev nD) (t : Fin cfg0.N) (d) : (dats m 0 c).before 0 t d = iblk m c 0 t :=
  before0_0_of m _ (A_eq m c 0) (after_0 m c) t d
theorem before_1 (c : Dev nD) (t : Fin cfg0.N) (d) : (dats m 0 c).before 1 t d = iblk m c 1 t :=
  before0_1_of m _ (A_eq m c 1) (after_1 m c) t d
theorem before_2 (c : Dev nD) (t : Fin cfg0.N) (d) : (dats m 0 c).before 2 t d = cols m c t d := by
  unfold Dat.before; rw [if_pos (fetch0_2 t)]; rfl

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- What it leaves there, whatever lay in the columns' buffer past the array's end. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (cols m c t d)
        ∗ owns (c : Thread nD τ) (ms3 t) fullShare (prodCols (scr m c) (cols m c t d))))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1]
  rw [show (dats m 0 c).Φ t.succ = iprop(owns (c : Thread nD τ) scM fullShare (scr m c) ∗ (∃ r, prngReg c r)) from rfl]
  by_cases h0 : t.val = 0
  · have es : scr m c = normRows (iblk m c 0 t) (iblk m c 1 t) := by
      have e : t = first := Fin.ext h0
      rw [e]; rfl
    have hΦ : (dats m 0 c).Φ t.castSucc ⊢ iprop((∃ d, owns (c : Thread nD τ) scM fullShare d) ∗ (∃ r, prngReg c r)) := by
      rw [PhiS_castSucc m c t]
      rw [PhiS_zero m c _ _ h0, PhiA_eq]
    rw [es]
    iintro ⟨HΦ, Ho, ⟨%d0, H0⟩, ⟨%d1, H1⟩, ⟨%d2, H2⟩, ⟨%d3, H3⟩⟩
    ihave HΦ := hΦ $$ HΦ
    icases HΦ with ⟨HS, Hg⟩
    iapply (bodyFirst c (grid0.coords t) _ _ _ _ _ _ _ _ _ _ ((firstCol_iff t).mpr h0) (iblk m c 0 t) (iblk m c 1 t) (cols m c t d2) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    iexists d2
    isplitl [H2]; · iexact H2
    iexact H3
  · rw [PhiS_castSucc m c t, PhiS_pos m c _ _ h0]
    iintro ⟨⟨HS, Hg⟩, Ho, ⟨%d0, H0⟩, ⟨%d1, H1⟩, ⟨%d2, H2⟩, ⟨%d3, H3⟩⟩
    iapply (bodyRest c (grid0.coords t) _ _ _ _ _ _ _ _ _ _ (fun h => h0 ((firstCol_iff t).mp h)) (iblk m c 0 t) (iblk m c 1 t) (cols m c t d2) (scr m c) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    iexists d2
    isplitl [H2]; · iexact H2
    iexact H3

/-- The body table's row at point `t`'s slots. -/
theorem defs₀_row (t : Fin cfg0.N) : defs₀ (F := F) .tc cfg0.body (cfg0.bodyArgs t (cfg0.slots t)) = bodyAt0 t := by
  unfold defs₀; rw [Defs.onTc_tc]

/-- The buffers whose contents the frame does not follow: the result's. -/
def fgt : Fin cfg0.W → Bool := ![false, false, false, true]

theorem leaves_2 (c : Dev nD) (t : Fin cfg0.N) (d : Vec F S2048x512 .f32) :
    cols m c t d = win0_2.fill (grid0.coords t) d (win0_2.cut (grid0.coords t) (cols m c t zeros)) := by
  unfold cols; rw [Window.cut_fill]

/-- The body's post with the result's contents forgotten. -/
def postForget (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ X, owns (c : Thread nD τ) (ms3 t) fullShare X))

theorem post_forget (c : Dev nD) (t : Fin cfg0.N) : bodyPost m c t ⊢ postForget m c t := by
  unfold bodyPost postForget
  rw [after_2]
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← leaves_2]
    iexact H2
  iexists _; iexact H3

/-- The library's body obligation with the result's contents forgotten. -/
theorem obligation_forget (c : Dev nD) : BodyObligationLoose (dats (F := F) m 0 c) (defs₀ (F := F)) Variants.none () Set.univ fgt := fun t => by
  rw [bigSep_W0, bigSep_W0, defs₀_row]
  exact triple_restated (triple_restated (sound_body m c t) rfl .rfl fun _ => post_forget m c t) rfl .rfl fun _ => .rfl

/-- The body's post with the result's contents known inside the array. -/
def postExact (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ d, owns (c : Thread nD τ) (ms3 t) fullShare (win0_3.fill (grid0.coords t) d (win0_3.cut (grid0.coords t) ((dats m 0 c).after 3 t)))))

/-- What a block of the product holds inside the array does not depend on the columns past it. -/
def CutsAgree : Prop := ∀ (c : Dev nD) (t : Fin cfg0.N) (d : Vec F S2048x512 .f32),
  win0_3.cut (grid0.coords t) (prodCols (scr m c) (cols m c t zeros)) = win0_3.cut (grid0.coords t) (prodCols (scr m c) (cols m c t d))

theorem post_exact (hc : CutsAgree m) (c : Dev nD) (t : Fin cfg0.N) : bodyPost m c t ⊢ postExact m c t := by
  unfold bodyPost postExact
  rw [after_2, after_3]
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← leaves_2]
    iexact H2
  iexists (prodCols (scr m c) (cols m c t d))
  rw [hc c t d, Window.fill_cut]
  iexact H3

/-- The library's body obligation, where the products agree inside the array. -/
theorem obligation_exact (hc : CutsAgree m) (c : Dev nD) :
    BodyObligationLoose (dats (F := F) m 0 c) (defs₀ (F := F)) Variants.none () Set.univ := fun t => by
  rw [bigSep_W0, bigSep_W0, defs₀_row]
  exact triple_restated (triple_restated (sound_body m c t) rfl .rfl fun _ => post_exact m hc c t) rfl
    (by
      show _ ⊢ bodyPre m c t
      unfold bodyPre
      iintro ⟨HΦ, Ho, H0, H1, H2, ⟨%d, H3⟩⟩
      isplitl [HΦ]; · iexact HΦ
      isplitl [Ho]; · iexact Ho
      isplitl [H0]; · iexact H0
      isplitl [H1]; · iexact H1
      isplitl [H2]; · iexact H2
      iexists _; iexact H3) fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 13 := N_0; omega), PhiA_eq]
  iintro ⟨HS, Hg⟩
  isplitl [HS]
  · iexists _; iexact HS
  iexact Hg

/-- The buffers the host lines after the call write. -/
def tail : Finset (Ref sig .tc) :=
  {main_v4, main_v5, main_v6, main_v7, main_v8, main_v9, main_v10, main_v11, main_v12, main_v13, main_v14, main_v15, main_v16, main_v17, main_v18, main_v19, main_v20, main_v21, main_v22, main_v23, main_cst, main_cst_0, main_cst_1}

/-- They write no other. -/
theorem tail_writes : ∀ ops ∈ ([hostOps1] : List (List (HloOp τ sig (Elt F)))), ∀ op ∈ ops,
    ∀ b : Ref sig .tc, Proc.devRef .tc b ∈ op.writes → b ∈ tail := by
  intro ops hops op hop b hb
  simp only [List.mem_cons, List.mem_nil_iff, or_false] at hops
  rcases hops with rfl
  simp only [hostOps1, List.mem_cons, List.mem_nil_iff, or_false] at hop
  by_contra hn
  rcases hop with rfl | rfl | rfl | rfl | rfl | rfl | rfl | rfl | rfl | rfl | rfl | rfl | rfl | rfl | rfl | rfl | rfl | rfl | rfl | rfl | rfl | rfl | rfl
  all_goals
    simp only [StableHlo.nullary_writes, StableHlo.unary_writes, StableHlo.binary_writes, StableHlo.reshape_writes, Finset.mem_singleton] at hb
    exact StableHlo.devRef_ne_of_ne (fun e => hn (by rw [e]; decide)) hb

set_option backward.isDefEq.respectTransparency.types false in
/-- The launch, the result's contents forgotten. -/
theorem run_forget : θ_run defs (onTc (τ := τ) (main (F := F))) (s₀ m ρ)
    (fun r => RDat.FramePostR cfg0 (fun c => (dats m 0 c).toRForget fgt) tail (V m) r ∧ r.2.sem = fun _ => 0) :=
  Pipeline.θ_run_frame_around_T_track_forget (Q' := _) cfgs (dats m) (0 : Fin 1) launch0 defs₀ Variants.none fgt tail m ρ main
    (hbody := obligation_forget m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hin := hin m) (hout := hout m) (hQ' := fun _ h => h)

set_option backward.isDefEq.respectTransparency.types false in
/-- The launch, where the products agree inside the array. -/
theorem run_exact (hc : CutsAgree m) : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := obligation_exact m hc) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- A buffer no host line after the call writes is one the run leaves as the call found it. -/
theorem kept {b : Ref sig .tc} (hb : b ∈ Pipeline.restRefs sig spec0) (hn : b ∉ tail) : b ∈ Pipeline.restRefs sig spec0 \ tail :=
  Finset.mem_sdiff.mpr ⟨hb, hn⟩

/-- THE FRAME: the program terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (kept (Pipeline.mem_restRefs_of main_arg0 (by decide) (by decide)) (by decide))).trans (V_main_arg0 m c),
      ((h.1 c).2 main_arg1 (kept (Pipeline.mem_restRefs_of main_arg1 (by decide) (by decide)) (by decide))).trans (V_main_arg1 m c),
      (((dats m 0 c).toRForget_arrAt_iff (w := 2) rfl _ _).mp ((h.1 c).1 2)).trans (((dats m 0 c).arrAt_in 2 rfl _).trans ((A_eq m c 2).trans (V_main_arg2 m c)))⟩, h.2⟩) (run_forget m ρ)

end Cert.Samp2

end
-- ==== Proof.Samp2.Bits.lean ====
/- The in-projection of the new tokens in layer 2 at the machine's words: it is the idealized program's own text, so the frame carries over. -/
module

public import proofs.«01_k».proof.Defs
public import proofs.«01_k».proof.Proof.Samp2.Frame
public import proofs.«01_k».proof.Proof.Gen.InSample2.Launch

@[expose] public section

set_option maxRecDepth 16384

noncomputable section

namespace Cert.Samp2

open Idealize.ShloMosaic Idealize.SL.Sem

variable {F : FTy → Type} [FloatOps F]

/-- The two programs' bodies are one. -/
theorem body_table : Cert.InSample2.defs₀ (F := F) = Cert.InSample2Ideal.defs₀ (F := F) := by
  unfold Cert.InSample2.defs₀ Cert.InSample2Ideal.defs₀
  refine congrArg (Defs.onTc (nD := Cert.InSample2Ideal.nD) (τ := Cert.InSample2Ideal.τ) (sig := Cert.InSample2Ideal.sig)
    (Val := Elt F) (Λ := Cert.InSample2Ideal.Λ₀)) ?_
  funext l x
  obtain ⟨l, hl⟩ := l
  cases l with
  | zero => obtain ⟨t, s⟩ := x; rfl
  | succ n => exact absurd hl (Nat.not_lt.2 (Nat.le_add_left _ _))

/-- So are their tables. -/
theorem table : Cert.InSample2.defs (F := F) = Cert.InSample2Ideal.defs (F := F) :=
  congrArg (Pipeline.defs (Cert.InSample2Ideal.pcfgs (F := F))) body_table

/-- The frame of the program at the machine's words. -/
theorem frameBits : @Cert.quiescent_InSample2 Cert.InSample2.Gen.facts := by
  intro m g _
  rw [table]
  exact Cert.Samp2.frame (F := Bits) m g

end Cert.Samp2

end
-- ==== Proof.Samp2.Value.lean ====
/- The in-projection of the new tokens in layer 2 over the extended reals: the kernel's results and the reference's are the same. -/
module

public import proofs.«01_k».proof.Defs
public import proofs.«01_k».proof.Proof.Samp2.Frame
public import proofs.«01_k».proof.Proof.Gen.InSample2RefIdeal.Run
public import Idealize.ShloMosaic.Lib.Claim
public import Idealize.ShloMosaic.Lib.Pipeline.ValueKit
public import Idealize.ShloMosaic.Lib.Pointwise
public import Idealize.ShloMosaic.Lib.ValueIdx
public import Idealize.ShloMosaic.Lib.ValueLayout

@[expose] public section

set_option maxRecDepth 16384

noncomputable section

namespace Cert.Samp2

open Cert.InSample2Ideal Cert.InSample2Ideal.Gen
open Cert.In (normOf)
open Cert.Samp (normRows prodCols projRows proj headsOf lastOf flat nextRows entry prod_at norm_at pad_top top_rows)
open Idealize.ShloMosaic Idealize.ShloMosaic.TcCoe Idealize.SL.Sem
open Idealize.ShloMosaic.Pipeline (Dat Window)

variable (m : (ℓ : Loc nD τ sig) → Buf (Elt Ideal) ℓ)

/-- Where the blocks of each point lie, and how many of the last one's columns are in the array. -/
theorem blocks_at : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val)
    ∧ (win0_3.index t (0 : Fin 2) = 0 ∧ win0_3.index t (1 : Fin 2) = t.val)
    ∧ (win0_2.xsize (grid0.coords t) (0 : Fin 2) = 2048 ∧ win0_2.xsize (grid0.coords t) (1 : Fin 2) = min 512 (6464 - 512 * t.val))
    ∧ (win0_3.xsize (grid0.coords t) (0 : Fin 2) = 16 ∧ win0_3.xsize (grid0.coords t) (1 : Fin 2) = min 512 (6464 - 512 * t.val)) :=
  (by decide +kernel : ∀ t : Fin grid0.N, _)

/-- A staged column inside the array. -/
theorem cols_at (c : Dev nD) (t : Fin cfg0.N) (d : Vec Ideal S2048x512 .f32) (k : Fin 2048) (q : Fin 512) (s : Fin 6464)
    (h : s.val = 512 * t.val + q.val) :
    cols m c t d (ix2 (n0 := 2048) (n1 := 512) k q) = m ((c : Thread nD τ).loc main_arg2) (ix2 (n0 := 2048) (n1 := 6464) k s) := by
  obtain ⟨-, -, ⟨e0, e1⟩, -, ⟨x0, x1⟩, -⟩ := blocks_at t
  have hs : s.val < 6464 := s.isLt
  have hm : win0_2.moved (grid0.coords t) (ix2 (n0 := 2048) (n1 := 512) k q) = true := by
    refine (win0_2.moved_iff (grid0.coords t) _).mpr fun a => ?_
    match a with
    | ⟨0, _⟩ => show k.val < win0_2.xsize (grid0.coords t) (0 : Fin 2); rw [x0]; omega
    | ⟨1, _⟩ => show q.val < win0_2.xsize (grid0.coords t) (1 : Fin 2); rw [x1]; omega
  unfold cols Window.fill
  refine (dif_pos hm).trans ?_
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 2048 + 1 * k.val = k.val; rw [e0]; omega
  | ⟨1, _⟩ => show win0_2.index t 1 * 512 + 1 * q.val = s.val; rw [e1]; omega

/-- Inside the array a block of the product does not see the columns past it. -/
theorem cuts_agree : CutsAgree m := by
  intro c t d
  obtain ⟨-, -, -, -, -, ⟨x0, x1⟩⟩ := blocks_at t
  funext j
  have hj : (j 1).val < min 512 (6464 - 512 * t.val) := lt_of_lt_of_eq (j 1).isLt x1
  refine (prod_at _ _ _).trans (Eq.trans ?_ (prod_at _ _ _).symm)
  refine Finset.sum_congr rfl fun k _ => congrArg₂ (· * ·) rfl ?_
  have hs : 512 * t.val + (j 1).val < 6464 := by omega
  exact (cols_at m c t zeros k _ ⟨512 * t.val + (j 1).val, hs⟩ rfl).trans (cols_at m c t d k _ ⟨512 * t.val + (j 1).val, hs⟩ rfl).symm

/-- A staged row's entry. -/
theorem rows_at (c : Dev nD) (p : Fin 16) (k : Fin 2048) :
    (iblk m c 0 first : Vec Ideal S16x2048 .f32) (ix2 (n0 := 16) (n1 := 2048) p k) = V m c main_v1 (ix2 (n0 := 16) (n1 := 2048) p k) := by
  obtain ⟨⟨e0, e1⟩, -⟩ := blocks_at first
  unfold iblk
  rw [View.read_apply]
  show V m c main_v1 _ = V m c main_v1 _
  refine congrArg (V m c main_v1) (funext fun a => Fin.ext ?_)
  match a with
  | ⟨0, _⟩ => show win0_0.index first 0 * 16 + 1 * p.val = p.val; rw [e0]; omega
  | ⟨1, _⟩ => show win0_0.index first 1 * 2048 + 1 * k.val = k.val; rw [e1]; omega

/-- A staged gain. -/
theorem gain_at (c : Dev nD) (k : Fin 2048) :
    (iblk m c 1 first : Vec Ideal S1x2048 .f32) (ix2 (n0 := 1) (n1 := 2048) 0 k) = m ((c : Thread nD τ).loc main_arg1) (ix1 (n0 := 2048) k) := by
  obtain ⟨-, ⟨e0, e1⟩, -⟩ := blocks_at first
  refine Eq.trans (b := V m c main_v2 (ix2 (n0 := 1) (n1 := 2048) 0 k)) ?_ ?_
  · unfold iblk
    rw [View.read_apply]
    show V m c main_v2 _ = V m c main_v2 _
    refine congrArg (V m c main_v2) (funext fun a => Fin.ext ?_)
    match a with
    | ⟨0, _⟩ => show win0_1.index first 0 * 1 + 1 * 0 = 0; rw [e0]
    | ⟨1, _⟩ => show win0_1.index first 1 * 2048 + 1 * k.val = k.val; rw [e1]; omega
  · unfold V V0
    simp only [List.flatten_cons, List.flatten_nil, List.append_nil, List.cons_append, List.nil_append]
    entry_read
    pointwise

/-- The array the call leaves, over the rows it finds. -/
theorem kernel_value (c : Dev nD) : (dats m 0 c).arrAt 3 cfg0.N
    = projRows (V m c main_v1) (m ((c : Thread nD τ).loc main_arg1)) (m ((c : Thread nD τ).loc main_arg2)) := by
  refine (dats m 0 c).arrAt_eq_of_covers 3 _ (by decide +kernel) fun t hf y => ?_
  obtain ⟨-, -, -, ⟨e0, e1⟩, -, -⟩ := blocks_at t
  rw [after_3]
  refine (prod_at _ _ _).trans ?_
  have h0 : win0_3.index t 0 * 16 + 1 * (y 0).val = (y 0).val := by rw [e0]; omega
  have h1 : win0_3.index t 1 * 512 + 1 * (y 1).val = 512 * t.val + (y 1).val := by rw [e1]; omega
  refine Finset.sum_congr rfl fun k _ => congrArg₂ (· * ·) ?_ (cols_at m c t zeros k _ _ h1)
  unfold scr
  refine (norm_at _ _ _ _).trans ?_
  rw [gain_at]
  refine congrArg (fun f => normOf f _ k) (funext fun l => (rows_at m c _ l).trans ?_)
  exact congrArg (fun r => V m c main_v1 (ix2 (n0 := 16) (n1 := 2048) r l)) (Fin.ext h0.symm)

/-- The new tokens as the call finds them. -/
theorem entry_flat (c : Dev nD) : (V m c main_v0 : FVec Ideal S8x2048 .f32) = flat (m ((c : Thread nD τ).loc main_arg0)) := by
  funext j
  unfold flat V V0
  simp only [List.flatten_cons, List.flatten_nil, List.append_nil, List.cons_append, List.nil_append]
  entry_read
  pointwise

/-- The first eight of the padded rows are the new tokens. -/
theorem entry_padded (c : Dev nD) (r : Fin 16) (hr : r.val < 8) (k : Fin 2048) :
    (V m c main_v1 : FVec Ideal S16x2048 .f32) (ix2 (n0 := 16) (n1 := 2048) r k)
      = m ((c : Thread nD τ).loc main_arg0) (ix3 (n0 := 8) (n1 := 1) (n2 := 2048) ⟨r.val, hr⟩ 0 k) := by
  unfold V V0
  simp only [List.flatten_cons, List.flatten_nil, List.append_nil, List.cons_append, List.nil_append]
  entry_read
  pointwise
  exact pad_top (flat (m ((c : Thread nD τ).loc main_arg0))) (sitofp (F := Ideal) FTy.f32 (constantI S_ 32 0#32)) pads_S8x2048_S16x2048_080_000 h_S_ r hr k

/-- The host lines after the call take the first eight rows. -/
theorem suffix_proj (W : Valuation τ sig (Elt Ideal)) (A : Vec Ideal S16x6464 .f32) (B : Vec Ideal S8x6464 .f32)
    (hW : (W (Proc.devRef .tc main_v3) : FVec Ideal S16x6464 .f32) = A)
    (hB : ∀ (j : Fin 8) (k : Fin 6464) (h : j.val < 16), A (ix2 (n0 := 16) (n1 := 6464) ⟨j.val, h⟩ k) = B (ix2 (n0 := 8) (n1 := 6464) j k)) :
    (StableHlo.after hostOps1 W (Proc.devRef .tc main_v4) : FVec Ideal S8x6464 .f32) = B := by
  after_reads_simp
  rw [hW]
  funext j
  pointwise
  refine (hB (j 0) (j 1) _).trans (congrArg B (eq_ix2 j).symm)

/-- The keys. -/
theorem suffix_keys (W : Valuation τ sig (Elt Ideal)) (A : Vec Ideal S16x6464 .f32) (B : Vec Ideal S8x6464 .f32)
    (hW : (W (Proc.devRef .tc main_v3) : FVec Ideal S16x6464 .f32) = A)
    (hB : ∀ (j : Fin 8) (k : Fin 6464) (h : j.val < 16), A (ix2 (n0 := 16) (n1 := 6464) ⟨j.val, h⟩ k) = B (ix2 (n0 := 8) (n1 := 6464) j k)) :
    (StableHlo.after hostOps1 W (Proc.devRef .tc main_v6) : FVec Ideal S8x1x8x128 .f32) = headsOf B 1024 (by omega) := by
  after_reads_simp
  rw [hW]
  funext j
  unfold headsOf
  pointwise
  exact hB (j 0) _ _

/-- The values. -/
theorem suffix_values (W : Valuation τ sig (Elt Ideal)) (A : Vec Ideal S16x6464 .f32) (B : Vec Ideal S8x6464 .f32)
    (hW : (W (Proc.devRef .tc main_v3) : FVec Ideal S16x6464 .f32) = A)
    (hB : ∀ (j : Fin 8) (k : Fin 6464) (h : j.val < 16), A (ix2 (n0 := 16) (n1 := 6464) ⟨j.val, h⟩ k) = B (ix2 (n0 := 8) (n1 := 6464) j k)) :
    (StableHlo.after hostOps1 W (Proc.devRef .tc main_v8) : FVec Ideal S8x1x8x128 .f32) = headsOf B 2048 (by omega) := by
  after_reads_simp
  rw [hW]
  funext j
  unfold headsOf
  pointwise
  exact hB (j 0) _ _

set_option maxHeartbeats 1600000 in
/-- The normalised new tokens. -/
theorem suffix_last (W : Valuation τ sig (Elt Ideal)) (x : Vec Ideal S8x1x2048 .f32) (g : Vec Ideal S2048 .f32)
    (hx : (W (Proc.devRef .tc main_v0) : FVec Ideal S8x2048 .f32) = flat x)
    (hg : (W (Proc.devRef .tc main_arg1) : FVec Ideal S2048 .f32) = g) :
    (StableHlo.after hostOps1 W (Proc.devRef .tc main_v23) : FVec Ideal S8x2048 .f32) = lastOf x g := by
  after_reads_simp
  rw [hx, hg]
  funext j
  unfold lastOf normOf flat
  pointwise

/-- The call's arrays are different buffers. -/
theorem arrays_inj : Function.Injective (Pipeline.arrRef spec0) :=
  (by decide : ∀ w w', Pipeline.arrRef spec0 w = Pipeline.arrRef spec0 w' → w = w')

/-- The call's array as the host lines after it find it. -/
theorem call_array (c : Dev nD) : Pipeline.withArrays spec0 c (V0 m c) (fun w => (dats m 0 c).arrAt w cfg0.N) (Proc.devRef .tc main_v3)
    = projRows (V m c main_v1) (m ((c : Thread nD τ).loc main_arg1)) (m ((c : Thread nD τ).loc main_arg2)) :=
  (Pipeline.withArrays_arr spec0 arrays_inj c (V0 m c) (fun w => (dats m 0 c).arrAt w cfg0.N) 3).trans (kernel_value m c)

/-- The normalised new tokens after the host lines. -/
theorem value_last (c : Dev nD) : Pipeline.afterTail₀ cfgs (dats m) 0 (V0 m) [hostOps1] c main_v23 = lastOf (m ((c : Thread nD τ).loc main_arg0)) (m ((c : Thread nD τ).loc main_arg1)) := by
  unfold Pipeline.afterTail₀
  refine suffix_last _ _ _ ?_ ?_
  · exact (Pipeline.withArrays_of_ne spec0 c (V0 m c) _ main_v0 (by exact (by decide : ∀ w, Pipeline.arrRef spec0 w ≠ main_v0))).trans (entry_flat m c)
  · exact (Pipeline.withArrays_of_ne spec0 c (V0 m c) _ main_arg1 (by exact (by decide : ∀ w, Pipeline.arrRef spec0 w ≠ main_arg1))).trans (V_main_arg1 m c)

set_option maxHeartbeats 1600000 in
/-- The claim: from the same arguments both runs end with the same projection, keys, values and normalised tokens. -/
theorem algebraic : @Cert.algebraic_InSample2Ideal_InSample2RefIdeal Cert.InSample2Ideal.Gen.facts Cert.InSample2RefIdeal.Gen.facts := by
  intro m g m' g' _ hagree
  refine ⟨fun c => (proj (m ((c : Thread nD τ).loc main_arg0)) (m ((c : Thread nD τ).loc main_arg1)) (m ((c : Thread nD τ).loc main_arg2))), fun c => headsOf (proj (m ((c : Thread nD τ).loc main_arg0)) (m ((c : Thread nD τ).loc main_arg1)) (m ((c : Thread nD τ).loc main_arg2))) 1024 (by omega), fun c => headsOf (proj (m ((c : Thread nD τ).loc main_arg0)) (m ((c : Thread nD τ).loc main_arg1)) (m ((c : Thread nD τ).loc main_arg2))) 2048 (by omega), fun c => lastOf (m ((c : Thread nD τ).loc main_arg0)) (m ((c : Thread nD τ).loc main_arg1)), ?_, ?_⟩
  · refine (θ_run _ _ _).mono (fun r h c => ?_) (run_exact (F := Ideal) m g (cuts_agree m))
    have k (b : Ref sig .tc) (hb : b ∈ Pipeline.restRefs sig spec0) := (h c).2 b hb
    exact ⟨(k main_v4 (Pipeline.mem_restRefs_of main_v4 (by decide) (by decide))).trans (suffix_proj _ _ _ (call_array m c) (top_rows _ _ _ _ (entry_padded m c))),
      (k main_v6 (Pipeline.mem_restRefs_of main_v6 (by decide) (by decide))).trans (suffix_keys _ _ _ (call_array m c) (top_rows _ _ _ _ (entry_padded m c))),
      (k main_v8 (Pipeline.mem_restRefs_of main_v8 (by decide) (by decide))).trans (suffix_values _ _ _ (call_array m c) (top_rows _ _ _ _ (entry_padded m c))),
      (k main_v23 (Pipeline.mem_restRefs_of main_v23 (by decide) (by decide))).trans (value_last m c),
      (k main_arg0 (Pipeline.mem_restRefs_of main_arg0 (by decide) (by decide))).trans (W_main_arg0 m (dats m) c),
      (k main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩
  · refine (θ_run _ _ _).mono (fun r h c => ?_) (Cert.InSample2RefIdeal.Value.run (F := Ideal) m' g')
    obtain ⟨h0, h1, h2, h3, k⟩ := h c
    obtain ⟨e0, e1, e2⟩ := hagree c
    refine ⟨h0.trans ?_, h1.trans ?_, h2.trans ?_, h3.trans ?_, k⟩
    · rw [e0, e1, e2]
      funext j
      unfold proj normOf
      pointwise
    · rw [e0, e1, e2]
      funext j
      unfold headsOf proj normOf
      pointwise
    · rw [e0, e1, e2]
      funext j
      unfold headsOf proj normOf
      pointwise
    · rw [e0, e1]
      funext j
      unfold lastOf normOf
      pointwise

end Cert.Samp2

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Wkv.Bits
public import proofs.«01_k».proof.Proof.Wkv.Value
public import proofs.«01_k».proof.Proof.Host
public import proofs.«01_k».proof.Proof.Gen.OutProj.Frame
public import proofs.«01_k».proof.Proof.Out.Value
public import proofs.«01_k».proof.Proof.In.Bits
public import proofs.«01_k».proof.Proof.In.Value
public import proofs.«01_k».proof.Proof.Gen.OutGdn.Frame
public import proofs.«01_k».proof.Proof.OutB.Value
public import proofs.«01_k».proof.Proof.Even0.Bits
public import proofs.«01_k».proof.Proof.Even0.Value
public import proofs.«01_k».proof.Proof.Even2.Bits
public import proofs.«01_k».proof.Proof.Even2.Value
public import proofs.«01_k».proof.Proof.Samp.Bits
public import proofs.«01_k».proof.Proof.Samp.Value
public import proofs.«01_k».proof.Proof.SampG.Bits
public import proofs.«01_k».proof.Proof.SampG.Value
public import proofs.«01_k».proof.Proof.Samp2.Bits
public import proofs.«01_k».proof.Proof.Samp2.Value

@[expose] public section

noncomputable section

namespace Cert.Proof

open Idealize.ShloMosaic Idealize.SL.Sem

/-- Everything claimed, in the order stated. -/
theorem claim : Cert.Claim :=
  ⟨Cert.Kernel.Gen.facts, Cert.KernelIdeal.Gen.facts, Cert.ReferenceIdeal.Gen.facts,
   Cert.OutProj.Gen.facts, Cert.OutProjIdeal.Gen.facts, Cert.OutProjRefIdeal.Gen.facts,
   Cert.InProj.Gen.facts, Cert.InProjIdeal.Gen.facts, Cert.InProjRefIdeal.Gen.facts,
   Cert.OutGdn.Gen.facts, Cert.OutGdnIdeal.Gen.facts, Cert.OutGdnRefIdeal.Gen.facts,
   Cert.InEven0.Gen.facts, Cert.InEven0Ideal.Gen.facts, Cert.InEven0RefIdeal.Gen.facts,
   Cert.InEven2.Gen.facts, Cert.InEven2Ideal.Gen.facts, Cert.InEven2RefIdeal.Gen.facts,
   Cert.InSample0.Gen.facts, Cert.InSample0Ideal.Gen.facts, Cert.InSample0RefIdeal.Gen.facts,
   Cert.InSample1.Gen.facts, Cert.InSample1Ideal.Gen.facts, Cert.InSample1RefIdeal.Gen.facts,
   Cert.InSample2.Gen.facts, Cert.InSample2Ideal.Gen.facts, Cert.InSample2RefIdeal.Gen.facts,
   Cert.Wkv.frameBits, fun m g _ => Cert.Wkv.frame (F := Ideal) m g, Cert.Host.frame_reference,
   fun m g _ => Cert.OutProj.Gen.frame m g, fun m g _ => Cert.OutProjIdeal.Gen.frame m g, Cert.Host.frame_outRef,
   Cert.In.frameBits, fun m g _ => Cert.In.frame (F := Ideal) m g, Cert.Host.frame_inRef,
   fun m g _ => Cert.OutGdn.Gen.frame m g, fun m g _ => Cert.OutGdnIdeal.Gen.frame m g, Cert.Host.frame_outGdnRef,
   Cert.Even0.frameBits, fun m g _ => Cert.Even0.frame (F := Ideal) m g, Cert.Host.frame_inEven0Ref,
   Cert.Even2.frameBits, fun m g _ => Cert.Even2.frame (F := Ideal) m g, Cert.Host.frame_inEven2Ref,
   Cert.Samp.frameBits, fun m g _ => Cert.Samp.frame (F := Ideal) m g, Cert.Host.frame_inSample0Ref,
   Cert.SampG.frameBits, fun m g _ => Cert.SampG.frame (F := Ideal) m g, Cert.Host.frame_inSample1Ref,
   Cert.Samp2.frameBits, fun m g _ => Cert.Samp2.frame (F := Ideal) m g, Cert.Host.frame_inSample2Ref,
   trivial, Cert.Wkv.algebraic, trivial, Cert.Out.algebraic,
   trivial, Cert.In.algebraic,
   trivial, Cert.OutB.algebraic,
   trivial, Cert.Even0.algebraic,
   trivial, Cert.Even2.algebraic,
   trivial, Cert.Samp.algebraic,
   trivial, Cert.SampG.algebraic,
   trivial, Cert.Samp2.algebraic⟩

end Cert.Proof

end
